-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)) (v6 : (c : Dev Cert.Kernel4Ideal.nD) → Buf (Elt Ideal) ((c.tc : Thread Cert.Kernel4Ideal.nD Cert.Kernel4Ideal.τ).loc Cert.Kernel4Ideal.main_v2_6)) (v7 : (c : Dev Cert.Kernel4Ideal.nD) → Buf (Elt Ideal) ((c.tc : Thread Cert.Kernel4Ideal.nD Cert.Kernel4Ideal.τ).loc Cert.Kernel4Ideal.main_v2_7)) (v8 : (c : Dev Cert.Kernel4Ideal.nD) → Buf (Elt Ideal) ((c.tc : Thread Cert.Kernel4Ideal.nD Cert.Kernel4Ideal.τ).loc Cert.Kernel4Ideal.main_v2_8)) (v9 : (c : Dev Cert.Kernel4Ideal.nD) → Buf (Elt Ideal) ((c.tc : Thread Cert.Kernel4Ideal.nD Cert.Kernel4Ideal.τ).loc Cert.Kernel4Ideal.main_v2_9)) (v10 : (c : Dev Cert.Kernel4Ideal.nD) → Buf (Elt Ideal) ((c.tc : Thread Cert.Kernel4Ideal.nD Cert.Kernel4Ideal.τ).loc Cert.Kernel4Ideal.main_v2_10)) (v11 : (c : Dev Cert.Kernel4Ideal.nD) → Buf (Elt Ideal) ((c.tc : Thread Cert.Kernel4Ideal.nD Cert.Kernel4Ideal.τ).loc Cert.Kernel4Ideal.main_v2_11)) (v12 : (c : Dev Cert.Kernel4Ideal.nD) → Buf (Elt Ideal) ((c.tc : Thread Cert.Kernel4Ideal.nD Cert.Kernel4Ideal.τ).loc Cert.Kernel4Ideal.main_v2_12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_v2_6) = v6 c
          ∧ r.2.mem ((c.tc : Thread Cert.Kernel4Ideal.nD Cert.Kernel4Ideal.τ).loc Cert.Kernel4Ideal.main_v2_7) = v7 c
          ∧ r.2.mem ((c.tc : Thread Cert.Kernel4Ideal.nD Cert.Kernel4Ideal.τ).loc Cert.Kernel4Ideal.main_v2_8) = v8 c
          ∧ r.2.mem ((c.tc : Thread Cert.Kernel4Ideal.nD Cert.Kernel4Ideal.τ).loc Cert.Kernel4Ideal.main_v2_9) = v9 c
          ∧ r.2.mem ((c.tc : Thread Cert.Kernel4Ideal.nD Cert.Kernel4Ideal.τ).loc Cert.Kernel4Ideal.main_v2_10) = v10 c
          ∧ r.2.mem ((c.tc : Thread Cert.Kernel4Ideal.nD Cert.Kernel4Ideal.τ).loc Cert.Kernel4Ideal.main_v2_11) = v11 c
          ∧ r.2.mem ((c.tc : Thread Cert.Kernel4Ideal.nD Cert.Kernel4Ideal.τ).loc Cert.Kernel4Ideal.main_v2_12) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_v74) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_v96) = v4 c
          ∧ r.2.mem ((c.tc : Thread Cert.Reference4Ideal.nD Cert.Reference4Ideal.τ).loc Cert.Reference4Ideal.main_v97) = v5 c
          ∧ r.2.mem ((c.tc : Thread Cert.Reference4Ideal.nD Cert.Reference4Ideal.τ).loc Cert.Reference4Ideal.main_v98) = v6 c
          ∧ r.2.mem ((c.tc : Thread Cert.Reference4Ideal.nD Cert.Reference4Ideal.τ).loc Cert.Reference4Ideal.main_v118) = v7 c
          ∧ r.2.mem ((c.tc : Thread Cert.Reference4Ideal.nD Cert.Reference4Ideal.τ).loc Cert.Reference4Ideal.main_v122) = v8 c
          ∧ r.2.mem ((c.tc : Thread Cert.Reference4Ideal.nD Cert.Reference4Ideal.τ).loc Cert.Reference4Ideal.main_v126) = v9 c
          ∧ r.2.mem ((c.tc : Thread Cert.Reference4Ideal.nD Cert.Reference4Ideal.τ).loc Cert.Reference4Ideal.main_v133) = v10 c
          ∧ r.2.mem ((c.tc : Thread Cert.Reference4Ideal.nD Cert.Reference4Ideal.τ).loc Cert.Reference4Ideal.main_v153) = v11 c
          ∧ r.2.mem ((c.tc : Thread Cert.Reference4Ideal.nD Cert.Reference4Ideal.τ).loc Cert.Reference4Ideal.main_v157) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S512x32768 : Shape := ⟨2, ![512, 32768]⟩
abbrev S32768x512 : Shape := ⟨2, ![32768, 512]⟩
abbrev S256x512x128 : Shape := ⟨3, ![256, 512, 128]⟩
abbrev S1x64 : Shape := ⟨2, ![1, 64]⟩
abbrev S128x1 : Shape := ⟨2, ![128, 1]⟩
abbrev S_ : Shape := ⟨0, ![]⟩

class Facts : Prop where
  bitsLt_bf16_f32 : FTy.bits .bf16 < FTy.bits .f32
  bcast_S_S512x32768 : S_.BroadcastsInDim S512x32768 (![] : Fin 0 → Fin S512x32768.rank)
  bcast_S_S32768x512 : S_.BroadcastsInDim S32768x512 (![] : Fin 0 → Fin S32768x512.rank)
  bcast_S_S256x512x128 : S_.BroadcastsInDim S256x512x128 (![] : Fin 0 → Fin S256x512x128.rank)
  bcast_S_S1x64 : S_.BroadcastsInDim S1x64 (![] : Fin 0 → Fin S1x64.rank)

variable [Facts]

def fn_part1 {F : FTy → Type} [FloatOps F] (main_arg6 : FVec F S1x64 .f32) (main_v3 : IVec S512x32768 1) (main_v7 : IVec S32768x512 1) (main_v11 : IVec S256x512x128 1) (main_v14 : IVec S1x64 1) (main_v17 : IVec S1x64 1) (main_v18 : FVec F S1x64 .f32) : IVec S512x32768 1 × IVec S32768x512 1 × IVec S256x512x128 1 × IVec S1x64 1 × IVec S1x64 1 × IVec S1x64 1 × IVec S1x64 1 :=
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_v21 : FVec F S1x64 .f32 := Host.absf main_arg6
  let main_cst_5 : FVec F S_ .f32 := constant S_ .f32 0x7F800000#32
  let main_v22 : FVec F S1x64 .f32 := broadcastInDim S1x64 ![] bcast_S_S1x64 main_cst_5
  let main_v23 : IVec S1x64 1 := cmpf .olt main_v21 main_v22
  (main_v3, main_v7, main_v11, main_v14, main_v17, main_v20, main_v23)

def fn {F : FTy → Type} [FloatOps F] (main_arg0 : FVec F S512x32768 .bf16) (main_arg1 : FVec F S32768x512 .bf16) (main_arg2 : FVec F S256x512x128 .bf16) (main_arg3 : FVec F S1x64 .f32) (main_arg4 : FVec F S1x64 .f32) (main_arg5 : FVec F S1x64 .f32) (main_arg6 : FVec F S1x64 .f32) (main_arg7 : FVec F S128x1 .f32) : IVec S512x32768 1 × IVec S32768x512 1 × IVec S256x512x128 1 × IVec S1x64 1 × IVec S1x64 1 × IVec S1x64 1 × IVec S1x64 1 :=
  let main_v0 : FVec F S512x32768 .f32 := (extf .f32 · bitsLt_bf16_f32) main_arg0
  let main_v1 : FVec F S512x32768 .f32 := Host.absf main_v0
  let main_cst : FVec F S_ .f32 := constant S_ .f32 0x7F800000#32
  let main_v2 : FVec F S512x32768 .f32 := broadcastInDim S512x32768 ![] bcast_S_S512x32768 main_cst
  let main_v3 : IVec S512x32768 1 := cmpf .olt main_v1 main_v2
  let main_v4 : FVec F S32768x512 .f32 := (extf .f32 · bitsLt_bf16_f32) main_arg1
  let main_v5 : FVec F S32768x512 .f32 := Host.absf main_v4
  let main_cst_0 : FVec F S_ .f32 := constant S_ .f32 0x7F800000#32
  let main_v6 : FVec F S32768x512 .f32 := broadcastInDim S32768x512 ![] bcast_S_S32768x512 main_cst_0
  let main_v7 : IVec S32768x512 1 := cmpf .olt main_v5 main_v6
  let main_v8 : FVec F S256x512x128 .f32 := (extf .f32 · bitsLt_bf16_f32) main_arg2
  let main_v9 : FVec F S256x512x128 .f32 := Host.absf main_v8
  let main_cst_1 : FVec F S_ .f32 := constant S_ .f32 0x7F800000#32
  let main_v10 : FVec F S256x512x128 .f32 := broadcastInDim S256x512x128 ![] bcast_S_S256x512x128 main_cst_1
  let main_v11 : IVec S256x512x128 1 := cmpf .olt main_v9 main_v10
  let main_v12 : FVec F S1x64 .f32 := Host.absf main_arg3
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  let main_v15 : FVec F S1x64 .f32 := Host.absf main_arg4
  let main_cst_3 : FVec F S_ .f32 := constant S_ .f32 0x7F800000#32
  let main_v16 : FVec F S1x64 .f32 := broadcastInDim S1x64 ![] bcast_S_S1x64 main_cst_3
  let main_v17 : IVec S1x64 1 := cmpf .olt main_v15 main_v16
  let main_v18 : FVec F S1x64 .f32 := Host.absf main_arg5
  fn_part1 (F := F) main_arg6 main_v3 main_v7 main_v11 main_v14 main_v17 main_v18
-- ==== Kernel.lean ====
abbrev S512x32768 : Shape := ⟨2, ![512, 32768]⟩
abbrev S32768x512 : Shape := ⟨2, ![32768, 512]⟩
abbrev S256x512x128 : Shape := ⟨3, ![256, 512, 128]⟩
abbrev S1x64 : Shape := ⟨2, ![1, 64]⟩
abbrev S128x1 : Shape := ⟨2, ![128, 1]⟩
abbrev S256x512 : Shape := ⟨2, ![256, 512]⟩
abbrev S8192x256 : Shape := ⟨2, ![8192, 256]⟩
abbrev S64x256x128 : Shape := ⟨3, ![64, 256, 128]⟩
abbrev S1x2048 : Shape := ⟨2, ![1, 2048]⟩
abbrev S144x2048 : Shape := ⟨2, ![144, 2048]⟩
abbrev S8x512x256 : Shape := ⟨3, ![8, 512, 256]⟩
abbrev S64x512 : Shape := ⟨2, ![64, 512]⟩
abbrev S128x512 : Shape := ⟨2, ![128, 512]⟩
abbrev S128x1024 : Shape := ⟨2, ![128, 1024]⟩
abbrev S1x256 : Shape := ⟨2, ![1, 256]⟩
abbrev S512x128 : Shape := ⟨2, ![512, 128]⟩
abbrev S128x256 : Shape := ⟨2, ![128, 256]⟩
abbrev S512x256 : Shape := ⟨2, ![512, 256]⟩
abbrev S1x512x256 : Shape := ⟨3, ![1, 512, 256]⟩
abbrev S1x256x128 : Shape := ⟨3, ![1, 256, 128]⟩
abbrev S256x128 : Shape := ⟨2, ![256, 128]⟩
abbrev S16x512 : Shape := ⟨2, ![16, 512]⟩
abbrev S144x512 : Shape := ⟨2, ![144, 512]⟩
abbrev S512x1 : Shape := ⟨2, ![512, 1]⟩
abbrev S256 : Shape := ⟨1, ![256]⟩
abbrev S144x256 : Shape := ⟨2, ![144, 256]⟩
abbrev S1 : Shape := ⟨1, ![1]⟩
abbrev S1x1 : Shape := ⟨2, ![1, 1]⟩
abbrev S128x2048 : Shape := ⟨2, ![128, 2048]⟩
abbrev S512 : Shape := ⟨1, ![512]⟩
abbrev S1x512 : Shape := ⟨2, ![1, 512]⟩

abbrev nBuf : Space → Nat
  | .hbm => 9
  | .vmem => 17
  | .smem => 0
  | _ => 0

abbrev bufTy : (tb : Table) → Fin (tcTables nBuf tb) → BufTy
  | .hbm, ⟨0, _⟩ => ⟨S512x32768, .bf16⟩
  | .hbm, ⟨1, _⟩ => ⟨S32768x512, .bf16⟩
  | .hbm, ⟨2, _⟩ => ⟨S256x512x128, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S128x1, .f32⟩
  | .hbm, ⟨8, _⟩ => ⟨S512x32768, .bf16⟩
  | .local _ .vmem, ⟨0, _⟩ => ⟨S256x512, .bf16⟩
  | .local _ .vmem, ⟨1, _⟩ => ⟨S256x512, .bf16⟩
  | .local _ .vmem, ⟨2, _⟩ => ⟨S8192x256, .bf16⟩
  | .local _ .vmem, ⟨3, _⟩ => ⟨S8192x256, .bf16⟩
  | .local _ .vmem, ⟨4, _⟩ => ⟨S64x256x128, .bf16⟩
  | .local _ .vmem, ⟨5, _⟩ => ⟨S64x256x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S256x512, .bf16⟩
  | .local _ .vmem, ⟨12, _⟩ => ⟨S256x512, .bf16⟩
  | .local _ .vmem, ⟨13, _⟩ => ⟨S1x2048, .f32⟩
  | .local _ .vmem, ⟨14, _⟩ => ⟨S144x2048, .f32⟩
  | .local _ .vmem, ⟨15, _⟩ => ⟨S8x512x256, .f32⟩
  | .local _ .vmem, ⟨16, _⟩ => ⟨S8x512x256, .f32⟩
  | _, _ => ⟨S512x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 2, 16], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_13 : BitVec 32 := 512#32
  let v42 : BitVec 32 := Scalar.muli v41 c512_i32_13
  v42
def k0_off1 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_13 : BitVec 32 := 512#32
  let v42 : BitVec 32 := Scalar.muli v41 c512_i32_13
  let v43 : BitVec 32 := v42
  let v44 : Index := Scalar.indexCast v43
  let c0_14 : Index := 0#32
  ![v44.toNat, 0]
def k0_mult2 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_19 : BitVec 32 := 512#32
  let v51 : BitVec 32 := Scalar.muli v41 c512_i32_19
  v51
def k0_mult3 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_24 : BitVec 32 := 512#32
  let v60 : BitVec 32 := Scalar.muli v41 c512_i32_24
  v60
def k0_mult4 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_29 : BitVec 32 := 512#32
  let v69 : BitVec 32 := Scalar.muli v41 c512_i32_29
  v69
def k0_mult5 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_34 : BitVec 32 := 512#32
  let v78 : BitVec 32 := Scalar.muli v41 c512_i32_34
  v78
def k0_off2 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_34 : BitVec 32 := 512#32
  let v78 : BitVec 32 := Scalar.muli v41 c512_i32_34
  let v79 : BitVec 32 := v78
  let v80 : Index := Scalar.indexCast v79
  let c128_35 : Index := 128#32
  ![v80.toNat, 128]
def k0_mult6 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_39 : BitVec 32 := 512#32
  let v87 : BitVec 32 := Scalar.muli v41 c512_i32_39
  v87
def k0_mult7 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_44 : BitVec 32 := 512#32
  let v96 : BitVec 32 := Scalar.muli v41 c512_i32_44
  v96
def k0_mult8 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c512_i32_49 : BitVec 32 := 512#32
  let v105 : BitVec 32 := Scalar.muli v41 c512_i32_49
  v105
def k0_off3 (i : grid0.Coords) (c0_i32_54 : BitVec 32) : Fin 3 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32 : BitVec 32 := 4#32
  let v114 : BitVec 32 := Scalar.muli v41 c4_i32
  let v115 : BitVec 32 := Scalar.addi v114 c0_i32_54
  let v116 : Index := Scalar.indexCast v115
  let c0_55 : Index := 0#32
  let c0_56 : Index := 0#32
  ![v116.toNat, 0, 0]
def k0_mult9 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_74 : BitVec 32 := 1#32
  let v147 : BitVec 32 := Scalar.subi v41 c1_i32_74
  let c0_i32_75 : BitVec 32 := 0#32
  let v148 : BitVec 32 := Scalar.maxsi v147 c0_i32_75
  let c512_i32_76 : BitVec 32 := 512#32
  let v149 : BitVec 32 := Scalar.muli v148 c512_i32_76
  v149
def k0_off4 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_74 : BitVec 32 := 1#32
  let v147 : BitVec 32 := Scalar.subi v41 c1_i32_74
  let c0_i32_75 : BitVec 32 := 0#32
  let v148 : BitVec 32 := Scalar.maxsi v147 c0_i32_75
  let c512_i32_76 : BitVec 32 := 512#32
  let v149 : BitVec 32 := Scalar.muli v148 c512_i32_76
  let v150 : BitVec 32 := v149
  let v151 : Index := Scalar.indexCast v150
  let c0_77 : Index := 0#32
  ![v151.toNat, 0]
def k0_mult10 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_88 : BitVec 32 := 1#32
  let v180 : BitVec 32 := Scalar.subi v41 c1_i32_88
  let c0_i32_89 : BitVec 32 := 0#32
  let v181 : BitVec 32 := Scalar.maxsi v180 c0_i32_89
  let c512_i32_90 : BitVec 32 := 512#32
  let v182 : BitVec 32 := Scalar.muli v181 c512_i32_90
  v182
def k0_mult11 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_102 : BitVec 32 := 1#32
  let v215 : BitVec 32 := Scalar.subi v41 c1_i32_102
  let c0_i32_103 : BitVec 32 := 0#32
  let v216 : BitVec 32 := Scalar.maxsi v215 c0_i32_103
  let c512_i32_104 : BitVec 32 := 512#32
  let v217 : BitVec 32 := Scalar.muli v216 c512_i32_104
  v217
def k0_mult12 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_117 : BitVec 32 := 1#32
  let v250 : BitVec 32 := Scalar.subi v41 c1_i32_117
  let c0_i32_118 : BitVec 32 := 0#32
  let v251 : BitVec 32 := Scalar.maxsi v250 c0_i32_118
  let c512_i32_119 : BitVec 32 := 512#32
  let v252 : BitVec 32 := Scalar.muli v251 c512_i32_119
  v252
def k0_mult13 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_132 : BitVec 32 := 1#32
  let v285 : BitVec 32 := Scalar.subi v41 c1_i32_132
  let c0_i32_133 : BitVec 32 := 0#32
  let v286 : BitVec 32 := Scalar.maxsi v285 c0_i32_133
  let c512_i32_134 : BitVec 32 := 512#32
  let v287 : BitVec 32 := Scalar.muli v286 c512_i32_134
  v287
def k0_off5 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_132 : BitVec 32 := 1#32
  let v285 : BitVec 32 := Scalar.subi v41 c1_i32_132
  let c0_i32_133 : BitVec 32 := 0#32
  let v286 : BitVec 32 := Scalar.maxsi v285 c0_i32_133
  let c512_i32_134 : BitVec 32 := 512#32
  let v287 : BitVec 32 := Scalar.muli v286 c512_i32_134
  let v288 : BitVec 32 := v287
  let v289 : Index := Scalar.indexCast v288
  let c128_135 : Index := 128#32
  ![v289.toNat, 128]
def k0_mult14 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_147 : BitVec 32 := 1#32
  let v320 : BitVec 32 := Scalar.subi v41 c1_i32_147
  let c0_i32_148 : BitVec 32 := 0#32
  let v321 : BitVec 32 := Scalar.maxsi v320 c0_i32_148
  let c512_i32_149 : BitVec 32 := 512#32
  let v322 : BitVec 32 := Scalar.muli v321 c512_i32_149
  v322
def k0_mult15 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_162 : BitVec 32 := 1#32
  let v355 : BitVec 32 := Scalar.subi v41 c1_i32_162
  let c0_i32_163 : BitVec 32 := 0#32
  let v356 : BitVec 32 := Scalar.maxsi v355 c0_i32_163
  let c512_i32_164 : BitVec 32 := 512#32
  let v357 : BitVec 32 := Scalar.muli v356 c512_i32_164
  v357
def k0_mult16 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_177 : BitVec 32 := 1#32
  let v390 : BitVec 32 := Scalar.subi v41 c1_i32_177
  let c0_i32_178 : BitVec 32 := 0#32
  let v391 : BitVec 32 := Scalar.maxsi v390 c0_i32_178
  let c512_i32_179 : BitVec 32 := 512#32
  let v392 : BitVec 32 := Scalar.muli v391 c512_i32_179
  v392
@[reducible] def k0_t1_loop (i : grid0.Coords) : Scf.Loop 32 :=
  let c0_i32_205 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_207 : BitVec 32 := 1#32
  ⟨c0_i32_205, v456, c1_i32_207⟩
def k0_off6 (i : grid0.Coords) (k0_t1 : Fin (k0_t1_loop i).trips) (c0_i32_261 : BitVec 32) (c0_i32_263 : BitVec 32) : Fin 3 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let v555 : BitVec 32 := Scalar.subi v554 c0_i32_261
  let c4_i32_262 : BitVec 32 := 4#32
  let v556 : BitVec 32 := Scalar.muli v555 c4_i32_262
  let v557 : BitVec 32 := Scalar.addi v556 c0_i32_263
  let v558 : Index := Scalar.indexCast v557
  let c0_264 : Index := 0#32
  let c0_265 : Index := 0#32
  ![v558.toNat, 0, 0]
def k0_mult17 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_285 : BitVec 32 := 1#32
  let v589 : BitVec 32 := Scalar.subi v555 c1_i32_285
  let c0_i32_286 : BitVec 32 := 0#32
  let v590 : BitVec 32 := Scalar.maxsi v589 c0_i32_286
  let c512_i32_287 : BitVec 32 := 512#32
  let v591 : BitVec 32 := Scalar.muli v590 c512_i32_287
  v591
def k0_off7 (i : grid0.Coords) (k0_t1 : Fin (k0_t1_loop i).trips) (c0_i32_261 : BitVec 32) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let v555 : BitVec 32 := Scalar.subi v554 c0_i32_261
  let c1_i32_285 : BitVec 32 := 1#32
  let v589 : BitVec 32 := Scalar.subi v555 c1_i32_285
  let c0_i32_286 : BitVec 32 := 0#32
  let v590 : BitVec 32 := Scalar.maxsi v589 c0_i32_286
  let c512_i32_287 : BitVec 32 := 512#32
  let v591 : BitVec 32 := Scalar.muli v590 c512_i32_287
  let v592 : BitVec 32 := v591
  let v593 : Index := Scalar.indexCast v592
  let c0_288 : Index := 0#32
  ![v593.toNat, 0]
def k0_mult18 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_297 : BitVec 32 := 1#32
  let v615 : BitVec 32 := Scalar.subi v555 c1_i32_297
  let c0_i32_298 : BitVec 32 := 0#32
  let v616 : BitVec 32 := Scalar.maxsi v615 c0_i32_298
  let c512_i32_299 : BitVec 32 := 512#32
  let v617 : BitVec 32 := Scalar.muli v616 c512_i32_299
  v617
def k0_mult19 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_310 : BitVec 32 := 1#32
  let v643 : BitVec 32 := Scalar.subi v555 c1_i32_310
  let c0_i32_311 : BitVec 32 := 0#32
  let v644 : BitVec 32 := Scalar.maxsi v643 c0_i32_311
  let c512_i32_312 : BitVec 32 := 512#32
  let v645 : BitVec 32 := Scalar.muli v644 c512_i32_312
  v645
def k0_mult20 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_323 : BitVec 32 := 1#32
  let v671 : BitVec 32 := Scalar.subi v555 c1_i32_323
  let c0_i32_324 : BitVec 32 := 0#32
  let v672 : BitVec 32 := Scalar.maxsi v671 c0_i32_324
  let c512_i32_325 : BitVec 32 := 512#32
  let v673 : BitVec 32 := Scalar.muli v672 c512_i32_325
  v673
def k0_mult21 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_336 : BitVec 32 := 1#32
  let v699 : BitVec 32 := Scalar.subi v555 c1_i32_336
  let c0_i32_337 : BitVec 32 := 0#32
  let v700 : BitVec 32 := Scalar.maxsi v699 c0_i32_337
  let c512_i32_338 : BitVec 32 := 512#32
  let v701 : BitVec 32 := Scalar.muli v700 c512_i32_338
  v701
def k0_off8 (i : grid0.Coords) (k0_t1 : Fin (k0_t1_loop i).trips) (c0_i32_261 : BitVec 32) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let v555 : BitVec 32 := Scalar.subi v554 c0_i32_261
  let c1_i32_336 : BitVec 32 := 1#32
  let v699 : BitVec 32 := Scalar.subi v555 c1_i32_336
  let c0_i32_337 : BitVec 32 := 0#32
  let v700 : BitVec 32 := Scalar.maxsi v699 c0_i32_337
  let c512_i32_338 : BitVec 32 := 512#32
  let v701 : BitVec 32 := Scalar.muli v700 c512_i32_338
  let v702 : BitVec 32 := v701
  let v703 : Index := Scalar.indexCast v702
  let c128_339 : Index := 128#32
  ![v703.toNat, 128]
def k0_mult22 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_349 : BitVec 32 := 1#32
  let v727 : BitVec 32 := Scalar.subi v555 c1_i32_349
  let c0_i32_350 : BitVec 32 := 0#32
  let v728 : BitVec 32 := Scalar.maxsi v727 c0_i32_350
  let c512_i32_351 : BitVec 32 := 512#32
  let v729 : BitVec 32 := Scalar.muli v728 c512_i32_351
  v729
def k0_mult23 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_362 : BitVec 32 := 1#32
  let v755 : BitVec 32 := Scalar.subi v555 c1_i32_362
  let c0_i32_363 : BitVec 32 := 0#32
  let v756 : BitVec 32 := Scalar.maxsi v755 c0_i32_363
  let c512_i32_364 : BitVec 32 := 512#32
  let v757 : BitVec 32 := Scalar.muli v756 c512_i32_364
  v757
def k0_mult24 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_375 : BitVec 32 := 1#32
  let v783 : BitVec 32 := Scalar.subi v555 c1_i32_375
  let c0_i32_376 : BitVec 32 := 0#32
  let v784 : BitVec 32 := Scalar.maxsi v783 c0_i32_376
  let c512_i32_377 : BitVec 32 := 512#32
  let v785 : BitVec 32 := Scalar.muli v784 c512_i32_377
  v785
def k0_mult25 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_417 : BitVec 32 := 1#32
  let v855 : BitVec 32 := Scalar.subi v821 c1_i32_417
  let c0_i32_418 : BitVec 32 := 0#32
  let v856 : BitVec 32 := Scalar.maxsi v855 c0_i32_418
  let c512_i32_419 : BitVec 32 := 512#32
  let v857 : BitVec 32 := Scalar.muli v856 c512_i32_419
  v857
def k0_mult26 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_429 : BitVec 32 := 1#32
  let v881 : BitVec 32 := Scalar.subi v821 c1_i32_429
  let c0_i32_430 : BitVec 32 := 0#32
  let v882 : BitVec 32 := Scalar.maxsi v881 c0_i32_430
  let c512_i32_431 : BitVec 32 := 512#32
  let v883 : BitVec 32 := Scalar.muli v882 c512_i32_431
  v883
def k0_mult27 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_442 : BitVec 32 := 1#32
  let v909 : BitVec 32 := Scalar.subi v821 c1_i32_442
  let c0_i32_443 : BitVec 32 := 0#32
  let v910 : BitVec 32 := Scalar.maxsi v909 c0_i32_443
  let c512_i32_444 : BitVec 32 := 512#32
  let v911 : BitVec 32 := Scalar.muli v910 c512_i32_444
  v911
def k0_mult28 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_455 : BitVec 32 := 1#32
  let v937 : BitVec 32 := Scalar.subi v821 c1_i32_455
  let c0_i32_456 : BitVec 32 := 0#32
  let v938 : BitVec 32 := Scalar.maxsi v937 c0_i32_456
  let c512_i32_457 : BitVec 32 := 512#32
  let v939 : BitVec 32 := Scalar.muli v938 c512_i32_457
  v939
def k0_mult29 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_468 : BitVec 32 := 1#32
  let v965 : BitVec 32 := Scalar.subi v821 c1_i32_468
  let c0_i32_469 : BitVec 32 := 0#32
  let v966 : BitVec 32 := Scalar.maxsi v965 c0_i32_469
  let c512_i32_470 : BitVec 32 := 512#32
  let v967 : BitVec 32 := Scalar.muli v966 c512_i32_470
  v967
def k0_mult30 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_481 : BitVec 32 := 1#32
  let v993 : BitVec 32 := Scalar.subi v821 c1_i32_481
  let c0_i32_482 : BitVec 32 := 0#32
  let v994 : BitVec 32 := Scalar.maxsi v993 c0_i32_482
  let c512_i32_483 : BitVec 32 := 512#32
  let v995 : BitVec 32 := Scalar.muli v994 c512_i32_483
  v995
def k0_mult31 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_494 : BitVec 32 := 1#32
  let v1021 : BitVec 32 := Scalar.subi v821 c1_i32_494
  let c0_i32_495 : BitVec 32 := 0#32
  let v1022 : BitVec 32 := Scalar.maxsi v1021 c0_i32_495
  let c512_i32_496 : BitVec 32 := 512#32
  let v1023 : BitVec 32 := Scalar.muli v1022 c512_i32_496
  v1023
def k0_mult32 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_507 : BitVec 32 := 1#32
  let v1049 : BitVec 32 := Scalar.subi v821 c1_i32_507
  let c0_i32_508 : BitVec 32 := 0#32
  let v1050 : BitVec 32 := Scalar.maxsi v1049 c0_i32_508
  let c512_i32_509 : BitVec 32 := 512#32
  let v1051 : BitVec 32 := Scalar.muli v1050 c512_i32_509
  v1051
def k0_mult33 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_549 : BitVec 32 := 1#32
  let v1121 : BitVec 32 := Scalar.subi v1087 c1_i32_549
  let c0_i32_550 : BitVec 32 := 0#32
  let v1122 : BitVec 32 := Scalar.maxsi v1121 c0_i32_550
  let c512_i32_551 : BitVec 32 := 512#32
  let v1123 : BitVec 32 := Scalar.muli v1122 c512_i32_551
  v1123
def k0_mult34 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_561 : BitVec 32 := 1#32
  let v1147 : BitVec 32 := Scalar.subi v1087 c1_i32_561
  let c0_i32_562 : BitVec 32 := 0#32
  let v1148 : BitVec 32 := Scalar.maxsi v1147 c0_i32_562
  let c512_i32_563 : BitVec 32 := 512#32
  let v1149 : BitVec 32 := Scalar.muli v1148 c512_i32_563
  v1149
def k0_mult35 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_574 : BitVec 32 := 1#32
  let v1175 : BitVec 32 := Scalar.subi v1087 c1_i32_574
  let c0_i32_575 : BitVec 32 := 0#32
  let v1176 : BitVec 32 := Scalar.maxsi v1175 c0_i32_575
  let c512_i32_576 : BitVec 32 := 512#32
  let v1177 : BitVec 32 := Scalar.muli v1176 c512_i32_576
  v1177
def k0_mult36 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_587 : BitVec 32 := 1#32
  let v1203 : BitVec 32 := Scalar.subi v1087 c1_i32_587
  let c0_i32_588 : BitVec 32 := 0#32
  let v1204 : BitVec 32 := Scalar.maxsi v1203 c0_i32_588
  let c512_i32_589 : BitVec 32 := 512#32
  let v1205 : BitVec 32 := Scalar.muli v1204 c512_i32_589
  v1205
def k0_mult37 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_600 : BitVec 32 := 1#32
  let v1231 : BitVec 32 := Scalar.subi v1087 c1_i32_600
  let c0_i32_601 : BitVec 32 := 0#32
  let v1232 : BitVec 32 := Scalar.maxsi v1231 c0_i32_601
  let c512_i32_602 : BitVec 32 := 512#32
  let v1233 : BitVec 32 := Scalar.muli v1232 c512_i32_602
  v1233
def k0_mult38 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_613 : BitVec 32 := 1#32
  let v1259 : BitVec 32 := Scalar.subi v1087 c1_i32_613
  let c0_i32_614 : BitVec 32 := 0#32
  let v1260 : BitVec 32 := Scalar.maxsi v1259 c0_i32_614
  let c512_i32_615 : BitVec 32 := 512#32
  let v1261 : BitVec 32 := Scalar.muli v1260 c512_i32_615
  v1261
def k0_mult39 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_626 : BitVec 32 := 1#32
  let v1287 : BitVec 32 := Scalar.subi v1087 c1_i32_626
  let c0_i32_627 : BitVec 32 := 0#32
  let v1288 : BitVec 32 := Scalar.maxsi v1287 c0_i32_627
  let c512_i32_628 : BitVec 32 := 512#32
  let v1289 : BitVec 32 := Scalar.muli v1288 c512_i32_628
  v1289
def k0_mult40 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_639 : BitVec 32 := 1#32
  let v1315 : BitVec 32 := Scalar.subi v1087 c1_i32_639
  let c0_i32_640 : BitVec 32 := 0#32
  let v1316 : BitVec 32 := Scalar.maxsi v1315 c0_i32_640
  let c512_i32_641 : BitVec 32 := 512#32
  let v1317 : BitVec 32 := Scalar.muli v1316 c512_i32_641
  v1317
def k0_mult41 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_681 : BitVec 32 := 1#32
  let v1387 : BitVec 32 := Scalar.subi v1353 c1_i32_681
  let c0_i32_682 : BitVec 32 := 0#32
  let v1388 : BitVec 32 := Scalar.maxsi v1387 c0_i32_682
  let c512_i32_683 : BitVec 32 := 512#32
  let v1389 : BitVec 32 := Scalar.muli v1388 c512_i32_683
  v1389
def k0_mult42 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_693 : BitVec 32 := 1#32
  let v1413 : BitVec 32 := Scalar.subi v1353 c1_i32_693
  let c0_i32_694 : BitVec 32 := 0#32
  let v1414 : BitVec 32 := Scalar.maxsi v1413 c0_i32_694
  let c512_i32_695 : BitVec 32 := 512#32
  let v1415 : BitVec 32 := Scalar.muli v1414 c512_i32_695
  v1415
def k0_mult43 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_706 : BitVec 32 := 1#32
  let v1441 : BitVec 32 := Scalar.subi v1353 c1_i32_706
  let c0_i32_707 : BitVec 32 := 0#32
  let v1442 : BitVec 32 := Scalar.maxsi v1441 c0_i32_707
  let c512_i32_708 : BitVec 32 := 512#32
  let v1443 : BitVec 32 := Scalar.muli v1442 c512_i32_708
  v1443
def k0_mult44 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_719 : BitVec 32 := 1#32
  let v1469 : BitVec 32 := Scalar.subi v1353 c1_i32_719
  let c0_i32_720 : BitVec 32 := 0#32
  let v1470 : BitVec 32 := Scalar.maxsi v1469 c0_i32_720
  let c512_i32_721 : BitVec 32 := 512#32
  let v1471 : BitVec 32 := Scalar.muli v1470 c512_i32_721
  v1471
def k0_mult45 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_732 : BitVec 32 := 1#32
  let v1497 : BitVec 32 := Scalar.subi v1353 c1_i32_732
  let c0_i32_733 : BitVec 32 := 0#32
  let v1498 : BitVec 32 := Scalar.maxsi v1497 c0_i32_733
  let c512_i32_734 : BitVec 32 := 512#32
  let v1499 : BitVec 32 := Scalar.muli v1498 c512_i32_734
  v1499
def k0_mult46 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_745 : BitVec 32 := 1#32
  let v1525 : BitVec 32 := Scalar.subi v1353 c1_i32_745
  let c0_i32_746 : BitVec 32 := 0#32
  let v1526 : BitVec 32 := Scalar.maxsi v1525 c0_i32_746
  let c512_i32_747 : BitVec 32 := 512#32
  let v1527 : BitVec 32 := Scalar.muli v1526 c512_i32_747
  v1527
def k0_mult47 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_758 : BitVec 32 := 1#32
  let v1553 : BitVec 32 := Scalar.subi v1353 c1_i32_758
  let c0_i32_759 : BitVec 32 := 0#32
  let v1554 : BitVec 32 := Scalar.maxsi v1553 c0_i32_759
  let c512_i32_760 : BitVec 32 := 512#32
  let v1555 : BitVec 32 := Scalar.muli v1554 c512_i32_760
  v1555
def k0_mult48 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c1_i32_207 : BitVec 32 := 1#32
  let arg16 : BitVec 32 := Scf.iv c0_i32_205 c1_i32_207 k0_t1
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_771 : BitVec 32 := 1#32
  let v1581 : BitVec 32 := Scalar.subi v1353 c1_i32_771
  let c0_i32_772 : BitVec 32 := 0#32
  let v1582 : BitVec 32 := Scalar.maxsi v1581 c0_i32_772
  let c512_i32_773 : BitVec 32 := 512#32
  let v1583 : BitVec 32 := Scalar.muli v1582 c512_i32_773
  v1583
@[reducible] def k0_t2_loop (i : grid0.Coords) : Scf.Loop 32 :=
  let c0_i32_205 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let v453 : BitVec 32 := Scalar.addi c0_i32_205 v452
  let c1_i32_208 : BitVec 32 := 1#32
  ⟨v456, v453, c1_i32_208⟩
def k0_off9 (i : grid0.Coords) (k0_t2 : Fin (k0_t2_loop i).trips) (c0_i32_261 : BitVec 32) (c0_i32_263 : BitVec 32) : Fin 3 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let v555 : BitVec 32 := Scalar.subi v554 c0_i32_261
  let c4_i32_262 : BitVec 32 := 4#32
  let v556 : BitVec 32 := Scalar.muli v555 c4_i32_262
  let v557 : BitVec 32 := Scalar.addi v556 c0_i32_263
  let v558 : Index := Scalar.indexCast v557
  let c0_264 : Index := 0#32
  let c0_265 : Index := 0#32
  ![v558.toNat, 0, 0]
def k0_mult49 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_285 : BitVec 32 := 1#32
  let v589 : BitVec 32 := Scalar.subi v555 c1_i32_285
  let c0_i32_286 : BitVec 32 := 0#32
  let v590 : BitVec 32 := Scalar.maxsi v589 c0_i32_286
  let c512_i32_287 : BitVec 32 := 512#32
  let v591 : BitVec 32 := Scalar.muli v590 c512_i32_287
  v591
def k0_off10 (i : grid0.Coords) (k0_t2 : Fin (k0_t2_loop i).trips) (c0_i32_261 : BitVec 32) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let v555 : BitVec 32 := Scalar.subi v554 c0_i32_261
  let c1_i32_285 : BitVec 32 := 1#32
  let v589 : BitVec 32 := Scalar.subi v555 c1_i32_285
  let c0_i32_286 : BitVec 32 := 0#32
  let v590 : BitVec 32 := Scalar.maxsi v589 c0_i32_286
  let c512_i32_287 : BitVec 32 := 512#32
  let v591 : BitVec 32 := Scalar.muli v590 c512_i32_287
  let v592 : BitVec 32 := v591
  let v593 : Index := Scalar.indexCast v592
  let c0_288 : Index := 0#32
  ![v593.toNat, 0]
def k0_mult50 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_297 : BitVec 32 := 1#32
  let v615 : BitVec 32 := Scalar.subi v555 c1_i32_297
  let c0_i32_298 : BitVec 32 := 0#32
  let v616 : BitVec 32 := Scalar.maxsi v615 c0_i32_298
  let c512_i32_299 : BitVec 32 := 512#32
  let v617 : BitVec 32 := Scalar.muli v616 c512_i32_299
  v617
def k0_mult51 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_310 : BitVec 32 := 1#32
  let v643 : BitVec 32 := Scalar.subi v555 c1_i32_310
  let c0_i32_311 : BitVec 32 := 0#32
  let v644 : BitVec 32 := Scalar.maxsi v643 c0_i32_311
  let c512_i32_312 : BitVec 32 := 512#32
  let v645 : BitVec 32 := Scalar.muli v644 c512_i32_312
  v645
def k0_mult52 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_323 : BitVec 32 := 1#32
  let v671 : BitVec 32 := Scalar.subi v555 c1_i32_323
  let c0_i32_324 : BitVec 32 := 0#32
  let v672 : BitVec 32 := Scalar.maxsi v671 c0_i32_324
  let c512_i32_325 : BitVec 32 := 512#32
  let v673 : BitVec 32 := Scalar.muli v672 c512_i32_325
  v673
def k0_mult53 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_336 : BitVec 32 := 1#32
  let v699 : BitVec 32 := Scalar.subi v555 c1_i32_336
  let c0_i32_337 : BitVec 32 := 0#32
  let v700 : BitVec 32 := Scalar.maxsi v699 c0_i32_337
  let c512_i32_338 : BitVec 32 := 512#32
  let v701 : BitVec 32 := Scalar.muli v700 c512_i32_338
  v701
def k0_off11 (i : grid0.Coords) (k0_t2 : Fin (k0_t2_loop i).trips) (c0_i32_261 : BitVec 32) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let v555 : BitVec 32 := Scalar.subi v554 c0_i32_261
  let c1_i32_336 : BitVec 32 := 1#32
  let v699 : BitVec 32 := Scalar.subi v555 c1_i32_336
  let c0_i32_337 : BitVec 32 := 0#32
  let v700 : BitVec 32 := Scalar.maxsi v699 c0_i32_337
  let c512_i32_338 : BitVec 32 := 512#32
  let v701 : BitVec 32 := Scalar.muli v700 c512_i32_338
  let v702 : BitVec 32 := v701
  let v703 : Index := Scalar.indexCast v702
  let c128_339 : Index := 128#32
  ![v703.toNat, 128]
def k0_mult54 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_349 : BitVec 32 := 1#32
  let v727 : BitVec 32 := Scalar.subi v555 c1_i32_349
  let c0_i32_350 : BitVec 32 := 0#32
  let v728 : BitVec 32 := Scalar.maxsi v727 c0_i32_350
  let c512_i32_351 : BitVec 32 := 512#32
  let v729 : BitVec 32 := Scalar.muli v728 c512_i32_351
  v729
def k0_mult55 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_362 : BitVec 32 := 1#32
  let v755 : BitVec 32 := Scalar.subi v555 c1_i32_362
  let c0_i32_363 : BitVec 32 := 0#32
  let v756 : BitVec 32 := Scalar.maxsi v755 c0_i32_363
  let c512_i32_364 : BitVec 32 := 512#32
  let v757 : BitVec 32 := Scalar.muli v756 c512_i32_364
  v757
def k0_mult56 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c0_i32_261 : BitVec 32 := 0#32
  let v555 : BitVec 32 := Scalar.subi v554 c0_i32_261
  let c1_i32_375 : BitVec 32 := 1#32
  let v783 : BitVec 32 := Scalar.subi v555 c1_i32_375
  let c0_i32_376 : BitVec 32 := 0#32
  let v784 : BitVec 32 := Scalar.maxsi v783 c0_i32_376
  let c512_i32_377 : BitVec 32 := 512#32
  let v785 : BitVec 32 := Scalar.muli v784 c512_i32_377
  v785
def k0_mult57 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_417 : BitVec 32 := 1#32
  let v855 : BitVec 32 := Scalar.subi v821 c1_i32_417
  let c0_i32_418 : BitVec 32 := 0#32
  let v856 : BitVec 32 := Scalar.maxsi v855 c0_i32_418
  let c512_i32_419 : BitVec 32 := 512#32
  let v857 : BitVec 32 := Scalar.muli v856 c512_i32_419
  v857
def k0_mult58 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_429 : BitVec 32 := 1#32
  let v881 : BitVec 32 := Scalar.subi v821 c1_i32_429
  let c0_i32_430 : BitVec 32 := 0#32
  let v882 : BitVec 32 := Scalar.maxsi v881 c0_i32_430
  let c512_i32_431 : BitVec 32 := 512#32
  let v883 : BitVec 32 := Scalar.muli v882 c512_i32_431
  v883
def k0_mult59 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_442 : BitVec 32 := 1#32
  let v909 : BitVec 32 := Scalar.subi v821 c1_i32_442
  let c0_i32_443 : BitVec 32 := 0#32
  let v910 : BitVec 32 := Scalar.maxsi v909 c0_i32_443
  let c512_i32_444 : BitVec 32 := 512#32
  let v911 : BitVec 32 := Scalar.muli v910 c512_i32_444
  v911
def k0_mult60 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_455 : BitVec 32 := 1#32
  let v937 : BitVec 32 := Scalar.subi v821 c1_i32_455
  let c0_i32_456 : BitVec 32 := 0#32
  let v938 : BitVec 32 := Scalar.maxsi v937 c0_i32_456
  let c512_i32_457 : BitVec 32 := 512#32
  let v939 : BitVec 32 := Scalar.muli v938 c512_i32_457
  v939
def k0_mult61 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_468 : BitVec 32 := 1#32
  let v965 : BitVec 32 := Scalar.subi v821 c1_i32_468
  let c0_i32_469 : BitVec 32 := 0#32
  let v966 : BitVec 32 := Scalar.maxsi v965 c0_i32_469
  let c512_i32_470 : BitVec 32 := 512#32
  let v967 : BitVec 32 := Scalar.muli v966 c512_i32_470
  v967
def k0_mult62 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_481 : BitVec 32 := 1#32
  let v993 : BitVec 32 := Scalar.subi v821 c1_i32_481
  let c0_i32_482 : BitVec 32 := 0#32
  let v994 : BitVec 32 := Scalar.maxsi v993 c0_i32_482
  let c512_i32_483 : BitVec 32 := 512#32
  let v995 : BitVec 32 := Scalar.muli v994 c512_i32_483
  v995
def k0_mult63 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_494 : BitVec 32 := 1#32
  let v1021 : BitVec 32 := Scalar.subi v821 c1_i32_494
  let c0_i32_495 : BitVec 32 := 0#32
  let v1022 : BitVec 32 := Scalar.maxsi v1021 c0_i32_495
  let c512_i32_496 : BitVec 32 := 512#32
  let v1023 : BitVec 32 := Scalar.muli v1022 c512_i32_496
  v1023
def k0_mult64 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c1_i32_393 : BitVec 32 := 1#32
  let v821 : BitVec 32 := Scalar.subi v554 c1_i32_393
  let c1_i32_507 : BitVec 32 := 1#32
  let v1049 : BitVec 32 := Scalar.subi v821 c1_i32_507
  let c0_i32_508 : BitVec 32 := 0#32
  let v1050 : BitVec 32 := Scalar.maxsi v1049 c0_i32_508
  let c512_i32_509 : BitVec 32 := 512#32
  let v1051 : BitVec 32 := Scalar.muli v1050 c512_i32_509
  v1051
def k0_mult65 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_549 : BitVec 32 := 1#32
  let v1121 : BitVec 32 := Scalar.subi v1087 c1_i32_549
  let c0_i32_550 : BitVec 32 := 0#32
  let v1122 : BitVec 32 := Scalar.maxsi v1121 c0_i32_550
  let c512_i32_551 : BitVec 32 := 512#32
  let v1123 : BitVec 32 := Scalar.muli v1122 c512_i32_551
  v1123
def k0_mult66 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_561 : BitVec 32 := 1#32
  let v1147 : BitVec 32 := Scalar.subi v1087 c1_i32_561
  let c0_i32_562 : BitVec 32 := 0#32
  let v1148 : BitVec 32 := Scalar.maxsi v1147 c0_i32_562
  let c512_i32_563 : BitVec 32 := 512#32
  let v1149 : BitVec 32 := Scalar.muli v1148 c512_i32_563
  v1149
def k0_mult67 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_574 : BitVec 32 := 1#32
  let v1175 : BitVec 32 := Scalar.subi v1087 c1_i32_574
  let c0_i32_575 : BitVec 32 := 0#32
  let v1176 : BitVec 32 := Scalar.maxsi v1175 c0_i32_575
  let c512_i32_576 : BitVec 32 := 512#32
  let v1177 : BitVec 32 := Scalar.muli v1176 c512_i32_576
  v1177
def k0_mult68 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_587 : BitVec 32 := 1#32
  let v1203 : BitVec 32 := Scalar.subi v1087 c1_i32_587
  let c0_i32_588 : BitVec 32 := 0#32
  let v1204 : BitVec 32 := Scalar.maxsi v1203 c0_i32_588
  let c512_i32_589 : BitVec 32 := 512#32
  let v1205 : BitVec 32 := Scalar.muli v1204 c512_i32_589
  v1205
def k0_mult69 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_600 : BitVec 32 := 1#32
  let v1231 : BitVec 32 := Scalar.subi v1087 c1_i32_600
  let c0_i32_601 : BitVec 32 := 0#32
  let v1232 : BitVec 32 := Scalar.maxsi v1231 c0_i32_601
  let c512_i32_602 : BitVec 32 := 512#32
  let v1233 : BitVec 32 := Scalar.muli v1232 c512_i32_602
  v1233
def k0_mult70 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_613 : BitVec 32 := 1#32
  let v1259 : BitVec 32 := Scalar.subi v1087 c1_i32_613
  let c0_i32_614 : BitVec 32 := 0#32
  let v1260 : BitVec 32 := Scalar.maxsi v1259 c0_i32_614
  let c512_i32_615 : BitVec 32 := 512#32
  let v1261 : BitVec 32 := Scalar.muli v1260 c512_i32_615
  v1261
def k0_mult71 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_626 : BitVec 32 := 1#32
  let v1287 : BitVec 32 := Scalar.subi v1087 c1_i32_626
  let c0_i32_627 : BitVec 32 := 0#32
  let v1288 : BitVec 32 := Scalar.maxsi v1287 c0_i32_627
  let c512_i32_628 : BitVec 32 := 512#32
  let v1289 : BitVec 32 := Scalar.muli v1288 c512_i32_628
  v1289
def k0_mult72 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c2_i32_525 : BitVec 32 := 2#32
  let v1087 : BitVec 32 := Scalar.subi v554 c2_i32_525
  let c1_i32_639 : BitVec 32 := 1#32
  let v1315 : BitVec 32 := Scalar.subi v1087 c1_i32_639
  let c0_i32_640 : BitVec 32 := 0#32
  let v1316 : BitVec 32 := Scalar.maxsi v1315 c0_i32_640
  let c512_i32_641 : BitVec 32 := 512#32
  let v1317 : BitVec 32 := Scalar.muli v1316 c512_i32_641
  v1317
def k0_mult73 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_681 : BitVec 32 := 1#32
  let v1387 : BitVec 32 := Scalar.subi v1353 c1_i32_681
  let c0_i32_682 : BitVec 32 := 0#32
  let v1388 : BitVec 32 := Scalar.maxsi v1387 c0_i32_682
  let c512_i32_683 : BitVec 32 := 512#32
  let v1389 : BitVec 32 := Scalar.muli v1388 c512_i32_683
  v1389
def k0_mult74 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_693 : BitVec 32 := 1#32
  let v1413 : BitVec 32 := Scalar.subi v1353 c1_i32_693
  let c0_i32_694 : BitVec 32 := 0#32
  let v1414 : BitVec 32 := Scalar.maxsi v1413 c0_i32_694
  let c512_i32_695 : BitVec 32 := 512#32
  let v1415 : BitVec 32 := Scalar.muli v1414 c512_i32_695
  v1415
def k0_mult75 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_706 : BitVec 32 := 1#32
  let v1441 : BitVec 32 := Scalar.subi v1353 c1_i32_706
  let c0_i32_707 : BitVec 32 := 0#32
  let v1442 : BitVec 32 := Scalar.maxsi v1441 c0_i32_707
  let c512_i32_708 : BitVec 32 := 512#32
  let v1443 : BitVec 32 := Scalar.muli v1442 c512_i32_708
  v1443
def k0_mult76 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_719 : BitVec 32 := 1#32
  let v1469 : BitVec 32 := Scalar.subi v1353 c1_i32_719
  let c0_i32_720 : BitVec 32 := 0#32
  let v1470 : BitVec 32 := Scalar.maxsi v1469 c0_i32_720
  let c512_i32_721 : BitVec 32 := 512#32
  let v1471 : BitVec 32 := Scalar.muli v1470 c512_i32_721
  v1471
def k0_mult77 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_732 : BitVec 32 := 1#32
  let v1497 : BitVec 32 := Scalar.subi v1353 c1_i32_732
  let c0_i32_733 : BitVec 32 := 0#32
  let v1498 : BitVec 32 := Scalar.maxsi v1497 c0_i32_733
  let c512_i32_734 : BitVec 32 := 512#32
  let v1499 : BitVec 32 := Scalar.muli v1498 c512_i32_734
  v1499
def k0_mult78 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_745 : BitVec 32 := 1#32
  let v1525 : BitVec 32 := Scalar.subi v1353 c1_i32_745
  let c0_i32_746 : BitVec 32 := 0#32
  let v1526 : BitVec 32 := Scalar.maxsi v1525 c0_i32_746
  let c512_i32_747 : BitVec 32 := 512#32
  let v1527 : BitVec 32 := Scalar.muli v1526 c512_i32_747
  v1527
def k0_mult79 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_758 : BitVec 32 := 1#32
  let v1553 : BitVec 32 := Scalar.subi v1353 c1_i32_758
  let c0_i32_759 : BitVec 32 := 0#32
  let v1554 : BitVec 32 := Scalar.maxsi v1553 c0_i32_759
  let c512_i32_760 : BitVec 32 := 512#32
  let v1555 : BitVec 32 := Scalar.muli v1554 c512_i32_760
  v1555
def k0_mult80 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c1_i32_259 : BitVec 32 := 1#32
  let v552 : BitVec 32 := Scalar.subi v41 c1_i32_259
  let c4_i32_260 : BitVec 32 := 4#32
  let c0_i32_205 : BitVec 32 := 0#32
  let c0_i32_198 : BitVec 32 := 0#32
  let v436 : BitVec 1 := Scalar.cmpi .sgt v41 c0_i32_198
  let v437 : BitVec 32 := Scalar.extui v436
  let c0_i32_199 : BitVec 32 := 0#32
  let v438 : BitVec 1 := Scalar.cmpi .slt v41 c0_i32_199
  let v439 : BitVec 32 := Scalar.extui v438
  let v440 : BitVec 32 := Scalar.subi v437 v439
  let c4_i32_197 : BitVec 32 := 4#32
  let c0_i32_200 : BitVec 32 := 0#32
  let v441 : BitVec 1 := Scalar.cmpi .sgt c4_i32_197 c0_i32_200
  let v442 : BitVec 32 := Scalar.extui v441
  let c0_i32_201 : BitVec 32 := 0#32
  let v443 : BitVec 1 := Scalar.cmpi .slt c4_i32_197 c0_i32_201
  let v444 : BitVec 32 := Scalar.extui v443
  let v445 : BitVec 32 := Scalar.subi v442 v444
  let v446 : BitVec 1 := Scalar.cmpi .ne v440 v445
  let v447 : BitVec 32 := Scalar.remsi v41 c4_i32_197
  let c0_i32_202 : BitVec 32 := 0#32
  let v448 : BitVec 1 := Scalar.cmpi .ne v447 c0_i32_202
  let v449 : BitVec 1 := Scalar.andi v446 v448
  let v435 : BitVec 32 := Scalar.divsi v41 c4_i32_197
  let c1_i32_203 : BitVec 32 := 1#32
  let v450 : BitVec 32 := Scalar.subi v435 c1_i32_203
  let v451 : BitVec 32 := Scalar.select v449 v450 v435
  let v452 : BitVec 32 := Scalar.subi v451 c0_i32_205
  let c1_i32_206 : BitVec 32 := 1#32
  let v454 : BitVec 32 := Scalar.divsi v452 c1_i32_206
  let v455 : BitVec 32 := Scalar.muli v454 c1_i32_206
  let v456 : BitVec 32 := Scalar.addi c0_i32_205 v455
  let c1_i32_208 : BitVec 32 := 1#32
  let arg16 : BitVec 32 := Scf.iv v456 c1_i32_208 k0_t2
  let v553 : BitVec 32 := Scalar.muli c4_i32_260 arg16
  let v554 : BitVec 32 := Scalar.subi v552 v553
  let c3_i32_657 : BitVec 32 := 3#32
  let v1353 : BitVec 32 := Scalar.subi v554 c3_i32_657
  let c1_i32_771 : BitVec 32 := 1#32
  let v1581 : BitVec 32 := Scalar.subi v1353 c1_i32_771
  let c0_i32_772 : BitVec 32 := 0#32
  let v1582 : BitVec 32 := Scalar.maxsi v1581 c0_i32_772
  let c512_i32_773 : BitVec 32 := 512#32
  let v1583 : BitVec 32 := Scalar.muli v1582 c512_i32_773
  v1583
def k0_cond2 (i : grid0.Coords) : BitVec 1 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_217 : BitVec 32 := 1#32
  let v470 : BitVec 1 := Scalar.cmpi .sgt v466 c1_i32_217
  let v473 : BitVec 32 := Scalar.extui v470
  let c0_i32_220 : BitVec 32 := 0#32
  let v474 : BitVec 1 := Scalar.cmpi .ne v473 c0_i32_220
  v474

def k0_off12 (i : grid0.Coords) (c0_i32_260 : BitVec 32) : Fin 3 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c4_i32_259 : BitVec 32 := 4#32
  let v552 : BitVec 32 := Scalar.muli v472 c4_i32_259
  let v553 : BitVec 32 := Scalar.addi v552 c0_i32_260
  let v554 : Index := Scalar.indexCast v553
  let c0_261 : Index := 0#32
  let c0_262 : Index := 0#32
  ![v554.toNat, 0, 0]
def k0_mult81 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_281 : BitVec 32 := 1#32
  let v581 : BitVec 32 := Scalar.subi v472 c1_i32_281
  let c0_i32_282 : BitVec 32 := 0#32
  let v582 : BitVec 32 := Scalar.maxsi v581 c0_i32_282
  let c512_i32_283 : BitVec 32 := 512#32
  let v583 : BitVec 32 := Scalar.muli v582 c512_i32_283
  v583
def k0_off13 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_281 : BitVec 32 := 1#32
  let v581 : BitVec 32 := Scalar.subi v472 c1_i32_281
  let c0_i32_282 : BitVec 32 := 0#32
  let v582 : BitVec 32 := Scalar.maxsi v581 c0_i32_282
  let c512_i32_283 : BitVec 32 := 512#32
  let v583 : BitVec 32 := Scalar.muli v582 c512_i32_283
  let v584 : BitVec 32 := v583
  let v585 : Index := Scalar.indexCast v584
  let c0_284 : Index := 0#32
  ![v585.toNat, 0]
def k0_mult82 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_293 : BitVec 32 := 1#32
  let v607 : BitVec 32 := Scalar.subi v472 c1_i32_293
  let c0_i32_294 : BitVec 32 := 0#32
  let v608 : BitVec 32 := Scalar.maxsi v607 c0_i32_294
  let c512_i32_295 : BitVec 32 := 512#32
  let v609 : BitVec 32 := Scalar.muli v608 c512_i32_295
  v609
def k0_mult83 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_306 : BitVec 32 := 1#32
  let v635 : BitVec 32 := Scalar.subi v472 c1_i32_306
  let c0_i32_307 : BitVec 32 := 0#32
  let v636 : BitVec 32 := Scalar.maxsi v635 c0_i32_307
  let c512_i32_308 : BitVec 32 := 512#32
  let v637 : BitVec 32 := Scalar.muli v636 c512_i32_308
  v637
def k0_mult84 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_319 : BitVec 32 := 1#32
  let v663 : BitVec 32 := Scalar.subi v472 c1_i32_319
  let c0_i32_320 : BitVec 32 := 0#32
  let v664 : BitVec 32 := Scalar.maxsi v663 c0_i32_320
  let c512_i32_321 : BitVec 32 := 512#32
  let v665 : BitVec 32 := Scalar.muli v664 c512_i32_321
  v665
def k0_mult85 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_332 : BitVec 32 := 1#32
  let v691 : BitVec 32 := Scalar.subi v472 c1_i32_332
  let c0_i32_333 : BitVec 32 := 0#32
  let v692 : BitVec 32 := Scalar.maxsi v691 c0_i32_333
  let c512_i32_334 : BitVec 32 := 512#32
  let v693 : BitVec 32 := Scalar.muli v692 c512_i32_334
  v693
def k0_off14 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_332 : BitVec 32 := 1#32
  let v691 : BitVec 32 := Scalar.subi v472 c1_i32_332
  let c0_i32_333 : BitVec 32 := 0#32
  let v692 : BitVec 32 := Scalar.maxsi v691 c0_i32_333
  let c512_i32_334 : BitVec 32 := 512#32
  let v693 : BitVec 32 := Scalar.muli v692 c512_i32_334
  let v694 : BitVec 32 := v693
  let v695 : Index := Scalar.indexCast v694
  let c128_335 : Index := 128#32
  ![v695.toNat, 128]
def k0_mult86 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_345 : BitVec 32 := 1#32
  let v719 : BitVec 32 := Scalar.subi v472 c1_i32_345
  let c0_i32_346 : BitVec 32 := 0#32
  let v720 : BitVec 32 := Scalar.maxsi v719 c0_i32_346
  let c512_i32_347 : BitVec 32 := 512#32
  let v721 : BitVec 32 := Scalar.muli v720 c512_i32_347
  v721
def k0_mult87 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_358 : BitVec 32 := 1#32
  let v747 : BitVec 32 := Scalar.subi v472 c1_i32_358
  let c0_i32_359 : BitVec 32 := 0#32
  let v748 : BitVec 32 := Scalar.maxsi v747 c0_i32_359
  let c512_i32_360 : BitVec 32 := 512#32
  let v749 : BitVec 32 := Scalar.muli v748 c512_i32_360
  v749
def k0_mult88 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_218 : BitVec 32 := 1#32
  let v471 : BitVec 32 := Scalar.subi v466 c1_i32_218
  let c0_i32_219 : BitVec 32 := 0#32
  let v472 : BitVec 32 := Scalar.subi v471 c0_i32_219
  let c1_i32_371 : BitVec 32 := 1#32
  let v775 : BitVec 32 := Scalar.subi v472 c1_i32_371
  let c0_i32_372 : BitVec 32 := 0#32
  let v776 : BitVec 32 := Scalar.maxsi v775 c0_i32_372
  let c512_i32_373 : BitVec 32 := 512#32
  let v777 : BitVec 32 := Scalar.muli v776 c512_i32_373
  v777
def k0_cond4 (i : grid0.Coords) : BitVec 1 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c2_i32_223 : BitVec 32 := 2#32
  let v478 : BitVec 1 := Scalar.cmpi .sgt v466 c2_i32_223
  let v481 : BitVec 32 := Scalar.extui v478
  let c0_i32_226 : BitVec 32 := 0#32
  let v482 : BitVec 1 := Scalar.cmpi .ne v481 c0_i32_226
  v482

def k0_off15 (i : grid0.Coords) (c0_i32_260 : BitVec 32) : Fin 3 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c4_i32_259 : BitVec 32 := 4#32
  let v552 : BitVec 32 := Scalar.muli v480 c4_i32_259
  let v553 : BitVec 32 := Scalar.addi v552 c0_i32_260
  let v554 : Index := Scalar.indexCast v553
  let c0_261 : Index := 0#32
  let c0_262 : Index := 0#32
  ![v554.toNat, 0, 0]
def k0_mult89 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_281 : BitVec 32 := 1#32
  let v581 : BitVec 32 := Scalar.subi v480 c1_i32_281
  let c0_i32_282 : BitVec 32 := 0#32
  let v582 : BitVec 32 := Scalar.maxsi v581 c0_i32_282
  let c512_i32_283 : BitVec 32 := 512#32
  let v583 : BitVec 32 := Scalar.muli v582 c512_i32_283
  v583
def k0_off16 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_281 : BitVec 32 := 1#32
  let v581 : BitVec 32 := Scalar.subi v480 c1_i32_281
  let c0_i32_282 : BitVec 32 := 0#32
  let v582 : BitVec 32 := Scalar.maxsi v581 c0_i32_282
  let c512_i32_283 : BitVec 32 := 512#32
  let v583 : BitVec 32 := Scalar.muli v582 c512_i32_283
  let v584 : BitVec 32 := v583
  let v585 : Index := Scalar.indexCast v584
  let c0_284 : Index := 0#32
  ![v585.toNat, 0]
def k0_mult90 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_293 : BitVec 32 := 1#32
  let v607 : BitVec 32 := Scalar.subi v480 c1_i32_293
  let c0_i32_294 : BitVec 32 := 0#32
  let v608 : BitVec 32 := Scalar.maxsi v607 c0_i32_294
  let c512_i32_295 : BitVec 32 := 512#32
  let v609 : BitVec 32 := Scalar.muli v608 c512_i32_295
  v609
def k0_mult91 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_306 : BitVec 32 := 1#32
  let v635 : BitVec 32 := Scalar.subi v480 c1_i32_306
  let c0_i32_307 : BitVec 32 := 0#32
  let v636 : BitVec 32 := Scalar.maxsi v635 c0_i32_307
  let c512_i32_308 : BitVec 32 := 512#32
  let v637 : BitVec 32 := Scalar.muli v636 c512_i32_308
  v637
def k0_mult92 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_319 : BitVec 32 := 1#32
  let v663 : BitVec 32 := Scalar.subi v480 c1_i32_319
  let c0_i32_320 : BitVec 32 := 0#32
  let v664 : BitVec 32 := Scalar.maxsi v663 c0_i32_320
  let c512_i32_321 : BitVec 32 := 512#32
  let v665 : BitVec 32 := Scalar.muli v664 c512_i32_321
  v665
def k0_mult93 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_332 : BitVec 32 := 1#32
  let v691 : BitVec 32 := Scalar.subi v480 c1_i32_332
  let c0_i32_333 : BitVec 32 := 0#32
  let v692 : BitVec 32 := Scalar.maxsi v691 c0_i32_333
  let c512_i32_334 : BitVec 32 := 512#32
  let v693 : BitVec 32 := Scalar.muli v692 c512_i32_334
  v693
def k0_off17 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_332 : BitVec 32 := 1#32
  let v691 : BitVec 32 := Scalar.subi v480 c1_i32_332
  let c0_i32_333 : BitVec 32 := 0#32
  let v692 : BitVec 32 := Scalar.maxsi v691 c0_i32_333
  let c512_i32_334 : BitVec 32 := 512#32
  let v693 : BitVec 32 := Scalar.muli v692 c512_i32_334
  let v694 : BitVec 32 := v693
  let v695 : Index := Scalar.indexCast v694
  let c128_335 : Index := 128#32
  ![v695.toNat, 128]
def k0_mult94 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_345 : BitVec 32 := 1#32
  let v719 : BitVec 32 := Scalar.subi v480 c1_i32_345
  let c0_i32_346 : BitVec 32 := 0#32
  let v720 : BitVec 32 := Scalar.maxsi v719 c0_i32_346
  let c512_i32_347 : BitVec 32 := 512#32
  let v721 : BitVec 32 := Scalar.muli v720 c512_i32_347
  v721
def k0_mult95 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_358 : BitVec 32 := 1#32
  let v747 : BitVec 32 := Scalar.subi v480 c1_i32_358
  let c0_i32_359 : BitVec 32 := 0#32
  let v748 : BitVec 32 := Scalar.maxsi v747 c0_i32_359
  let c512_i32_360 : BitVec 32 := 512#32
  let v749 : BitVec 32 := Scalar.muli v748 c512_i32_360
  v749
def k0_mult96 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v26 : BitVec 1 := Scalar.cmpi .sgt v0 c0_i32
  let v27 : BitVec 32 := Scalar.extui v26
  let c0_i32_9 : BitVec 32 := 0#32
  let v28 : BitVec 1 := Scalar.cmpi .slt v0 c0_i32_9
  let v29 : BitVec 32 := Scalar.extui v28
  let v30 : BitVec 32 := Scalar.subi v27 v29
  let c512_i32_8 : BitVec 32 := 512#32
  let c0_i32_10 : BitVec 32 := 0#32
  let v31 : BitVec 1 := Scalar.cmpi .sgt c512_i32_8 c0_i32_10
  let v32 : BitVec 32 := Scalar.extui v31
  let c0_i32_11 : BitVec 32 := 0#32
  let v33 : BitVec 1 := Scalar.cmpi .slt c512_i32_8 c0_i32_11
  let v34 : BitVec 32 := Scalar.extui v33
  let v35 : BitVec 32 := Scalar.subi v32 v34
  let v36 : BitVec 1 := Scalar.cmpi .ne v30 v35
  let v37 : BitVec 32 := Scalar.remsi v0 c512_i32_8
  let c0_i32_12 : BitVec 32 := 0#32
  let v38 : BitVec 1 := Scalar.cmpi .ne v37 c0_i32_12
  let v39 : BitVec 1 := Scalar.andi v36 v38
  let v25 : BitVec 32 := Scalar.divsi v0 c512_i32_8
  let c1_i32 : BitVec 32 := 1#32
  let v40 : BitVec 32 := Scalar.subi v25 c1_i32
  let v41 : BitVec 32 := Scalar.select v39 v40 v25
  let c4_i32_209 : BitVec 32 := 4#32
  let c0_i32_210 : BitVec 32 := 0#32
  let v457 : BitVec 1 := Scalar.cmpi .eq c4_i32_209 c0_i32_210
  let c1_i32_211 : BitVec 32 := 1#32
  let v458 : BitVec 32 := Scalar.select v457 c1_i32_211 c4_i32_209
  let v459 : BitVec 32 := Scalar.remsi v41 v458
  let c0_i32_213 : BitVec 32 := 0#32
  let v461 : BitVec 1 := Scalar.cmpi .slt v459 c0_i32_213
  let c0_i32_214 : BitVec 32 := 0#32
  let v462 : BitVec 1 := Scalar.cmpi .slt v458 c0_i32_214
  let v463 : BitVec 1 := Scalar.xori v461 v462
  let c0_i32_212 : BitVec 32 := 0#32
  let v460 : BitVec 1 := Scalar.cmpi .ne v459 c0_i32_212
  let v464 : BitVec 1 := Scalar.andi v463 v460
  let v465 : BitVec 32 := Scalar.addi v459 v458
  let v466 : BitVec 32 := Scalar.select v464 v465 v459
  let c1_i32_224 : BitVec 32 := 1#32
  let v479 : BitVec 32 := Scalar.subi v466 c1_i32_224
  let c1_i32_225 : BitVec 32 := 1#32
  let v480 : BitVec 32 := Scalar.subi v479 c1_i32_225
  let c1_i32_371 : BitVec 32 := 1#32
  let v775 : BitVec 32 := Scalar.subi v480 c1_i32_371
  let c0_i32_372 : BitVec 32 := 0#32
  let v776 : BitVec 32 := Scalar.maxsi v775 c0_i32_372
  let c512_i32_373 : BitVec 32 := 512#32
  let v777 : BitVec 32 := Scalar.muli v776 c512_i32_373
  v777
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S64x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S512x32768 : Shape := ⟨2, ![512, 32768]⟩
abbrev S32768x512 : Shape := ⟨2, ![32768, 512]⟩
abbrev S256x512x128 : Shape := ⟨3, ![256, 512, 128]⟩
abbrev S1x64 : Shape := ⟨2, ![1, 64]⟩
abbrev S128x1 : Shape := ⟨2, ![128, 1]⟩
abbrev S4x8192x8x64 : Shape := ⟨4, ![4, 8192, 8, 64]⟩
abbrev S256x128x512 : Shape := ⟨3, ![256, 128, 512]⟩
abbrev S4x8192x4x128 : Shape := ⟨4, ![4, 8192, 4, 128]⟩
abbrev S_ : Shape := ⟨0, ![]⟩
abbrev S8192 : Shape := ⟨1, ![8192]⟩
abbrev S4x8x8192x8192 : Shape := ⟨4, ![4, 8, 8192, 8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x4x2x8192x8192 : Shape := ⟨5, ![4, 4, 2, 8192, 8192]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S128 : Shape := ⟨1, ![128]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S512x32768, .bf16⟩
  | .hbm, ⟨1, _⟩ => ⟨S32768x512, .bf16⟩
  | .hbm, ⟨2, _⟩ => ⟨S256x512x128, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S128x1, .f32⟩
  | .hbm, ⟨8, _⟩ => ⟨S512x32768, .f32⟩
  | .hbm, ⟨9, _⟩ => ⟨S32768x512, .f32⟩
  | .hbm, ⟨10, _⟩ => ⟨S4x8192x8x64, .f32⟩
  | .hbm, ⟨11, _⟩ => ⟨S32768x512, .f32⟩
  | .hbm, ⟨12, _⟩ => ⟨S4x8192x8x64, .f32⟩
  | .hbm, ⟨13, _⟩ => ⟨S256x512x128, .f32⟩
  | .hbm, ⟨14, _⟩ => ⟨S256x128x512, .f32⟩
  | .hbm, ⟨15, _⟩ => ⟨S4x8192x4x128, .f32⟩
  | .hbm, ⟨16, _⟩ => ⟨S1x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .i32⟩
  | .hbm, ⟨28, _⟩ => ⟨S4x8x8192x8192, .f32⟩
  | .hbm, ⟨29, _⟩ => ⟨S_, .f32⟩
  | .hbm, ⟨30, _⟩ => ⟨S_, .f32⟩
  | .hbm, ⟨31, _⟩ => ⟨S4x8x8192x8192, .f32⟩
  | .hbm, ⟨32, _⟩ => ⟨S4x8x8192x8192, .f32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S4x8x8192x8192, .i1⟩
  | .hbm, ⟨41, _⟩ => ⟨S4x8x8192x8192, .f32⟩
  | .hbm, ⟨42, _⟩ => ⟨S4x8x8192x8192, .f32⟩
  | .hbm, ⟨43, _⟩ => ⟨S_, .f32⟩
  | .hbm, ⟨44, _⟩ => ⟨S4x8x8192, .f32⟩
  | .hbm, ⟨45, _⟩ => ⟨S_, .f32⟩
  | .hbm, ⟨46, _⟩ => ⟨S4x8x8192, .f32⟩
  | .hbm, ⟨47, _⟩ => ⟨S4x8x8192, .f32⟩
  | .hbm, ⟨48, _⟩ => ⟨S4x8x8192x1, .f32⟩
  | .hbm, ⟨49, _⟩ => ⟨S4x8x8192x8192, .f32⟩
  | .hbm, ⟨50, _⟩ => ⟨S4x8x8192x8192, .f32⟩
  | .hbm, ⟨51, _⟩ => ⟨S4x8x8192x8192, .f32⟩
  | .hbm, ⟨52, _⟩ => ⟨S_, .f32⟩
  | .hbm, ⟨53, _⟩ => ⟨S4x8x8192, .f32⟩
  | .hbm, ⟨54, _⟩ => ⟨S4x8x8192x1, .f32⟩
  | .hbm, ⟨55, _⟩ => ⟨S4x8x8192x8192, .f32⟩
  | .hbm, ⟨56, _⟩ => ⟨S4x8x8192x8192, .f32⟩
  | .hbm, ⟨57, _⟩ => ⟨S_, .f32⟩
  | .hbm, ⟨58, _⟩ => ⟨S_, .f32⟩
  | .hbm, ⟨59, _⟩ => ⟨S4x8x8192x8192, .i1⟩
  | .hbm, ⟨60, _⟩ => ⟨S4x8x8192x8192, .f32⟩
  | .hbm, ⟨61, _⟩ => ⟨S4x8x8192x8192, .f32⟩
  | .hbm, ⟨62, _⟩ => ⟨S4x4x2x8192x8192, .f32⟩
  | .hbm, ⟨63, _⟩ => ⟨S4x4x1x8192x8192, .f32⟩
  | .hbm, ⟨64, _⟩ => ⟨S4x4x8192x8192, .f32⟩
  | .hbm, ⟨65, _⟩ => ⟨S4x4x1x8192x8192, .f32⟩
  | .hbm, ⟨66, _⟩ => ⟨S4x4x8192x8192, .f32⟩
  | .hbm, ⟨67, _⟩ => ⟨S4x4x8192x8192, .f32⟩
  | .hbm, ⟨68, _⟩ => ⟨S4x4x8192x8192, .f32⟩
  | .hbm, ⟨69, _⟩ => ⟨S4x4x8192x8192, .f32⟩
  | .hbm, ⟨70, _⟩ => ⟨S4x4x128x8192, .f32⟩
  | .hbm, ⟨71, _⟩ => ⟨S4x8192x4x128, .f32⟩
  | .hbm, ⟨72, _⟩ => ⟨S4x8192x4x128, .f32⟩
  | .hbm, ⟨73, _⟩ => ⟨S_, .f32⟩
  | .hbm, ⟨74, _⟩ => ⟨S4x8192x4, .f32⟩
  | .hbm, ⟨75, _⟩ => ⟨S4x8192x4x1, .f32⟩
  | .hbm, ⟨76, _⟩ => ⟨S_, .f32⟩
  | .hbm, ⟨77, _⟩ => ⟨S4x8192x4x1, .f32⟩
  | .hbm, ⟨78, _⟩ => ⟨S4x8192x4x1, .f32⟩
  | .hbm, ⟨79, _⟩ => ⟨S_, .f32⟩
  | .hbm, ⟨80, _⟩ => ⟨S4x8192x4x1, .f32⟩
  | .hbm, ⟨81, _⟩ => ⟨S4x8192x4x1, .f32⟩
  | .hbm, ⟨82, _⟩ => ⟨S4x8192x4x1, .f32⟩
  | .hbm, ⟨83, _⟩ => ⟨S4x8192x4x128, .f32⟩
  | .hbm, ⟨84, _⟩ => ⟨S4x8192x4x128, .f32⟩
  | .hbm, ⟨85, _⟩ => ⟨S128, .f32⟩
  | .hbm, ⟨86, _⟩ => ⟨S1x1x1x128, .f32⟩
  | .hbm, ⟨87, _⟩ => ⟨S4x8192x4x128, .f32⟩
  | .hbm, ⟨88, _⟩ => ⟨S4x8192x4x128, .f32⟩
  | .hbm, ⟨89, _⟩ => ⟨S_, .f32⟩
  | .hbm, ⟨90, _⟩ => ⟨S4x8192x4x128, .f32⟩
  | .hbm, ⟨91, _⟩ => ⟨S4x8192x4x128, .f32⟩
  | .hbm, ⟨92, _⟩ => ⟨S32768x512, .f32⟩
  | .hbm, ⟨93, _⟩ => ⟨S512x32768, .f32⟩
  | .hbm, ⟨94, _⟩ => ⟨S512x32768, .bf16⟩
  | _, _ => ⟨S512x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x3072 : Shape := ⟨2, ![1024, 3072]⟩
abbrev S3072 : Shape := ⟨1, ![3072]⟩
abbrev S512x32768 : Shape := ⟨2, ![512, 32768]⟩
abbrev S32768x512 : Shape := ⟨2, ![32768, 512]⟩
abbrev S512x1024 : Shape := ⟨2, ![512, 1024]⟩
abbrev S1024x1024 : Shape := ⟨2, ![1024, 1024]⟩
abbrev S1x1024 : Shape := ⟨2, ![1, 1024]⟩
abbrev S1x3072 : Shape := ⟨2, ![1, 3072]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S512x32768, .bf16⟩
  | .hbm, ⟨5, _⟩ => ⟨S512x32768, .bf16⟩
  | .hbm, ⟨6, _⟩ => ⟨S32768x512, .bf16⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1x1024, .f32⟩
  | .hbm, ⟨12, _⟩ => ⟨S1024x3072, .bf16⟩
  | .hbm, ⟨13, _⟩ => ⟨S1x3072, .f32⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S1024 : Shape := ⟨1, ![1024]⟩
abbrev S1024x3072 : Shape := ⟨2, ![1024, 3072]⟩
abbrev S3072 : Shape := ⟨1, ![3072]⟩
abbrev S512x32768 : Shape := ⟨2, ![512, 32768]⟩
abbrev S32768x512 : Shape := ⟨2, ![32768, 512]⟩
abbrev S512x1024 : Shape := ⟨2, ![512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S1x3072 : Shape := ⟨2, ![1, 3072]⟩
abbrev S32768x3x1024 : Shape := ⟨3, ![32768, 3, 1024]⟩
abbrev S32768x1x1024 : Shape := ⟨3, ![32768, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S512x32768, .bf16⟩
  | .hbm, ⟨5, _⟩ => ⟨S512x32768, .bf16⟩
  | .hbm, ⟨6, _⟩ => ⟨S32768x512, .bf16⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S512x32768, .f32⟩
  | .hbm, ⟨12, _⟩ => ⟨S32768x512, .f32⟩
  | .hbm, ⟨13, _⟩ => ⟨S512x32768, .f32⟩
  | .hbm, ⟨14, _⟩ => ⟨S32768x512, .f32⟩
  | .hbm, ⟨15, _⟩ => ⟨S32768x512, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S32768x3072, .f32⟩
  | .hbm, ⟨33, _⟩ => ⟨S1x3072, .f32⟩
  | .hbm, ⟨34, _⟩ => ⟨S32768x3072, .f32⟩
  | .hbm, ⟨35, _⟩ => ⟨S32768x3072, .f32⟩
  | .hbm, ⟨36, _⟩ => ⟨S32768x3072, .f32⟩
  | .hbm, ⟨37, _⟩ => ⟨S32768x3072, .f32⟩
  | .hbm, ⟨38, _⟩ => ⟨S_, .f32⟩
  | .hbm, ⟨39, _⟩ => ⟨S32768x3072, .f32⟩
  | .hbm, ⟨40, _⟩ => ⟨S32768x3072, .f32⟩
  | .hbm, ⟨41, _⟩ => ⟨S_, .f32⟩
  | .hbm, ⟨42, _⟩ => ⟨S32768x3072, .f32⟩
  | .hbm, ⟨43, _⟩ => ⟨S32768x3072, .f32⟩
  | .hbm, ⟨44, _⟩ => ⟨S32768x3x1024, .f32⟩
  | .hbm, ⟨45, _⟩ => ⟨S32768x1x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x2048 : Shape := ⟨2, ![1024, 2048]⟩
abbrev S1824x1024 : Shape := ⟨2, ![1824, 1024]⟩
abbrev S32768x128 : Shape := ⟨2, ![32768, 128]⟩
abbrev S32x32768 : Shape := ⟨2, ![32, 32768]⟩
abbrev S512 : Shape := ⟨1, ![512]⟩
abbrev S4x128x128 : Shape := ⟨3, ![4, 128, 128]⟩
abbrev S128x512 : Shape := ⟨2, ![128, 512]⟩
abbrev S1x1024 : Shape := ⟨2, ![1, 1024]⟩
abbrev S1x512 : Shape := ⟨2, ![1, 512]⟩
abbrev S32768x512 : Shape := ⟨2, ![32768, 512]⟩
abbrev S512x32768 : Shape := ⟨2, ![512, 32768]⟩
abbrev S256x128x128 : Shape := ⟨3, ![256, 128, 128]⟩
abbrev S256x512x128 : Shape := ⟨3, ![256, 512, 128]⟩
abbrev S512x1024 : Shape := ⟨2, ![512, 1024]⟩
abbrev S512x128 : Shape := ⟨2, ![512, 128]⟩
abbrev S32x512 : Shape := ⟨2, ![32, 512]⟩
abbrev S512x512 : Shape := ⟨2, ![512, 512]⟩
abbrev S4x512x128 : Shape := ⟨3, ![4, 512, 128]⟩
abbrev S512x1 : Shape := ⟨2, ![512, 1]⟩
abbrev S1024x1024 : Shape := ⟨2, ![1024, 1024]⟩
abbrev S1024x256 : Shape := ⟨2, ![1024, 256]⟩
abbrev S512x256 : Shape := ⟨2, ![512, 256]⟩
abbrev S1024x128 : Shape := ⟨2, ![1024, 128]⟩
abbrev S1024x512 : Shape := ⟨2, ![1024, 512]⟩
abbrev S64x512 : Shape := ⟨2, ![64, 512]⟩
abbrev S128x1024 : Shape := ⟨2, ![128, 1024]⟩
abbrev S128x128 : Shape := ⟨2, ![128, 128]⟩
abbrev S1x128x128 : Shape := ⟨3, ![1, 128, 128]⟩
abbrev S32x1024 : Shape := ⟨2, ![32, 1024]⟩
abbrev S1x512x128 : Shape := ⟨3, ![1, 512, 128]⟩

abbrev nBuf : Space → Nat
  | .hbm => 26
  | .vmem => 42
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .bf16⟩
  | .hbm, ⟨3, _⟩ => ⟨S1824x1024, .bf16⟩
  | .hbm, ⟨4, _⟩ => ⟨S32768x128, .f32⟩
  | .hbm, ⟨5, _⟩ => ⟨S32768x128, .f32⟩
  | .hbm, ⟨6, _⟩ => ⟨S32x32768, .f32⟩
  | .hbm, ⟨7, _⟩ => ⟨S32x32768, .f32⟩
  | .hbm, ⟨8, _⟩ => ⟨S512, .f32⟩
  | .hbm, ⟨9, _⟩ => ⟨S4x128x128, .bf16⟩
  | .hbm, ⟨10, _⟩ => ⟨S128x512, .f32⟩
  | .hbm, ⟨11, _⟩ => ⟨S1x1024, .f32⟩
  | .hbm, ⟨12, _⟩ => ⟨S1x512, .f32⟩
  | .hbm, ⟨13, _⟩ => ⟨S32768x128, .f32⟩
  | .hbm, ⟨14, _⟩ => ⟨S32768x128, .f32⟩
  | .hbm, ⟨15, _⟩ => ⟨S32768x128, .bf16⟩
  | .hbm, ⟨16, _⟩ => ⟨S32768x128, .bf16⟩
  | .hbm, ⟨17, _⟩ => ⟨S32768x512, .bf16⟩
  | .hbm, ⟨18, _⟩ => ⟨S32768x512, .bf16⟩
  | .hbm, ⟨19, _⟩ => ⟨S512x32768, .bf16⟩
  | .hbm, ⟨20, _⟩ => ⟨S512x32768, .bf16⟩
  | .hbm, ⟨21, _⟩ => ⟨S256x128x128, .bf16⟩
  | .hbm, ⟨22, _⟩ => ⟨S256x128x128, .bf16⟩
  | .hbm, ⟨23, _⟩ => ⟨S32x32768, .f32⟩
  | .hbm, ⟨24, _⟩ => ⟨S512x32768, .bf16⟩
  | .hbm, ⟨25, _⟩ => ⟨S256x512x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1824x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S1x512, .f32⟩
  | .local _ .vmem, ⟨14, _⟩ => ⟨S4x128x128, .bf16⟩
  | .local _ .vmem, ⟨15, _⟩ => ⟨S128x512, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S4x128x128, .bf16⟩
  | .local _ .vmem, ⟨33, _⟩ => ⟨S4x128x128, .bf16⟩
  | .local _ .vmem, ⟨34, _⟩ => ⟨S4x128x128, .bf16⟩
  | .local _ .vmem, ⟨35, _⟩ => ⟨S4x128x128, .bf16⟩
  | .local _ .vmem, ⟨36, _⟩ => ⟨S32x512, .f32⟩
  | .local _ .vmem, ⟨37, _⟩ => ⟨S32x512, .f32⟩
  | .local _ .vmem, ⟨38, _⟩ => ⟨S512x512, .bf16⟩
  | .local _ .vmem, ⟨39, _⟩ => ⟨S512x512, .bf16⟩
  | .local _ .vmem, ⟨40, _⟩ => ⟨S4x512x128, .bf16⟩
  | .local _ .vmem, ⟨41, _⟩ => ⟨S4x512x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev main_v2_6 : Ref sig .tc := ⟨.hbm, 19, rfl⟩
abbrev main_v2_7 : Ref sig .tc := ⟨.hbm, 20, rfl⟩
abbrev main_v2_8 : Ref sig .tc := ⟨.hbm, 21, rfl⟩
abbrev main_v2_9 : Ref sig .tc := ⟨.hbm, 22, rfl⟩
abbrev main_v2_10 : Ref sig .tc := ⟨.hbm, 23, rfl⟩
abbrev main_v2_11 : Ref sig .tc := ⟨.hbm, 24, rfl⟩
abbrev main_v2_12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1824x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x128x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x128x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S4x512x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference4Ideal.lean ====
abbrev S32768x1024 : Shape := ⟨2, ![32768, 1024]⟩
abbrev S1024 : Shape := ⟨1, ![1024]⟩
abbrev S1024x2048 : Shape := ⟨2, ![1024, 2048]⟩
abbrev S1824x1024 : Shape := ⟨2, ![1824, 1024]⟩
abbrev S32768x128 : Shape := ⟨2, ![32768, 128]⟩
abbrev S32x32768 : Shape := ⟨2, ![32, 32768]⟩
abbrev S512 : Shape := ⟨1, ![512]⟩
abbrev S4x128x128 : Shape := ⟨3, ![4, 128, 128]⟩
abbrev S128x512 : Shape := ⟨2, ![128, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S1024x32768 : Shape := ⟨2, ![1024, 32768]⟩
abbrev S1824x32768 : Shape := ⟨2, ![1824, 32768]⟩
abbrev S512x32768 : Shape := ⟨2, ![512, 32768]⟩
abbrev S32768x512 : Shape := ⟨2, ![32768, 512]⟩
abbrev S1x512 : Shape := ⟨2, ![1, 512]⟩
abbrev S256x128x4x128 : Shape := ⟨4, ![256, 128, 4, 128]⟩
abbrev S4x256x128x128 : Shape := ⟨4, ![4, 256, 128, 128]⟩
abbrev S256x128x512 : Shape := ⟨3, ![256, 128, 512]⟩
abbrev S1x128x512 : Shape := ⟨3, ![1, 128, 512]⟩
abbrev S32768x1x2x2x32 : Shape := ⟨5, ![32768, 1, 2, 2, 32]⟩
abbrev S32768x4x2x2x32 : Shape := ⟨5, ![32768, 4, 2, 2, 32]⟩
abbrev S8x64x32768 : Shape := ⟨3, ![8, 64, 32768]⟩
abbrev S8x32x32768 : Shape := ⟨3, ![8, 32, 32768]⟩
abbrev S1x32x32768 : Shape := ⟨3, ![1, 32, 32768]⟩
abbrev S128x32768 : Shape := ⟨2, ![128, 32768]⟩
abbrev S128x256x128 : Shape := ⟨3, ![128, 256, 128]⟩
abbrev S256x128x128 : Shape := ⟨3, ![256, 128, 128]⟩
abbrev S512x256x128 : Shape := ⟨3, ![512, 256, 128]⟩
abbrev S256x512x128 : Shape := ⟨3, ![256, 512, 128]⟩

abbrev nBuf : Space → Nat
  | .hbm => 183
  | .vmem => 0
  | .smem => 0
  | _ => 0

abbrev hbmTy0_0 (i : Nat) : BufTy := match i % 128 with
  | 0 => ⟨S32768x1024, .f32⟩
  | 1 => ⟨S1024, .f32⟩
  | 2 => ⟨S1024x2048, .bf16⟩
  | 3 => ⟨S1824x1024, .bf16⟩
  | 4 => ⟨S32768x128, .f32⟩
  | 5 => ⟨S32768x128, .f32⟩
  | 6 => ⟨S32x32768, .f32⟩
  | 7 => ⟨S32x32768, .f32⟩
  | 8 => ⟨S512, .f32⟩
  | 9 => ⟨S4x128x128, .bf16⟩
  | 10 => ⟨S128x512, .f32⟩
  | 11 => ⟨S32768x1024, .f32⟩
  | 12 => ⟨S_, .f32⟩
  | 13 => ⟨S32768, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x1, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S1024x2048, .f32⟩
  | 28 => ⟨S32768x2048, .f32⟩
  | 29 => ⟨S1824x1024, .f32⟩
  | 30 => ⟨S1024x32768, .f32⟩
  | 31 => ⟨S1824x32768, .f32⟩
  | 32 => ⟨S512x32768, .f32⟩
  | 33 => ⟨S_, .f32⟩
  | 34 => ⟨S512x32768, .f32⟩
  | 35 => ⟨S512x32768, .f32⟩
  | 36 => ⟨S512x32768, .f32⟩
  | 37 => ⟨S_, .f32⟩
  | 38 => ⟨S512x32768, .f32⟩
  | 39 => ⟨S512x32768, .f32⟩
  | 40 => ⟨S32768x1024, .f32⟩
  | 41 => ⟨S32768x1024, .f32⟩
  | 42 => ⟨S32768x1024, .f32⟩
  | 43 => ⟨S_, .f32⟩
  | 44 => ⟨S32768x1024, .f32⟩
  | 45 => ⟨S32768x1024, .f32⟩
  | 46 => ⟨S32768x1024, .f32⟩
  | 47 => ⟨S_, .f32⟩
  | 48 => ⟨S32768x1024, .f32⟩
  | 49 => ⟨S32768x1024, .f32⟩
  | 50 => ⟨S32768x1024, .f32⟩
  | 51 => ⟨S_, .f32⟩
  | 52 => ⟨S32768x1024, .f32⟩
  | 53 => ⟨S32768x1024, .f32⟩
  | 54 => ⟨S_, .f32⟩
  | 55 => ⟨S32768x1024, .f32⟩
  | 56 => ⟨S32768x1024, .f32⟩
  | 57 => ⟨S32768x1024, .f32⟩
  | 58 => ⟨S32768x512, .f32⟩
  | 59 => ⟨S32768x512, .f32⟩
  | 60 => ⟨S32768x512, .f32⟩
  | 61 => ⟨S_, .f32⟩
  | 62 => ⟨S32768, .f32⟩
  | 63 => ⟨S32768x1, .f32⟩
  | 64 => ⟨S_, .f32⟩
  | 65 => ⟨S32768x1, .f32⟩
  | 66 => ⟨S32768x1, .f32⟩
  | 67 => ⟨S_, .f32⟩
  | 68 => ⟨S32768x1, .f32⟩
  | 69 => ⟨S32768x1, .f32⟩
  | 70 => ⟨S32768x1, .f32⟩
  | 71 => ⟨S32768x512, .f32⟩
  | 72 => ⟨S32768x512, .f32⟩
  | 73 => ⟨S1x512, .f32⟩
  | 74 => ⟨S32768x512, .f32⟩
  | 75 => ⟨S32768x512, .f32⟩
  | 76 => ⟨S256x128x4x128, .f32⟩
  | 77 => ⟨S4x128x128, .f32⟩
  | 78 => ⟨S4x256x128x128, .f32⟩
  | 79 => ⟨S256x128x4x128, .f32⟩
  | 80 => ⟨S256x128x512, .f32⟩
  | 81 => ⟨S1x128x512, .f32⟩
  | 82 => ⟨S256x128x512, .f32⟩
  | 83 => ⟨S256x128x512, .f32⟩
  | 84 => ⟨S32768x512, .f32⟩
  | 85 => ⟨S32768x512, .f32⟩
  | 86 => ⟨S32768x128, .f32⟩
  | 87 => ⟨S32768x128, .f32⟩
  | 88 => ⟨S32768x128, .f32⟩
  | 89 => ⟨S32768x1x2x2x32, .f32⟩
  | 90 => ⟨S32768x1x2x2x32, .f32⟩
  | 91 => ⟨S32768x1x2x2x32, .f32⟩
  | 92 => ⟨S32768x1x2x2x32, .f32⟩
  | 93 => ⟨S32768x1x2x2x32, .f32⟩
  | 94 => ⟨S32768x1x2x2x32, .f32⟩
  | 95 => ⟨S32768x1x2x2x32, .f32⟩
  | 96 => ⟨S32768x128, .f32⟩
  | 97 => ⟨S32768x128, .bf16⟩
  | 98 => ⟨S32768x128, .f32⟩
  | 99 => ⟨S32768x1x2x2x32, .f32⟩
  | 100 => ⟨S32768x1x2x2x32, .f32⟩
  | 101 => ⟨S32768x1x2x2x32, .f32⟩
  | 102 => ⟨S32768x1x2x2x32, .f32⟩
  | 103 => ⟨S32768x1x2x2x32, .f32⟩
  | 104 => ⟨S32768x1x2x2x32, .f32⟩
  | 105 => ⟨S32768x1x2x2x32, .f32⟩
  | 106 => ⟨S32768x128, .f32⟩
  | 107 => ⟨S32768x128, .bf16⟩
  | 108 => ⟨S32768x512, .f32⟩
  | 109 => ⟨S32768x4x2x2x32, .f32⟩
  | 110 => ⟨S32768x1x2x2x32, .f32⟩
  | 111 => ⟨S32768x1x2x2x32, .f32⟩
  | 112 => ⟨S32768x4x2x2x32, .f32⟩
  | 113 => ⟨S32768x4x2x2x32, .f32⟩
  | 114 => ⟨S32768x4x2x2x32, .f32⟩
  | 115 => ⟨S32768x4x2x2x32, .f32⟩
  | 116 => ⟨S32768x4x2x2x32, .f32⟩
  | 117 => ⟨S32768x4x2x2x32, .f32⟩
  | 118 => ⟨S32768x512, .f32⟩
  | 119 => ⟨S32768x512, .bf16⟩
  | 120 => ⟨S32768x512, .bf16⟩
  | 121 => ⟨S512x32768, .bf16⟩
  | 122 => ⟨S8x64x32768, .f32⟩
  | 123 => ⟨S8x32x32768, .f32⟩
  | 124 => ⟨S8x32x32768, .f32⟩
  | 125 => ⟨S1x32x32768, .f32⟩
  | 126 => ⟨S8x32x32768, .f32⟩
  | 127 => ⟨S8x32x32768, .f32⟩
  | _ => ⟨S32768x1024, .f32⟩

abbrev hbmTy0_1 (i : Nat) : BufTy := match i % 128 with
  | 0 => ⟨S1x32x32768, .f32⟩
  | 1 => ⟨S8x32x32768, .f32⟩
  | 2 => ⟨S8x32x32768, .f32⟩
  | 3 => ⟨S8x32x32768, .f32⟩
  | 4 => ⟨S1x32x32768, .f32⟩
  | 5 => ⟨S8x32x32768, .f32⟩
  | 6 => ⟨S8x32x32768, .f32⟩
  | 7 => ⟨S1x32x32768, .f32⟩
  | 8 => ⟨S8x32x32768, .f32⟩
  | 9 => ⟨S8x32x32768, .f32⟩
  | 10 => ⟨S8x32x32768, .f32⟩
  | 11 => ⟨S8x64x32768, .f32⟩
  | 12 => ⟨S512x32768, .f32⟩
  | 13 => ⟨S512x32768, .bf16⟩
  | 14 => ⟨S128x32768, .f32⟩
  | 15 => ⟨S128x256x128, .f32⟩
  | 16 => ⟨S256x128x128, .f32⟩
  | 17 => ⟨S256x128x128, .bf16⟩
  | 18 => ⟨S128x32768, .f32⟩
  | 19 => ⟨S128x256x128, .f32⟩
  | 20 => ⟨S256x128x128, .f32⟩
  | 21 => ⟨S256x128x128, .bf16⟩
  | 22 => ⟨S32x32768, .f32⟩
  | 23 => ⟨S32x32768, .f32⟩
  | 24 => ⟨S32x32768, .f32⟩
  | 25 => ⟨S_, .f32⟩
  | 26 => ⟨S32x32768, .f32⟩
  | 27 => ⟨S32x32768, .f32⟩
  | 28 => ⟨S_, .f32⟩
  | 29 => ⟨S32x32768, .f32⟩
  | 30 => ⟨S32x32768, .f32⟩
  | 31 => ⟨S8x64x32768, .f32⟩
  | 32 => ⟨S8x32x32768, .f32⟩
  | 33 => ⟨S8x32x32768, .f32⟩
  | 34 => ⟨S1x32x32768, .f32⟩
  | 35 => ⟨S8x32x32768, .f32⟩
  | 36 => ⟨S8x32x32768, .f32⟩
  | 37 => ⟨S1x32x32768, .f32⟩
  | 38 => ⟨S8x32x32768, .f32⟩
  | 39 => ⟨S8x32x32768, .f32⟩
  | 40 => ⟨S8x32x32768, .f32⟩
  | 41 => ⟨S1x32x32768, .f32⟩
  | 42 => ⟨S8x32x32768, .f32⟩
  | 43 => ⟨S8x32x32768, .f32⟩
  | 44 => ⟨S1x32x32768, .f32⟩
  | 45 => ⟨S8x32x32768, .f32⟩
  | 46 => ⟨S8x32x32768, .f32⟩
  | 47 => ⟨S8x32x32768, .f32⟩
  | 48 => ⟨S8x64x32768, .f32⟩
  | 49 => ⟨S512x32768, .f32⟩
  | 50 => ⟨S512x32768, .bf16⟩
  | 51 => ⟨S512x32768, .f32⟩
  | 52 => ⟨S512x256x128, .f32⟩
  | 53 => ⟨S256x512x128, .f32⟩
  | 54 => ⟨S256x512x128, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_cst_11 : Ref sig .tc := ⟨.hbm, 153, rfl⟩
abbrev main_v130 : Ref sig .tc := ⟨.hbm, 154, rfl⟩
abbrev main_v131 : Ref sig .tc := ⟨.hbm, 155, rfl⟩
abbrev main_cst_12 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩

abbrev nD : Nat := 1
abbrev τ : Topo := Topo.v7x

variable {F : FTy → Type} [FloatOps F]
-- ==== Proof.Model.lean ====
/- The score-tile step of the differential attention kernel as vector functions: one key tile of 512 keys
   against the 2048 query columns of a grid point, in eight chains of 256 columns. -/
module

public import proofs.«01_k».proof.Proof.Gen.KernelIdeal.Loops

@[expose] public section

set_option maxRecDepth 16384

noncomputable section

namespace Cert.KernelIdeal.Gen.Diff

open Cert.KernelIdeal Cert.KernelIdeal.Gen Idealize.ShloMosaic Idealize.ShloMosaic.TcCoe Idealize.SL.Sem Facts₀ Facts

/-- The running maximum of one chain after a tile of scores. -/
def chainM (m : FVec Ideal S1x256 .f32) (s : FVec Ideal S512x256 .f32) : FVec Ideal S1x256 .f32 :=
  maximumf m (shapeCast S1x256 (multiReduction .maximumf [0] S256 s 0xFF800000#32 reduces_S512x256_S256 (.inl rfl) rfl) shapeCasts_S256_S1x256)

/-- The accumulator of one chain after a tile of scores: rescaled, plus the tile's weighted values. -/
def chainA (vt : FVec Ideal S144x512 .bf16) (a : FVec Ideal S144x256 .f32) (m : FVec Ideal S1x256 .f32)
    (s : FVec Ideal S512x256 .f32) : FVec Ideal S144x256 .f32 :=
  addf (mulf a (broadcastTo S144x256 (exp2 (subf m (chainM m s))) broadcasts_S1x256_S144x256))
    (matmul dot_S144x512_S512x256_S144x256_1_0_0_1_n_n none vt
      (truncf .bf16 (exp2 (subf s (broadcastTo S512x256 (chainM m s) broadcasts_S1x256_S512x256))) bitsLt_bf16_f32)
      (constant S144x256 .f32 0x00000000#32))

/-- The running maxima of all eight chains after a tile of scores. -/
def tileM (m : FVec Ideal S1x2048 .f32) (s0 s1 s2 s3 s4 s5 s6 s7 : FVec Ideal S512x256 .f32) : FVec Ideal S1x2048 .f32 :=
  shapeCast S1x2048 (concatenate S1x2048 1 [⟨S1x256, chainM (extractStridedSlice S1x256 ![0, 0] m slices_S1x2048_o0_0_S1x256) s0⟩, ⟨S1x256, chainM (extractStridedSlice S1x256 ![0, 256] m slices_S1x2048_o0_256_S1x256) s1⟩, ⟨S1x256, chainM (extractStridedSlice S1x256 ![0, 512] m slices_S1x2048_o0_512_S1x256) s2⟩, ⟨S1x256, chainM (extractStridedSlice S1x256 ![0, 768] m slices_S1x2048_o0_768_S1x256) s3⟩, ⟨S1x256, chainM (extractStridedSlice S1x256 ![0, 1024] m slices_S1x2048_o0_1024_S1x256) s4⟩, ⟨S1x256, chainM (extractStridedSlice S1x256 ![0, 1280] m slices_S1x2048_o0_1280_S1x256) s5⟩, ⟨S1x256, chainM (extractStridedSlice S1x256 ![0, 1536] m slices_S1x2048_o0_1536_S1x256) s6⟩, ⟨S1x256, chainM (extractStridedSlice S1x256 ![0, 1792] m slices_S1x2048_o0_1792_S1x256) s7⟩]
    concatenates_S1x256_S1x256_S1x256_S1x256_S1x256_S1x256_S1x256_S1x256_S1x2048_d1) shapeCasts_S1x2048_S1x2048

/-- The accumulators of all eight chains after a tile of scores; the first four chains weigh one head's values, the
    last four the other's. -/
def tileA (va vb : FVec Ideal S144x512 .bf16) (a : FVec Ideal S144x2048 .f32) (m : FVec Ideal S1x2048 .f32)
    (s0 s1 s2 s3 s4 s5 s6 s7 : FVec Ideal S512x256 .f32) : FVec Ideal S144x2048 .f32 :=
  shapeCast S144x2048 (concatenate S144x2048 1 [⟨S144x256, chainA va (extractStridedSlice S144x256 ![0, 0] a slices_S144x2048_o0_0_S144x256) (extractStridedSlice S1x256 ![0, 0] m slices_S1x2048_o0_0_S1x256) s0⟩, ⟨S144x256, chainA va (extractStridedSlice S144x256 ![0, 256] a slices_S144x2048_o0_256_S144x256) (extractStridedSlice S1x256 ![0, 256] m slices_S1x2048_o0_256_S1x256) s1⟩, ⟨S144x256, chainA va (extractStridedSlice S144x256 ![0, 512] a slices_S144x2048_o0_512_S144x256) (extractStridedSlice S1x256 ![0, 512] m slices_S1x2048_o0_512_S1x256) s2⟩, ⟨S144x256, chainA va (extractStridedSlice S144x256 ![0, 768] a slices_S144x2048_o0_768_S144x256) (extractStridedSlice S1x256 ![0, 768] m slices_S1x2048_o0_768_S1x256) s3⟩, ⟨S144x256, chainA vb (extractStridedSlice S144x256 ![0, 1024] a slices_S144x2048_o0_1024_S144x256) (extractStridedSlice S1x256 ![0, 1024] m slices_S1x2048_o0_1024_S1x256) s4⟩, ⟨S144x256, chainA vb (extractStridedSlice S144x256 ![0, 1280] a slices_S144x2048_o0_1280_S144x256) (extractStridedSlice S1x256 ![0, 1280] m slices_S1x2048_o0_1280_S1x256) s5⟩, ⟨S144x256, chainA vb (extractStridedSlice S144x256 ![0, 1536] a slices_S144x2048_o0_1536_S144x256) (extractStridedSlice S1x256 ![0, 1536] m slices_S1x2048_o0_1536_S1x256) s6⟩, ⟨S144x256, chainA vb (extractStridedSlice S144x256 ![0, 1792] a slices_S144x2048_o0_1792_S144x256) (extractStridedSlice S1x256 ![0, 1792] m slices_S1x2048_o0_1792_S1x256) s7⟩]
    concatenates_S144x256_S144x256_S144x256_S144x256_S144x256_S144x256_S144x256_S144x256_S144x2048_d1) shapeCasts_S144x2048_S144x2048

/-- The scores of one key tile against the query columns 0 to 255 of a head. -/
def score0 (K : FVec Ideal S512x128 .bf16) (q : FVec Ideal S128x1024 .bf16) : FVec Ideal S512x256 .f32 :=
  matmul dot_S512x128_S128x256_S512x256_1_0_0_1_n_n none K (extractStridedSlice S128x256 ![0, 0] q slices_S128x1024_o0_0_S128x256) (constant S512x256 .f32 0x00000000#32)

/-- The scores of one key tile against the query columns 256 to 511 of a head. -/
def score1 (K : FVec Ideal S512x128 .bf16) (q : FVec Ideal S128x1024 .bf16) : FVec Ideal S512x256 .f32 :=
  matmul dot_S512x128_S128x256_S512x256_1_0_0_1_n_n none K (extractStridedSlice S128x256 ![0, 256] q slices_S128x1024_o0_256_S128x256) (constant S512x256 .f32 0x00000000#32)

/-- The scores of one key tile against the query columns 512 to 767 of a head. -/
def score2 (K : FVec Ideal S512x128 .bf16) (q : FVec Ideal S128x1024 .bf16) : FVec Ideal S512x256 .f32 :=
  matmul dot_S512x128_S128x256_S512x256_1_0_0_1_n_n none K (extractStridedSlice S128x256 ![0, 512] q slices_S128x1024_o0_512_S128x256) (constant S512x256 .f32 0x00000000#32)

/-- The scores of one key tile against the query columns 768 to 1023 of a head. -/
def score3 (K : FVec Ideal S512x128 .bf16) (q : FVec Ideal S128x1024 .bf16) : FVec Ideal S512x256 .f32 :=
  matmul dot_S512x128_S128x256_S512x256_1_0_0_1_n_n none K (extractStridedSlice S128x256 ![0, 768] q slices_S128x1024_o0_768_S128x256) (constant S512x256 .f32 0x00000000#32)

end Cert.KernelIdeal.Gen.Diff
-- ==== Proof.Mem.lean ====
/- The two score buffers hold one 512 × 256 slot per chain. What eight slot stores leave, and what a slot load reads. -/
module

public import proofs.«01_k».proof.Proof.Model
public import Idealize.ShloMosaic.Lib.WritesUnit
public import Idealize.ShloMosaic.Lib.Pointwise
public import Idealize.ShloMosaic.Lib.Pipeline.ValueKit

@[expose] public section

set_option maxRecDepth 16384

noncomputable section

namespace Cert.KernelIdeal.Gen.Diff

open Cert.KernelIdeal Cert.KernelIdeal.Gen Idealize.ShloMosaic Idealize.ShloMosaic.TcCoe Idealize.SL.Sem Facts₀ Facts

/-- The list of writes of the eight slots, last slot newest, over earlier writes. -/
def slots (x0 x1 x2 x3 x4 x5 x6 x7 : FVec Ideal S512x256 .f32) (rest : List (View.Piece (Elt Ideal) S8x512x256 .f32)) :
    List (View.Piece (Elt Ideal) S8x512x256 .f32) :=
  ⟨Rect.unit (s := S8x512x256) ![7, 0, 0] S1x512x256.size inb_S8x512x256_S1x512x256_7_0_0, shapeCast S1x512x256 x7 shapeCasts_S512x256_S1x512x256⟩ ::
  ⟨Rect.unit (s := S8x512x256) ![6, 0, 0] S1x512x256.size inb_S8x512x256_S1x512x256_6_0_0, shapeCast S1x512x256 x6 shapeCasts_S512x256_S1x512x256⟩ ::
  ⟨Rect.unit (s := S8x512x256) ![5, 0, 0] S1x512x256.size inb_S8x512x256_S1x512x256_5_0_0, shapeCast S1x512x256 x5 shapeCasts_S512x256_S1x512x256⟩ ::
  ⟨Rect.unit (s := S8x512x256) ![4, 0, 0] S1x512x256.size inb_S8x512x256_S1x512x256_4_0_0, shapeCast S1x512x256 x4 shapeCasts_S512x256_S1x512x256⟩ ::
  ⟨Rect.unit (s := S8x512x256) ![3, 0, 0] S1x512x256.size inb_S8x512x256_S1x512x256_3_0_0, shapeCast S1x512x256 x3 shapeCasts_S512x256_S1x512x256⟩ ::
  ⟨Rect.unit (s := S8x512x256) ![2, 0, 0] S1x512x256.size inb_S8x512x256_S1x512x256_2_0_0, shapeCast S1x512x256 x2 shapeCasts_S512x256_S1x512x256⟩ ::
  ⟨Rect.unit (s := S8x512x256) ![1, 0, 0] S1x512x256.size inb_S8x512x256_S1x512x256_1_0_0, shapeCast S1x512x256 x1 shapeCasts_S512x256_S1x512x256⟩ ::
  ⟨Rect.unit (s := S8x512x256) ![0, 0, 0] S1x512x256.size inb_S8x512x256_S1x512x256_0_0_0, shapeCast S1x512x256 x0 shapeCasts_S512x256_S1x512x256⟩ :: rest

/-- The slot writes of one key tile's scores: the first head's keys and queries in slots 0 to 3, the second's in 4 to 7. -/
def slotsOf (Ka Kb : FVec Ideal S512x128 .bf16) (qa qb : FVec Ideal S128x1024 .bf16)
    (rest : List (View.Piece (Elt Ideal) S8x512x256 .f32)) : List (View.Piece (Elt Ideal) S8x512x256 .f32) :=
  slots (score0 Ka qa) (score1 Ka qa) (score2 Ka qa) (score3 Ka qa) (score0 Kb qb) (score1 Kb qb) (score2 Kb qb) (score3 Kb qb) rest

/-- The scores of one key tile, by chain. -/
def scores (Ka Kb : FVec Ideal S512x128 .bf16) (qa qb : FVec Ideal S128x1024 .bf16) : Fin 8 → FVec Ideal S512x256 .f32 :=
  ![score0 Ka qa, score1 Ka qa, score2 Ka qa, score3 Ka qa, score0 Kb qb, score1 Kb qb, score2 Kb qb, score3 Kb qb]

/-- One slot of a score buffer's contents. -/
def slot (S : FVec Ideal S8x512x256 .f32) (c : Fin 8) : FVec Ideal S512x256 .f32 := fun j => S (ix3 c (j 0) (j 1))

variable {sp : Space} (v : View sig .tc sp S8x512x256 .f32)

theorem read_slots_aux (f : v.ty.Contents (Elt Ideal)) (x0 x1 x2 x3 x4 x5 x6 x7 : FVec Ideal S512x256 .f32)
    (rest : List (View.Piece (Elt Ideal) S8x512x256 .f32)) (c : Fin 8) (a : Fin 512) (b : Fin 256) :
    v.read (Elt Ideal) (v.writes (Elt Ideal) f (slots x0 x1 x2 x3 x4 x5 x6 x7 rest)) (ix3 c a b)
      = (![x0, x1, x2, x3, x4, x5, x6, x7] : Fin 8 → FVec Ideal S512x256 .f32) c (ix2 a b) := by
  unfold slots
  fin_cases c
  · refine (View.read_writes_cons_unit_of_not_mem v f _ _ _ _ rfl 0 (Or.inl (show (0 : ℕ) < 7 by decide))).trans ?_
    refine (View.read_writes_cons_unit_of_not_mem v f _ _ _ _ rfl 0 (Or.inl (show (0 : ℕ) < 6 by decide))).trans ?_
    refine (View.read_writes_cons_unit_of_not_mem v f _ _ _ _ rfl 0 (Or.inl (show (0 : ℕ) < 5 by decide))).trans ?_
    refine (View.read_writes_cons_unit_of_not_mem v f _ _ _ _ rfl 0 (Or.inl (show (0 : ℕ) < 4 by decide))).trans ?_
    refine (View.read_writes_cons_unit_of_not_mem v f _ _ _ _ rfl 0 (Or.inl (show (0 : ℕ) < 3 by decide))).trans ?_
    refine (View.read_writes_cons_unit_of_not_mem v f _ _ _ _ rfl 0 (Or.inl (show (0 : ℕ) < 2 by decide))).trans ?_
    refine (View.read_writes_cons_unit_of_not_mem v f _ _ _ _ rfl 0 (Or.inl (show (0 : ℕ) < 1 by decide))).trans ?_
    refine (View.read_writes_cons_unit_of_mem v f _ _ _ _ (ix3 0 a b) rfl ?_).trans ?_
    · intro k; fin_cases k <;> first | rfl | exact (Nat.zero_add _).symm
    · show shapeCast S1x512x256 x0 _ (ix3 0 a b) = x0 (ix2 a b); pointwise
  · refine (View.read_writes_cons_unit_of_not_mem v f _ _ _ _ rfl 0 (Or.inl (show (1 : ℕ) < 7 by decide))).trans ?_
    refine (View.read_writes_cons_unit_of_not_mem v f _ _ _ _ rfl 0 (Or.inl (show (1 : ℕ) < 6 by decide))).trans ?_
    refine (View.read_writes_cons_unit_of_not_mem v f _ _ _ _ rfl 0 (Or.inl (show (1 : ℕ) < 5 by decide))).trans ?_
    refine (View.read_writes_cons_unit_of_not_mem v f _ _ _ _ rfl 0 (Or.inl (show (1 : ℕ) < 4 by decide))).trans ?_
    refine (View.read_writes_cons_unit_of_not_mem v f _ _ _ _ rfl 0 (Or.inl (show (1 : ℕ) < 3 by decide))).trans ?_
    refine (View.read_writes_cons_unit_of_not_mem v f _ _ _ _ rfl 0 (Or.inl (show (1 : ℕ) < 2 by decide))).trans ?_
    refine (View.read_writes_cons_unit_of_mem v f _ _ _ _ (ix3 0 a b) rfl ?_).trans ?_
    · intro k; fin_cases k <;> first | rfl | exact (Nat.zero_add _).symm
    · show shapeCast S1x512x256 x1 _ (ix3 0 a b) = x1 (ix2 a b); pointwise
  · refine (View.read_writes_cons_unit_of_not_mem v f _ _ _ _ rfl 0 (Or.inl (show (2 : ℕ) < 7 by decide))).trans ?_
    refine (View.read_writes_cons_unit_of_not_mem v f _ _ _ _ rfl 0 (Or.inl (show (2 : ℕ) < 6 by decide))).trans ?_
    refine (View.read_writes_cons_unit_of_not_mem v f _ _ _ _ rfl 0 (Or.inl (show (2 : ℕ) < 5 by decide))).trans ?_
    refine (View.read_writes_cons_unit_of_not_mem v f _ _ _ _ rfl 0 (Or.inl (show (2 : ℕ) < 4 by decide))).trans ?_
    refine (View.read_writes_cons_unit_of_not_mem v f _ _ _ _ rfl 0 (Or.inl (show (2 : ℕ) < 3 by decide))).trans ?_
    refine (View.read_writes_cons_unit_of_mem v f _ _ _ _ (ix3 0 a b) rfl ?_).trans ?_
    · intro k; fin_cases k <;> first | rfl | exact (Nat.zero_add _).symm
    · show shapeCast S1x512x256 x2 _ (ix3 0 a b) = x2 (ix2 a b); pointwise
  · refine (View.read_writes_cons_unit_of_not_mem v f _ _ _ _ rfl 0 (Or.inl (show (3 : ℕ) < 7 by decide))).trans ?_
    refine (View.read_writes_cons_unit_of_not_mem v f _ _ _ _ rfl 0 (Or.inl (show (3 : ℕ) < 6 by decide))).trans ?_
    refine (View.read_writes_cons_unit_of_not_mem v f _ _ _ _ rfl 0 (Or.inl (show (3 : ℕ) < 5 by decide))).trans ?_
    refine (View.read_writes_cons_unit_of_not_mem v f _ _ _ _ rfl 0 (Or.inl (show (3 : ℕ) < 4 by decide))).trans ?_
    refine (View.read_writes_cons_unit_of_mem v f _ _ _ _ (ix3 0 a b) rfl ?_).trans ?_
    · intro k; fin_cases k <;> first | rfl | exact (Nat.zero_add _).symm
    · show shapeCast S1x512x256 x3 _ (ix3 0 a b) = x3 (ix2 a b); pointwise
  · refine (View.read_writes_cons_unit_of_not_mem v f _ _ _ _ rfl 0 (Or.inl (show (4 : ℕ) < 7 by decide))).trans ?_
    refine (View.read_writes_cons_unit_of_not_mem v f _ _ _ _ rfl 0 (Or.inl (show (4 : ℕ) < 6 by decide))).trans ?_
    refine (View.read_writes_cons_unit_of_not_mem v f _ _ _ _ rfl 0 (Or.inl (show (4 : ℕ) < 5 by decide))).trans ?_
    refine (View.read_writes_cons_unit_of_mem v f _ _ _ _ (ix3 0 a b) rfl ?_).trans ?_
    · intro k; fin_cases k <;> first | rfl | exact (Nat.zero_add _).symm
    · show shapeCast S1x512x256 x4 _ (ix3 0 a b) = x4 (ix2 a b); pointwise
  · refine (View.read_writes_cons_unit_of_not_mem v f _ _ _ _ rfl 0 (Or.inl (show (5 : ℕ) < 7 by decide))).trans ?_
    refine (View.read_writes_cons_unit_of_not_mem v f _ _ _ _ rfl 0 (Or.inl (show (5 : ℕ) < 6 by decide))).trans ?_
    refine (View.read_writes_cons_unit_of_mem v f _ _ _ _ (ix3 0 a b) rfl ?_).trans ?_
    · intro k; fin_cases k <;> first | rfl | exact (Nat.zero_add _).symm
    · show shapeCast S1x512x256 x5 _ (ix3 0 a b) = x5 (ix2 a b); pointwise
  · refine (View.read_writes_cons_unit_of_not_mem v f _ _ _ _ rfl 0 (Or.inl (show (6 : ℕ) < 7 by decide))).trans ?_
    refine (View.read_writes_cons_unit_of_mem v f _ _ _ _ (ix3 0 a b) rfl ?_).trans ?_
    · intro k; fin_cases k <;> first | rfl | exact (Nat.zero_add _).symm
    · show shapeCast S1x512x256 x6 _ (ix3 0 a b) = x6 (ix2 a b); pointwise
  · refine (View.read_writes_cons_unit_of_mem v f _ _ _ _ (ix3 0 a b) rfl ?_).trans ?_
    · intro k; fin_cases k <;> first | rfl | exact (Nat.zero_add _).symm
    · show shapeCast S1x512x256 x7 _ (ix3 0 a b) = x7 (ix2 a b); pointwise

/-- What the eight slot stores leave in a slot is that slot's scores. -/
theorem slot_read_slots (f : v.ty.Contents (Elt Ideal)) (x0 x1 x2 x3 x4 x5 x6 x7 : FVec Ideal S512x256 .f32)
    (rest : List (View.Piece (Elt Ideal) S8x512x256 .f32)) (c : Fin 8) :
    slot (v.read (Elt Ideal) (v.writes (Elt Ideal) f (slots x0 x1 x2 x3 x4 x5 x6 x7 rest))) c
      = (![x0, x1, x2, x3, x4, x5, x6, x7] : Fin 8 → FVec Ideal S512x256 .f32) c := by
  funext j
  exact (read_slots_aux v f x0 x1 x2 x3 x4 x5 x6 x7 rest c (j 0) (j 1)).trans (congrArg _ (eq_ix2 j).symm)

/-- A load of slot 0 reads that slot. -/
theorem load_slot_0 (g : v.ty.Contents (Elt Ideal)) :
    (shapeCast S512x256 (v.readAt (Elt Ideal) (Rect.unit (s := S8x512x256) ![0, 0, 0] S1x512x256.size inb_S8x512x256_S1x512x256_0_0_0).toLoadRect g) shapeCasts_S1x512x256_S512x256
      : FVec Ideal S512x256 .f32) = slot (v.read (Elt Ideal) g) 0 := by
  funext j
  idx_vars j
  rw [View.readAt_eq_ld]
  pointwise [slot]

/-- A load of slot 0 after the eight slot stores reads the slot's scores. -/
theorem cov_slot_0 (x0 x1 x2 x3 x4 x5 x6 x7 : FVec Ideal S512x256 .f32) (rest : List (View.Piece (Elt Ideal) S8x512x256 .f32)) :
    (shapeCast S512x256 (v.readCov (slots x0 x1 x2 x3 x4 x5 x6 x7 rest) (Rect.unit (s := S8x512x256) ![0, 0, 0] S1x512x256.size inb_S8x512x256_S1x512x256_0_0_0).toLoadRect) shapeCasts_S1x512x256_S512x256
      : FVec Ideal S512x256 .f32) = x0 :=
  (load_slot_0 v _).trans (slot_read_slots v _ x0 x1 x2 x3 x4 x5 x6 x7 rest 0)

/-- A load of slot 1 reads that slot. -/
theorem load_slot_1 (g : v.ty.Contents (Elt Ideal)) :
    (shapeCast S512x256 (v.readAt (Elt Ideal) (Rect.unit (s := S8x512x256) ![1, 0, 0] S1x512x256.size inb_S8x512x256_S1x512x256_1_0_0).toLoadRect g) shapeCasts_S1x512x256_S512x256
      : FVec Ideal S512x256 .f32) = slot (v.read (Elt Ideal) g) 1 := by
  funext j
  idx_vars j
  rw [View.readAt_eq_ld]
  pointwise [slot]

/-- A load of slot 1 after the eight slot stores reads the slot's scores. -/
theorem cov_slot_1 (x0 x1 x2 x3 x4 x5 x6 x7 : FVec Ideal S512x256 .f32) (rest : List (View.Piece (Elt Ideal) S8x512x256 .f32)) :
    (shapeCast S512x256 (v.readCov (slots x0 x1 x2 x3 x4 x5 x6 x7 rest) (Rect.unit (s := S8x512x256) ![1, 0, 0] S1x512x256.size inb_S8x512x256_S1x512x256_1_0_0).toLoadRect) shapeCasts_S1x512x256_S512x256
      : FVec Ideal S512x256 .f32) = x1 :=
  (load_slot_1 v _).trans (slot_read_slots v _ x0 x1 x2 x3 x4 x5 x6 x7 rest 1)

/-- A load of slot 2 reads that slot. -/
theorem load_slot_2 (g : v.ty.Contents (Elt Ideal)) :
    (shapeCast S512x256 (v.readAt (Elt Ideal) (Rect.unit (s := S8x512x256) ![2, 0, 0] S1x512x256.size inb_S8x512x256_S1x512x256_2_0_0).toLoadRect g) shapeCasts_S1x512x256_S512x256
      : FVec Ideal S512x256 .f32) = slot (v.read (Elt Ideal) g) 2 := by
  funext j
  idx_vars j
  rw [View.readAt_eq_ld]
  pointwise [slot]

/-- A load of slot 2 after the eight slot stores reads the slot's scores. -/
theorem cov_slot_2 (x0 x1 x2 x3 x4 x5 x6 x7 : FVec Ideal S512x256 .f32) (rest : List (View.Piece (Elt Ideal) S8x512x256 .f32)) :
    (shapeCast S512x256 (v.readCov (slots x0 x1 x2 x3 x4 x5 x6 x7 rest) (Rect.unit (s := S8x512x256) ![2, 0, 0] S1x512x256.size inb_S8x512x256_S1x512x256_2_0_0).toLoadRect) shapeCasts_S1x512x256_S512x256
      : FVec Ideal S512x256 .f32) = x2 :=
  (load_slot_2 v _).trans (slot_read_slots v _ x0 x1 x2 x3 x4 x5 x6 x7 rest 2)

/-- A load of slot 3 reads that slot. -/
theorem load_slot_3 (g : v.ty.Contents (Elt Ideal)) :
    (shapeCast S512x256 (v.readAt (Elt Ideal) (Rect.unit (s := S8x512x256) ![3, 0, 0] S1x512x256.size inb_S8x512x256_S1x512x256_3_0_0).toLoadRect g) shapeCasts_S1x512x256_S512x256
      : FVec Ideal S512x256 .f32) = slot (v.read (Elt Ideal) g) 3 := by
  funext j
  idx_vars j
  rw [View.readAt_eq_ld]
  pointwise [slot]

/-- A load of slot 3 after the eight slot stores reads the slot's scores. -/
theorem cov_slot_3 (x0 x1 x2 x3 x4 x5 x6 x7 : FVec Ideal S512x256 .f32) (rest : List (View.Piece (Elt Ideal) S8x512x256 .f32)) :
    (shapeCast S512x256 (v.readCov (slots x0 x1 x2 x3 x4 x5 x6 x7 rest) (Rect.unit (s := S8x512x256) ![3, 0, 0] S1x512x256.size inb_S8x512x256_S1x512x256_3_0_0).toLoadRect) shapeCasts_S1x512x256_S512x256
      : FVec Ideal S512x256 .f32) = x3 :=
  (load_slot_3 v _).trans (slot_read_slots v _ x0 x1 x2 x3 x4 x5 x6 x7 rest 3)

/-- A load of slot 4 reads that slot. -/
theorem load_slot_4 (g : v.ty.Contents (Elt Ideal)) :
    (shapeCast S512x256 (v.readAt (Elt Ideal) (Rect.unit (s := S8x512x256) ![4, 0, 0] S1x512x256.size inb_S8x512x256_S1x512x256_4_0_0).toLoadRect g) shapeCasts_S1x512x256_S512x256
      : FVec Ideal S512x256 .f32) = slot (v.read (Elt Ideal) g) 4 := by
  funext j
  idx_vars j
  rw [View.readAt_eq_ld]
  pointwise [slot]

/-- A load of slot 4 after the eight slot stores reads the slot's scores. -/
theorem cov_slot_4 (x0 x1 x2 x3 x4 x5 x6 x7 : FVec Ideal S512x256 .f32) (rest : List (View.Piece (Elt Ideal) S8x512x256 .f32)) :
    (shapeCast S512x256 (v.readCov (slots x0 x1 x2 x3 x4 x5 x6 x7 rest) (Rect.unit (s := S8x512x256) ![4, 0, 0] S1x512x256.size inb_S8x512x256_S1x512x256_4_0_0).toLoadRect) shapeCasts_S1x512x256_S512x256
      : FVec Ideal S512x256 .f32) = x4 :=
  (load_slot_4 v _).trans (slot_read_slots v _ x0 x1 x2 x3 x4 x5 x6 x7 rest 4)

/-- A load of slot 5 reads that slot. -/
theorem load_slot_5 (g : v.ty.Contents (Elt Ideal)) :
    (shapeCast S512x256 (v.readAt (Elt Ideal) (Rect.unit (s := S8x512x256) ![5, 0, 0] S1x512x256.size inb_S8x512x256_S1x512x256_5_0_0).toLoadRect g) shapeCasts_S1x512x256_S512x256
      : FVec Ideal S512x256 .f32) = slot (v.read (Elt Ideal) g) 5 := by
  funext j
  idx_vars j
  rw [View.readAt_eq_ld]
  pointwise [slot]

/-- A load of slot 5 after the eight slot stores reads the slot's scores. -/
theorem cov_slot_5 (x0 x1 x2 x3 x4 x5 x6 x7 : FVec Ideal S512x256 .f32) (rest : List (View.Piece (Elt Ideal) S8x512x256 .f32)) :
    (shapeCast S512x256 (v.readCov (slots x0 x1 x2 x3 x4 x5 x6 x7 rest) (Rect.unit (s := S8x512x256) ![5, 0, 0] S1x512x256.size inb_S8x512x256_S1x512x256_5_0_0).toLoadRect) shapeCasts_S1x512x256_S512x256
      : FVec Ideal S512x256 .f32) = x5 :=
  (load_slot_5 v _).trans (slot_read_slots v _ x0 x1 x2 x3 x4 x5 x6 x7 rest 5)

/-- A load of slot 6 reads that slot. -/
theorem load_slot_6 (g : v.ty.Contents (Elt Ideal)) :
    (shapeCast S512x256 (v.readAt (Elt Ideal) (Rect.unit (s := S8x512x256) ![6, 0, 0] S1x512x256.size inb_S8x512x256_S1x512x256_6_0_0).toLoadRect g) shapeCasts_S1x512x256_S512x256
      : FVec Ideal S512x256 .f32) = slot (v.read (Elt Ideal) g) 6 := by
  funext j
  idx_vars j
  rw [View.readAt_eq_ld]
  pointwise [slot]

/-- A load of slot 6 after the eight slot stores reads the slot's scores. -/
theorem cov_slot_6 (x0 x1 x2 x3 x4 x5 x6 x7 : FVec Ideal S512x256 .f32) (rest : List (View.Piece (Elt Ideal) S8x512x256 .f32)) :
    (shapeCast S512x256 (v.readCov (slots x0 x1 x2 x3 x4 x5 x6 x7 rest) (Rect.unit (s := S8x512x256) ![6, 0, 0] S1x512x256.size inb_S8x512x256_S1x512x256_6_0_0).toLoadRect) shapeCasts_S1x512x256_S512x256
      : FVec Ideal S512x256 .f32) = x6 :=
  (load_slot_6 v _).trans (slot_read_slots v _ x0 x1 x2 x3 x4 x5 x6 x7 rest 6)

/-- A load of slot 7 reads that slot. -/
theorem load_slot_7 (g : v.ty.Contents (Elt Ideal)) :
    (shapeCast S512x256 (v.readAt (Elt Ideal) (Rect.unit (s := S8x512x256) ![7, 0, 0] S1x512x256.size inb_S8x512x256_S1x512x256_7_0_0).toLoadRect g) shapeCasts_S1x512x256_S512x256
      : FVec Ideal S512x256 .f32) = slot (v.read (Elt Ideal) g) 7 := by
  funext j
  idx_vars j
  rw [View.readAt_eq_ld]
  pointwise [slot]

/-- A load of slot 7 after the eight slot stores reads the slot's scores. -/
theorem cov_slot_7 (x0 x1 x2 x3 x4 x5 x6 x7 : FVec Ideal S512x256 .f32) (rest : List (View.Piece (Elt Ideal) S8x512x256 .f32)) :
    (shapeCast S512x256 (v.readCov (slots x0 x1 x2 x3 x4 x5 x6 x7 rest) (Rect.unit (s := S8x512x256) ![7, 0, 0] S1x512x256.size inb_S8x512x256_S1x512x256_7_0_0).toLoadRect) shapeCasts_S1x512x256_S512x256
      : FVec Ideal S512x256 .f32) = x7 :=
  (load_slot_7 v _).trans (slot_read_slots v _ x0 x1 x2 x3 x4 x5 x6 x7 rest 7)

end Cert.KernelIdeal.Gen.Diff
-- ==== Proof.Trip.lean ====
/- One trip of the backward sweep visits four key tiles: its words are the tile step of the model, its stores leave
   what the four steps compute. -/
module

public import proofs.«01_k».proof.Proof.Mem
public import proofs.«01_k».proof.Proof.Gen.KernelIdeal.Frame

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

variable (i : grid0.Coords) (arg4 : Memref sig .tc .vmem S8192x256 .bf16) (arg5 : Memref sig .tc .vmem S64x256x128 .bf16)
  (arg12 : Memref sig .tc .vmem S1x2048 .f32) (arg13 : Memref sig .tc .vmem S144x2048 .f32)
  (arg14 : Memref sig .tc .vmem S8x512x256 .f32) (arg15 : Memref sig .tc .vmem S8x512x256 .f32)
  (v7 v13 : FVec Ideal S128x1024 .bf16) (X4 : BufTy.Contents (Elt Ideal) arg4.view.ty)
  (X5 : BufTy.Contents (Elt Ideal) arg5.view.ty) (k : Fin (k0_t1_loop i).trips)
  (f12 : BufTy.Contents (Elt Ideal) arg12.view.ty) (f13 : BufTy.Contents (Elt Ideal) arg13.view.ty)
  (f14 : BufTy.Contents (Elt Ideal) arg14.view.ty) (f15 : BufTy.Contents (Elt Ideal) arg15.view.ty)

/-- Tile 1 of the trip: the running maxima. -/
theorem trip_m1 : (trip_k0_t1.sl.v816 (F := Ideal) arg12 arg15 f12 f15)
    = tileM (trip_k0_t1.sl.r (F := Ideal) arg12 f12) (trip_k0_t1.sl.v601 (F := Ideal) arg15 f15) (trip_k0_t1.sl.v627 (F := Ideal) arg15 f15) (trip_k0_t1.sl.v655 (F := Ideal) arg15 f15) (trip_k0_t1.sl.v683 (F := Ideal) arg15 f15) (trip_k0_t1.sl.v711 (F := Ideal) arg15 f15) (trip_k0_t1.sl.v739 (F := Ideal) arg15 f15) (trip_k0_t1.sl.v767 (F := Ideal) arg15 f15) (trip_k0_t1.sl.v795 (F := Ideal) arg15 f15) := rfl

/-- Tile 1 of the trip: the accumulators. -/
theorem trip_a1 : (trip_k0_t1.sl.v820 (F := Ideal) i arg5 arg12 arg13 arg15 X5 k f12 f13 f15)
    = tileA (trip_k0_t1.sl.v579 (F := Ideal) i arg5 X5 k) (trip_k0_t1.sl.v582 (F := Ideal) i arg5 X5 k) (trip_k0_t1.sl.r_1 (F := Ideal) arg13 f13) (trip_k0_t1.sl.r (F := Ideal) arg12 f12) (trip_k0_t1.sl.v601 (F := Ideal) arg15 f15) (trip_k0_t1.sl.v627 (F := Ideal) arg15 f15) (trip_k0_t1.sl.v655 (F := Ideal) arg15 f15) (trip_k0_t1.sl.v683 (F := Ideal) arg15 f15) (trip_k0_t1.sl.v711 (F := Ideal) arg15 f15) (trip_k0_t1.sl.v739 (F := Ideal) arg15 f15) (trip_k0_t1.sl.v767 (F := Ideal) arg15 f15) (trip_k0_t1.sl.v795 (F := Ideal) arg15 f15) := rfl

/-- Tile 1 of the trip: the first head's values with the rows of ones. -/
theorem trip_va1 : (trip_k0_t1.sl.v579 (F := Ideal) i arg5 X5 k) = k0_pay3 (F := Ideal) (View.readAt (Elt Ideal) arg5.view (Rect.unit (s := S64x256x128) (k0_off6 i k 0#32 0#32) S1x256x128.size (k0_off6_inb i k 0 0)).toLoadRect X5) (View.readAt (Elt Ideal) arg5.view (Rect.unit (s := S64x256x128) (k0_off6 i k 0#32 1#32) S1x256x128.size (k0_off6_inb i k 0 1)).toLoadRect X5) (View.readAt (Elt Ideal) arg5.view (Rect.unit (s := S64x256x128) (k0_off6 i k 0#32 2#32) S1x256x128.size (k0_off6_inb i k 0 2)).toLoadRect X5) (View.readAt (Elt Ideal) arg5.view (Rect.unit (s := S64x256x128) (k0_off6 i k 0#32 3#32) S1x256x128.size (k0_off6_inb i k 0 3)).toLoadRect X5) := rfl

/-- Tile 1 of the trip: the second head's values with the rows of ones. -/
theorem trip_vb1 : (trip_k0_t1.sl.v582 (F := Ideal) i arg5 X5 k) = k0_pay4 (F := Ideal) (View.readAt (Elt Ideal) arg5.view (Rect.unit (s := S64x256x128) (k0_off6 i k 0#32 0#32) S1x256x128.size (k0_off6_inb i k 0 0)).toLoadRect X5) (View.readAt (Elt Ideal) arg5.view (Rect.unit (s := S64x256x128) (k0_off6 i k 0#32 1#32) S1x256x128.size (k0_off6_inb i k 0 1)).toLoadRect X5) (View.readAt (Elt Ideal) arg5.view (Rect.unit (s := S64x256x128) (k0_off6 i k 0#32 2#32) S1x256x128.size (k0_off6_inb i k 0 2)).toLoadRect X5) (View.readAt (Elt Ideal) arg5.view (Rect.unit (s := S64x256x128) (k0_off6 i k 0#32 3#32) S1x256x128.size (k0_off6_inb i k 0 3)).toLoadRect X5) := rfl

/-- Tile 2 of the trip: the running maxima. -/
theorem trip_m2 : (trip_k0_t1.sl.v1082 (F := Ideal) i arg4 arg12 arg14 arg15 v7 v13 X4 k f12 f15)
    = tileM (trip_k0_t1.sl.v853 (F := Ideal) arg12 arg15 f12 f15) (trip_k0_t1.sl.v867 (F := Ideal) i arg4 arg14 v7 v13 X4 k) (trip_k0_t1.sl.v893 (F := Ideal) i arg4 arg14 v7 v13 X4 k) (trip_k0_t1.sl.v921 (F := Ideal) i arg4 arg14 v7 v13 X4 k) (trip_k0_t1.sl.v949 (F := Ideal) i arg4 arg14 v7 v13 X4 k) (trip_k0_t1.sl.v977 (F := Ideal) i arg4 arg14 v7 v13 X4 k) (trip_k0_t1.sl.v1005 (F := Ideal) i arg4 arg14 v7 v13 X4 k) (trip_k0_t1.sl.v1033 (F := Ideal) i arg4 arg14 v7 v13 X4 k) (trip_k0_t1.sl.v1061 (F := Ideal) i arg4 arg14 v7 v13 X4 k) := rfl

/-- Tile 2 of the trip: the accumulators. -/
theorem trip_a2 : (trip_k0_t1.sl.v1086 (F := Ideal) i arg4 arg5 arg12 arg13 arg14 arg15 v7 v13 X4 X5 k f12 f13 f15)
    = tileA (trip_k0_t1.sl.v845 (F := Ideal) i arg5 X5 k) (trip_k0_t1.sl.v848 (F := Ideal) i arg5 X5 k) (trip_k0_t1.sl.v854 (F := Ideal) i arg5 arg12 arg13 arg15 X5 k f12 f13 f15) (trip_k0_t1.sl.v853 (F := Ideal) arg12 arg15 f12 f15) (trip_k0_t1.sl.v867 (F := Ideal) i arg4 arg14 v7 v13 X4 k) (trip_k0_t1.sl.v893 (F := Ideal) i arg4 arg14 v7 v13 X4 k) (trip_k0_t1.sl.v921 (F := Ideal) i arg4 arg14 v7 v13 X4 k) (trip_k0_t1.sl.v949 (F := Ideal) i arg4 arg14 v7 v13 X4 k) (trip_k0_t1.sl.v977 (F := Ideal) i arg4 arg14 v7 v13 X4 k) (trip_k0_t1.sl.v1005 (F := Ideal) i arg4 arg14 v7 v13 X4 k) (trip_k0_t1.sl.v1033 (F := Ideal) i arg4 arg14 v7 v13 X4 k) (trip_k0_t1.sl.v1061 (F := Ideal) i arg4 arg14 v7 v13 X4 k) := rfl

/-- Tile 2 of the trip: the first head's values with the rows of ones. -/
theorem trip_va2 : (trip_k0_t1.sl.v845 (F := Ideal) i arg5 X5 k) = k0_pay3 (F := Ideal) (View.readAt (Elt Ideal) arg5.view (Rect.unit (s := S64x256x128) (k0_off6 i k 1#32 0#32) S1x256x128.size (k0_off6_inb i k 1 0)).toLoadRect X5) (View.readAt (Elt Ideal) arg5.view (Rect.unit (s := S64x256x128) (k0_off6 i k 1#32 1#32) S1x256x128.size (k0_off6_inb i k 1 1)).toLoadRect X5) (View.readAt (Elt Ideal) arg5.view (Rect.unit (s := S64x256x128) (k0_off6 i k 1#32 2#32) S1x256x128.size (k0_off6_inb i k 1 2)).toLoadRect X5) (View.readAt (Elt Ideal) arg5.view (Rect.unit (s := S64x256x128) (k0_off6 i k 1#32 3#32) S1x256x128.size (k0_off6_inb i k 1 3)).toLoadRect X5) := rfl

/-- Tile 2 of the trip: the second head's values with the rows of ones. -/
theorem trip_vb2 : (trip_k0_t1.sl.v848 (F := Ideal) i arg5 X5 k) = k0_pay4 (F := Ideal) (View.readAt (Elt Ideal) arg5.view (Rect.unit (s := S64x256x128) (k0_off6 i k 1#32 0#32) S1x256x128.size (k0_off6_inb i k 1 0)).toLoadRect X5) (View.readAt (Elt Ideal) arg5.view (Rect.unit (s := S64x256x128) (k0_off6 i k 1#32 1#32) S1x256x128.size (k0_off6_inb i k 1 1)).toLoadRect X5) (View.readAt (Elt Ideal) arg5.view (Rect.unit (s := S64x256x128) (k0_off6 i k 1#32 2#32) S1x256x128.size (k0_off6_inb i k 1 2)).toLoadRect X5) (View.readAt (Elt Ideal) arg5.view (Rect.unit (s := S64x256x128) (k0_off6 i k 1#32 3#32) S1x256x128.size (k0_off6_inb i k 1 3)).toLoadRect X5) := rfl

/-- Tile 3 of the trip: the running maxima. -/
theorem trip_m3 : (trip_k0_t1.sl.v1348 (F := Ideal) i arg4 arg12 arg14 arg15 v7 v13 X4 k f12 f15)
    = tileM (trip_k0_t1.sl.v1119 (F := Ideal) i arg4 arg12 arg14 arg15 v7 v13 X4 k f12 f15) (trip_k0_t1.sl.v1133 (F := Ideal) i arg4 arg15 v7 v13 X4 k) (trip_k0_t1.sl.v1159 (F := Ideal) i arg4 arg15 v7 v13 X4 k) (trip_k0_t1.sl.v1187 (F := Ideal) i arg4 arg15 v7 v13 X4 k) (trip_k0_t1.sl.v1215 (F := Ideal) i arg4 arg15 v7 v13 X4 k) (trip_k0_t1.sl.v1243 (F := Ideal) i arg4 arg15 v7 v13 X4 k) (trip_k0_t1.sl.v1271 (F := Ideal) i arg4 arg15 v7 v13 X4 k) (trip_k0_t1.sl.v1299 (F := Ideal) i arg4 arg15 v7 v13 X4 k) (trip_k0_t1.sl.v1327 (F := Ideal) i arg4 arg15 v7 v13 X4 k) := rfl

/-- Tile 3 of the trip: the accumulators. -/
theorem trip_a3 : (trip_k0_t1.sl.v1352 (F := Ideal) i arg4 arg5 arg12 arg13 arg14 arg15 v7 v13 X4 X5 k f12 f13 f15)
    = tileA (trip_k0_t1.sl.v1111 (F := Ideal) i arg5 X5 k) (trip_k0_t1.sl.v1114 (F := Ideal) i arg5 X5 k) (trip_k0_t1.sl.v1120 (F := Ideal) i arg4 arg5 arg12 arg13 arg14 arg15 v7 v13 X4 X5 k f12 f13 f15) (trip_k0_t1.sl.v1119 (F := Ideal) i arg4 arg12 arg14 arg15 v7 v13 X4 k f12 f15) (trip_k0_t1.sl.v1133 (F := Ideal) i arg4 arg15 v7 v13 X4 k) (trip_k0_t1.sl.v1159 (F := Ideal) i arg4 arg15 v7 v13 X4 k) (trip_k0_t1.sl.v1187 (F := Ideal) i arg4 arg15 v7 v13 X4 k) (trip_k0_t1.sl.v1215 (F := Ideal) i arg4 arg15 v7 v13 X4 k) (trip_k0_t1.sl.v1243 (F := Ideal) i arg4 arg15 v7 v13 X4 k) (trip_k0_t1.sl.v1271 (F := Ideal) i arg4 arg15 v7 v13 X4 k) (trip_k0_t1.sl.v1299 (F := Ideal) i arg4 arg15 v7 v13 X4 k) (trip_k0_t1.sl.v1327 (F := Ideal) i arg4 arg15 v7 v13 X4 k) := rfl

/-- Tile 3 of the trip: the first head's values with the rows of ones. -/
theorem trip_va3 : (trip_k0_t1.sl.v1111 (F := Ideal) i arg5 X5 k) = k0_pay3 (F := Ideal) (View.readAt (Elt Ideal) arg5.view (Rect.unit (s := S64x256x128) (k0_off6 i k 2#32 0#32) S1x256x128.size (k0_off6_inb i k 2 0)).toLoadRect X5) (View.readAt (Elt Ideal) arg5.view (Rect.unit (s := S64x256x128) (k0_off6 i k 2#32 1#32) S1x256x128.size (k0_off6_inb i k 2 1)).toLoadRect X5) (View.readAt (Elt Ideal) arg5.view (Rect.unit (s := S64x256x128) (k0_off6 i k 2#32 2#32) S1x256x128.size (k0_off6_inb i k 2 2)).toLoadRect X5) (View.readAt (Elt Ideal) arg5.view (Rect.unit (s := S64x256x128) (k0_off6 i k 2#32 3#32) S1x256x128.size (k0_off6_inb i k 2 3)).toLoadRect X5) := rfl

/-- Tile 3 of the trip: the second head's values with the rows of ones. -/
theorem trip_vb3 : (trip_k0_t1.sl.v1114 (F := Ideal) i arg5 X5 k) = k0_pay4 (F := Ideal) (View.readAt (Elt Ideal) arg5.view (Rect.unit (s := S64x256x128) (k0_off6 i k 2#32 0#32) S1x256x128.size (k0_off6_inb i k 2 0)).toLoadRect X5) (View.readAt (Elt Ideal) arg5.view (Rect.unit (s := S64x256x128) (k0_off6 i k 2#32 1#32) S1x256x128.size (k0_off6_inb i k 2 1)).toLoadRect X5) (View.readAt (Elt Ideal) arg5.view (Rect.unit (s := S64x256x128) (k0_off6 i k 2#32 2#32) S1x256x128.size (k0_off6_inb i k 2 2)).toLoadRect X5) (View.readAt (Elt Ideal) arg5.view (Rect.unit (s := S64x256x128) (k0_off6 i k 2#32 3#32) S1x256x128.size (k0_off6_inb i k 2 3)).toLoadRect X5) := rfl

/-- Tile 4 of the trip: the running maxima. -/
theorem trip_m4 : (k0_pay747 (F := Ideal) (trip_k0_t1.sl.v1403 (F := Ideal) i arg4 arg12 arg14 arg15 v7 v13 X4 k f12 f15) (trip_k0_t1.sl.v1429 (F := Ideal) i arg4 arg12 arg14 arg15 v7 v13 X4 k f12 f15) (trip_k0_t1.sl.v1457 (F := Ideal) i arg4 arg12 arg14 arg15 v7 v13 X4 k f12 f15) (trip_k0_t1.sl.v1485 (F := Ideal) i arg4 arg12 arg14 arg15 v7 v13 X4 k f12 f15) (trip_k0_t1.sl.v1513 (F := Ideal) i arg4 arg12 arg14 arg15 v7 v13 X4 k f12 f15) (trip_k0_t1.sl.v1541 (F := Ideal) i arg4 arg12 arg14 arg15 v7 v13 X4 k f12 f15) (trip_k0_t1.sl.v1569 (F := Ideal) i arg4 arg12 arg14 arg15 v7 v13 X4 k f12 f15) (trip_k0_t1.sl.v1597 (F := Ideal) i arg4 arg12 arg14 arg15 v7 v13 X4 k f12 f15))
    = tileM (trip_k0_t1.sl.v1385 (F := Ideal) i arg4 arg12 arg14 arg15 v7 v13 X4 k f12 f15) (trip_k0_t1.sl.v1399 (F := Ideal) i arg4 arg14 v7 v13 X4 k) (trip_k0_t1.sl.v1425 (F := Ideal) i arg4 arg14 v7 v13 X4 k) (trip_k0_t1.sl.v1453 (F := Ideal) i arg4 arg14 v7 v13 X4 k) (trip_k0_t1.sl.v1481 (F := Ideal) i arg4 arg14 v7 v13 X4 k) (trip_k0_t1.sl.v1509 (F := Ideal) i arg4 arg14 v7 v13 X4 k) (trip_k0_t1.sl.v1537 (F := Ideal) i arg4 arg14 v7 v13 X4 k) (trip_k0_t1.sl.v1565 (F := Ideal) i arg4 arg14 v7 v13 X4 k) (trip_k0_t1.sl.v1593 (F := Ideal) i arg4 arg14 v7 v13 X4 k) := rfl

/-- Tile 4 of the trip: the accumulators. -/
theorem trip_a4 : (k0_pay748 (F := Ideal) (trip_k0_t1.sl.v1380 (F := Ideal) i arg5 X5 k) (trip_k0_t1.sl.v1436 (F := Ideal) i arg4 arg5 arg12 arg13 arg14 arg15 v7 v13 X4 X5 k f12 f13 f15) (trip_k0_t1.sl.v1464 (F := Ideal) i arg4 arg5 arg12 arg13 arg14 arg15 v7 v13 X4 X5 k f12 f13 f15) (trip_k0_t1.sl.v1492 (F := Ideal) i arg4 arg5 arg12 arg13 arg14 arg15 v7 v13 X4 X5 k f12 f13 f15) (trip_k0_t1.sl.v1520 (F := Ideal) i arg4 arg5 arg12 arg13 arg14 arg15 v7 v13 X4 X5 k f12 f13 f15) (trip_k0_t1.sl.v1548 (F := Ideal) i arg4 arg5 arg12 arg13 arg14 arg15 v7 v13 X4 X5 k f12 f13 f15) (trip_k0_t1.sl.v1576 (F := Ideal) i arg4 arg5 arg12 arg13 arg14 arg15 v7 v13 X4 X5 k f12 f13 f15) (trip_k0_t1.sl.v1602 (F := Ideal) i arg4 arg12 arg14 arg15 v7 v13 X4 k f12 f15) (trip_k0_t1.sl.v1604 (F := Ideal) i arg4 arg5 arg12 arg13 arg14 arg15 v7 v13 X4 X5 k f12 f13 f15) (trip_k0_t1.sl.v1607 (F := Ideal) i arg4 arg5 arg12 arg13 arg14 arg15 v7 v13 X4 X5 k f12 f13 f15))
    = tileA (trip_k0_t1.sl.v1377 (F := Ideal) i arg5 X5 k) (trip_k0_t1.sl.v1380 (F := Ideal) i arg5 X5 k) (trip_k0_t1.sl.v1386 (F := Ideal) i arg4 arg5 arg12 arg13 arg14 arg15 v7 v13 X4 X5 k f12 f13 f15) (trip_k0_t1.sl.v1385 (F := Ideal) i arg4 arg12 arg14 arg15 v7 v13 X4 k f12 f15) (trip_k0_t1.sl.v1399 (F := Ideal) i arg4 arg14 v7 v13 X4 k) (trip_k0_t1.sl.v1425 (F := Ideal) i arg4 arg14 v7 v13 X4 k) (trip_k0_t1.sl.v1453 (F := Ideal) i arg4 arg14 v7 v13 X4 k) (trip_k0_t1.sl.v1481 (F := Ideal) i arg4 arg14 v7 v13 X4 k) (trip_k0_t1.sl.v1509 (F := Ideal) i arg4 arg14 v7 v13 X4 k) (trip_k0_t1.sl.v1537 (F := Ideal) i arg4 arg14 v7 v13 X4 k) (trip_k0_t1.sl.v1565 (F := Ideal) i arg4 arg14 v7 v13 X4 k) (trip_k0_t1.sl.v1593 (F := Ideal) i arg4 arg14 v7 v13 X4 k) := rfl

/-- Tile 4 of the trip: the first head's values with the rows of ones. -/
theorem trip_va4 : (trip_k0_t1.sl.v1377 (F := Ideal) i arg5 X5 k) = k0_pay3 (F := Ideal) (View.readAt (Elt Ideal) arg5.view (Rect.unit (s := S64x256x128) (k0_off6 i k 3#32 0#32) S1x256x128.size (k0_off6_inb i k 3 0)).toLoadRect X5) (View.readAt (Elt Ideal) arg5.view (Rect.unit (s := S64x256x128) (k0_off6 i k 3#32 1#32) S1x256x128.size (k0_off6_inb i k 3 1)).toLoadRect X5) (View.readAt (Elt Ideal) arg5.view (Rect.unit (s := S64x256x128) (k0_off6 i k 3#32 2#32) S1x256x128.size (k0_off6_inb i k 3 2)).toLoadRect X5) (View.readAt (Elt Ideal) arg5.view (Rect.unit (s := S64x256x128) (k0_off6 i k 3#32 3#32) S1x256x128.size (k0_off6_inb i k 3 3)).toLoadRect X5) := rfl

/-- Tile 4 of the trip: the second head's values with the rows of ones. -/
theorem trip_vb4 : (trip_k0_t1.sl.v1380 (F := Ideal) i arg5 X5 k) = k0_pay4 (F := Ideal) (View.readAt (Elt Ideal) arg5.view (Rect.unit (s := S64x256x128) (k0_off6 i k 3#32 0#32) S1x256x128.size (k0_off6_inb i k 3 0)).toLoadRect X5) (View.readAt (Elt Ideal) arg5.view (Rect.unit (s := S64x256x128) (k0_off6 i k 3#32 1#32) S1x256x128.size (k0_off6_inb i k 3 1)).toLoadRect X5) (View.readAt (Elt Ideal) arg5.view (Rect.unit (s := S64x256x128) (k0_off6 i k 3#32 2#32) S1x256x128.size (k0_off6_inb i k 3 2)).toLoadRect X5) (View.readAt (Elt Ideal) arg5.view (Rect.unit (s := S64x256x128) (k0_off6 i k 3#32 3#32) S1x256x128.size (k0_off6_inb i k 3 3)).toLoadRect X5) := rfl

/-- The scores stored for the tile after tile 1. -/
theorem trip_arg14_8 : (trip_k0_t1.sl.HW_arg14_8 (F := Ideal) i arg4 v7 v13 X4 k) = slotsOf (View.readAt (Elt Ideal) arg4.view (Rect.unit (s := S8192x256) (k0_off7 i k 0#32) S512x128.size (k0_off7_inb i k 0)).toLoadRect X4) (View.readAt (Elt Ideal) arg4.view (Rect.unit (s := S8192x256) (k0_off8 i k 0#32) S512x128.size (k0_off8_inb i k 0)).toLoadRect X4) v7 v13 [] := rfl

/-- The scores stored for the tile after tile 2. -/
theorem trip_arg15_8 : (trip_k0_t1.sl.HW_arg15_8 (F := Ideal) i arg4 v7 v13 X4 k) = slotsOf (View.readAt (Elt Ideal) arg4.view (Rect.unit (s := S8192x256) (k0_off7 i k 1#32) S512x128.size (k0_off7_inb i k 1)).toLoadRect X4) (View.readAt (Elt Ideal) arg4.view (Rect.unit (s := S8192x256) (k0_off8 i k 1#32) S512x128.size (k0_off8_inb i k 1)).toLoadRect X4) v7 v13 [] := rfl

/-- The scores stored for the tile after tile 3. -/
theorem trip_arg14_16 : (trip_k0_t1.sl.HW_arg14_16 (F := Ideal) i arg4 v7 v13 X4 k) = slotsOf (View.readAt (Elt Ideal) arg4.view (Rect.unit (s := S8192x256) (k0_off7 i k 2#32) S512x128.size (k0_off7_inb i k 2)).toLoadRect X4) (View.readAt (Elt Ideal) arg4.view (Rect.unit (s := S8192x256) (k0_off8 i k 2#32) S512x128.size (k0_off8_inb i k 2)).toLoadRect X4) v7 v13 (trip_k0_t1.sl.HW_arg14_8 (F := Ideal) i arg4 v7 v13 X4 k) := rfl

end Cert.KernelIdeal.Gen.Diff
-- ==== Proof.Sweep.lean ====
/- The state of a sweep over the key tiles — running maxima, accumulators, the scores of the next tile — and what one
   trip of the printed loop, hence the whole loop, does to it. -/
module

public import proofs.«01_k».proof.Proof.Trip

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

/-- The running maxima, the accumulators and the scores of the tile about to be visited. -/
@[ext] structure St where
  M : FVec Ideal S1x2048 .f32
  A : FVec Ideal S144x2048 .f32
  s : Fin 8 → FVec Ideal S512x256 .f32

/-- One tile visited with values `va`, `vb`, the next tile's scores being `s'`. -/
def St.step (va vb : FVec Ideal S144x512 .bf16) (s' : Fin 8 → FVec Ideal S512x256 .f32) (σ : St) : St :=
  ⟨tileM σ.M (σ.s 0) (σ.s 1) (σ.s 2) (σ.s 3) (σ.s 4) (σ.s 5) (σ.s 6) (σ.s 7),
   tileA va vb σ.A σ.M (σ.s 0) (σ.s 1) (σ.s 2) (σ.s 3) (σ.s 4) (σ.s 5) (σ.s 6) (σ.s 7), s'⟩

/-- The state the three buffers hold. -/
def stOf (arg12 : Memref sig .tc .vmem S1x2048 .f32) (arg13 : Memref sig .tc .vmem S144x2048 .f32)
    (arg15 : Memref sig .tc .vmem S8x512x256 .f32) (f12 : BufTy.Contents (Elt Ideal) arg12.view.ty)
    (f13 : BufTy.Contents (Elt Ideal) arg13.view.ty) (f15 : BufTy.Contents (Elt Ideal) arg15.view.ty) : St :=
  ⟨arg12.view.read (Elt Ideal) f12, arg13.view.read (Elt Ideal) f13, slot (arg15.view.read (Elt Ideal) f15)⟩

/-- A whole-buffer store is what the buffer then holds. -/
theorem read_writes_whole {S : Shape} {e : EltTy} (v : View sig .tc .vmem S e) (f : v.ty.Contents (Elt Ideal))
    {off : Fin S.rank → ℕ} (h : off = fun _ => 0) (inb : ∀ a, off a + S.size a ≤ S.size a) (w : S.Idx → Elt Ideal e)
    (L : List (View.Piece (Elt Ideal) S e)) :
    v.read (Elt Ideal) (v.writes (Elt Ideal) f ((⟨Rect.unit off S.size inb, w⟩ : View.Piece (Elt Ideal) S e) :: L)) = w := by
  subst h
  funext y
  exact View.read_writes_cons_unit_of_mem v f inb w L y y rfl (fun a => (Nat.zero_add _).symm)

/-- A whole-buffer load reads what the buffer holds. -/
theorem readAt_whole {S : Shape} {e : EltTy} (v : View sig .tc .vmem S e) (f : v.ty.Contents (Elt Ideal))
    {off : Fin S.rank → ℕ} (h : off = fun _ => 0) (inb : ∀ a, off a + S.size a ≤ S.size a) :
    v.readAt (Elt Ideal) (Rect.unit off S.size inb).toLoadRect f = v.read (Elt Ideal) f := by
  rw [View.readAt_eq_ld]; exact View.ld_unit_zero h inb _

section Trip

variable (i : grid0.Coords) (arg4 : Memref sig .tc .vmem S8192x256 .bf16) (arg5 : Memref sig .tc .vmem S64x256x128 .bf16)
  (arg12 : Memref sig .tc .vmem S1x2048 .f32) (arg13 : Memref sig .tc .vmem S144x2048 .f32)
  (arg14 : Memref sig .tc .vmem S8x512x256 .f32) (arg15 : Memref sig .tc .vmem S8x512x256 .f32)
  (v7 v13 : FVec Ideal S128x1024 .bf16) (X4 : BufTy.Contents (Elt Ideal) arg4.view.ty)
  (X5 : BufTy.Contents (Elt Ideal) arg5.view.ty) (k : Fin (k0_t1_loop i).trips)
  (f12 : BufTy.Contents (Elt Ideal) arg12.view.ty) (f13 : BufTy.Contents (Elt Ideal) arg13.view.ty)
  (f14 : BufTy.Contents (Elt Ideal) arg14.view.ty) (f15 : BufTy.Contents (Elt Ideal) arg15.view.ty)

/-- The value tile `4 r + e` of trip `k`, as loaded. -/
def valAt (r e : Fin 4) : FVec Ideal S1x256x128 .bf16 :=
  View.readAt (Elt Ideal) arg5.view (Rect.unit (s := S64x256x128) (k0_off6 i k (BitVec.ofNat 32 r.val) (BitVec.ofNat 32 e.val)) S1x256x128.size (k0_off6_inb i k r e)).toLoadRect X5

/-- Visit `r` of trip `k`: its values folded in, the scores of the next keys put in place. -/
def stepAt (r : Fin 4) (σ : St) : St :=
  St.step (k0_pay3 (F := Ideal) (valAt i arg5 X5 k r 0) (valAt i arg5 X5 k r 1) (valAt i arg5 X5 k r 2) (valAt i arg5 X5 k r 3))
    (k0_pay4 (F := Ideal) (valAt i arg5 X5 k r 0) (valAt i arg5 X5 k r 1) (valAt i arg5 X5 k r 2) (valAt i arg5 X5 k r 3))
    (scores (View.readAt (Elt Ideal) arg4.view (Rect.unit (s := S8192x256) (k0_off7 i k (BitVec.ofNat 32 r.val)) S512x128.size (k0_off7_inb i k r)).toLoadRect X4)
      (View.readAt (Elt Ideal) arg4.view (Rect.unit (s := S8192x256) (k0_off8 i k (BitVec.ofNat 32 r.val)) S512x128.size (k0_off8_inb i k r)).toLoadRect X4) v7 v13) σ

/-- The state after 1 visit of a trip. -/
def st1 : St := stepAt i arg4 arg5 v7 v13 X4 X5 k 0 (stOf arg12 arg13 arg15 f12 f13 f15)

/-- The state after 2 visits of a trip. -/
def st2 : St := stepAt i arg4 arg5 v7 v13 X4 X5 k 1 (st1 i arg4 arg5 arg12 arg13 arg15 v7 v13 X4 X5 k f12 f13 f15)

/-- The state after 3 visits of a trip. -/
def st3 : St := stepAt i arg4 arg5 v7 v13 X4 X5 k 2 (st2 i arg4 arg5 arg12 arg13 arg15 v7 v13 X4 X5 k f12 f13 f15)

/-- The state after 4 visits of a trip. -/
def st4 : St := stepAt i arg4 arg5 v7 v13 X4 X5 k 3 (st3 i arg4 arg5 arg12 arg13 arg15 v7 v13 X4 X5 k f12 f13 f15)

include i arg4 arg5 arg12 arg13 arg14 arg15 v7 v13 X4 X5 k f12 f13 f15

omit i arg4 arg5 arg12 arg13 arg14 arg15 v7 v13 X4 X5 k f12 f13 f15 in
theorem zero2 : (![0, 0] : Fin 2 → ℕ) = fun _ => 0 := by funext a; fin_cases a <;> rfl

/-- After tile 1 of a trip: its stores of maxima and accumulators are those of the state's step. -/
theorem trip_st1 :
    (trip_k0_t1.sl.v816 (F := Ideal) arg12 arg15 f12 f15) = (St.M (st1 i arg4 arg5 arg12 arg13 arg15 v7 v13 X4 X5 k f12 f13 f15))
    ∧ (trip_k0_t1.sl.v820 (F := Ideal) i arg5 arg12 arg13 arg15 X5 k f12 f13 f15) = (St.A (st1 i arg4 arg5 arg12 arg13 arg15 v7 v13 X4 X5 k f12 f13 f15)) := by
  have hm : (trip_k0_t1.sl.r (F := Ideal) arg12 f12) = St.M (stOf arg12 arg13 arg15 f12 f13 f15) := readAt_whole _ _ zero2 _
  have ha : (trip_k0_t1.sl.r_1 (F := Ideal) arg13 f13) = St.A (stOf arg12 arg13 arg15 f12 f13 f15) := readAt_whole _ _ zero2 _
  have h0 : (trip_k0_t1.sl.v601 (F := Ideal) arg15 f15) = St.s (stOf arg12 arg13 arg15 f12 f13 f15) 0 := load_slot_0 arg15.view f15
  have h1 : (trip_k0_t1.sl.v627 (F := Ideal) arg15 f15) = St.s (stOf arg12 arg13 arg15 f12 f13 f15) 1 := load_slot_1 arg15.view f15
  have h2 : (trip_k0_t1.sl.v655 (F := Ideal) arg15 f15) = St.s (stOf arg12 arg13 arg15 f12 f13 f15) 2 := load_slot_2 arg15.view f15
  have h3 : (trip_k0_t1.sl.v683 (F := Ideal) arg15 f15) = St.s (stOf arg12 arg13 arg15 f12 f13 f15) 3 := load_slot_3 arg15.view f15
  have h4 : (trip_k0_t1.sl.v711 (F := Ideal) arg15 f15) = St.s (stOf arg12 arg13 arg15 f12 f13 f15) 4 := load_slot_4 arg15.view f15
  have h5 : (trip_k0_t1.sl.v739 (F := Ideal) arg15 f15) = St.s (stOf arg12 arg13 arg15 f12 f13 f15) 5 := load_slot_5 arg15.view f15
  have h6 : (trip_k0_t1.sl.v767 (F := Ideal) arg15 f15) = St.s (stOf arg12 arg13 arg15 f12 f13 f15) 6 := load_slot_6 arg15.view f15
  have h7 : (trip_k0_t1.sl.v795 (F := Ideal) arg15 f15) = St.s (stOf arg12 arg13 arg15 f12 f13 f15) 7 := load_slot_7 arg15.view f15
  refine ⟨?_, ?_⟩
  · rw [trip_m1, hm, h0, h1, h2, h3, h4, h5, h6, h7]; rfl
  · rw [trip_a1, trip_va1, trip_vb1, ha, hm, h0, h1, h2, h3, h4, h5, h6, h7]; rfl

/-- After tile 2 of a trip: its stores of maxima and accumulators are those of the state's step. -/
theorem trip_st2 :
    (trip_k0_t1.sl.v1082 (F := Ideal) i arg4 arg12 arg14 arg15 v7 v13 X4 k f12 f15) = (St.M (st2 i arg4 arg5 arg12 arg13 arg15 v7 v13 X4 X5 k f12 f13 f15))
    ∧ (trip_k0_t1.sl.v1086 (F := Ideal) i arg4 arg5 arg12 arg13 arg14 arg15 v7 v13 X4 X5 k f12 f13 f15) = (St.A (st2 i arg4 arg5 arg12 arg13 arg15 v7 v13 X4 X5 k f12 f13 f15)) := by
  obtain ⟨pm, pa⟩ := trip_st1 (i := i) (arg4 := arg4) (arg5 := arg5) (arg12 := arg12) (arg13 := arg13) (arg14 := arg14) (arg15 := arg15) (v7 := v7) (v13 := v13) (X4 := X4) (X5 := X5) (k := k) (f12 := f12) (f13 := f13) (f15 := f15)
  have hm : (trip_k0_t1.sl.v853 (F := Ideal) arg12 arg15 f12 f15) = St.M (st1 i arg4 arg5 arg12 arg13 arg15 v7 v13 X4 X5 k f12 f13 f15) := (View.readCov_cons_toLoadRect arg12.view _ _ _).trans pm
  have ha : (trip_k0_t1.sl.v854 (F := Ideal) i arg5 arg12 arg13 arg15 X5 k f12 f13 f15) = St.A (st1 i arg4 arg5 arg12 arg13 arg15 v7 v13 X4 X5 k f12 f13 f15) := (View.readCov_cons_toLoadRect arg13.view _ _ _).trans pa
  have h0 : (trip_k0_t1.sl.v867 (F := Ideal) i arg4 arg14 v7 v13 X4 k) = St.s (st1 i arg4 arg5 arg12 arg13 arg15 v7 v13 X4 X5 k f12 f13 f15) 0 := cov_slot_0 arg14.view _ _ _ _ _ _ _ _ _
  have h1 : (trip_k0_t1.sl.v893 (F := Ideal) i arg4 arg14 v7 v13 X4 k) = St.s (st1 i arg4 arg5 arg12 arg13 arg15 v7 v13 X4 X5 k f12 f13 f15) 1 := cov_slot_1 arg14.view _ _ _ _ _ _ _ _ _
  have h2 : (trip_k0_t1.sl.v921 (F := Ideal) i arg4 arg14 v7 v13 X4 k) = St.s (st1 i arg4 arg5 arg12 arg13 arg15 v7 v13 X4 X5 k f12 f13 f15) 2 := cov_slot_2 arg14.view _ _ _ _ _ _ _ _ _
  have h3 : (trip_k0_t1.sl.v949 (F := Ideal) i arg4 arg14 v7 v13 X4 k) = St.s (st1 i arg4 arg5 arg12 arg13 arg15 v7 v13 X4 X5 k f12 f13 f15) 3 := cov_slot_3 arg14.view _ _ _ _ _ _ _ _ _
  have h4 : (trip_k0_t1.sl.v977 (F := Ideal) i arg4 arg14 v7 v13 X4 k) = St.s (st1 i arg4 arg5 arg12 arg13 arg15 v7 v13 X4 X5 k f12 f13 f15) 4 := cov_slot_4 arg14.view _ _ _ _ _ _ _ _ _
  have h5 : (trip_k0_t1.sl.v1005 (F := Ideal) i arg4 arg14 v7 v13 X4 k) = St.s (st1 i arg4 arg5 arg12 arg13 arg15 v7 v13 X4 X5 k f12 f13 f15) 5 := cov_slot_5 arg14.view _ _ _ _ _ _ _ _ _
  have h6 : (trip_k0_t1.sl.v1033 (F := Ideal) i arg4 arg14 v7 v13 X4 k) = St.s (st1 i arg4 arg5 arg12 arg13 arg15 v7 v13 X4 X5 k f12 f13 f15) 6 := cov_slot_6 arg14.view _ _ _ _ _ _ _ _ _
  have h7 : (trip_k0_t1.sl.v1061 (F := Ideal) i arg4 arg14 v7 v13 X4 k) = St.s (st1 i arg4 arg5 arg12 arg13 arg15 v7 v13 X4 X5 k f12 f13 f15) 7 := cov_slot_7 arg14.view _ _ _ _ _ _ _ _ _
  refine ⟨?_, ?_⟩
  · rw [trip_m2, hm, h0, h1, h2, h3, h4, h5, h6, h7]; rfl
  · rw [trip_a2, trip_va2, trip_vb2, ha, hm, h0, h1, h2, h3, h4, h5, h6, h7]; rfl

/-- After tile 3 of a trip: its stores of maxima and accumulators are those of the state's step. -/
theorem trip_st3 :
    (trip_k0_t1.sl.v1348 (F := Ideal) i arg4 arg12 arg14 arg15 v7 v13 X4 k f12 f15) = (St.M (st3 i arg4 arg5 arg12 arg13 arg15 v7 v13 X4 X5 k f12 f13 f15))
    ∧ (trip_k0_t1.sl.v1352 (F := Ideal) i arg4 arg5 arg12 arg13 arg14 arg15 v7 v13 X4 X5 k f12 f13 f15) = (St.A (st3 i arg4 arg5 arg12 arg13 arg15 v7 v13 X4 X5 k f12 f13 f15)) := by
  obtain ⟨pm, pa⟩ := trip_st2 (i := i) (arg4 := arg4) (arg5 := arg5) (arg12 := arg12) (arg13 := arg13) (arg14 := arg14) (arg15 := arg15) (v7 := v7) (v13 := v13) (X4 := X4) (X5 := X5) (k := k) (f12 := f12) (f13 := f13) (f15 := f15)
  have hm : (trip_k0_t1.sl.v1119 (F := Ideal) i arg4 arg12 arg14 arg15 v7 v13 X4 k f12 f15) = St.M (st2 i arg4 arg5 arg12 arg13 arg15 v7 v13 X4 X5 k f12 f13 f15) := (View.readCov_cons_toLoadRect arg12.view _ _ _).trans pm
  have ha : (trip_k0_t1.sl.v1120 (F := Ideal) i arg4 arg5 arg12 arg13 arg14 arg15 v7 v13 X4 X5 k f12 f13 f15) = St.A (st2 i arg4 arg5 arg12 arg13 arg15 v7 v13 X4 X5 k f12 f13 f15) := (View.readCov_cons_toLoadRect arg13.view _ _ _).trans pa
  have h0 : (trip_k0_t1.sl.v1133 (F := Ideal) i arg4 arg15 v7 v13 X4 k) = St.s (st2 i arg4 arg5 arg12 arg13 arg15 v7 v13 X4 X5 k f12 f13 f15) 0 := cov_slot_0 arg15.view _ _ _ _ _ _ _ _ _
  have h1 : (trip_k0_t1.sl.v1159 (F := Ideal) i arg4 arg15 v7 v13 X4 k) = St.s (st2 i arg4 arg5 arg12 arg13 arg15 v7 v13 X4 X5 k f12 f13 f15) 1 := cov_slot_1 arg15.view _ _ _ _ _ _ _ _ _
  have h2 : (trip_k0_t1.sl.v1187 (F := Ideal) i arg4 arg15 v7 v13 X4 k) = St.s (st2 i arg4 arg5 arg12 arg13 arg15 v7 v13 X4 X5 k f12 f13 f15) 2 := cov_slot_2 arg15.view _ _ _ _ _ _ _ _ _
  have h3 : (trip_k0_t1.sl.v1215 (F := Ideal) i arg4 arg15 v7 v13 X4 k) = St.s (st2 i arg4 arg5 arg12 arg13 arg15 v7 v13 X4 X5 k f12 f13 f15) 3 := cov_slot_3 arg15.view _ _ _ _ _ _ _ _ _
  have h4 : (trip_k0_t1.sl.v1243 (F := Ideal) i arg4 arg15 v7 v13 X4 k) = St.s (st2 i arg4 arg5 arg12 arg13 arg15 v7 v13 X4 X5 k f12 f13 f15) 4 := cov_slot_4 arg15.view _ _ _ _ _ _ _ _ _
  have h5 : (trip_k0_t1.sl.v1271 (F := Ideal) i arg4 arg15 v7 v13 X4 k) = St.s (st2 i arg4 arg5 arg12 arg13 arg15 v7 v13 X4 X5 k f12 f13 f15) 5 := cov_slot_5 arg15.view _ _ _ _ _ _ _ _ _
  have h6 : (trip_k0_t1.sl.v1299 (F := Ideal) i arg4 arg15 v7 v13 X4 k) = St.s (st2 i arg4 arg5 arg12 arg13 arg15 v7 v13 X4 X5 k f12 f13 f15) 6 := cov_slot_6 arg15.view _ _ _ _ _ _ _ _ _
  have h7 : (trip_k0_t1.sl.v1327 (F := Ideal) i arg4 arg15 v7 v13 X4 k) = St.s (st2 i arg4 arg5 arg12 arg13 arg15 v7 v13 X4 X5 k f12 f13 f15) 7 := cov_slot_7 arg15.view _ _ _ _ _ _ _ _ _
  refine ⟨?_, ?_⟩
  · rw [trip_m3, hm, h0, h1, h2, h3, h4, h5, h6, h7]; rfl
  · rw [trip_a3, trip_va3, trip_vb3, ha, hm, h0, h1, h2, h3, h4, h5, h6, h7]; rfl

/-- After tile 4 of a trip: its stores of maxima and accumulators are those of the state's step. -/
theorem trip_st4 :
    (k0_pay747 (F := Ideal) (trip_k0_t1.sl.v1403 (F := Ideal) i arg4 arg12 arg14 arg15 v7 v13 X4 k f12 f15) (trip_k0_t1.sl.v1429 (F := Ideal) i arg4 arg12 arg14 arg15 v7 v13 X4 k f12 f15) (trip_k0_t1.sl.v1457 (F := Ideal) i arg4 arg12 arg14 arg15 v7 v13 X4 k f12 f15) (trip_k0_t1.sl.v1485 (F := Ideal) i arg4 arg12 arg14 arg15 v7 v13 X4 k f12 f15) (trip_k0_t1.sl.v1513 (F := Ideal) i arg4 arg12 arg14 arg15 v7 v13 X4 k f12 f15) (trip_k0_t1.sl.v1541 (F := Ideal) i arg4 arg12 arg14 arg15 v7 v13 X4 k f12 f15) (trip_k0_t1.sl.v1569 (F := Ideal) i arg4 arg12 arg14 arg15 v7 v13 X4 k f12 f15) (trip_k0_t1.sl.v1597 (F := Ideal) i arg4 arg12 arg14 arg15 v7 v13 X4 k f12 f15)) = (St.M (st4 i arg4 arg5 arg12 arg13 arg15 v7 v13 X4 X5 k f12 f13 f15))
    ∧ (k0_pay748 (F := Ideal) (trip_k0_t1.sl.v1380 (F := Ideal) i arg5 X5 k) (trip_k0_t1.sl.v1436 (F := Ideal) i arg4 arg5 arg12 arg13 arg14 arg15 v7 v13 X4 X5 k f12 f13 f15) (trip_k0_t1.sl.v1464 (F := Ideal) i arg4 arg5 arg12 arg13 arg14 arg15 v7 v13 X4 X5 k f12 f13 f15) (trip_k0_t1.sl.v1492 (F := Ideal) i arg4 arg5 arg12 arg13 arg14 arg15 v7 v13 X4 X5 k f12 f13 f15) (trip_k0_t1.sl.v1520 (F := Ideal) i arg4 arg5 arg12 arg13 arg14 arg15 v7 v13 X4 X5 k f12 f13 f15) (trip_k0_t1.sl.v1548 (F := Ideal) i arg4 arg5 arg12 arg13 arg14 arg15 v7 v13 X4 X5 k f12 f13 f15) (trip_k0_t1.sl.v1576 (F := Ideal) i arg4 arg5 arg12 arg13 arg14 arg15 v7 v13 X4 X5 k f12 f13 f15) (trip_k0_t1.sl.v1602 (F := Ideal) i arg4 arg12 arg14 arg15 v7 v13 X4 k f12 f15) (trip_k0_t1.sl.v1604 (F := Ideal) i arg4 arg5 arg12 arg13 arg14 arg15 v7 v13 X4 X5 k f12 f13 f15) (trip_k0_t1.sl.v1607 (F := Ideal) i arg4 arg5 arg12 arg13 arg14 arg15 v7 v13 X4 X5 k f12 f13 f15)) = (St.A (st4 i arg4 arg5 arg12 arg13 arg15 v7 v13 X4 X5 k f12 f13 f15)) := by
  obtain ⟨pm, pa⟩ := trip_st3 (i := i) (arg4 := arg4) (arg5 := arg5) (arg12 := arg12) (arg13 := arg13) (arg14 := arg14) (arg15 := arg15) (v7 := v7) (v13 := v13) (X4 := X4) (X5 := X5) (k := k) (f12 := f12) (f13 := f13) (f15 := f15)
  have hm : (trip_k0_t1.sl.v1385 (F := Ideal) i arg4 arg12 arg14 arg15 v7 v13 X4 k f12 f15) = St.M (st3 i arg4 arg5 arg12 arg13 arg15 v7 v13 X4 X5 k f12 f13 f15) := (View.readCov_cons_toLoadRect arg12.view _ _ _).trans pm
  have ha : (trip_k0_t1.sl.v1386 (F := Ideal) i arg4 arg5 arg12 arg13 arg14 arg15 v7 v13 X4 X5 k f12 f13 f15) = St.A (st3 i arg4 arg5 arg12 arg13 arg15 v7 v13 X4 X5 k f12 f13 f15) := (View.readCov_cons_toLoadRect arg13.view _ _ _).trans pa
  have h0 : (trip_k0_t1.sl.v1399 (F := Ideal) i arg4 arg14 v7 v13 X4 k) = St.s (st3 i arg4 arg5 arg12 arg13 arg15 v7 v13 X4 X5 k f12 f13 f15) 0 := cov_slot_0 arg14.view _ _ _ _ _ _ _ _ _
  have h1 : (trip_k0_t1.sl.v1425 (F := Ideal) i arg4 arg14 v7 v13 X4 k) = St.s (st3 i arg4 arg5 arg12 arg13 arg15 v7 v13 X4 X5 k f12 f13 f15) 1 := cov_slot_1 arg14.view _ _ _ _ _ _ _ _ _
  have h2 : (trip_k0_t1.sl.v1453 (F := Ideal) i arg4 arg14 v7 v13 X4 k) = St.s (st3 i arg4 arg5 arg12 arg13 arg15 v7 v13 X4 X5 k f12 f13 f15) 2 := cov_slot_2 arg14.view _ _ _ _ _ _ _ _ _
  have h3 : (trip_k0_t1.sl.v1481 (F := Ideal) i arg4 arg14 v7 v13 X4 k) = St.s (st3 i arg4 arg5 arg12 arg13 arg15 v7 v13 X4 X5 k f12 f13 f15) 3 := cov_slot_3 arg14.view _ _ _ _ _ _ _ _ _
  have h4 : (trip_k0_t1.sl.v1509 (F := Ideal) i arg4 arg14 v7 v13 X4 k) = St.s (st3 i arg4 arg5 arg12 arg13 arg15 v7 v13 X4 X5 k f12 f13 f15) 4 := cov_slot_4 arg14.view _ _ _ _ _ _ _ _ _
  have h5 : (trip_k0_t1.sl.v1537 (F := Ideal) i arg4 arg14 v7 v13 X4 k) = St.s (st3 i arg4 arg5 arg12 arg13 arg15 v7 v13 X4 X5 k f12 f13 f15) 5 := cov_slot_5 arg14.view _ _ _ _ _ _ _ _ _
  have h6 : (trip_k0_t1.sl.v1565 (F := Ideal) i arg4 arg14 v7 v13 X4 k) = St.s (st3 i arg4 arg5 arg12 arg13 arg15 v7 v13 X4 X5 k f12 f13 f15) 6 := cov_slot_6 arg14.view _ _ _ _ _ _ _ _ _
  have h7 : (trip_k0_t1.sl.v1593 (F := Ideal) i arg4 arg14 v7 v13 X4 k) = St.s (st3 i arg4 arg5 arg12 arg13 arg15 v7 v13 X4 X5 k f12 f13 f15) 7 := cov_slot_7 arg14.view _ _ _ _ _ _ _ _ _
  refine ⟨?_, ?_⟩
  · rw [trip_m4, hm, h0, h1, h2, h3, h4, h5, h6, h7]; rfl
  · rw [trip_a4, trip_va4, trip_vb4, ha, hm, h0, h1, h2, h3, h4, h5, h6, h7]; rfl

end Trip

/-- One trip: the four steps, the next scores in the same buffer. -/
theorem trip_state (𝒱 : Variants) (c : Dev nD) (bd : Option 𝒱.V) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole) (v7 : FVec Ideal S128x1024 .bf16) (v13 : FVec Ideal S128x1024 .bf16) (v41 : BitVec 32) (v210 : FVec Ideal S144x256 .f32) (v245 : FVec Ideal S144x256 .f32) (v280 : FVec Ideal S144x256 .f32) (v315 : FVec Ideal S144x256 .f32) (v350 : FVec Ideal S144x256 .f32) (v385 : FVec Ideal S144x256 .f32) (v420 : FVec Ideal S144x256 .f32) (v426 : FVec Ideal S144x256 .f32) (v427 : FVec Ideal S1x2048 .f32) (X4 : BufTy.Contents (Elt Ideal) arg4.view.ty) (X5 : BufTy.Contents (Elt Ideal) arg5.view.ty) (k : Fin (k0_t1_loop i).trips)
    (f12 : BufTy.Contents (Elt Ideal) arg12.view.ty) (f13 : BufTy.Contents (Elt Ideal) arg13.view.ty)
    (f14 : BufTy.Contents (Elt Ideal) arg14.view.ty) (f15 : BufTy.Contents (Elt Ideal) arg15.view.ty) :
    stOf arg12 arg13 arg15 (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 k f12 f13 f14 f15).1) (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 k f12 f13 f14 f15).2.1)
      (arg15.view.writes (Elt Ideal) f15 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 k f12 f13 f14 f15).2.2.2)
    = st4 i arg4 arg5 arg12 arg13 arg15 v7 v13 X4 X5 k f12 f13 f15 := by
  obtain ⟨pm, pa⟩ := trip_st4 (i := i) (arg4 := arg4) (arg5 := arg5) (arg12 := arg12) (arg13 := arg13) (arg14 := arg14) (arg15 := arg15) (v7 := v7) (v13 := v13) (X4 := X4) (X5 := X5) (k := k) (f12 := f12) (f13 := f13) (f15 := f15)
  unfold tripL_k0_t1 trip_k0_t1
  dsimp only
  refine St.ext ?_ ?_ ?_
  · exact (read_writes_whole arg12.view f12 zero2 _ _ _).trans pm
  · exact (read_writes_whole arg13.view f13 zero2 _ _ _).trans pa
  · funext c
    exact slot_read_slots arg15.view f15 _ _ _ _ _ _ _ _ _ c

end Cert.KernelIdeal.Gen.Diff
-- ==== Proof.Offs.lean ====
/- The run-time offsets and trip counts of the kernel in closed form: tile `j` holds keys `512 j … 512 j + 511`, a grid
   point with query tile `q` starts at tile `q` and sweeps down to tile 0. -/
module

public import proofs.«01_k».proof.Proof.Sweep

@[expose] public section

set_option maxRecDepth 16384

namespace Cert.KernelIdeal.Gen.Diff

open Cert.KernelIdeal Cert.KernelIdeal.Gen Idealize.ShloMosaic Idealize.ShloMosaic.TcCoe Idealize.SL.Sem Facts₀ Facts

/-- The number of trips of the sweep's loop. -/
theorem trips_eq (i : grid0.Coords) : (k0_t1_loop i).trips = (i 2).val / 4 := by
  unfold k0_t1_loop
  generalize i 2 = q
  revert q
  decide +kernel

/-- The loop left over after the sweep makes no trip. -/
theorem trips2_eq (i : grid0.Coords) : (k0_t2_loop i).trips = 0 := by
  unfold k0_t2_loop
  generalize i 2 = q
  revert q
  decide +kernel

theorem off1_eq (i : grid0.Coords) : k0_off1 i = ![512 * (i 2).val, 0] := by
  unfold k0_off1
  generalize i 2 = t
  revert t
  decide +kernel

theorem off2_eq (i : grid0.Coords) : k0_off2 i = ![512 * (i 2).val, 128] := by
  unfold k0_off2
  generalize i 2 = t
  revert t
  decide +kernel

theorem off3_eq (i : grid0.Coords) (q : Fin 4) : k0_off3 i (BitVec.ofNat 32 q.val) = ![4 * ((i 2).val) + q.val, 0, 0] := by
  unfold k0_off3
  generalize i 2 = t
  revert t q
  decide +kernel

theorem off4_eq (i : grid0.Coords) : k0_off4 i = ![512 * ((i 2).val - 1), 0] := by
  unfold k0_off4
  generalize i 2 = t
  revert t
  decide +kernel

theorem off5_eq (i : grid0.Coords) : k0_off5 i = ![512 * ((i 2).val - 1), 128] := by
  unfold k0_off5
  generalize i 2 = t
  revert t
  decide +kernel

theorem off12_eq (i : grid0.Coords) (q : Fin 4) (hi : 2 ≤ (i 2).val % 4) : k0_off12 i (BitVec.ofNat 32 q.val) = ![4 * ((i 2).val % 4 - 1) + q.val, 0, 0] := by
  unfold k0_off12
  generalize i 2 = t at hi ⊢
  revert t q
  decide +kernel

theorem off13_eq (i : grid0.Coords) (hi : 2 ≤ (i 2).val % 4) : k0_off13 i = ![512 * ((i 2).val % 4 - 2), 0] := by
  unfold k0_off13
  generalize i 2 = t at hi ⊢
  revert t
  decide +kernel

theorem off14_eq (i : grid0.Coords) (hi : 2 ≤ (i 2).val % 4) : k0_off14 i = ![512 * ((i 2).val % 4 - 2), 128] := by
  unfold k0_off14
  generalize i 2 = t at hi ⊢
  revert t
  decide +kernel

theorem off15_eq (i : grid0.Coords) (q : Fin 4) (hi : 3 ≤ (i 2).val % 4) : k0_off15 i (BitVec.ofNat 32 q.val) = ![4 * ((i 2).val % 4 - 2) + q.val, 0, 0] := by
  unfold k0_off15
  generalize i 2 = t at hi ⊢
  revert t q
  decide +kernel

theorem off16_eq (i : grid0.Coords) (hi : 3 ≤ (i 2).val % 4) : k0_off16 i = ![512 * ((i 2).val % 4 - 3), 0] := by
  unfold k0_off16
  generalize i 2 = t at hi ⊢
  revert t
  decide +kernel

theorem off17_eq (i : grid0.Coords) (hi : 3 ≤ (i 2).val % 4) : k0_off17 i = ![512 * ((i 2).val % 4 - 3), 128] := by
  unfold k0_off17
  generalize i 2 = t at hi ⊢
  revert t
  decide +kernel

theorem off6_eq (i : grid0.Coords) (k : Fin (k0_t1_loop i).trips) (u q : Fin 4) : k0_off6 i k (BitVec.ofNat 32 u.val) (BitVec.ofNat 32 q.val) = ![4 * ((i 2).val - 1 - 4 * k.val - u.val) + q.val, 0, 0] := by
  obtain ⟨k, hk⟩ := k
  have hq := hk
  rw [trips_eq] at hq
  unfold k0_off6
  dsimp only
  clear hk
  generalize i 2 = t at hq ⊢
  have h3 : k < 4 := by have := t.isLt; change _ < 16 at this; omega
  generalize hk' : (⟨k, h3⟩ : Fin 4) = k'
  obtain rfl : k = k'.val := congrArg Fin.val hk'
  clear hk' h3
  revert t k' u q
  decide +kernel

theorem off7_eq (i : grid0.Coords) (k : Fin (k0_t1_loop i).trips) (u : Fin 4) : k0_off7 i k (BitVec.ofNat 32 u.val) = ![512 * ((i 2).val - 1 - 4 * k.val - u.val - 1), 0] := by
  obtain ⟨k, hk⟩ := k
  have hq := hk
  rw [trips_eq] at hq
  unfold k0_off7
  dsimp only
  clear hk
  generalize i 2 = t at hq ⊢
  have h3 : k < 4 := by have := t.isLt; change _ < 16 at this; omega
  generalize hk' : (⟨k, h3⟩ : Fin 4) = k'
  obtain rfl : k = k'.val := congrArg Fin.val hk'
  clear hk' h3
  revert t k' u
  decide +kernel

theorem off8_eq (i : grid0.Coords) (k : Fin (k0_t1_loop i).trips) (u : Fin 4) : k0_off8 i k (BitVec.ofNat 32 u.val) = ![512 * ((i 2).val - 1 - 4 * k.val - u.val - 1), 128] := by
  obtain ⟨k, hk⟩ := k
  have hq := hk
  rw [trips_eq] at hq
  unfold k0_off8
  dsimp only
  clear hk
  generalize i 2 = t at hq ⊢
  have h3 : k < 4 := by have := t.isLt; change _ < 16 at this; omega
  generalize hk' : (⟨k, h3⟩ : Fin 4) = k'
  obtain rfl : k = k'.val := congrArg Fin.val hk'
  clear hk' h3
  revert t k' u
  decide +kernel

end Cert.KernelIdeal.Gen.Diff
-- ==== Proof.Visit.lean ====
/- The sweep as visits of key tiles by number: the loop visits, from the tile before the query tile downwards, all but
   the last few tiles. -/
module

public import proofs.«01_k».proof.Proof.Offs

@[expose] public section

set_option maxRecDepth 16384
set_option maxHeartbeats 3200000

noncomputable section

namespace Cert.KernelIdeal.Gen.Diff

open Cert.KernelIdeal Cert.KernelIdeal.Gen Idealize.ShloMosaic Idealize.ShloMosaic.TcCoe Idealize.SL.Sem Facts₀ Facts

/-- The 512 keys of tile `j`, the 128 columns of head `h` of the pair. -/
def Kt (x1 : FVec Ideal S8192x256 .bf16) (j h : ℕ) : FVec Ideal S512x128 .bf16 := fun y =>
  x1 (ix2 ⟨(512 * j + (y 0).val) % 8192, Nat.mod_lt _ (by decide)⟩ ⟨(128 * h + (y 1).val) % 256, Nat.mod_lt _ (by decide)⟩)

/-- Value chunk `r`: 128 keys, both heads' value rows. -/
def Wt (x2 : FVec Ideal S64x256x128 .bf16) (r : ℕ) : FVec Ideal S1x256x128 .bf16 := fun y =>
  x2 (ix3 ⟨r % 64, Nat.mod_lt _ (by decide)⟩ (y 1) (y 2))

/-- The scores of tile `j`. -/
def scT (x1 : FVec Ideal S8192x256 .bf16) (qa qb : FVec Ideal S128x1024 .bf16) (j : ℕ) : Fin 8 → FVec Ideal S512x256 .f32 :=
  scores (Kt x1 j 0) (Kt x1 j 1) qa qb

/-- The first head's values of tile `j`, with the rows of ones. -/
def vaT (x2 : FVec Ideal S64x256x128 .bf16) (j : ℕ) : FVec Ideal S144x512 .bf16 :=
  k0_pay3 (F := Ideal) (Wt x2 (4 * j + 0)) (Wt x2 (4 * j + 1)) (Wt x2 (4 * j + 2)) (Wt x2 (4 * j + 3))

/-- The second head's values of tile `j`, with the rows of ones. -/
def vbT (x2 : FVec Ideal S64x256x128 .bf16) (j : ℕ) : FVec Ideal S144x512 .bf16 :=
  k0_pay4 (F := Ideal) (Wt x2 (4 * j + 0)) (Wt x2 (4 * j + 1)) (Wt x2 (4 * j + 2)) (Wt x2 (4 * j + 3))

/-- The visit of tile `j`, after which the scores are those of the tile before it. -/
def visit (x1 : FVec Ideal S8192x256 .bf16) (x2 : FVec Ideal S64x256x128 .bf16) (qa qb : FVec Ideal S128x1024 .bf16)
    (j : ℕ) (σ : St) : St :=
  St.step (vaT x2 j) (vbT x2 j) (scT x1 qa qb (j - 1)) σ

/-- The visits of tiles `n - 1`, …, `1`, `0`, in this order. -/
def sweepFrom (x1 : FVec Ideal S8192x256 .bf16) (x2 : FVec Ideal S64x256x128 .bf16) (qa qb : FVec Ideal S128x1024 .bf16) :
    ℕ → St → St
  | 0, σ => σ
  | n + 1, σ => sweepFrom x1 x2 qa qb n (visit x1 x2 qa qb n σ)

/-- A load of 512 rows and 128 columns of the key block is a key tile. -/
theorem loadK (arg4 : Memref sig .tc .vmem S8192x256 .bf16) (X4 : BufTy.Contents (Elt Ideal) arg4.view.ty)
    {off : Fin 2 → ℕ} (inb : ∀ a, off a + S512x128.size a ≤ S8192x256.size a) {j h : ℕ} (hoff : off = ![512 * j, 128 * h])
    (hj : j < 16) (hh : h < 2) :
    arg4.view.readAt (Elt Ideal) (Rect.unit (s := S8192x256) off S512x128.size inb).toLoadRect X4
      = Kt (arg4.view.read (Elt Ideal) X4) j h := by
  subst hoff
  funext y
  show arg4.view.read (Elt Ideal) X4 _ = arg4.view.read (Elt Ideal) X4 _
  congr 1
  funext a
  fin_cases a
  · apply Fin.ext
    have hy : (y 0).val < 512 := (y 0).isLt
    show 512 * j + 1 * (y 0).val = (512 * j + (y 0).val) % 8192
    rw [Nat.mod_eq_of_lt (by omega), Nat.one_mul]
  · apply Fin.ext
    have hy : (y 1).val < 128 := (y 1).isLt
    show 128 * h + 1 * (y 1).val = (128 * h + (y 1).val) % 256
    rw [Nat.mod_eq_of_lt (by omega), Nat.one_mul]

/-- A load of one chunk of the value block is that chunk. -/
theorem loadV (arg5 : Memref sig .tc .vmem S64x256x128 .bf16) (X5 : BufTy.Contents (Elt Ideal) arg5.view.ty)
    {off : Fin 3 → ℕ} (inb : ∀ a, off a + S1x256x128.size a ≤ S64x256x128.size a) {r : ℕ} (hoff : off = ![r, 0, 0])
    (hr : r < 64) :
    arg5.view.readAt (Elt Ideal) (Rect.unit (s := S64x256x128) off S1x256x128.size inb).toLoadRect X5
      = Wt (arg5.view.read (Elt Ideal) X5) r := by
  subst hoff
  funext y
  show arg5.view.read (Elt Ideal) X5 _ = arg5.view.read (Elt Ideal) X5 _
  congr 1
  funext a
  fin_cases a
  · apply Fin.ext
    have hy : (y 0).val < 1 := (y 0).isLt
    show r + 1 * (y 0).val = r % 64
    rw [Nat.mod_eq_of_lt hr]; omega
  · apply Fin.ext
    show 0 + 1 * (y 1).val = (y 1).val
    omega
  · apply Fin.ext
    show 0 + 1 * (y 2).val = (y 2).val
    omega

/-- Visit `r` of trip `k` is the visit of tile `q - 1 - 4 k - r`. -/
theorem stepAt_eq (i : grid0.Coords) (arg4 : Memref sig .tc .vmem S8192x256 .bf16) (arg5 : Memref sig .tc .vmem S64x256x128 .bf16)
    (v7 v13 : FVec Ideal S128x1024 .bf16) (X4 : BufTy.Contents (Elt Ideal) arg4.view.ty)
    (X5 : BufTy.Contents (Elt Ideal) arg5.view.ty) (k : Fin (k0_t1_loop i).trips) (r : Fin 4) (σ : St) :
    stepAt i arg4 arg5 v7 v13 X4 X5 k r σ
      = visit (arg4.view.read (Elt Ideal) X4) (arg5.view.read (Elt Ideal) X5) v7 v13 ((i 2).val - 1 - 4 * k.val - r.val) σ := by
  have hq : (i 2).val < 16 := (i 2).isLt
  have c := fun e : Fin 4 => loadV arg5 X5 (k0_off6_inb i k r e) (r := 4 * ((i 2).val - 1 - 4 * k.val - r.val) + e.val)
    (off6_eq i k r e) (by have := e.isLt; omega)
  unfold stepAt visit vaT vbT scT valAt
  rw [loadK arg4 X4 (k0_off7_inb i k r) (j := (i 2).val - 1 - 4 * k.val - r.val - 1) (h := 0) (off7_eq i k r) (by omega) (by decide),
    loadK arg4 X4 (k0_off8_inb i k r) (j := (i 2).val - 1 - 4 * k.val - r.val - 1) (h := 1) (off8_eq i k r) (by omega) (by decide),
    c 0, c 1, c 2, c 3]
  rfl

/-- One trip visits four tiles. -/
theorem trip_visit (𝒱 : Variants) (c : Dev nD) (bd : Option 𝒱.V) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole) (v7 : FVec Ideal S128x1024 .bf16) (v13 : FVec Ideal S128x1024 .bf16) (v41 : BitVec 32) (v210 : FVec Ideal S144x256 .f32) (v245 : FVec Ideal S144x256 .f32) (v280 : FVec Ideal S144x256 .f32) (v315 : FVec Ideal S144x256 .f32) (v350 : FVec Ideal S144x256 .f32) (v385 : FVec Ideal S144x256 .f32) (v420 : FVec Ideal S144x256 .f32) (v426 : FVec Ideal S144x256 .f32) (v427 : FVec Ideal S1x2048 .f32) (X4 : BufTy.Contents (Elt Ideal) arg4.view.ty) (X5 : BufTy.Contents (Elt Ideal) arg5.view.ty) (k : Fin (k0_t1_loop i).trips)
    (f12 : BufTy.Contents (Elt Ideal) arg12.view.ty) (f13 : BufTy.Contents (Elt Ideal) arg13.view.ty)
    (f14 : BufTy.Contents (Elt Ideal) arg14.view.ty) (f15 : BufTy.Contents (Elt Ideal) arg15.view.ty) :
    stOf arg12 arg13 arg15 (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 k f12 f13 f14 f15).1) (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 k f12 f13 f14 f15).2.1)
      (arg15.view.writes (Elt Ideal) f15 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 k f12 f13 f14 f15).2.2.2)
    = (visit (arg4.view.read (Elt Ideal) X4) (arg5.view.read (Elt Ideal) X5) v7 v13 ((i 2).val - 1 - 4 * k.val - 3) (visit (arg4.view.read (Elt Ideal) X4) (arg5.view.read (Elt Ideal) X5) v7 v13 ((i 2).val - 1 - 4 * k.val - 2) (visit (arg4.view.read (Elt Ideal) X4) (arg5.view.read (Elt Ideal) X5) v7 v13 ((i 2).val - 1 - 4 * k.val - 1) (visit (arg4.view.read (Elt Ideal) X4) (arg5.view.read (Elt Ideal) X5) v7 v13 ((i 2).val - 1 - 4 * k.val - 0) (stOf arg12 arg13 arg15 f12 f13 f15))))) := by
  rw [trip_state]
  unfold st4 st3 st2 st1
  rw [stepAt_eq, stepAt_eq, stepAt_eq, stepAt_eq]
  rfl

/-- After `n` trips, the visits that remain lead where all of them led from the start. -/
theorem loop_state (𝒱 : Variants) (c : Dev nD) (bd : Option 𝒱.V) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole) (v7 : FVec Ideal S128x1024 .bf16) (v13 : FVec Ideal S128x1024 .bf16) (v41 : BitVec 32) (v210 : FVec Ideal S144x256 .f32) (v245 : FVec Ideal S144x256 .f32) (v280 : FVec Ideal S144x256 .f32) (v315 : FVec Ideal S144x256 .f32) (v350 : FVec Ideal S144x256 .f32) (v385 : FVec Ideal S144x256 .f32) (v420 : FVec Ideal S144x256 .f32) (v426 : FVec Ideal S144x256 .f32) (v427 : FVec Ideal S1x2048 .f32) (X4 : BufTy.Contents (Elt Ideal) arg4.view.ty) (X5 : BufTy.Contents (Elt Ideal) arg5.view.ty)
    (G12 : BufTy.Contents (Elt Ideal) arg12.view.ty) (G13 : BufTy.Contents (Elt Ideal) arg13.view.ty)
    (G14 : BufTy.Contents (Elt Ideal) arg14.view.ty) (G15 : BufTy.Contents (Elt Ideal) arg15.view.ty) : ∀ n : ℕ, n ≤ (k0_t1_loop i).trips →
    sweepFrom (arg4.view.read (Elt Ideal) X4) (arg5.view.read (Elt Ideal) X5) v7 v13 ((i 2).val - 4 * n) (stOf arg12 arg13 arg15 (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 G12 G13 G14 G15 n).1)
        (arg13.view.writes (Elt Ideal) G13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 G12 G13 G14 G15 n).2.1) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 G12 G13 G14 G15 n).2.2.2))
      = sweepFrom (arg4.view.read (Elt Ideal) X4) (arg5.view.read (Elt Ideal) X5) v7 v13 (i 2).val (stOf arg12 arg13 arg15 G12 G13 G15) := by
  intro n
  induction n with
  | zero => intro _; rfl
  | succ n ih =>
    intro hn
    rw [← ih (by omega)]
    have hn' : n < (i 2).val / 4 := by rw [trips_eq] at hn; omega
    obtain ⟨m, hm⟩ : ∃ m, (i 2).val - 4 * n = m + 4 := ⟨(i 2).val - 4 * n - 4, by omega⟩
    have hm' : (i 2).val - 4 * (n + 1) = m := by omega
    rw [hm, hm', pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 X4 X5 G12 G13 G14 G15 ⟨n, hn⟩]
    dsimp only
    rw [View.writes_append, View.writes_append, View.writes_append, trip_visit]
    have e0 : (i 2).val - 1 - 4 * n - 0 = m + 3 := by omega
    have e1 : (i 2).val - 1 - 4 * n - 1 = m + 2 := by omega
    have e2 : (i 2).val - 1 - 4 * n - 2 = m + 1 := by omega
    have e3 : (i 2).val - 1 - 4 * n - 3 = m := by omega
    rw [e0, e1, e2, e3]
    rfl

end Cert.KernelIdeal.Gen.Diff
-- ==== Proof.Diag.lean ====
/- The diagonal tile of a grid point: the tile of the queries themselves, visited first, with the later keys masked. -/
module

public import proofs.«01_k».proof.Proof.Visit

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

/-- The first head pair's query columns: one zero-padded half block per component. -/
def qa (x0 : FVec Ideal S256x512 .bf16) : FVec Ideal S128x1024 .bf16 :=
  k0_pay670 (F := Ideal) fun y => x0 (ix2 ⟨0 + (y 0).val, by have h : (y 0).val < 128 := (y 0).isLt; omega⟩ (y 1))

/-- The second head pair's query columns. -/
def qb (x0 : FVec Ideal S256x512 .bf16) : FVec Ideal S128x1024 .bf16 :=
  k0_pay671 (F := Ideal) fun y => x0 (ix2 ⟨128 + (y 0).val, by have h : (y 0).val < 128 := (y 0).isLt; omega⟩ (y 1))

theorem loadQ (arg3 : Memref sig .tc .vmem S256x512 .bf16) (harg3 : arg3.IsWhole) (x0 : FVec Ideal S256x512 .bf16) (h : ℕ)
    (hh : h + 128 ≤ 256) (inb : ∀ a, (![h, 0] : Fin 2 → ℕ) a + S128x512.size a ≤ S256x512.size a) :
    (arg3.view.readAt (Elt Ideal) (Rect.unit (s := S256x512) ![h, 0] S128x512.size inb).toLoadRect (harg3.unread x0) : FVec Ideal S128x512 .bf16)
      = fun y => x0 (ix2 ⟨h + (y 0).val, by have h : (y 0).val < 128 := (y 0).isLt; omega⟩ (y 1)) := by
  funext y
  show arg3.view.read (Elt Ideal) (harg3.unread x0) _ = _
  rw [harg3.read_unread]
  congr 1
  funext a
  fin_cases a
  · apply Fin.ext
    show h + 1 * (y 0).val = h + (y 0).val
    omega
  · apply Fin.ext
    show 0 + 1 * (y 1).val = (y 1).val
    omega

/-- The scores of the diagonal tile with the keys after the query masked; `d` is the offset of the chain's first column
    within the tile of queries. -/
def maskT (i : grid0.Coords) (d : BitVec 32) (s : FVec Ideal S512x256 .f32) : FVec Ideal S512x256 .f32 :=
  select (cmpi .sle (broadcastTo S512x256 (k0_pay686 (BitVec.ofNat 32 (i 2).val) 512#32) broadcasts_S512x1_S512x256)
      (broadcastTo S512x256 (addi (k0_pay672 i) (broadcast S1x256 d)) broadcasts_S1x256_S512x256))
    s (broadcast S512x256 (Named.named κ "mask" 0xF149F2CA#32))

/-- The masked scores of the diagonal tile, by chain. -/
def maskSc (i : grid0.Coords) (s : Fin 8 → FVec Ideal S512x256 .f32) : Fin 8 → FVec Ideal S512x256 .f32 :=
  ![maskT i 0#32 (s 0), maskT i 256#32 (s 1), maskT i 0#32 (s 2), maskT i 256#32 (s 3),
    maskT i 0#32 (s 4), maskT i 256#32 (s 5), maskT i 0#32 (s 6), maskT i 256#32 (s 7)]

/-- The state before the diagonal tile. -/
def start (i : grid0.Coords) (x0 : FVec Ideal S256x512 .bf16) (x1 : FVec Ideal S8192x256 .bf16) : St :=
  ⟨k0_pay673 (F := Ideal), k0_pay674 (F := Ideal), maskSc i (scT x1 (qa x0) (qb x0) (i 2).val)⟩

/-- The state after the diagonal tile. -/
def diag (i : grid0.Coords) (x0 : FVec Ideal S256x512 .bf16) (x1 : FVec Ideal S8192x256 .bf16)
    (x2 : FVec Ideal S64x256x128 .bf16) : St :=
  visit x1 x2 (qa x0) (qb x0) (i 2).val (start i x0 x1)

/-- The accumulators after all tiles. -/
def finalA (i : grid0.Coords) (x0 : FVec Ideal S256x512 .bf16) (x1 : FVec Ideal S8192x256 .bf16)
    (x2 : FVec Ideal S64x256x128 .bf16) : FVec Ideal S144x2048 .f32 :=
  (sweepFrom x1 x2 (qa x0) (qb x0) (i 2).val (diag i x0 x1 x2)).A

theorem tileIx (i : grid0.Coords) : kernelRun0_A.sl.v41 i = BitVec.ofNat 32 (i 2).val := by
  have h : ∀ q : Fin 16, ∀ i : grid0.Coords, i 2 = q → kernelRun0_A.sl.v41 i = BitVec.ofNat 32 q.val := by
    intro q i hi
    have e : kernelRun0_A.sl.v41 i = kernelRun0_A.sl.v41 (Function.update i 2 (i 2)) := by rw [Function.update_eq_self]
    simp only [kernelRun0_A.sl.v0, kernelRun0_A.sl.v25, kernelRun0_A.sl.v26, kernelRun0_A.sl.v27, kernelRun0_A.sl.v28, kernelRun0_A.sl.v29, kernelRun0_A.sl.v30, kernelRun0_A.sl.v36, kernelRun0_A.sl.v37, kernelRun0_A.sl.v38, kernelRun0_A.sl.v39, kernelRun0_A.sl.v40, kernelRun0_A.sl.v41]
    rw [hi]
    clear hi e
    revert q
    decide +kernel
  exact h (i 2) i rfl

section
variable (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (x0 : FVec Ideal S256x512 .bf16) (x1 : FVec Ideal S8192x256 .bf16) (x2 : FVec Ideal S64x256x128 .bf16)

/-- The piece that stores the running maxima of the diagonal tile. -/
theorem diag_m : (kernelRun0_A.sl.HS0_2 (F := Ideal) c i arg3 harg3 arg4 harg4 arg12 arg14 x0 x1) = ⟨Rect.unit ![0, 0] S1x2048.size inb_S1x2048_S1x2048_0_0,
    tileM (kernelRun0_A.sl.v145 (F := Ideal) c arg12) (select (cmpi .sle (broadcastTo S512x256 (k0_pay686 (kernelRun0_A.sl.v41 i) 512#32) broadcasts_S512x1_S512x256) (broadcastTo S512x256 (addi (k0_pay672 i) (broadcast S1x256 0#32)) broadcasts_S1x256_S512x256)) (shapeCast S512x256 (kernelRun0_A.sl.v158 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 256#32)) broadcasts_S1x256_S512x256)) (shapeCast S512x256 (kernelRun0_A.sl.v191 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 0#32)) broadcasts_S1x256_S512x256)) (shapeCast S512x256 (kernelRun0_A.sl.v226 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 256#32)) broadcasts_S1x256_S512x256)) (shapeCast S512x256 (kernelRun0_A.sl.v261 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 0#32)) broadcasts_S1x256_S512x256)) (shapeCast S512x256 (kernelRun0_A.sl.v296 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 256#32)) broadcasts_S1x256_S512x256)) (shapeCast S512x256 (kernelRun0_A.sl.v331 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 0#32)) broadcasts_S1x256_S512x256)) (shapeCast S512x256 (kernelRun0_A.sl.v366 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 256#32)) broadcasts_S1x256_S512x256)) (shapeCast S512x256 (kernelRun0_A.sl.v401 (F := Ideal) c i arg3 harg3 arg4 harg4 arg14 x0 x1) shapeCasts_S1x512x256_S512x256) (broadcast S512x256 (Named.named κ "mask" 0xF149F2CA#32)))⟩ :: (kernelRun0_A.sl.HS0_1 (F := Ideal) ) := rfl

/-- The piece that stores the accumulators of the diagonal tile. -/
theorem diag_a : (kernelRun0_A.sl.HS1_2 (F := Ideal) c i arg3 harg3 arg4 harg4 arg5 harg5 arg12 arg13 arg14 x0 x1 x2) = ⟨Rect.unit ![0, 0] S144x2048.size inb_S144x2048_S144x2048_0_0,
    tileA (kernelRun0_A.sl.r_3 (F := Ideal) c i arg5 harg5 x2) (kernelRun0_A.sl.r_4 (F := Ideal) c i arg5 harg5 x2) (kernelRun0_A.sl.v146 (F := Ideal) c arg13) (kernelRun0_A.sl.v145 (F := Ideal) c arg12) (select (cmpi .sle (broadcastTo S512x256 (k0_pay686 (kernelRun0_A.sl.v41 i) 512#32) broadcasts_S512x1_S512x256) (broadcastTo S512x256 (addi (k0_pay672 i) (broadcast S1x256 0#32)) broadcasts_S1x256_S512x256)) (shapeCast S512x256 (kernelRun0_A.sl.v158 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 256#32)) broadcasts_S1x256_S512x256)) (shapeCast S512x256 (kernelRun0_A.sl.v191 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 0#32)) broadcasts_S1x256_S512x256)) (shapeCast S512x256 (kernelRun0_A.sl.v226 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 256#32)) broadcasts_S1x256_S512x256)) (shapeCast S512x256 (kernelRun0_A.sl.v261 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 0#32)) broadcasts_S1x256_S512x256)) (shapeCast S512x256 (kernelRun0_A.sl.v296 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 256#32)) broadcasts_S1x256_S512x256)) (shapeCast S512x256 (kernelRun0_A.sl.v331 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 0#32)) broadcasts_S1x256_S512x256)) (shapeCast S512x256 (kernelRun0_A.sl.v366 (F := Ideal) c i arg3 harg3 arg4 harg4 arg14 x0 x1) shapeCasts_S1x512x256_S512x256) (broadcast S512x256 (Named.named κ "mask" 0xF149F2CA#32))) (select (cmpi .sle (broadcastTo S512x256 (k0_pay686 (kernelRun0_A.sl.v41 i) 512#32) broadcasts_S512x1_S512x256) (broadcastTo S512x256 (addi (k0_pay672 i) (broadcast S1x256 256#32)) broadcasts_S1x256_S512x256)) (shapeCast S512x256 (kernelRun0_A.sl.v401 (F := Ideal) c i arg3 harg3 arg4 harg4 arg14 x0 x1) shapeCasts_S1x512x256_S512x256) (broadcast S512x256 (Named.named κ "mask" 0xF149F2CA#32)))⟩ :: (kernelRun0_A.sl.HS1_1 (F := Ideal) ) := rfl

/-- The diagonal tile's scores, as stored. -/
theorem diag_s : (kernelRun0_A.sl.HS2_8 (F := Ideal) c i arg3 harg3 arg4 harg4 x0 x1) = slotsOf
    (arg4.view.readAt (Elt Ideal) (Rect.unit (s := S8192x256) (k0_off1 i) S512x128.size (k0_off1_inb i)).toLoadRect (harg4.unread x1))
    (arg4.view.readAt (Elt Ideal) (Rect.unit (s := S8192x256) (k0_off2 i) S512x128.size (k0_off2_inb i)).toLoadRect (harg4.unread x1))
    (kernelRun0_A.sl.r (F := Ideal) c arg3 harg3 x0) (kernelRun0_A.sl.r_1 (F := Ideal) c arg3 harg3 x0) [] := rfl

/-- The scores of the tile before the diagonal, as stored. -/
theorem diag_next : (kernelRun0_A.sl.HS3_8 (F := Ideal) c i arg3 harg3 arg4 harg4 x0 x1) = slotsOf
    (arg4.view.readAt (Elt Ideal) (Rect.unit (s := S8192x256) (k0_off4 i) S512x128.size (k0_off4_inb i)).toLoadRect (harg4.unread x1))
    (arg4.view.readAt (Elt Ideal) (Rect.unit (s := S8192x256) (k0_off5 i) S512x128.size (k0_off5_inb i)).toLoadRect (harg4.unread x1))
    (kernelRun0_A.sl.r (F := Ideal) c arg3 harg3 x0) (kernelRun0_A.sl.r_1 (F := Ideal) c arg3 harg3 x0) [] := rfl

/-- After the diagonal tile the three buffers hold the state of its visit. -/
theorem diag_state :
    stOf arg12 arg13 arg15 (arg12.view.writes (Elt Ideal) arg12.view.junk (kernelRun0_A.sl.HS0_2 (F := Ideal) c i arg3 harg3 arg4 harg4 arg12 arg14 x0 x1)) (arg13.view.writes (Elt Ideal) arg13.view.junk (kernelRun0_A.sl.HS1_2 (F := Ideal) c i arg3 harg3 arg4 harg4 arg5 harg5 arg12 arg13 arg14 x0 x1 x2))
      (arg15.view.writes (Elt Ideal) arg15.view.junk (kernelRun0_A.sl.HS3_8 (F := Ideal) c i arg3 harg3 arg4 harg4 x0 x1)) = diag i x0 x1 x2 := by
  have hq : (i 2).val < 16 := (i 2).isLt
  have hr : (kernelRun0_A.sl.r (F := Ideal) c arg3 harg3 x0) = qa x0 := congrArg (k0_pay670 (F := Ideal)) (loadQ arg3 harg3 x0 0 (by decide) inb_S256x512_S128x512_0_0)
  have hr1 : (kernelRun0_A.sl.r_1 (F := Ideal) c arg3 harg3 x0) = qb x0 := congrArg (k0_pay671 (F := Ideal)) (loadQ arg3 harg3 x0 128 (by decide) inb_S256x512_S128x512_128_0)
  have k1 := loadK arg4 (harg4.unread x1) (k0_off1_inb i) (j := (i 2).val) (h := 0) (off1_eq i) hq (by decide)
  have k2 := loadK arg4 (harg4.unread x1) (k0_off2_inb i) (j := (i 2).val) (h := 1) (off2_eq i) hq (by decide)
  have k4 := loadK arg4 (harg4.unread x1) (k0_off4_inb i) (j := (i 2).val - 1) (h := 0) (off4_eq i) (by omega) (by decide)
  have k5 := loadK arg4 (harg4.unread x1) (k0_off5_inb i) (j := (i 2).val - 1) (h := 1) (off5_eq i) (by omega) (by decide)
  rw [harg4.read_unread] at k1 k2 k4 k5
  have c0 := loadV arg5 (harg5.unread x2) (k0_off3_inb i 0) (r := 4 * (i 2).val + 0) (off3_eq i 0) (by omega)
  have c1 := loadV arg5 (harg5.unread x2) (k0_off3_inb i 1) (r := 4 * (i 2).val + 1) (off3_eq i 1) (by omega)
  have c2 := loadV arg5 (harg5.unread x2) (k0_off3_inb i 2) (r := 4 * (i 2).val + 2) (off3_eq i 2) (by omega)
  have c3 := loadV arg5 (harg5.unread x2) (k0_off3_inb i 3) (r := 4 * (i 2).val + 3) (off3_eq i 3) (by omega)
  rw [harg5.read_unread] at c0 c1 c2 c3
  have hva : (kernelRun0_A.sl.r_3 (F := Ideal) c i arg5 harg5 x2) = vaT x2 (i 2).val := by
    unfold vaT; rw [← c0, ← c1, ← c2, ← c3]; rfl
  have hvb : (kernelRun0_A.sl.r_4 (F := Ideal) c i arg5 harg5 x2) = vbT x2 (i 2).val := by
    unfold vbT; rw [← c0, ← c1, ← c2, ← c3]; rfl
  have hm : (kernelRun0_A.sl.v145 (F := Ideal) c arg12) = k0_pay673 (F := Ideal) :=
    (readAt_whole _ _ zero2 _).trans (read_writes_whole _ _ zero2 _ _ _)
  have ha : (kernelRun0_A.sl.v146 (F := Ideal) c arg13) = k0_pay674 (F := Ideal) :=
    (readAt_whole _ _ zero2 _).trans (read_writes_whole _ _ zero2 _ _ _)
  have s0 : (shapeCast S512x256 (kernelRun0_A.sl.v158 (F := Ideal) c i arg3 harg3 arg4 harg4 arg14 x0 x1) shapeCasts_S1x512x256_S512x256 : FVec Ideal S512x256 .f32) = scT x1 (qa x0) (qb x0) (i 2).val 0 := by
    unfold kernelRun0_A.sl.v158
    rw [diag_s (arg4 := arg4) (harg4 := harg4) (arg3 := arg3) (harg3 := harg3), k1, k2, hr, hr1]
    exact cov_slot_0 _ _ _ _ _ _ _ _ _ _
  have s1 : (shapeCast S512x256 (kernelRun0_A.sl.v191 (F := Ideal) c i arg3 harg3 arg4 harg4 arg14 x0 x1) shapeCasts_S1x512x256_S512x256 : FVec Ideal S512x256 .f32) = scT x1 (qa x0) (qb x0) (i 2).val 1 := by
    unfold kernelRun0_A.sl.v191
    rw [diag_s (arg4 := arg4) (harg4 := harg4) (arg3 := arg3) (harg3 := harg3), k1, k2, hr, hr1]
    exact cov_slot_1 _ _ _ _ _ _ _ _ _ _
  have s2 : (shapeCast S512x256 (kernelRun0_A.sl.v226 (F := Ideal) c i arg3 harg3 arg4 harg4 arg14 x0 x1) shapeCasts_S1x512x256_S512x256 : FVec Ideal S512x256 .f32) = scT x1 (qa x0) (qb x0) (i 2).val 2 := by
    unfold kernelRun0_A.sl.v226
    rw [diag_s (arg4 := arg4) (harg4 := harg4) (arg3 := arg3) (harg3 := harg3), k1, k2, hr, hr1]
    exact cov_slot_2 _ _ _ _ _ _ _ _ _ _
  have s3 : (shapeCast S512x256 (kernelRun0_A.sl.v261 (F := Ideal) c i arg3 harg3 arg4 harg4 arg14 x0 x1) shapeCasts_S1x512x256_S512x256 : FVec Ideal S512x256 .f32) = scT x1 (qa x0) (qb x0) (i 2).val 3 := by
    unfold kernelRun0_A.sl.v261
    rw [diag_s (arg4 := arg4) (harg4 := harg4) (arg3 := arg3) (harg3 := harg3), k1, k2, hr, hr1]
    exact cov_slot_3 _ _ _ _ _ _ _ _ _ _
  have s4 : (shapeCast S512x256 (kernelRun0_A.sl.v296 (F := Ideal) c i arg3 harg3 arg4 harg4 arg14 x0 x1) shapeCasts_S1x512x256_S512x256 : FVec Ideal S512x256 .f32) = scT x1 (qa x0) (qb x0) (i 2).val 4 := by
    unfold kernelRun0_A.sl.v296
    rw [diag_s (arg4 := arg4) (harg4 := harg4) (arg3 := arg3) (harg3 := harg3), k1, k2, hr, hr1]
    exact cov_slot_4 _ _ _ _ _ _ _ _ _ _
  have s5 : (shapeCast S512x256 (kernelRun0_A.sl.v331 (F := Ideal) c i arg3 harg3 arg4 harg4 arg14 x0 x1) shapeCasts_S1x512x256_S512x256 : FVec Ideal S512x256 .f32) = scT x1 (qa x0) (qb x0) (i 2).val 5 := by
    unfold kernelRun0_A.sl.v331
    rw [diag_s (arg4 := arg4) (harg4 := harg4) (arg3 := arg3) (harg3 := harg3), k1, k2, hr, hr1]
    exact cov_slot_5 _ _ _ _ _ _ _ _ _ _
  have s6 : (shapeCast S512x256 (kernelRun0_A.sl.v366 (F := Ideal) c i arg3 harg3 arg4 harg4 arg14 x0 x1) shapeCasts_S1x512x256_S512x256 : FVec Ideal S512x256 .f32) = scT x1 (qa x0) (qb x0) (i 2).val 6 := by
    unfold kernelRun0_A.sl.v366
    rw [diag_s (arg4 := arg4) (harg4 := harg4) (arg3 := arg3) (harg3 := harg3), k1, k2, hr, hr1]
    exact cov_slot_6 _ _ _ _ _ _ _ _ _ _
  have s7 : (shapeCast S512x256 (kernelRun0_A.sl.v401 (F := Ideal) c i arg3 harg3 arg4 harg4 arg14 x0 x1) shapeCasts_S1x512x256_S512x256 : FVec Ideal S512x256 .f32) = scT x1 (qa x0) (qb x0) (i 2).val 7 := by
    unfold kernelRun0_A.sl.v401
    rw [diag_s (arg4 := arg4) (harg4 := harg4) (arg3 := arg3) (harg3 := harg3), k1, k2, hr, hr1]
    exact cov_slot_7 _ _ _ _ _ _ _ _ _ _
  apply St.ext
  · show arg12.view.read (Elt Ideal) (arg12.view.writes (Elt Ideal) arg12.view.junk _) = _
    rw [diag_m, read_writes_whole _ _ zero2, hm, s0, s1, s2, s3, s4, s5, s6, s7, tileIx]
    unfold diag visit St.step start
    dsimp only
    show _ = tileM (k0_pay673 (F := Ideal)) (maskSc i (scT x1 (qa x0) (qb x0) (i 2).val) 0) (maskSc i (scT x1 (qa x0) (qb x0) (i 2).val) 1) (maskSc i (scT x1 (qa x0) (qb x0) (i 2).val) 2) (maskSc i (scT x1 (qa x0) (qb x0) (i 2).val) 3) (maskSc i (scT x1 (qa x0) (qb x0) (i 2).val) 4) (maskSc i (scT x1 (qa x0) (qb x0) (i 2).val) 5) (maskSc i (scT x1 (qa x0) (qb x0) (i 2).val) 6) (maskSc i (scT x1 (qa x0) (qb x0) (i 2).val) 7)
    rfl
  · show arg13.view.read (Elt Ideal) (arg13.view.writes (Elt Ideal) arg13.view.junk _) = _
    rw [diag_a, read_writes_whole _ _ zero2, hm, ha, hva, hvb, s0, s1, s2, s3, s4, s5, s6, s7, tileIx]
    unfold diag visit St.step start
    dsimp only
    show _ = tileA (vaT x2 (i 2).val) (vbT x2 (i 2).val) (k0_pay674 (F := Ideal)) (k0_pay673 (F := Ideal)) (maskSc i (scT x1 (qa x0) (qb x0) (i 2).val) 0) (maskSc i (scT x1 (qa x0) (qb x0) (i 2).val) 1) (maskSc i (scT x1 (qa x0) (qb x0) (i 2).val) 2) (maskSc i (scT x1 (qa x0) (qb x0) (i 2).val) 3) (maskSc i (scT x1 (qa x0) (qb x0) (i 2).val) 4) (maskSc i (scT x1 (qa x0) (qb x0) (i 2).val) 5) (maskSc i (scT x1 (qa x0) (qb x0) (i 2).val) 6) (maskSc i (scT x1 (qa x0) (qb x0) (i 2).val) 7)
    rfl
  · show slot (arg15.view.read (Elt Ideal) (arg15.view.writes (Elt Ideal) arg15.view.junk _)) = _
    rw [diag_next (arg4 := arg4) (harg4 := harg4), k4, k5, hr, hr1]
    funext c
    exact slot_read_slots _ _ _ _ _ _ _ _ _ _ _ c

end

end Cert.KernelIdeal.Gen.Diff
-- ==== Proof.Out.lean ====
/- What a grid point stores: the two heads' normalised differences, from the accumulators. -/
module

public import proofs.«01_k».proof.Proof.Diag

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

/-- The output block of a grid point from its accumulators `A`. -/
def blockOut (x3 x4 x5 x6 : Vec Ideal S1x64 .f32) (x7 : Vec Ideal S128x1 .f32) (A : FVec Ideal S144x2048 .f32) :
    Vec Ideal S256x512 .bf16 :=
  VO0_8.read (Elt Ideal) (VO0_8.writes (Elt Ideal) VO0_8.junk
    [⟨Rect.unit (s := S256x512) ![128, 0] S128x512.size inb_S256x512_S128x512_128_0,
      k0_pay1 (F := Ideal) (k0_pay783 (F := Ideal) (k0_pay778 (F := Ideal) x3 x4) (k0_pay779 (F := Ideal) x5 x6) A)
        (k0_pay784 (F := Ideal) (k0_pay778 (F := Ideal) x3 x4) (k0_pay779 (F := Ideal) x5 x6) A) (k0_pay785 (F := Ideal)) x7⟩,
     ⟨Rect.unit (s := S256x512) ![0, 0] S128x512.size inb_S256x512_S128x512_0_0,
      k0_pay782 (F := Ideal) (k0_pay778 (F := Ideal) x3 x4) (k0_pay779 (F := Ideal) x5 x6) A x7⟩])

end Cert.KernelIdeal.Gen.Diff
-- ==== Proof.Inv.lean ====
/- The running softmax over the reals: one tile step keeps the running maximum a real and the accumulators the
   weighted sums over the keys seen, scaled by a power of two that cancels in the end. -/
module

public import Idealize.ShloMosaic.PureOps.Ideal
public import Idealize.ShloMosaic.PureOps.Ideal.Laws

@[expose] public section

noncomputable section

namespace Cert.Online

open Idealize.ShloMosaic

/-- A finite sum of reals, read as extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The state of one column: the running maximum `m` is a real `μ` and the accumulators `a` are `2^(-μ)` times `R`. -/
def Col {D : Type} (m : EReal) (a : D → EReal) (R : D → ℝ) : Prop :=
  ∃ μ : ℝ, m = (μ : EReal) ∧ ∀ d, a d = (((2 : ℝ) ^ (-μ) * R d : ℝ) : EReal)

/-- The fold of `max` from `⊥` is below any bound of its terms. -/
theorem fold_le {ι : Type} (s : Finset ι) (f : ι → EReal) (b : EReal) (h : ∀ i ∈ s, f i ≤ b) : s.fold max ⊥ f ≤ b :=
  Finset.fold_max_le b |>.2 ⟨bot_le, h⟩

/-- The fold of `max` is above each of its terms. -/
theorem le_fold {ι : Type} (s : Finset ι) (f : ι → EReal) (i : ι) (hi : i ∈ s) : f i ≤ s.fold max ⊥ f :=
  Finset.le_fold_max (f i) |>.2 (Or.inr ⟨i, hi, le_rfl⟩)

/-- The maximum after a tile is a real, when the maximum before is one or some key of the tile is allowed. -/
theorem max_real {K : Type} [Fintype K] (m : EReal) (s : K → EReal) (al : K → Prop) [DecidablePred al] (z : K → ℝ)
    (hs : ∀ y, s y = if al y then (z y : EReal) else ⊥) (hm : (∃ μ : ℝ, m = (μ : EReal)) ∨ (m = ⊥ ∧ ∃ y, al y)) :
    ∃ μ : ℝ, max m (Finset.univ.fold max ⊥ s) = (μ : EReal) := by
  have htop : max m (Finset.univ.fold max ⊥ s) ≠ ⊤ := by
    obtain ⟨b, hb⟩ : ∃ b : ℝ, ∀ y, z y ≤ b :=
      ⟨∑ y, |z y|, fun y => (le_abs_self _).trans (Finset.single_le_sum (f := fun y => |z y|) (fun _ _ => abs_nonneg _) (Finset.mem_univ y))⟩
    have h1 : Finset.univ.fold max ⊥ s ≤ (b : EReal) := fold_le _ _ _ fun y _ => by
      rw [hs y]
      split
      · exact EReal.coe_le_coe_iff.2 (hb y)
      · exact bot_le
    have h2 : Finset.univ.fold max ⊥ s < ⊤ := lt_of_le_of_lt h1 (EReal.coe_lt_top b)
    have h3 : m < ⊤ := by
      rcases hm with ⟨μ, rfl⟩ | ⟨rfl, -⟩
      · exact EReal.coe_lt_top μ
      · exact bot_lt_top
    exact ne_of_lt (max_lt h3 h2)
  have hbot : max m (Finset.univ.fold max ⊥ s) ≠ ⊥ := by
    rcases hm with ⟨μ, rfl⟩ | ⟨rfl, y, hy⟩
    · exact ne_of_gt (lt_of_lt_of_le (EReal.bot_lt_coe μ) (le_max_left _ _))
    · have h1 : s y ≤ max ⊥ (Finset.univ.fold max ⊥ s) := (le_fold _ s y (Finset.mem_univ y)).trans (le_max_right _ _)
      rw [hs y, if_pos hy] at h1
      exact ne_of_gt (lt_of_lt_of_le (EReal.bot_lt_coe _) h1)
  exact ⟨_, (EReal.coe_toReal htop hbot).symm⟩

/-- A weight: `2` to the score minus the maximum for an allowed key, zero for a masked one. -/
theorem weight {p : Prop} [Decidable p] (z μ : ℝ) :
    Ideal.exp2 ((if p then (z : EReal) else ⊥) - (μ : EReal)) = (((2 : ℝ) ^ (-μ) * (if p then (2 : ℝ) ^ z else 0) : ℝ) : EReal) := by
  split
  · rw [← EReal.coe_sub, Ideal.exp2_coe]
    congr 1
    show (2 : ℝ) ^ (z - μ) = _
    rw [sub_eq_neg_add, Real.rpow_add two_pos]
  · rw [EReal.bot_sub, Ideal.exp2_bot, mul_zero]
    rfl

/-- One tile step. -/
theorem step {D K : Type} [Fintype K] (m : EReal) (a : D → EReal) (R : D → ℝ) (s : K → EReal) (al : K → Prop)
    [DecidablePred al] (z : K → ℝ) (w : D → K → EReal) (v : D → K → ℝ)
    (hs : ∀ y, s y = if al y then (z y : EReal) else ⊥) (hw : ∀ d y, w d y = (v d y : EReal))
    (h : Col m a R ∨ ((m = ⊥ ∧ ∃ y, al y) ∧ ∀ d, a d = 0 ∧ R d = 0)) :
    Col (max m (Finset.univ.fold max ⊥ s))
      (fun d => a d * Ideal.exp2 (m - max m (Finset.univ.fold max ⊥ s))
        + ∑ y, w d y * Ideal.exp2 (s y - max m (Finset.univ.fold max ⊥ s)))
      (fun d => R d + ∑ y, if al y then (2 : ℝ) ^ z y * v d y else 0) := by
  obtain ⟨μ', hμ'⟩ := max_real m s al z hs (h.imp (fun ⟨μ, e, _⟩ => ⟨μ, e⟩) (fun e => e.1))
  refine ⟨μ', hμ', fun d => ?_⟩
  rw [hμ']
  have hsum : (∑ y, w d y * Ideal.exp2 (s y - (μ' : EReal)))
      = (((2 : ℝ) ^ (-μ') * ∑ y, (if al y then (2 : ℝ) ^ z y * v d y else 0) : ℝ) : EReal) := by
    rw [Finset.mul_sum, ← coe_sum]
    refine Finset.sum_congr rfl fun y _ => ?_
    rw [hw, hs, weight, ← EReal.coe_mul]
    congr 1
    split <;> ring
  have hold : a d * Ideal.exp2 (m - (μ' : EReal)) = (((2 : ℝ) ^ (-μ') * R d : ℝ) : EReal) := by
    rcases h with ⟨μ, rfl, ha⟩ | ⟨-, h0⟩
    · rw [ha, ← EReal.coe_sub, Ideal.exp2_coe, ← EReal.coe_mul]
      congr 1
      show (2 : ℝ) ^ (-μ) * R d * (2 : ℝ) ^ (μ - μ') = _
      rw [sub_eq_add_neg, Real.rpow_add two_pos, Real.rpow_neg two_pos.le μ]
      have : (2 : ℝ) ^ μ ≠ 0 := (Real.rpow_pos_of_pos two_pos μ).ne'
      field_simp
    · rw [(h0 d).1, (h0 d).2, zero_mul, mul_zero]
      rfl
  show a d * Ideal.exp2 (m - (μ' : EReal)) + (∑ y, w d y * Ideal.exp2 (s y - (μ' : EReal))) = (((2 : ℝ) ^ (-μ') * (R d + ∑ y, if al y then (2 : ℝ) ^ z y * v d y else 0) : ℝ) : EReal)
  rw [hsum, hold, ← EReal.coe_add, mul_add]

/-- The quotient of two accumulators is that of the sums: the scale cancels. -/
theorem quotient {D : Type} (m : EReal) (a : D → EReal) (R : D → ℝ) (h : Col m a R) (d e : D) (he : R e ≠ 0) :
    a d * Ideal.div 1 (a e) = ((R d / R e : ℝ) : EReal) := by
  obtain ⟨μ, -, ha⟩ := h
  have hp : (2 : ℝ) ^ (-μ) ≠ 0 := (Real.rpow_pos_of_pos two_pos _).ne'
  rw [ha, ha, ← EReal.coe_one, Ideal.div_coe (mul_ne_zero hp he), ← EReal.coe_mul, ← EReal.coe_mul]
  congr 1
  field_simp

end Cert.Online
-- ==== Proof.Spec.lean ====
/- Differential causal attention over the reals: what both programs compute. -/
module

public import proofs.«01_k».proof.Proof.Inv

@[expose] public section

set_option maxRecDepth 16384

noncomputable section

namespace Cert.Online
open Idealize.ShloMosaic

/-- The term of one key in a causal sum with weights a power of two. -/
def term (pos : ℕ) (z v : Fin 8192 → ℝ) (k : Fin 8192) : ℝ := if k.val ≤ pos then (2 : ℝ) ^ z k * v k else 0

/-- Causal attention of one query over the reals: the weighted mean of the values with weights a power of two. -/
def attn (pos : ℕ) (z v : Fin 8192 → ℝ) : ℝ := (∑ k, term pos z v k) / ∑ k, term pos z (fun _ => 1) k

/-- The weights' sum is positive: the first key is always allowed. -/
theorem weights_pos (pos : ℕ) (z : Fin 8192 → ℝ) : 0 < ∑ k, term pos z (fun _ => 1) k := by
  refine Finset.sum_pos' (fun k _ => ?_) ⟨⟨0, by decide⟩, Finset.mem_univ _, ?_⟩
  · unfold term
    split
    · exact (mul_pos (Real.rpow_pos_of_pos two_pos _) one_pos).le
    · exact le_rfl
  · unfold term
    rw [if_pos (Nat.zero_le pos)]
    exact mul_pos (Real.rpow_pos_of_pos two_pos _) one_pos

/-- The difference's weight: `exp (Σ a·b) − exp (Σ c·d) + 0.2`. -/
def lam (a b c d : Fin 64 → EReal) : EReal :=
  Ideal.exp (∑ e, a e * b e) - Ideal.exp (∑ e, c e * d e) + Ideal.ofBits .f32 0x3E4CCCCD#32

/-- The normalised row: `o · rsqrt (mean o² + ε) · w · 0.8`. -/
def normed (o : Fin 128 → EReal) (w : EReal) (d : Fin 128) : EReal :=
  o d * Ideal.rsqrt (Ideal.div (∑ e, o e * o e) (Ideal.ofBits .f32 0x43000000#32) + Ideal.ofBits .f32 0x358637BD#32) * w
    * Ideal.ofBits .f32 0x3F4CCCCD#32

/-- The score of a key for a query: head `u` of 8, batch `b`, query `t`. -/
def score (Q : Fin 512 → Fin 32768 → ℝ) (K : Fin 32768 → Fin 512 → ℝ) (u : Fin 8) (b : Fin 4) (t key : Fin 8192) : ℝ :=
  ∑ e : Fin 64, K ⟨8192 * b.val + key.val, by omega⟩ ⟨64 * u.val + e.val, by omega⟩ * Q ⟨64 * u.val + e.val, by omega⟩ ⟨8192 * b.val + t.val, by omega⟩

/-- Feature `d` of a key's value: head `u` of 4, batch `b`. -/
def value (W : Fin 256 → Fin 512 → Fin 128 → ℝ) (u b : Fin 4) (d : Fin 128) (key : Fin 8192) : ℝ :=
  W ⟨64 * b.val + key.val / 128, by omega⟩ ⟨128 * u.val + d.val, by omega⟩ ⟨key.val % 128, by omega⟩

/-- The differential attention before its normalisation. -/
def diffAttn (Q : Fin 512 → Fin 32768 → ℝ) (K : Fin 32768 → Fin 512 → ℝ) (W : Fin 256 → Fin 512 → Fin 128 → ℝ) (L : EReal)
    (u b : Fin 4) (t : Fin 8192) (d : Fin 128) : EReal :=
  (attn t.val (score Q K ⟨2 * u.val, by omega⟩ b t) (value W u b d) : EReal)
    - L * (attn t.val (score Q K ⟨2 * u.val + 1, by omega⟩ b t) (value W u b d) : EReal)

/-- The result's entry for head `u`, feature `d`, batch `b`, query `t`. -/
def result (Q : Fin 512 → Fin 32768 → ℝ) (K : Fin 32768 → Fin 512 → ℝ) (W : Fin 256 → Fin 512 → Fin 128 → ℝ) (L : EReal)
    (w : Fin 128 → EReal) (u b : Fin 4) (t : Fin 8192) (d : Fin 128) : EReal :=
  normed (diffAttn Q K W L u b t) (w d) d

/-- The result array's entry at an index, from real queries, keys and values. -/
def resultAt (Q : Fin 512 → Fin 32768 → ℝ) (K : Fin 32768 → Fin 512 → ℝ) (W : Fin 256 → Fin 512 → Fin 128 → ℝ) (L : EReal)
    (w : Fin 128 → EReal) (r : Fin 512) (n : Fin 32768) : EReal :=
  result Q K W L w ⟨r.val / 128, by omega⟩ ⟨n.val / 8192, by omega⟩ ⟨n.val % 8192, by omega⟩ ⟨r.val % 128, by omega⟩

/-- The f32 pattern of minus infinity. -/
theorem lit_bot : Ideal.ofBits .f32 0xFF800000#32 = ⊥ := by
  simp [Ideal.ofBits, Ideal.ieee]

/-- The f32 pattern of two. -/
theorem lit_two : Ideal.ofBits .f32 0x40000000#32 = ((2 : ℝ) : EReal) := by
  simp [Ideal.ofBits, Ideal.ieee, -EReal.coe_mul]
  norm_num

/-- The f32 pattern nearest to a fifth is a real. -/
theorem lit_fifth : ∃ r : ℝ, Ideal.ofBits .f32 0x3E4CCCCD#32 = (r : EReal) := by
  simp [Ideal.ofBits, Ideal.ieee, -EReal.coe_mul]

/-- The difference's weight is a real when its vectors are. -/
theorem lam_real (a b c d : Fin 64 → EReal) (ha : ∀ e, ∃ r : ℝ, a e = (r : EReal)) (hb : ∀ e, ∃ r : ℝ, b e = (r : EReal))
    (hc : ∀ e, ∃ r : ℝ, c e = (r : EReal)) (hd : ∀ e, ∃ r : ℝ, d e = (r : EReal)) : ∃ r : ℝ, lam a b c d = (r : EReal) := by
  choose a' ha using ha
  choose b' hb using hb
  choose c' hc using hc
  choose d' hd using hd
  obtain ⟨r, hr⟩ := lit_fifth
  refine ⟨Real.exp (∑ e, a' e * b' e) - Real.exp (∑ e, c' e * d' e) + r, ?_⟩
  unfold lam
  rw [hr, EReal.coe_add, EReal.coe_sub, ← Ideal.exp_coe, ← Ideal.exp_coe, ← coe_sum, ← coe_sum]
  simp only [ha, hb, hc, hd, EReal.coe_mul]

/-- A masked softmax with base two written as one with base e: its entries are the causal weights over their sum. -/
theorem softmax_real (t : ℕ) (z : Fin 8192 → ℝ) (mk : Fin 8192 → EReal) (M : EReal)
    (hm : ∀ s, mk s = if s.val ≤ t then ((z s * Real.log 2 : ℝ) : EReal) else ⊥) (hM : M = max ⊥ (Finset.univ.fold max ⊥ mk)) (s : Fin 8192) :
    (if s.val ≤ t then Ideal.div (Ideal.exp (mk s - M)) (∑ k, Ideal.exp (mk k - M)) else 0)
      = ((term t z (fun _ => 1) s / ∑ k, term t z (fun _ => 1) k : ℝ) : EReal) := by
  obtain ⟨μ, hμ⟩ := max_real ⊥ mk (fun s => s.val ≤ t) (fun s => z s * Real.log 2) hm (Or.inr ⟨rfl, ⟨0, by decide⟩, Nat.zero_le t⟩)
  have hp : ∀ k, Ideal.exp (mk k - M) = ((Real.exp (-μ) * term t z (fun _ => 1) k : ℝ) : EReal) := by
    intro k
    rw [hM, hμ, hm]
    unfold term
    by_cases hk : k.val ≤ t
    · rw [if_pos hk, if_pos hk, ← EReal.coe_sub, Ideal.exp_coe, mul_one, Real.rpow_def_of_pos two_pos, ← Real.exp_add]
      congr 2
      ring
    · rw [if_neg hk, if_neg hk, EReal.bot_sub, Ideal.exp_bot, mul_zero, EReal.coe_zero]
  have hL := weights_pos t z
  have he := Real.exp_pos (-μ)
  simp only [hp]
  rw [coe_sum, ← Finset.mul_sum, Ideal.div_coe (mul_pos he hL).ne', ← EReal.coe_mul]
  by_cases hs : s.val ≤ t
  · rw [if_pos hs]
    congr 1
    field_simp
  · rw [if_neg hs]
    unfold term
    rw [if_neg hs, zero_div, EReal.coe_zero]

/-- Values weighted by a difference of two softmaxes: the difference of two attentions. -/
theorem weighted_real (t : ℕ) (z z' v : Fin 8192 → ℝ) (l : ℝ) :
    (∑ s, (v s : EReal) * (((term t z (fun _ => 1) s / ∑ k, term t z (fun _ => 1) k : ℝ) : EReal)
        - (l : EReal) * ((term t z' (fun _ => 1) s / ∑ k, term t z' (fun _ => 1) k : ℝ) : EReal)))
      = (attn t z v : EReal) - (l : EReal) * (attn t z' v : EReal) := by
  have h : ∀ (w : Fin 8192 → ℝ) (s : Fin 8192), v s * (term t w (fun _ => 1) s / ∑ k, term t w (fun _ => 1) k) = term t w v s / ∑ k, term t w (fun _ => 1) k := by
    intro w s
    unfold term
    by_cases hs : s.val ≤ t
    · simp only [if_pos hs]
      ring
    · simp only [if_neg hs]
      ring
  simp only [← EReal.coe_mul, ← EReal.coe_sub, coe_sum]
  refine congrArg _ ?_
  unfold attn
  rw [Finset.sum_div, Finset.sum_div, Finset.mul_sum, ← Finset.sum_sub_distrib]
  refine Finset.sum_congr rfl fun s _ => ?_
  rw [← h, ← h]
  ring

end Cert.Online
-- ==== Proof.OutPt.lean ====
/- The output block's entries, from the accumulators. -/
module

public import proofs.«01_k».proof.Proof.Out
public import proofs.«01_k».proof.Proof.Spec
public import Idealize.ShloMosaic.Lib.Pointwise
public import Idealize.ShloMosaic.Lib.Pipeline.ValueKit

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts
open Cert.Online

/-- The weight word is the difference's weight. -/
theorem lam_at (x3 x4 x5 x6 : Vec Ideal S1x64 .f32) :
    k0_pay780 (F := Ideal) (k0_pay778 (F := Ideal) x3 x4) (k0_pay779 (F := Ideal) x5 x6) (ix2 (0 : Fin 1) (0 : Fin 1))
      = lam (fun e => x3 (ix2 0 e)) (fun e => x4 (ix2 0 e)) (fun e => x5 (ix2 0 e)) (fun e => x6 (ix2 0 e)) := by
  unfold lam
  pointwise [k0_pay780, k0_pay778, k0_pay779]

/-- An accumulator divided by its weights' sum. -/
theorem nrm_at (A : FVec Ideal S144x2048 .f32) (d : Fin 128) (n : Fin 2048) :
    k0_pay781 (F := Ideal) A (ix2 d n) = A (ix2 ⟨d.val, by omega⟩ n) * Ideal.div 1 (A (ix2 ⟨128, by decide⟩ n)) := by
  pointwise [k0_pay781]

/-- Head `hd`'s difference of the two normalised accumulators, at row `d` and lane `t`. -/
def diffO (L : EReal) (A : FVec Ideal S144x2048 .f32) (hd : Fin 2) (t : Fin 512) (d : Fin 128) : EReal :=
  A (ix2 ⟨d.val, by omega⟩ ⟨1024 * hd.val + t.val, by omega⟩) * Ideal.div 1 (A (ix2 ⟨128, by decide⟩ ⟨1024 * hd.val + t.val, by omega⟩))
    - L * (A (ix2 ⟨d.val, by omega⟩ ⟨1024 * hd.val + 512 + t.val, by omega⟩) * Ideal.div 1 (A (ix2 ⟨128, by decide⟩ ⟨1024 * hd.val + 512 + t.val, by omega⟩)))

/-- The first head's rows of the output. -/
theorem rowsA_at (v491 : FVec Ideal S1x1 .f32) (v494 : FVec Ideal S1x64 .f32) (A : FVec Ideal S144x2048 .f32) (x7 : Vec Ideal S128x1 .f32)
    (d : Fin 128) (t : Fin 512) :
    k0_pay782 (F := Ideal) v491 v494 A x7 (ix2 d t)
      = normed (diffO (k0_pay780 (F := Ideal) v491 v494 (ix2 (0 : Fin 1) (0 : Fin 1))) A 0 t) (x7 (ix2 d 0)) d := by
  unfold normed diffO
  simp only [← nrm_at]
  generalize hP : k0_pay781 (F := Ideal) A = P
  generalize hL : k0_pay780 (F := Ideal) v491 v494 = L
  unfold k0_pay782
  rw [hP, hL]
  pointwise []

/-- The second head's rows of the output. -/
theorem rowsB_at (v491 : FVec Ideal S1x1 .f32) (v494 : FVec Ideal S1x64 .f32) (A : FVec Ideal S144x2048 .f32) (x7 : Vec Ideal S128x1 .f32)
    (d : Fin 128) (t : Fin 512) :
    k0_pay1 (F := Ideal) (k0_pay783 (F := Ideal) v491 v494 A) (k0_pay784 (F := Ideal) v491 v494 A) (k0_pay785 (F := Ideal)) x7 (ix2 d t)
      = normed (diffO (k0_pay780 (F := Ideal) v491 v494 (ix2 (0 : Fin 1) (0 : Fin 1))) A 1 t) (x7 (ix2 d 0)) d := by
  unfold normed diffO
  simp only [← nrm_at]
  generalize hP : k0_pay781 (F := Ideal) A = P
  generalize hL : k0_pay780 (F := Ideal) v491 v494 = L
  unfold k0_pay1 k0_pay784 k0_pay783 k0_pay785
  rw [hP, hL]
  pointwise []

end Cert.KernelIdeal.Gen.Diff
-- ==== Proof.Point.lean ====
/- The tile step of the sweep read at one query column, and its operands read at an index. -/
module

public import proofs.«01_k».proof.Proof.Diag
public import Idealize.ShloMosaic.Lib.Pointwise

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

/-- The word of minus infinity is `⊥`. -/
theorem ninf : Ideal.ofBits .f32 0xFF800000#32 = ⊥ := by
  rfl

/-- The running maximum of a chain at one column. -/
theorem chainM_at (m : FVec Ideal S1x256 .f32) (s : FVec Ideal S512x256 .f32) (x : Fin 256) :
    chainM m s (ix2 (0 : Fin 1) x) = max (m (ix2 (0 : Fin 1) x)) (Finset.univ.fold max ⊥ fun y : Fin 512 => s (ix2 y x)) := by
  pointwise [chainM, ninf]

/-- The accumulator of a chain at one row and column. -/
theorem chainA_at (vt : FVec Ideal S144x512 .bf16) (a : FVec Ideal S144x256 .f32) (m : FVec Ideal S1x256 .f32)
    (s : FVec Ideal S512x256 .f32) (d : Fin 144) (x : Fin 256) :
    chainA vt a m s (ix2 d x) = a (ix2 d x) * Ideal.exp2 (m (ix2 (0 : Fin 1) x) - chainM m s (ix2 (0 : Fin 1) x))
      + ∑ y : Fin 512, vt (ix2 d y) * Ideal.exp2 (s (ix2 y x) - chainM m s (ix2 (0 : Fin 1) x)) := by
  pointwise [chainA]
  rfl

/-- The column of chain `c` at its lane `x`. -/
def cx (c : Fin 8) (x : Fin 256) : Fin 2048 := ⟨256 * c.val + x.val, by omega⟩

theorem tileM_at0 (m : FVec Ideal S1x2048 .f32) (s : Fin 8 → FVec Ideal S512x256 .f32) (x : Fin 256) :
    tileM m (s 0) (s 1) (s 2) (s 3) (s 4) (s 5) (s 6) (s 7) (ix2 (0 : Fin 1) ⟨256 * 0 + x.val, by omega⟩)
      = max (m (ix2 (0 : Fin 1) ⟨256 * 0 + x.val, by omega⟩)) (Finset.univ.fold max ⊥ fun y : Fin 512 => s 0 (ix2 y x)) := by
  pointwise [tileM]
  rw [chainM_at]
  pointwise

theorem tileM_at1 (m : FVec Ideal S1x2048 .f32) (s : Fin 8 → FVec Ideal S512x256 .f32) (x : Fin 256) :
    tileM m (s 0) (s 1) (s 2) (s 3) (s 4) (s 5) (s 6) (s 7) (ix2 (0 : Fin 1) ⟨256 * 1 + x.val, by omega⟩)
      = max (m (ix2 (0 : Fin 1) ⟨256 * 1 + x.val, by omega⟩)) (Finset.univ.fold max ⊥ fun y : Fin 512 => s 1 (ix2 y x)) := by
  pointwise [tileM]
  rw [chainM_at]
  pointwise

theorem tileM_at2 (m : FVec Ideal S1x2048 .f32) (s : Fin 8 → FVec Ideal S512x256 .f32) (x : Fin 256) :
    tileM m (s 0) (s 1) (s 2) (s 3) (s 4) (s 5) (s 6) (s 7) (ix2 (0 : Fin 1) ⟨256 * 2 + x.val, by omega⟩)
      = max (m (ix2 (0 : Fin 1) ⟨256 * 2 + x.val, by omega⟩)) (Finset.univ.fold max ⊥ fun y : Fin 512 => s 2 (ix2 y x)) := by
  pointwise [tileM]
  rw [dif_neg (by omega)]
  rw [dif_neg (by omega)]
  rw [dif_pos (by omega)]
  have e : ∀ h, (⟨256 * 2 + x.val - 256 - 256, h⟩ : Fin 256) = x := fun h => Fin.ext (by show 256 * 2 + x.val - 256 - 256 = x.val; omega)
  refine (congrArg (fun w => chainM (extractStridedSlice S1x256 ![0, 512] m slices_S1x2048_o0_512_S1x256) (s 2) (ix2 (0 : Fin 1) w)) (e (by omega))).trans ?_
  rw [chainM_at]
  pointwise

theorem tileM_at3 (m : FVec Ideal S1x2048 .f32) (s : Fin 8 → FVec Ideal S512x256 .f32) (x : Fin 256) :
    tileM m (s 0) (s 1) (s 2) (s 3) (s 4) (s 5) (s 6) (s 7) (ix2 (0 : Fin 1) ⟨256 * 3 + x.val, by omega⟩)
      = max (m (ix2 (0 : Fin 1) ⟨256 * 3 + x.val, by omega⟩)) (Finset.univ.fold max ⊥ fun y : Fin 512 => s 3 (ix2 y x)) := by
  pointwise [tileM]
  rw [dif_neg (by omega)]
  rw [dif_neg (by omega)]
  rw [dif_neg (by omega)]
  rw [dif_pos (by omega)]
  have e : ∀ h, (⟨256 * 3 + x.val - 256 - 256 - 256, h⟩ : Fin 256) = x := fun h => Fin.ext (by show 256 * 3 + x.val - 256 - 256 - 256 = x.val; omega)
  refine (congrArg (fun w => chainM (extractStridedSlice S1x256 ![0, 768] m slices_S1x2048_o0_768_S1x256) (s 3) (ix2 (0 : Fin 1) w)) (e (by omega))).trans ?_
  rw [chainM_at]
  pointwise

theorem tileM_at4 (m : FVec Ideal S1x2048 .f32) (s : Fin 8 → FVec Ideal S512x256 .f32) (x : Fin 256) :
    tileM m (s 0) (s 1) (s 2) (s 3) (s 4) (s 5) (s 6) (s 7) (ix2 (0 : Fin 1) ⟨256 * 4 + x.val, by omega⟩)
      = max (m (ix2 (0 : Fin 1) ⟨256 * 4 + x.val, by omega⟩)) (Finset.univ.fold max ⊥ fun y : Fin 512 => s 4 (ix2 y x)) := by
  pointwise [tileM]
  rw [dif_neg (by omega)]
  rw [dif_neg (by omega)]
  rw [dif_neg (by omega)]
  rw [dif_neg (by omega)]
  rw [dif_pos (by omega)]
  have e : ∀ h, (⟨256 * 4 + x.val - 256 - 256 - 256 - 256, h⟩ : Fin 256) = x := fun h => Fin.ext (by show 256 * 4 + x.val - 256 - 256 - 256 - 256 = x.val; omega)
  refine (congrArg (fun w => chainM (extractStridedSlice S1x256 ![0, 1024] m slices_S1x2048_o0_1024_S1x256) (s 4) (ix2 (0 : Fin 1) w)) (e (by omega))).trans ?_
  rw [chainM_at]
  pointwise

theorem tileM_at5 (m : FVec Ideal S1x2048 .f32) (s : Fin 8 → FVec Ideal S512x256 .f32) (x : Fin 256) :
    tileM m (s 0) (s 1) (s 2) (s 3) (s 4) (s 5) (s 6) (s 7) (ix2 (0 : Fin 1) ⟨256 * 5 + x.val, by omega⟩)
      = max (m (ix2 (0 : Fin 1) ⟨256 * 5 + x.val, by omega⟩)) (Finset.univ.fold max ⊥ fun y : Fin 512 => s 5 (ix2 y x)) := by
  pointwise [tileM]
  rw [dif_neg (by omega)]
  rw [dif_neg (by omega)]
  rw [dif_neg (by omega)]
  rw [dif_neg (by omega)]
  rw [dif_neg (by omega)]
  rw [dif_pos (by omega)]
  have e : ∀ h, (⟨256 * 5 + x.val - 256 - 256 - 256 - 256 - 256, h⟩ : Fin 256) = x := fun h => Fin.ext (by show 256 * 5 + x.val - 256 - 256 - 256 - 256 - 256 = x.val; omega)
  refine (congrArg (fun w => chainM (extractStridedSlice S1x256 ![0, 1280] m slices_S1x2048_o0_1280_S1x256) (s 5) (ix2 (0 : Fin 1) w)) (e (by omega))).trans ?_
  rw [chainM_at]
  pointwise

theorem tileM_at6 (m : FVec Ideal S1x2048 .f32) (s : Fin 8 → FVec Ideal S512x256 .f32) (x : Fin 256) :
    tileM m (s 0) (s 1) (s 2) (s 3) (s 4) (s 5) (s 6) (s 7) (ix2 (0 : Fin 1) ⟨256 * 6 + x.val, by omega⟩)
      = max (m (ix2 (0 : Fin 1) ⟨256 * 6 + x.val, by omega⟩)) (Finset.univ.fold max ⊥ fun y : Fin 512 => s 6 (ix2 y x)) := by
  pointwise [tileM]
  rw [dif_neg (by omega)]
  rw [dif_neg (by omega)]
  rw [dif_neg (by omega)]
  rw [dif_neg (by omega)]
  rw [dif_neg (by omega)]
  rw [dif_neg (by omega)]
  rw [dif_pos (by omega)]
  have e : ∀ h, (⟨256 * 6 + x.val - 256 - 256 - 256 - 256 - 256 - 256, h⟩ : Fin 256) = x := fun h => Fin.ext (by show 256 * 6 + x.val - 256 - 256 - 256 - 256 - 256 - 256 = x.val; omega)
  refine (congrArg (fun w => chainM (extractStridedSlice S1x256 ![0, 1536] m slices_S1x2048_o0_1536_S1x256) (s 6) (ix2 (0 : Fin 1) w)) (e (by omega))).trans ?_
  rw [chainM_at]
  pointwise

theorem tileM_at7 (m : FVec Ideal S1x2048 .f32) (s : Fin 8 → FVec Ideal S512x256 .f32) (x : Fin 256) :
    tileM m (s 0) (s 1) (s 2) (s 3) (s 4) (s 5) (s 6) (s 7) (ix2 (0 : Fin 1) ⟨256 * 7 + x.val, by omega⟩)
      = max (m (ix2 (0 : Fin 1) ⟨256 * 7 + x.val, by omega⟩)) (Finset.univ.fold max ⊥ fun y : Fin 512 => s 7 (ix2 y x)) := by
  pointwise [tileM]
  rw [dif_neg (by omega)]
  rw [dif_neg (by omega)]
  rw [dif_neg (by omega)]
  rw [dif_neg (by omega)]
  rw [dif_neg (by omega)]
  rw [dif_neg (by omega)]
  rw [dif_neg (by omega)]
  have e : ∀ h, (⟨256 * 7 + x.val - 256 - 256 - 256 - 256 - 256 - 256 - 256, h⟩ : Fin 256) = x := fun h => Fin.ext (by show 256 * 7 + x.val - 256 - 256 - 256 - 256 - 256 - 256 - 256 = x.val; omega)
  refine (congrArg (fun w => chainM (extractStridedSlice S1x256 ![0, 1792] m slices_S1x2048_o0_1792_S1x256) (s 7) (ix2 (0 : Fin 1) w)) (e (by omega))).trans ?_
  rw [chainM_at]
  pointwise

/-- The running maxima after a tile, at one column. -/
theorem tileM_at (m : FVec Ideal S1x2048 .f32) (s : Fin 8 → FVec Ideal S512x256 .f32) (c : Fin 8) (x : Fin 256) :
    tileM m (s 0) (s 1) (s 2) (s 3) (s 4) (s 5) (s 6) (s 7) (ix2 (0 : Fin 1) (cx c x))
      = max (m (ix2 (0 : Fin 1) (cx c x))) (Finset.univ.fold max ⊥ fun y : Fin 512 => s c (ix2 y x)) := by
  fin_cases c
  · exact tileM_at0 m s x
  · exact tileM_at1 m s x
  · exact tileM_at2 m s x
  · exact tileM_at3 m s x
  · exact tileM_at4 m s x
  · exact tileM_at5 m s x
  · exact tileM_at6 m s x
  · exact tileM_at7 m s x

theorem tileA_at0 (va vb : FVec Ideal S144x512 .bf16) (a : FVec Ideal S144x2048 .f32) (m : FVec Ideal S1x2048 .f32)
    (s : Fin 8 → FVec Ideal S512x256 .f32) (d : Fin 144) (x : Fin 256) :
    tileA va vb a m (s 0) (s 1) (s 2) (s 3) (s 4) (s 5) (s 6) (s 7) (ix2 d ⟨256 * 0 + x.val, by omega⟩)
      = a (ix2 d ⟨256 * 0 + x.val, by omega⟩) * Ideal.exp2 (m (ix2 (0 : Fin 1) ⟨256 * 0 + x.val, by omega⟩) - max (m (ix2 (0 : Fin 1) ⟨256 * 0 + x.val, by omega⟩)) (Finset.univ.fold max ⊥ fun y : Fin 512 => s 0 (ix2 y x)))
        + ∑ y : Fin 512, va (ix2 d y) * Ideal.exp2 (s 0 (ix2 y x) - max (m (ix2 (0 : Fin 1) ⟨256 * 0 + x.val, by omega⟩)) (Finset.univ.fold max ⊥ fun y : Fin 512 => s 0 (ix2 y x))) := by
  pointwise [tileA]
  rw [chainA_at, chainM_at]
  pointwise

theorem tileA_at1 (va vb : FVec Ideal S144x512 .bf16) (a : FVec Ideal S144x2048 .f32) (m : FVec Ideal S1x2048 .f32)
    (s : Fin 8 → FVec Ideal S512x256 .f32) (d : Fin 144) (x : Fin 256) :
    tileA va vb a m (s 0) (s 1) (s 2) (s 3) (s 4) (s 5) (s 6) (s 7) (ix2 d ⟨256 * 1 + x.val, by omega⟩)
      = a (ix2 d ⟨256 * 1 + x.val, by omega⟩) * Ideal.exp2 (m (ix2 (0 : Fin 1) ⟨256 * 1 + x.val, by omega⟩) - max (m (ix2 (0 : Fin 1) ⟨256 * 1 + x.val, by omega⟩)) (Finset.univ.fold max ⊥ fun y : Fin 512 => s 1 (ix2 y x)))
        + ∑ y : Fin 512, va (ix2 d y) * Ideal.exp2 (s 1 (ix2 y x) - max (m (ix2 (0 : Fin 1) ⟨256 * 1 + x.val, by omega⟩)) (Finset.univ.fold max ⊥ fun y : Fin 512 => s 1 (ix2 y x))) := by
  pointwise [tileA]
  rw [chainA_at, chainM_at]
  pointwise

theorem tileA_at2 (va vb : FVec Ideal S144x512 .bf16) (a : FVec Ideal S144x2048 .f32) (m : FVec Ideal S1x2048 .f32)
    (s : Fin 8 → FVec Ideal S512x256 .f32) (d : Fin 144) (x : Fin 256) :
    tileA va vb a m (s 0) (s 1) (s 2) (s 3) (s 4) (s 5) (s 6) (s 7) (ix2 d ⟨256 * 2 + x.val, by omega⟩)
      = a (ix2 d ⟨256 * 2 + x.val, by omega⟩) * Ideal.exp2 (m (ix2 (0 : Fin 1) ⟨256 * 2 + x.val, by omega⟩) - max (m (ix2 (0 : Fin 1) ⟨256 * 2 + x.val, by omega⟩)) (Finset.univ.fold max ⊥ fun y : Fin 512 => s 2 (ix2 y x)))
        + ∑ y : Fin 512, va (ix2 d y) * Ideal.exp2 (s 2 (ix2 y x) - max (m (ix2 (0 : Fin 1) ⟨256 * 2 + x.val, by omega⟩)) (Finset.univ.fold max ⊥ fun y : Fin 512 => s 2 (ix2 y x))) := by
  pointwise [tileA]
  rw [dif_neg (by omega)]
  rw [dif_neg (by omega)]
  rw [dif_pos (by omega)]
  have e : ∀ h, (⟨256 * 2 + x.val - 256 - 256, h⟩ : Fin 256) = x := fun h => Fin.ext (by show 256 * 2 + x.val - 256 - 256 = x.val; omega)
  refine (congrArg (fun w => chainA va (extractStridedSlice S144x256 ![0, 512] a slices_S144x2048_o0_512_S144x256) (extractStridedSlice S1x256 ![0, 512] m slices_S1x2048_o0_512_S1x256) (s 2) (ix2 d w)) (e (by omega))).trans ?_
  rw [chainA_at, chainM_at]
  pointwise

theorem tileA_at3 (va vb : FVec Ideal S144x512 .bf16) (a : FVec Ideal S144x2048 .f32) (m : FVec Ideal S1x2048 .f32)
    (s : Fin 8 → FVec Ideal S512x256 .f32) (d : Fin 144) (x : Fin 256) :
    tileA va vb a m (s 0) (s 1) (s 2) (s 3) (s 4) (s 5) (s 6) (s 7) (ix2 d ⟨256 * 3 + x.val, by omega⟩)
      = a (ix2 d ⟨256 * 3 + x.val, by omega⟩) * Ideal.exp2 (m (ix2 (0 : Fin 1) ⟨256 * 3 + x.val, by omega⟩) - max (m (ix2 (0 : Fin 1) ⟨256 * 3 + x.val, by omega⟩)) (Finset.univ.fold max ⊥ fun y : Fin 512 => s 3 (ix2 y x)))
        + ∑ y : Fin 512, va (ix2 d y) * Ideal.exp2 (s 3 (ix2 y x) - max (m (ix2 (0 : Fin 1) ⟨256 * 3 + x.val, by omega⟩)) (Finset.univ.fold max ⊥ fun y : Fin 512 => s 3 (ix2 y x))) := by
  pointwise [tileA]
  rw [dif_neg (by omega)]
  rw [dif_neg (by omega)]
  rw [dif_neg (by omega)]
  rw [dif_pos (by omega)]
  have e : ∀ h, (⟨256 * 3 + x.val - 256 - 256 - 256, h⟩ : Fin 256) = x := fun h => Fin.ext (by show 256 * 3 + x.val - 256 - 256 - 256 = x.val; omega)
  refine (congrArg (fun w => chainA va (extractStridedSlice S144x256 ![0, 768] a slices_S144x2048_o0_768_S144x256) (extractStridedSlice S1x256 ![0, 768] m slices_S1x2048_o0_768_S1x256) (s 3) (ix2 d w)) (e (by omega))).trans ?_
  rw [chainA_at, chainM_at]
  pointwise

theorem tileA_at4 (va vb : FVec Ideal S144x512 .bf16) (a : FVec Ideal S144x2048 .f32) (m : FVec Ideal S1x2048 .f32)
    (s : Fin 8 → FVec Ideal S512x256 .f32) (d : Fin 144) (x : Fin 256) :
    tileA va vb a m (s 0) (s 1) (s 2) (s 3) (s 4) (s 5) (s 6) (s 7) (ix2 d ⟨256 * 4 + x.val, by omega⟩)
      = a (ix2 d ⟨256 * 4 + x.val, by omega⟩) * Ideal.exp2 (m (ix2 (0 : Fin 1) ⟨256 * 4 + x.val, by omega⟩) - max (m (ix2 (0 : Fin 1) ⟨256 * 4 + x.val, by omega⟩)) (Finset.univ.fold max ⊥ fun y : Fin 512 => s 4 (ix2 y x)))
        + ∑ y : Fin 512, vb (ix2 d y) * Ideal.exp2 (s 4 (ix2 y x) - max (m (ix2 (0 : Fin 1) ⟨256 * 4 + x.val, by omega⟩)) (Finset.univ.fold max ⊥ fun y : Fin 512 => s 4 (ix2 y x))) := by
  pointwise [tileA]
  rw [dif_neg (by omega)]
  rw [dif_neg (by omega)]
  rw [dif_neg (by omega)]
  rw [dif_neg (by omega)]
  rw [dif_pos (by omega)]
  have e : ∀ h, (⟨256 * 4 + x.val - 256 - 256 - 256 - 256, h⟩ : Fin 256) = x := fun h => Fin.ext (by show 256 * 4 + x.val - 256 - 256 - 256 - 256 = x.val; omega)
  refine (congrArg (fun w => chainA vb (extractStridedSlice S144x256 ![0, 1024] a slices_S144x2048_o0_1024_S144x256) (extractStridedSlice S1x256 ![0, 1024] m slices_S1x2048_o0_1024_S1x256) (s 4) (ix2 d w)) (e (by omega))).trans ?_
  rw [chainA_at, chainM_at]
  pointwise

theorem tileA_at5 (va vb : FVec Ideal S144x512 .bf16) (a : FVec Ideal S144x2048 .f32) (m : FVec Ideal S1x2048 .f32)
    (s : Fin 8 → FVec Ideal S512x256 .f32) (d : Fin 144) (x : Fin 256) :
    tileA va vb a m (s 0) (s 1) (s 2) (s 3) (s 4) (s 5) (s 6) (s 7) (ix2 d ⟨256 * 5 + x.val, by omega⟩)
      = a (ix2 d ⟨256 * 5 + x.val, by omega⟩) * Ideal.exp2 (m (ix2 (0 : Fin 1) ⟨256 * 5 + x.val, by omega⟩) - max (m (ix2 (0 : Fin 1) ⟨256 * 5 + x.val, by omega⟩)) (Finset.univ.fold max ⊥ fun y : Fin 512 => s 5 (ix2 y x)))
        + ∑ y : Fin 512, vb (ix2 d y) * Ideal.exp2 (s 5 (ix2 y x) - max (m (ix2 (0 : Fin 1) ⟨256 * 5 + x.val, by omega⟩)) (Finset.univ.fold max ⊥ fun y : Fin 512 => s 5 (ix2 y x))) := by
  pointwise [tileA]
  rw [dif_neg (by omega)]
  rw [dif_neg (by omega)]
  rw [dif_neg (by omega)]
  rw [dif_neg (by omega)]
  rw [dif_neg (by omega)]
  rw [dif_pos (by omega)]
  have e : ∀ h, (⟨256 * 5 + x.val - 256 - 256 - 256 - 256 - 256, h⟩ : Fin 256) = x := fun h => Fin.ext (by show 256 * 5 + x.val - 256 - 256 - 256 - 256 - 256 = x.val; omega)
  refine (congrArg (fun w => chainA vb (extractStridedSlice S144x256 ![0, 1280] a slices_S144x2048_o0_1280_S144x256) (extractStridedSlice S1x256 ![0, 1280] m slices_S1x2048_o0_1280_S1x256) (s 5) (ix2 d w)) (e (by omega))).trans ?_
  rw [chainA_at, chainM_at]
  pointwise

theorem tileA_at6 (va vb : FVec Ideal S144x512 .bf16) (a : FVec Ideal S144x2048 .f32) (m : FVec Ideal S1x2048 .f32)
    (s : Fin 8 → FVec Ideal S512x256 .f32) (d : Fin 144) (x : Fin 256) :
    tileA va vb a m (s 0) (s 1) (s 2) (s 3) (s 4) (s 5) (s 6) (s 7) (ix2 d ⟨256 * 6 + x.val, by omega⟩)
      = a (ix2 d ⟨256 * 6 + x.val, by omega⟩) * Ideal.exp2 (m (ix2 (0 : Fin 1) ⟨256 * 6 + x.val, by omega⟩) - max (m (ix2 (0 : Fin 1) ⟨256 * 6 + x.val, by omega⟩)) (Finset.univ.fold max ⊥ fun y : Fin 512 => s 6 (ix2 y x)))
        + ∑ y : Fin 512, vb (ix2 d y) * Ideal.exp2 (s 6 (ix2 y x) - max (m (ix2 (0 : Fin 1) ⟨256 * 6 + x.val, by omega⟩)) (Finset.univ.fold max ⊥ fun y : Fin 512 => s 6 (ix2 y x))) := by
  pointwise [tileA]
  rw [dif_neg (by omega)]
  rw [dif_neg (by omega)]
  rw [dif_neg (by omega)]
  rw [dif_neg (by omega)]
  rw [dif_neg (by omega)]
  rw [dif_neg (by omega)]
  rw [dif_pos (by omega)]
  have e : ∀ h, (⟨256 * 6 + x.val - 256 - 256 - 256 - 256 - 256 - 256, h⟩ : Fin 256) = x := fun h => Fin.ext (by show 256 * 6 + x.val - 256 - 256 - 256 - 256 - 256 - 256 = x.val; omega)
  refine (congrArg (fun w => chainA vb (extractStridedSlice S144x256 ![0, 1536] a slices_S144x2048_o0_1536_S144x256) (extractStridedSlice S1x256 ![0, 1536] m slices_S1x2048_o0_1536_S1x256) (s 6) (ix2 d w)) (e (by omega))).trans ?_
  rw [chainA_at, chainM_at]
  pointwise

theorem tileA_at7 (va vb : FVec Ideal S144x512 .bf16) (a : FVec Ideal S144x2048 .f32) (m : FVec Ideal S1x2048 .f32)
    (s : Fin 8 → FVec Ideal S512x256 .f32) (d : Fin 144) (x : Fin 256) :
    tileA va vb a m (s 0) (s 1) (s 2) (s 3) (s 4) (s 5) (s 6) (s 7) (ix2 d ⟨256 * 7 + x.val, by omega⟩)
      = a (ix2 d ⟨256 * 7 + x.val, by omega⟩) * Ideal.exp2 (m (ix2 (0 : Fin 1) ⟨256 * 7 + x.val, by omega⟩) - max (m (ix2 (0 : Fin 1) ⟨256 * 7 + x.val, by omega⟩)) (Finset.univ.fold max ⊥ fun y : Fin 512 => s 7 (ix2 y x)))
        + ∑ y : Fin 512, vb (ix2 d y) * Ideal.exp2 (s 7 (ix2 y x) - max (m (ix2 (0 : Fin 1) ⟨256 * 7 + x.val, by omega⟩)) (Finset.univ.fold max ⊥ fun y : Fin 512 => s 7 (ix2 y x))) := by
  pointwise [tileA]
  rw [dif_neg (by omega)]
  rw [dif_neg (by omega)]
  rw [dif_neg (by omega)]
  rw [dif_neg (by omega)]
  rw [dif_neg (by omega)]
  rw [dif_neg (by omega)]
  rw [dif_neg (by omega)]
  have e : ∀ h, (⟨256 * 7 + x.val - 256 - 256 - 256 - 256 - 256 - 256 - 256, h⟩ : Fin 256) = x := fun h => Fin.ext (by show 256 * 7 + x.val - 256 - 256 - 256 - 256 - 256 - 256 - 256 = x.val; omega)
  refine (congrArg (fun w => chainA vb (extractStridedSlice S144x256 ![0, 1792] a slices_S144x2048_o0_1792_S144x256) (extractStridedSlice S1x256 ![0, 1792] m slices_S1x2048_o0_1792_S1x256) (s 7) (ix2 d w)) (e (by omega))).trans ?_
  rw [chainA_at, chainM_at]
  pointwise

/-- The accumulators after a tile, at one row and column. -/
theorem tileA_at (va vb : FVec Ideal S144x512 .bf16) (a : FVec Ideal S144x2048 .f32) (m : FVec Ideal S1x2048 .f32)
    (s : Fin 8 → FVec Ideal S512x256 .f32) (d : Fin 144) (c : Fin 8) (x : Fin 256) :
    tileA va vb a m (s 0) (s 1) (s 2) (s 3) (s 4) (s 5) (s 6) (s 7) (ix2 d (cx c x))
      = a (ix2 d (cx c x)) * Ideal.exp2 (m (ix2 (0 : Fin 1) (cx c x)) - max (m (ix2 (0 : Fin 1) (cx c x))) (Finset.univ.fold max ⊥ fun y : Fin 512 => s c (ix2 y x)))
        + ∑ y : Fin 512, (if c.val < 4 then va else vb) (ix2 d y) * Ideal.exp2 (s c (ix2 y x) - max (m (ix2 (0 : Fin 1) (cx c x))) (Finset.univ.fold max ⊥ fun y : Fin 512 => s c (ix2 y x))) := by
  fin_cases c
  · exact tileA_at0 va vb a m s d x
  · exact tileA_at1 va vb a m s d x
  · exact tileA_at2 va vb a m s d x
  · exact tileA_at3 va vb a m s d x
  · exact tileA_at4 va vb a m s d x
  · exact tileA_at5 va vb a m s d x
  · exact tileA_at6 va vb a m s d x
  · exact tileA_at7 va vb a m s d x

end Cert.KernelIdeal.Gen.Diff
-- ==== Proof.Scores.lean ====
/- The operands of the tile step read at an index: the queries' columns, the scores, the values and the mask. -/
module

public import proofs.«01_k».proof.Proof.Diag
public import Idealize.ShloMosaic.Lib.Pointwise
public import Idealize.ShloMosaic.Lib.WordCmp

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

/-- A sum of 128 products whose upper half of factors is zero. -/
theorem half_lo (f g : Fin 128 → EReal) (h : ∀ e : Fin 64, g ⟨64 + e.val, by omega⟩ = 0) :
    ∑ k, f k * g k = ∑ e : Fin 64, f ⟨e.val, by omega⟩ * g ⟨e.val, by omega⟩ := by
  rw [show (∑ k, f k * g k) = (∑ e : Fin 64, f ⟨e.val, by omega⟩ * g ⟨e.val, by omega⟩)
      + ∑ e : Fin 64, f ⟨64 + e.val, by omega⟩ * g ⟨64 + e.val, by omega⟩ from Fin.sum_univ_add (a := 64) (b := 64) (fun k => f k * g k)]
  rw [show (∑ e : Fin 64, f ⟨64 + e.val, by omega⟩ * g ⟨64 + e.val, by omega⟩) = 0 from
    Finset.sum_eq_zero fun e _ => by rw [h, mul_zero], add_zero]

/-- A sum of 128 products whose lower half of factors is zero. -/
theorem half_hi (f g : Fin 128 → EReal) (h : ∀ e : Fin 64, g ⟨e.val, by omega⟩ = 0) :
    ∑ k, f k * g k = ∑ e : Fin 64, f ⟨64 + e.val, by omega⟩ * g ⟨64 + e.val, by omega⟩ := by
  rw [show (∑ k, f k * g k) = (∑ e : Fin 64, f ⟨e.val, by omega⟩ * g ⟨e.val, by omega⟩)
      + ∑ e : Fin 64, f ⟨64 + e.val, by omega⟩ * g ⟨64 + e.val, by omega⟩ from Fin.sum_univ_add (a := 64) (b := 64) (fun k => f k * g k)]
  rw [show (∑ e : Fin 64, f ⟨e.val, by omega⟩ * g ⟨e.val, by omega⟩) = 0 from
    Finset.sum_eq_zero fun e _ => by rw [h, mul_zero], zero_add]

/-- The query columns of head 0 of the pair: columns below 512 hold the first component over zeros, the others zeros over
    the second. -/
theorem qa_at (x0 : FVec Ideal S256x512 .bf16) (k : Fin 128) (u : Fin 1024) :
    qa x0 (ix2 k u) = if u.val < 512 then (if k.val < 64 then x0 (ix2 ⟨k.val, by omega⟩ ⟨u.val % 512, by omega⟩) else 0)
      else (if k.val < 64 then 0 else x0 (ix2 ⟨k.val, by omega⟩ ⟨u.val % 512, by omega⟩)) := by
  pointwise [qa, k0_pay670, k0_pay669]
  by_cases hu : u.val < 512 <;> by_cases hk : k.val < 64
  · rw [dif_pos hu, dif_pos hk, if_pos hu, if_pos hk]
    exact congrArg x0 ((ix2_inj ..).2 ⟨Fin.ext (by show _ = _; simp), Fin.ext (by show u.val = u.val % 512; omega)⟩)
  · rw [dif_pos hu, dif_neg hk, if_pos hu, if_neg hk]
  · rw [dif_neg hu, dif_pos hk, if_neg hu, if_pos hk]
  · rw [dif_neg hu, dif_neg hk, if_neg hu, if_neg hk]
    exact congrArg x0 ((ix2_inj ..).2 ⟨Fin.ext (by simp; omega), Fin.ext (by show u.val - 512 = u.val % 512; omega)⟩)

/-- The query columns of head 1 of the pair: columns below 512 hold the first component over zeros, the others zeros over
    the second. -/
theorem qb_at (x0 : FVec Ideal S256x512 .bf16) (k : Fin 128) (u : Fin 1024) :
    qb x0 (ix2 k u) = if u.val < 512 then (if k.val < 64 then x0 (ix2 ⟨128 + k.val, by omega⟩ ⟨u.val % 512, by omega⟩) else 0)
      else (if k.val < 64 then 0 else x0 (ix2 ⟨128 + k.val, by omega⟩ ⟨u.val % 512, by omega⟩)) := by
  pointwise [qb, k0_pay671, k0_pay669]
  by_cases hu : u.val < 512 <;> by_cases hk : k.val < 64
  · rw [dif_pos hu, dif_pos hk, if_pos hu, if_pos hk]
    exact congrArg x0 ((ix2_inj ..).2 ⟨Fin.ext (by show _ = _; simp), Fin.ext (by show u.val = u.val % 512; omega)⟩)
  · rw [dif_pos hu, dif_neg hk, if_pos hu, if_neg hk]
  · rw [dif_neg hu, dif_pos hk, if_neg hu, if_pos hk]
  · rw [dif_neg hu, dif_neg hk, if_neg hu, if_neg hk]
    exact congrArg x0 ((ix2_inj ..).2 ⟨Fin.ext (by simp; omega), Fin.ext (by show u.val - 512 = u.val % 512; omega)⟩)

theorem score0_at (K : FVec Ideal S512x128 .bf16) (q : FVec Ideal S128x1024 .bf16) (y : Fin 512) (x : Fin 256) :
    score0 K q (ix2 y x) = ∑ k : Fin 128, K (ix2 y k) * q (ix2 k ⟨x.val, by omega⟩) := by
  pointwise [score0]

theorem score1_at (K : FVec Ideal S512x128 .bf16) (q : FVec Ideal S128x1024 .bf16) (y : Fin 512) (x : Fin 256) :
    score1 K q (ix2 y x) = ∑ k : Fin 128, K (ix2 y k) * q (ix2 k ⟨256 + x.val, by omega⟩) := by
  pointwise [score1]

theorem score2_at (K : FVec Ideal S512x128 .bf16) (q : FVec Ideal S128x1024 .bf16) (y : Fin 512) (x : Fin 256) :
    score2 K q (ix2 y x) = ∑ k : Fin 128, K (ix2 y k) * q (ix2 k ⟨512 + x.val, by omega⟩) := by
  pointwise [score2]

theorem score3_at (K : FVec Ideal S512x128 .bf16) (q : FVec Ideal S128x1024 .bf16) (y : Fin 512) (x : Fin 256) :
    score3 K q (ix2 y x) = ∑ k : Fin 128, K (ix2 y k) * q (ix2 k ⟨768 + x.val, by omega⟩) := by
  pointwise [score3]

/-- The score of key `y` of tile `j` in chain `c` at lane `x`: the product over the 64 coordinates of the chain's head and
    component. -/
theorem scT_at (x0 : FVec Ideal S256x512 .bf16) (x1 : FVec Ideal S8192x256 .bf16) (j : ℕ) (c : Fin 8) (y : Fin 512) (x : Fin 256) :
    scT x1 (qa x0) (qb x0) j c (ix2 y x)
      = ∑ e : Fin 64, x1 (ix2 ⟨(512 * j + y.val) % 8192, Nat.mod_lt _ (by decide)⟩ ⟨64 * (c.val / 2) + e.val, by omega⟩)
          * x0 (ix2 ⟨64 * (c.val / 2) + e.val, by omega⟩ ⟨256 * (c.val % 2) + x.val, by omega⟩) := by
  fin_cases c
  · show score0 (Kt x1 j 0) (qa x0) (ix2 y x) = ∑ e : Fin 64, x1 (ix2 ⟨(512 * j + y.val) % 8192, Nat.mod_lt _ (by decide)⟩ ⟨0 + e.val, by omega⟩)
          * x0 (ix2 ⟨0 + e.val, by omega⟩ ⟨0 + x.val, by omega⟩)
    rw [score0_at, half_lo (fun k => Kt x1 j 0 (ix2 y k)) (fun k => qa x0 (ix2 k ⟨x.val, by omega⟩)) fun e => by
      show qa x0 (ix2 ⟨64 + e.val, _⟩ _) = 0
      rw [qa_at, if_pos (by show x.val < 512; omega), if_neg (by show ¬ 64 + e.val < 64; omega)]]
    refine Finset.sum_congr rfl fun e _ => ?_
    refine Ideal.mul_congr ?_ ?_
    · show x1 _ = x1 _
      exact congrArg x1 ((ix2_inj ..).2 ⟨rfl, Fin.ext (by show (128 * 0 + (e.val)) % 256 = 0 + e.val; omega)⟩)
    · rw [qa_at, if_pos (by show x.val < 512; omega), if_pos (by show e.val < 64; omega)]
      exact congrArg x0 ((ix2_inj ..).2 ⟨Fin.ext (by show e.val = 0 + e.val; omega), Fin.ext (by show (x.val) % 512 = 0 + x.val; omega)⟩)
  · show score1 (Kt x1 j 0) (qa x0) (ix2 y x) = ∑ e : Fin 64, x1 (ix2 ⟨(512 * j + y.val) % 8192, Nat.mod_lt _ (by decide)⟩ ⟨0 + e.val, by omega⟩)
          * x0 (ix2 ⟨0 + e.val, by omega⟩ ⟨256 + x.val, by omega⟩)
    rw [score1_at, half_lo (fun k => Kt x1 j 0 (ix2 y k)) (fun k => qa x0 (ix2 k ⟨256 + x.val, by omega⟩)) fun e => by
      show qa x0 (ix2 ⟨64 + e.val, _⟩ _) = 0
      rw [qa_at, if_pos (by show 256 + x.val < 512; omega), if_neg (by show ¬ 64 + e.val < 64; omega)]]
    refine Finset.sum_congr rfl fun e _ => ?_
    refine Ideal.mul_congr ?_ ?_
    · show x1 _ = x1 _
      exact congrArg x1 ((ix2_inj ..).2 ⟨rfl, Fin.ext (by show (128 * 0 + (e.val)) % 256 = 0 + e.val; omega)⟩)
    · rw [qa_at, if_pos (by show 256 + x.val < 512; omega), if_pos (by show e.val < 64; omega)]
      exact congrArg x0 ((ix2_inj ..).2 ⟨Fin.ext (by show e.val = 0 + e.val; omega), Fin.ext (by show (256 + x.val) % 512 = 256 + x.val; omega)⟩)
  · show score2 (Kt x1 j 0) (qa x0) (ix2 y x) = ∑ e : Fin 64, x1 (ix2 ⟨(512 * j + y.val) % 8192, Nat.mod_lt _ (by decide)⟩ ⟨64 + e.val, by omega⟩)
          * x0 (ix2 ⟨64 + e.val, by omega⟩ ⟨0 + x.val, by omega⟩)
    rw [score2_at, half_hi (fun k => Kt x1 j 0 (ix2 y k)) (fun k => qa x0 (ix2 k ⟨512 + x.val, by omega⟩)) fun e => by
      show qa x0 (ix2 ⟨e.val, _⟩ _) = 0
      rw [qa_at, if_neg (by show ¬ 512 + x.val < 512; omega), if_pos (by show e.val < 64; omega)]]
    refine Finset.sum_congr rfl fun e _ => ?_
    refine Ideal.mul_congr ?_ ?_
    · show x1 _ = x1 _
      exact congrArg x1 ((ix2_inj ..).2 ⟨rfl, Fin.ext (by show (128 * 0 + (64 + e.val)) % 256 = 64 + e.val; omega)⟩)
    · rw [qa_at, if_neg (by show ¬ 512 + x.val < 512; omega), if_neg (by show ¬ 64 + e.val < 64; omega)]
      exact congrArg x0 ((ix2_inj ..).2 ⟨Fin.ext (by show 64 + e.val = 64 + e.val; omega), Fin.ext (by show (512 + x.val) % 512 = 0 + x.val; omega)⟩)
  · show score3 (Kt x1 j 0) (qa x0) (ix2 y x) = ∑ e : Fin 64, x1 (ix2 ⟨(512 * j + y.val) % 8192, Nat.mod_lt _ (by decide)⟩ ⟨64 + e.val, by omega⟩)
          * x0 (ix2 ⟨64 + e.val, by omega⟩ ⟨256 + x.val, by omega⟩)
    rw [score3_at, half_hi (fun k => Kt x1 j 0 (ix2 y k)) (fun k => qa x0 (ix2 k ⟨768 + x.val, by omega⟩)) fun e => by
      show qa x0 (ix2 ⟨e.val, _⟩ _) = 0
      rw [qa_at, if_neg (by show ¬ 768 + x.val < 512; omega), if_pos (by show e.val < 64; omega)]]
    refine Finset.sum_congr rfl fun e _ => ?_
    refine Ideal.mul_congr ?_ ?_
    · show x1 _ = x1 _
      exact congrArg x1 ((ix2_inj ..).2 ⟨rfl, Fin.ext (by show (128 * 0 + (64 + e.val)) % 256 = 64 + e.val; omega)⟩)
    · rw [qa_at, if_neg (by show ¬ 768 + x.val < 512; omega), if_neg (by show ¬ 64 + e.val < 64; omega)]
      exact congrArg x0 ((ix2_inj ..).2 ⟨Fin.ext (by show 64 + e.val = 64 + e.val; omega), Fin.ext (by show (768 + x.val) % 512 = 256 + x.val; omega)⟩)
  · show score0 (Kt x1 j 1) (qb x0) (ix2 y x) = ∑ e : Fin 64, x1 (ix2 ⟨(512 * j + y.val) % 8192, Nat.mod_lt _ (by decide)⟩ ⟨128 + e.val, by omega⟩)
          * x0 (ix2 ⟨128 + e.val, by omega⟩ ⟨0 + x.val, by omega⟩)
    rw [score0_at, half_lo (fun k => Kt x1 j 1 (ix2 y k)) (fun k => qb x0 (ix2 k ⟨x.val, by omega⟩)) fun e => by
      show qb x0 (ix2 ⟨64 + e.val, _⟩ _) = 0
      rw [qb_at, if_pos (by show x.val < 512; omega), if_neg (by show ¬ 64 + e.val < 64; omega)]]
    refine Finset.sum_congr rfl fun e _ => ?_
    refine Ideal.mul_congr ?_ ?_
    · show x1 _ = x1 _
      exact congrArg x1 ((ix2_inj ..).2 ⟨rfl, Fin.ext (by show (128 * 1 + (e.val)) % 256 = 128 + e.val; omega)⟩)
    · rw [qb_at, if_pos (by show x.val < 512; omega), if_pos (by show e.val < 64; omega)]
      exact congrArg x0 ((ix2_inj ..).2 ⟨Fin.ext (by show 128 + (e.val) = 128 + e.val; omega), Fin.ext (by show (x.val) % 512 = 0 + x.val; omega)⟩)
  · show score1 (Kt x1 j 1) (qb x0) (ix2 y x) = ∑ e : Fin 64, x1 (ix2 ⟨(512 * j + y.val) % 8192, Nat.mod_lt _ (by decide)⟩ ⟨128 + e.val, by omega⟩)
          * x0 (ix2 ⟨128 + e.val, by omega⟩ ⟨256 + x.val, by omega⟩)
    rw [score1_at, half_lo (fun k => Kt x1 j 1 (ix2 y k)) (fun k => qb x0 (ix2 k ⟨256 + x.val, by omega⟩)) fun e => by
      show qb x0 (ix2 ⟨64 + e.val, _⟩ _) = 0
      rw [qb_at, if_pos (by show 256 + x.val < 512; omega), if_neg (by show ¬ 64 + e.val < 64; omega)]]
    refine Finset.sum_congr rfl fun e _ => ?_
    refine Ideal.mul_congr ?_ ?_
    · show x1 _ = x1 _
      exact congrArg x1 ((ix2_inj ..).2 ⟨rfl, Fin.ext (by show (128 * 1 + (e.val)) % 256 = 128 + e.val; omega)⟩)
    · rw [qb_at, if_pos (by show 256 + x.val < 512; omega), if_pos (by show e.val < 64; omega)]
      exact congrArg x0 ((ix2_inj ..).2 ⟨Fin.ext (by show 128 + (e.val) = 128 + e.val; omega), Fin.ext (by show (256 + x.val) % 512 = 256 + x.val; omega)⟩)
  · show score2 (Kt x1 j 1) (qb x0) (ix2 y x) = ∑ e : Fin 64, x1 (ix2 ⟨(512 * j + y.val) % 8192, Nat.mod_lt _ (by decide)⟩ ⟨192 + e.val, by omega⟩)
          * x0 (ix2 ⟨192 + e.val, by omega⟩ ⟨0 + x.val, by omega⟩)
    rw [score2_at, half_hi (fun k => Kt x1 j 1 (ix2 y k)) (fun k => qb x0 (ix2 k ⟨512 + x.val, by omega⟩)) fun e => by
      show qb x0 (ix2 ⟨e.val, _⟩ _) = 0
      rw [qb_at, if_neg (by show ¬ 512 + x.val < 512; omega), if_pos (by show e.val < 64; omega)]]
    refine Finset.sum_congr rfl fun e _ => ?_
    refine Ideal.mul_congr ?_ ?_
    · show x1 _ = x1 _
      exact congrArg x1 ((ix2_inj ..).2 ⟨rfl, Fin.ext (by show (128 * 1 + (64 + e.val)) % 256 = 192 + e.val; omega)⟩)
    · rw [qb_at, if_neg (by show ¬ 512 + x.val < 512; omega), if_neg (by show ¬ 64 + e.val < 64; omega)]
      exact congrArg x0 ((ix2_inj ..).2 ⟨Fin.ext (by show 128 + (64 + e.val) = 192 + e.val; omega), Fin.ext (by show (512 + x.val) % 512 = 0 + x.val; omega)⟩)
  · show score3 (Kt x1 j 1) (qb x0) (ix2 y x) = ∑ e : Fin 64, x1 (ix2 ⟨(512 * j + y.val) % 8192, Nat.mod_lt _ (by decide)⟩ ⟨192 + e.val, by omega⟩)
          * x0 (ix2 ⟨192 + e.val, by omega⟩ ⟨256 + x.val, by omega⟩)
    rw [score3_at, half_hi (fun k => Kt x1 j 1 (ix2 y k)) (fun k => qb x0 (ix2 k ⟨768 + x.val, by omega⟩)) fun e => by
      show qb x0 (ix2 ⟨e.val, _⟩ _) = 0
      rw [qb_at, if_neg (by show ¬ 768 + x.val < 512; omega), if_pos (by show e.val < 64; omega)]]
    refine Finset.sum_congr rfl fun e _ => ?_
    refine Ideal.mul_congr ?_ ?_
    · show x1 _ = x1 _
      exact congrArg x1 ((ix2_inj ..).2 ⟨rfl, Fin.ext (by show (128 * 1 + (64 + e.val)) % 256 = 192 + e.val; omega)⟩)
    · rw [qb_at, if_neg (by show ¬ 768 + x.val < 512; omega), if_neg (by show ¬ 64 + e.val < 64; omega)]
      exact congrArg x0 ((ix2_inj ..).2 ⟨Fin.ext (by show 128 + (64 + e.val) = 192 + e.val; omega), Fin.ext (by show (768 + x.val) % 512 = 256 + x.val; omega)⟩)

/-- The values of head 0 of the pair in tile `j`: 128 rows of values, then rows of ones. -/
theorem vaT_at (x2 : FVec Ideal S64x256x128 .bf16) (j : ℕ) (d : Fin 144) (y : Fin 512) :
    vaT x2 j (ix2 d y) = if h : d.val < 128 then x2 (ix3 ⟨(4 * j + y.val / 128) % 64, Nat.mod_lt _ (by decide)⟩ ⟨d.val, by omega⟩ ⟨y.val % 128, by omega⟩) else 1 := by
  pointwise [vaT, k0_pay3, k0_pay2]
  by_cases hd : d.val < 128
  · rw [dif_pos hd, dif_pos hd]
    by_cases h0 : y.val < 128
    · rw [dif_pos h0]
      exact congrArg x2 ((ix3_inj ..).2 ⟨Fin.ext (by show (4 * j) % 64 = (4 * j + y.val / 128) % 64; omega), rfl, Fin.ext (by show y.val = y.val % 128; omega)⟩)
    · rw [dif_neg h0]
      by_cases h1 : y.val - 128 < 128
      · rw [dif_pos h1]
        exact congrArg x2 ((ix3_inj ..).2 ⟨Fin.ext (by show (4 * j + 1) % 64 = (4 * j + y.val / 128) % 64; omega), rfl, Fin.ext (by show y.val - 128 = y.val % 128; omega)⟩)
      · rw [dif_neg h1]
        by_cases h2 : y.val - 128 - 128 < 128
        · rw [dif_pos h2]
          exact congrArg x2 ((ix3_inj ..).2 ⟨Fin.ext (by show (4 * j + 2) % 64 = (4 * j + y.val / 128) % 64; omega), rfl, Fin.ext (by show y.val - 128 - 128 = y.val % 128; omega)⟩)
        · rw [dif_neg h2]
          exact congrArg x2 ((ix3_inj ..).2 ⟨Fin.ext (by show (4 * j + 3) % 64 = (4 * j + y.val / 128) % 64; omega), rfl, Fin.ext (by show y.val - 128 - 128 - 128 = y.val % 128; omega)⟩)
  · rw [dif_neg hd, dif_neg hd]

/-- The values of head 1 of the pair in tile `j`: 128 rows of values, then rows of ones. -/
theorem vbT_at (x2 : FVec Ideal S64x256x128 .bf16) (j : ℕ) (d : Fin 144) (y : Fin 512) :
    vbT x2 j (ix2 d y) = if h : d.val < 128 then x2 (ix3 ⟨(4 * j + y.val / 128) % 64, Nat.mod_lt _ (by decide)⟩ ⟨128 + d.val, by omega⟩ ⟨y.val % 128, by omega⟩) else 1 := by
  pointwise [vbT, k0_pay4, k0_pay2]
  by_cases hd : d.val < 128
  · rw [dif_pos hd, dif_pos hd]
    by_cases h0 : y.val < 128
    · rw [dif_pos h0]
      exact congrArg x2 ((ix3_inj ..).2 ⟨Fin.ext (by show (4 * j) % 64 = (4 * j + y.val / 128) % 64; omega), rfl, Fin.ext (by show y.val = y.val % 128; omega)⟩)
    · rw [dif_neg h0]
      by_cases h1 : y.val - 128 < 128
      · rw [dif_pos h1]
        exact congrArg x2 ((ix3_inj ..).2 ⟨Fin.ext (by show (4 * j + 1) % 64 = (4 * j + y.val / 128) % 64; omega), rfl, Fin.ext (by show y.val - 128 = y.val % 128; omega)⟩)
      · rw [dif_neg h1]
        by_cases h2 : y.val - 128 - 128 < 128
        · rw [dif_pos h2]
          exact congrArg x2 ((ix3_inj ..).2 ⟨Fin.ext (by show (4 * j + 2) % 64 = (4 * j + y.val / 128) % 64; omega), rfl, Fin.ext (by show y.val - 128 - 128 = y.val % 128; omega)⟩)
        · rw [dif_neg h2]
          exact congrArg x2 ((ix3_inj ..).2 ⟨Fin.ext (by show (4 * j + 3) % 64 = (4 * j + y.val / 128) % 64; omega), rfl, Fin.ext (by show y.val - 128 - 128 - 128 = y.val % 128; omega)⟩)
  · rw [dif_neg hd, dif_neg hd]

/-- The values a chain weighs in tile `j`. -/
theorem vT_at (x2 : FVec Ideal S64x256x128 .bf16) (j : ℕ) (c : Fin 8) (d : Fin 144) (y : Fin 512) :
    (if c.val < 4 then vaT x2 j else vbT x2 j) (ix2 d y) = if h : d.val < 128 then x2 (ix3 ⟨(4 * j + y.val / 128) % 64, Nat.mod_lt _ (by decide)⟩ ⟨128 * (c.val / 4) + d.val, by omega⟩ ⟨y.val % 128, by omega⟩) else 1 := by
  by_cases hc : c.val < 4
  · rw [if_pos hc, vaT_at]
    by_cases hd : d.val < 128
    · rw [dif_pos hd, dif_pos hd]
      exact congrArg x2 ((ix3_inj ..).2 ⟨rfl, Fin.ext (by show d.val = 128 * (c.val / 4) + d.val; omega), rfl⟩)
    · rw [dif_neg hd, dif_neg hd]
  · rw [if_neg hc, vbT_at]
    by_cases hd : d.val < 128
    · rw [dif_pos hd, dif_pos hd]
      exact congrArg x2 ((ix3_inj ..).2 ⟨rfl, Fin.ext (by show 128 + d.val = 128 * (c.val / 4) + d.val; omega), rfl⟩)
    · rw [dif_neg hd, dif_neg hd]

/-- The named mask constant is `⊥`. -/
theorem mask_bot : (Named.named κ "mask" 0xF149F2CA#32 : Ideal .f32) = ⊥ := rfl

/-- A word sum of a tile's offset and a position in it. -/
theorem pos_word (q y : ℕ) : IntOp.addi (Scalar.muli (BitVec.ofNat 32 q) 512#32) (BitVec.ofNat 32 y) = BitVec.ofNat 32 (512 * q + y) := by
  show BitVec.ofNat 32 q * BitVec.ofNat 32 512 + BitVec.ofNat 32 y = _
  rw [← BitVec.ofNat_mul, ← BitVec.ofNat_add, Nat.mul_comm]

/-- A masked score: kept when the key is no later than the query. -/
theorem maskT_at (i : grid0.Coords) (e : ℕ) (he : e ≤ 256) (s : FVec Ideal S512x256 .f32) (y : Fin 512) (x : Fin 256) :
    maskT i (BitVec.ofNat 32 e) s (ix2 y x) = if y.val ≤ e + x.val then s (ix2 y x) else ⊥ := by
  have hq : (i 2).val < 16 := (i 2).isLt
  pointwise [maskT, k0_pay686, k0_pay672]
  generalize (i 2).val = q at hq
  rw [pos_word, pos_word, mask_bot, show IntOp.addi (BitVec.ofNat 32 (512 * q + x.val)) (BitVec.ofNat 32 e) = BitVec.ofNat 32 (512 * q + x.val + e) from by
    show BitVec.ofNat 32 _ + BitVec.ofNat 32 _ = _
    rw [← BitVec.ofNat_add]]
  have hy := y.isLt
  have hx := x.isLt
  simp (disch := word_cmp_side) only [hlo_ix]
  by_cases h : y.val ≤ e + x.val
  · rw [if_pos h, if_pos (by omega)]
  · rw [if_neg h, if_neg (by omega)]

/-- The masked scores of the diagonal tile. -/
theorem maskSc_at (i : grid0.Coords) (s : Fin 8 → FVec Ideal S512x256 .f32) (c : Fin 8) (y : Fin 512) (x : Fin 256) :
    maskSc i s c (ix2 y x) = if y.val ≤ 256 * (c.val % 2) + x.val then s c (ix2 y x) else ⊥ := by
  fin_cases c
  · exact maskT_at i 0 (by decide) (s 0) y x
  · exact maskT_at i 256 (by decide) (s 1) y x
  · exact maskT_at i 0 (by decide) (s 2) y x
  · exact maskT_at i 256 (by decide) (s 3) y x
  · exact maskT_at i 0 (by decide) (s 4) y x
  · exact maskT_at i 256 (by decide) (s 5) y x
  · exact maskT_at i 0 (by decide) (s 6) y x
  · exact maskT_at i 256 (by decide) (s 7) y x

/-- The running maxima start at `⊥`. -/
theorem m0_at (n : Fin 2048) : k0_pay673 (F := Ideal) (ix2 (0 : Fin 1) n) = ⊥ := by
  pointwise [k0_pay673]
  exact mask_bot

/-- The accumulators start at zero. -/
theorem a0_at (d : Fin 144) (n : Fin 2048) : k0_pay674 (F := Ideal) (ix2 d n) = 0 := by
  pointwise [k0_pay674]

end Cert.KernelIdeal.Gen.Diff
-- ==== Proof.Attn.lean ====
/- The sweep's accumulators are causal attention over the reals. -/
module

public import proofs.«01_k».proof.Proof.Point
public import proofs.«01_k».proof.Proof.Scores
public import proofs.«01_k».proof.Proof.Inv
public import proofs.«01_k».proof.Proof.Spec

@[expose] public section

set_option maxRecDepth 16384
set_option maxHeartbeats 1600000

noncomputable section

namespace Cert.Online

/-- The terms of one tile of 512 keys. -/
def tileSum (pos : ℕ) (z v : Fin 8192 → ℝ) (j : ℕ) : ℝ :=
  ∑ y : Fin 512, term pos z v ⟨(512 * j + y.val) % 8192, Nat.mod_lt _ (by decide)⟩

/-- The tiles up to the query's own make up the causal sum. -/
theorem tiles_total (q pos : ℕ) (hq : q < 16) (hp : pos < 512 * (q + 1)) (z v : Fin 8192 → ℝ) :
    tileSum pos z v q + ∑ j ∈ Finset.range q, tileSum pos z v j = ∑ k, term pos z v k := by
  have h1 : (∑ k, term pos z v k) = ∑ j : Fin 16, tileSum pos z v j.val := by
    refine (Idealize.ShloMosaic.Fin.sum_univ_tiles 16 512 rfl (term pos z v)).trans ?_
    refine Finset.sum_congr rfl fun j _ => Finset.sum_congr rfl fun y _ => congrArg _ (Fin.ext ?_)
    have hj := j.isLt
    have hy := y.isLt
    show j.val * 512 + y.val = (512 * j.val + y.val) % 8192
    omega
  have h2 : (∑ j : Fin 16, tileSum pos z v j.val) = ∑ j ∈ Finset.range 16, tileSum pos z v j :=
    Fin.sum_univ_eq_sum_range (fun j => tileSum pos z v j) 16
  have h3 : ∀ j ∈ Finset.range 16, j ∉ Finset.range (q + 1) → tileSum pos z v j = 0 := by
    intro j hj hn
    rw [Finset.mem_range] at hj hn
    refine Finset.sum_eq_zero fun y _ => ?_
    have hy := y.isLt
    unfold term
    rw [if_neg]
    show ¬ (512 * j + y.val) % 8192 ≤ pos
    omega
  rw [h1, h2, ← Finset.sum_subset (Finset.range_subset_range.2 (by omega : q + 1 ≤ 16)) h3, Finset.sum_range_succ, add_comm]

end Cert.Online

namespace Cert.KernelIdeal.Gen.Diff

open Cert.KernelIdeal Cert.KernelIdeal.Gen Idealize.ShloMosaic Idealize.ShloMosaic.TcCoe Idealize.SL.Sem Facts₀ Facts
open Cert.Online

/-- The score of a key in chain `c` at lane `x`, over the reals. -/
def zR (X0 : Fin 256 → Fin 512 → ℝ) (X1 : Fin 8192 → Fin 256 → ℝ) (c : Fin 8) (x : Fin 256) (key : Fin 8192) : ℝ :=
  ∑ e : Fin 64, X1 key ⟨64 * (c.val / 2) + e.val, by omega⟩ * X0 ⟨64 * (c.val / 2) + e.val, by omega⟩ ⟨256 * (c.val % 2) + x.val, by omega⟩

/-- Row `d` of the values of chain `c`'s head, with ones past row 127. -/
def vR (X2 : Fin 64 → Fin 256 → Fin 128 → ℝ) (c : Fin 8) (d : Fin 144) (key : Fin 8192) : ℝ :=
  if h : d.val < 128 then X2 ⟨key.val / 128, by omega⟩ ⟨128 * (c.val / 4) + d.val, by omega⟩ ⟨key.val % 128, by omega⟩ else 1

/-- A query's position in its sequence: tile `q`, chain `c`, lane `x`. -/
def pos (q : ℕ) (c : Fin 8) (x : Fin 256) : ℕ := 512 * q + (256 * (c.val % 2) + x.val)

section
variable (x0 : FVec Ideal S256x512 .bf16) (x1 : FVec Ideal S8192x256 .bf16) (x2 : FVec Ideal S64x256x128 .bf16)
  (X0 : Fin 256 → Fin 512 → ℝ) (X1 : Fin 8192 → Fin 256 → ℝ) (X2 : Fin 64 → Fin 256 → Fin 128 → ℝ)
  (h0 : ∀ a b, x0 (ix2 a b) = (X0 a b : EReal)) (h1 : ∀ a b, x1 (ix2 a b) = (X1 a b : EReal))
  (h2 : ∀ a b e, x2 (ix3 a b e) = (X2 a b e : EReal))

include h0 h1 in
/-- A score is a real. -/
theorem score_real (j : ℕ) (c : Fin 8) (y : Fin 512) (x : Fin 256) :
    scT x1 (qa x0) (qb x0) j c (ix2 y x) = (zR X0 X1 c x ⟨(512 * j + y.val) % 8192, Nat.mod_lt _ (by decide)⟩ : EReal) := by
  rw [scT_at]
  unfold zR
  rw [← coe_sum]
  refine Finset.sum_congr rfl fun e _ => ?_
  rw [h0, h1, EReal.coe_mul]

include h2 in
/-- A value is a real. -/
theorem value_real (j : ℕ) (hj : j < 16) (c : Fin 8) (d : Fin 144) (y : Fin 512) :
    (if c.val < 4 then vaT x2 j else vbT x2 j) (ix2 d y) = (vR X2 c d ⟨(512 * j + y.val) % 8192, Nat.mod_lt _ (by decide)⟩ : EReal) := by
  rw [vT_at]
  unfold vR
  by_cases hd : d.val < 128
  · rw [dif_pos hd, dif_pos hd, h2]
    have e1 : (4 * j + y.val / 128) % 64 = (512 * j + y.val) % 8192 / 128 := by omega
    have e2 : y.val % 128 = (512 * j + y.val) % 8192 % 128 := by omega
    simp only [e1, e2]
  · rw [dif_neg hd, dif_neg hd, EReal.coe_one]

/-- The columns of a state hold the sums over a set of tiles. -/
def Holds (q : ℕ) (R : Fin 8 → Fin 256 → Fin 144 → ℝ) (σ : St) : Prop :=
  ∀ c x, Col (σ.M (ix2 (0 : Fin 1) (cx c x))) (fun d => σ.A (ix2 d (cx c x))) (R c x)

include h2 in
/-- One visit adds its tile's terms. -/
theorem visit_holds (q j : ℕ) (hq : q < 16) (hj : j ≤ q) (σ : St) (R : Fin 8 → Fin 256 → Fin 144 → ℝ)
    (hs : ∀ c y x, σ.s c (ix2 y x) = if 512 * j + y.val ≤ pos q c x then (zR X0 X1 c x ⟨(512 * j + y.val) % 8192, Nat.mod_lt _ (by decide)⟩ : EReal) else ⊥)
    (h : Holds q R σ ∨ (∀ c x d, σ.M (ix2 (0 : Fin 1) (cx c x)) = ⊥ ∧ σ.A (ix2 d (cx c x)) = 0 ∧ R c x d = 0)) :
    Holds q (fun c x d => R c x d + tileSum (pos q c x) (zR X0 X1 c x) (vR X2 c d) j) (visit x1 x2 (qa x0) (qb x0) j σ) := by
  intro c x
  have hj16 : j < 16 := by omega
  have key := step (σ.M (ix2 (0 : Fin 1) (cx c x))) (fun d => σ.A (ix2 d (cx c x))) (R c x) (fun y : Fin 512 => σ.s c (ix2 y x))
    (fun y => 512 * j + y.val ≤ pos q c x) (fun y => zR X0 X1 c x ⟨(512 * j + y.val) % 8192, Nat.mod_lt _ (by decide)⟩)
    (fun d y => (if c.val < 4 then vaT x2 j else vbT x2 j) (ix2 d y)) (fun d y => vR X2 c d ⟨(512 * j + y.val) % 8192, Nat.mod_lt _ (by decide)⟩)
    (fun y => hs c y x) (fun d y => value_real x2 X2 h2 j hj16 c d y)
    (h.imp (fun h => h c x) fun h => ⟨⟨(h c x 0).1, ⟨0, by decide⟩, by show 512 * j + 0 ≤ pos q c x; unfold pos; omega⟩, fun d => (h c x d).2⟩)
  have eM : (visit x1 x2 (qa x0) (qb x0) j σ).M (ix2 (0 : Fin 1) (cx c x)) = _ := tileM_at σ.M σ.s c x
  have eA : ∀ d, (visit x1 x2 (qa x0) (qb x0) j σ).A (ix2 d (cx c x)) = _ := fun d => tileA_at (vaT x2 j) (vbT x2 j) σ.A σ.M σ.s d c x
  have eR : ∀ d, R c x d + tileSum (pos q c x) (zR X0 X1 c x) (vR X2 c d) j
      = R c x d + ∑ y : Fin 512, if 512 * j + y.val ≤ pos q c x then (2 : ℝ) ^ zR X0 X1 c x ⟨(512 * j + y.val) % 8192, Nat.mod_lt _ (by decide)⟩ * vR X2 c d ⟨(512 * j + y.val) % 8192, Nat.mod_lt _ (by decide)⟩ else 0 := by
    intro d
    refine congrArg (R c x d + ·) (Finset.sum_congr rfl fun y _ => ?_)
    have hy := y.isLt
    have e : (512 * j + y.val) % 8192 = 512 * j + y.val := Nat.mod_eq_of_lt (by omega)
    unfold term
    simp only [e]
  show Col _ _ (fun d => R c x d + tileSum (pos q c x) (zR X0 X1 c x) (vR X2 c d) j)
  rw [eM, funext eA, funext eR]
  exact key

include h0 h1 h2 in
/-- The visits of the tiles below `n` add their terms. -/
theorem sweep_holds (q : ℕ) (hq : q < 16) (n : ℕ) (hn : n ≤ q) (σ : St) (R : Fin 8 → Fin 256 → Fin 144 → ℝ)
    (hs : σ.s = scT x1 (qa x0) (qb x0) (n - 1)) (h : Holds q R σ) :
    Holds q (fun c x d => R c x d + ∑ j ∈ Finset.range n, tileSum (pos q c x) (zR X0 X1 c x) (vR X2 c d) j)
      (sweepFrom x1 x2 (qa x0) (qb x0) n σ) := by
  induction n generalizing σ R with
  | zero =>
    intro c x
    simp only [Finset.range_zero, Finset.sum_empty, add_zero]
    exact h c x
  | succ n ih =>
    have hv := visit_holds x0 x1 x2 X0 X1 X2 h2 q n hq (by omega) σ R (fun c y x => by
      have hy := y.isLt
      rw [hs, Nat.add_sub_cancel, score_real x0 x1 X0 X1 h0 h1, if_pos (by unfold pos; omega)]) (Or.inl h)
    have := ih (by omega) (visit x1 x2 (qa x0) (qb x0) n σ) _ rfl hv
    intro c x
    have t := this c x
    have e : (fun d => R c x d + ∑ j ∈ Finset.range (n + 1), tileSum (pos q c x) (zR X0 X1 c x) (vR X2 c d) j)
        = fun d => R c x d + tileSum (pos q c x) (zR X0 X1 c x) (vR X2 c d) n + ∑ j ∈ Finset.range n, tileSum (pos q c x) (zR X0 X1 c x) (vR X2 c d) j := by
      funext d
      rw [Finset.sum_range_succ]
      ring
    show Col _ _ (fun d => R c x d + ∑ j ∈ Finset.range (n + 1), tileSum (pos q c x) (zR X0 X1 c x) (vR X2 c d) j)
    rw [e]
    exact t

include h0 h1 h2 in
/-- The accumulators after all tiles hold the causal sums of their columns. -/
theorem final_col (i : grid0.Coords) (c : Fin 8) (x : Fin 256) :
    ∃ m, Col m (fun d => finalA i x0 x1 x2 (ix2 d (cx c x)))
      (fun d => ∑ k, term (pos (i 2).val c x) (zR X0 X1 c x) (vR X2 c d) k) := by
  have hq : (i 2).val < 16 := (i 2).isLt
  have hd := visit_holds x0 x1 x2 X0 X1 X2 h2 (i 2).val (i 2).val hq le_rfl (start i x0 x1) (fun _ _ _ => 0) (fun c y x => by
    show maskSc i (scT x1 (qa x0) (qb x0) (i 2).val) c (ix2 y x) = _
    rw [maskSc_at, score_real x0 x1 X0 X1 h0 h1]
    by_cases hy : y.val ≤ 256 * (c.val % 2) + x.val
    · rw [if_pos hy, if_pos (by unfold pos; omega)]
    · rw [if_neg hy, if_neg (by unfold pos; omega)])
    (Or.inr fun c x d => ⟨m0_at (cx c x), a0_at d (cx c x), rfl⟩)
  have hs := sweep_holds x0 x1 x2 X0 X1 X2 h0 h1 h2 (i 2).val hq (i 2).val le_rfl (diag i x0 x1 x2) _ rfl hd
  have t := hs c x
  refine ⟨(sweepFrom x1 x2 (qa x0) (qb x0) (i 2).val (diag i x0 x1 x2)).M (ix2 (0 : Fin 1) (cx c x)), ?_⟩
  have e : (fun d => ∑ k, term (pos (i 2).val c x) (zR X0 X1 c x) (vR X2 c d) k)
      = fun d => 0 + tileSum (pos (i 2).val c x) (zR X0 X1 c x) (vR X2 c d) (i 2).val
        + ∑ j ∈ Finset.range (i 2).val, tileSum (pos (i 2).val c x) (zR X0 X1 c x) (vR X2 c d) j := by
    funext d
    rw [zero_add, tiles_total (i 2).val (pos (i 2).val c x) hq (by unfold pos; omega)]
  rw [e]
  exact t

include h0 h1 h2 in
/-- A normalized accumulator is causal attention. -/
theorem final_attn (i : grid0.Coords) (c : Fin 8) (x : Fin 256) (d : Fin 128) :
    finalA i x0 x1 x2 (ix2 ⟨d.val, by omega⟩ (cx c x)) * Ideal.div 1 (finalA i x0 x1 x2 (ix2 ⟨128, by decide⟩ (cx c x)))
      = (attn (pos (i 2).val c x) (zR X0 X1 c x) (vR X2 c ⟨d.val, by omega⟩) : EReal) := by
  obtain ⟨m, h⟩ := final_col x0 x1 x2 X0 X1 X2 h0 h1 h2 i c x
  have e : vR X2 c ⟨128, by decide⟩ = fun _ => 1 := by
    funext k
    unfold vR
    rw [dif_neg (by decide)]
  have hne : (∑ k, term (pos (i 2).val c x) (zR X0 X1 c x) (vR X2 c ⟨128, by decide⟩) k) ≠ 0 := by
    rw [e]
    exact (weights_pos _ _).ne'
  refine (quotient m _ _ h (⟨d.val, by omega⟩ : Fin 144) ⟨128, by decide⟩ hne).trans ?_
  unfold attn
  rw [e]

end

end Cert.KernelIdeal.Gen.Diff
-- ==== Proof.Loops2.lean ====
/- The two loops after the diagonal tile, from the writes made before them. -/
module

public import proofs.«01_k».proof.Proof.Diag

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

/-- The writes of the sweep's loop. -/
def lists1 (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole) (v7 : FVec Ideal S128x1024 .bf16) (v13 : FVec Ideal S128x1024 .bf16) (v41 : BitVec 32) (v210 : FVec Ideal S144x256 .f32) (v245 : FVec Ideal S144x256 .f32) (v280 : FVec Ideal S144x256 .f32) (v315 : FVec Ideal S144x256 .f32) (v350 : FVec Ideal S144x256 .f32) (v385 : FVec Ideal S144x256 .f32) (v420 : FVec Ideal S144x256 .f32) (v426 : FVec Ideal S144x256 .f32) (v427 : FVec Ideal S1x2048 .f32) (x1 : FVec Ideal S8192x256 .bf16) (x2 : FVec Ideal S64x256x128 .bf16) (H12 : List (View.Piece (Elt Ideal) S1x2048 .f32)) (H13 : List (View.Piece (Elt Ideal) S144x2048 .f32)) (H14 H15 : List (View.Piece (Elt Ideal) S8x512x256 .f32)) :
    List (View.Piece (Elt Ideal) S1x2048 .f32) × List (View.Piece (Elt Ideal) S144x2048 .f32) × List (View.Piece (Elt Ideal) S8x512x256 .f32) × List (View.Piece (Elt Ideal) S8x512x256 .f32) :=
  pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 (harg4.unread x1) (harg5.unread x2) (arg12.view.writes (Elt Ideal) arg12.view.junk H12) (arg13.view.writes (Elt Ideal) arg13.view.junk H13) (arg14.view.writes (Elt Ideal) arg14.view.junk H14) (arg15.view.writes (Elt Ideal) arg15.view.junk H15) (Scf.trips (k0_t1_loop i).lb (k0_t1_loop i).ub (k0_t1_loop i).st)

/-- The writes of the loop left over after it. -/
def lists2 (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole) (v7 : FVec Ideal S128x1024 .bf16) (v13 : FVec Ideal S128x1024 .bf16) (v41 : BitVec 32) (v210 : FVec Ideal S144x256 .f32) (v245 : FVec Ideal S144x256 .f32) (v280 : FVec Ideal S144x256 .f32) (v315 : FVec Ideal S144x256 .f32) (v350 : FVec Ideal S144x256 .f32) (v385 : FVec Ideal S144x256 .f32) (v420 : FVec Ideal S144x256 .f32) (v426 : FVec Ideal S144x256 .f32) (v427 : FVec Ideal S1x2048 .f32) (v456 : BitVec 32) (x1 : FVec Ideal S8192x256 .bf16) (x2 : FVec Ideal S64x256x128 .bf16) (H12 : List (View.Piece (Elt Ideal) S1x2048 .f32)) (H13 : List (View.Piece (Elt Ideal) S144x2048 .f32)) (H14 H15 : List (View.Piece (Elt Ideal) S8x512x256 .f32)) :
    List (View.Piece (Elt Ideal) S1x2048 .f32) × List (View.Piece (Elt Ideal) S144x2048 .f32) × List (View.Piece (Elt Ideal) S8x512x256 .f32) × List (View.Piece (Elt Ideal) S8x512x256 .f32) :=
  pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 v456 (harg4.unread x1) (harg5.unread x2) (arg12.view.writes (Elt Ideal) arg12.view.junk ((lists1 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 x1 x2 H12 H13 H14 H15).1 ++ H12)) (arg13.view.writes (Elt Ideal) arg13.view.junk ((lists1 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 x1 x2 H12 H13 H14 H15).2.1 ++ H13)) (arg14.view.writes (Elt Ideal) arg14.view.junk ((lists1 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 x1 x2 H12 H13 H14 H15).2.2.1 ++ H14)) (arg15.view.writes (Elt Ideal) arg15.view.junk ((lists1 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 x1 x2 H12 H13 H14 H15).2.2.2 ++ H15)) (Scf.trips (k0_t2_loop i).lb (k0_t2_loop i).ub (k0_t2_loop i).st)

/-- What the buffers hold after both loops. -/
def loopSt (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole) (v7 : FVec Ideal S128x1024 .bf16) (v13 : FVec Ideal S128x1024 .bf16) (v41 : BitVec 32) (v210 : FVec Ideal S144x256 .f32) (v245 : FVec Ideal S144x256 .f32) (v280 : FVec Ideal S144x256 .f32) (v315 : FVec Ideal S144x256 .f32) (v350 : FVec Ideal S144x256 .f32) (v385 : FVec Ideal S144x256 .f32) (v420 : FVec Ideal S144x256 .f32) (v426 : FVec Ideal S144x256 .f32) (v427 : FVec Ideal S1x2048 .f32) (v456 : BitVec 32) (x1 : FVec Ideal S8192x256 .bf16) (x2 : FVec Ideal S64x256x128 .bf16) (H12 : List (View.Piece (Elt Ideal) S1x2048 .f32)) (H13 : List (View.Piece (Elt Ideal) S144x2048 .f32)) (H14 H15 : List (View.Piece (Elt Ideal) S8x512x256 .f32)) : St :=
  stOf arg12 arg13 arg15 (arg12.view.writes (Elt Ideal) arg12.view.junk ((lists2 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 v456 x1 x2 H12 H13 H14 H15).1 ++ ((lists1 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 x1 x2 H12 H13 H14 H15).1 ++ H12)))
    (arg13.view.writes (Elt Ideal) arg13.view.junk ((lists2 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 v456 x1 x2 H12 H13 H14 H15).2.1 ++ ((lists1 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 x1 x2 H12 H13 H14 H15).2.1 ++ H13)))
    (arg15.view.writes (Elt Ideal) arg15.view.junk ((lists2 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 v456 x1 x2 H12 H13 H14 H15).2.2.2 ++ ((lists1 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 x1 x2 H12 H13 H14 H15).2.2.2 ++ H15)))

/-- The loop left over writes nothing. -/
theorem lists2_nil (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole) (v7 : FVec Ideal S128x1024 .bf16) (v13 : FVec Ideal S128x1024 .bf16) (v41 : BitVec 32) (v210 : FVec Ideal S144x256 .f32) (v245 : FVec Ideal S144x256 .f32) (v280 : FVec Ideal S144x256 .f32) (v315 : FVec Ideal S144x256 .f32) (v350 : FVec Ideal S144x256 .f32) (v385 : FVec Ideal S144x256 .f32) (v420 : FVec Ideal S144x256 .f32) (v426 : FVec Ideal S144x256 .f32) (v427 : FVec Ideal S1x2048 .f32) (v456 : BitVec 32) (x1 : FVec Ideal S8192x256 .bf16) (x2 : FVec Ideal S64x256x128 .bf16) (H12 : List (View.Piece (Elt Ideal) S1x2048 .f32)) (H13 : List (View.Piece (Elt Ideal) S144x2048 .f32)) (H14 H15 : List (View.Piece (Elt Ideal) S8x512x256 .f32)) : (lists2 c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 v456 x1 x2 H12 H13 H14 H15) = ([], [], [], []) := by
  unfold lists2
  rw [show Scf.trips (k0_t2_loop i).lb (k0_t2_loop i).ub (k0_t2_loop i).st = 0 from trips2_eq i]
  rfl

/-- After the loops, the visits that remain lead where all of them led from the start. -/
theorem loops_state (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole) (v7 : FVec Ideal S128x1024 .bf16) (v13 : FVec Ideal S128x1024 .bf16) (v41 : BitVec 32) (v210 : FVec Ideal S144x256 .f32) (v245 : FVec Ideal S144x256 .f32) (v280 : FVec Ideal S144x256 .f32) (v315 : FVec Ideal S144x256 .f32) (v350 : FVec Ideal S144x256 .f32) (v385 : FVec Ideal S144x256 .f32) (v420 : FVec Ideal S144x256 .f32) (v426 : FVec Ideal S144x256 .f32) (v427 : FVec Ideal S1x2048 .f32) (v456 : BitVec 32) (x1 : FVec Ideal S8192x256 .bf16) (x2 : FVec Ideal S64x256x128 .bf16) (H12 : List (View.Piece (Elt Ideal) S1x2048 .f32)) (H13 : List (View.Piece (Elt Ideal) S144x2048 .f32)) (H14 H15 : List (View.Piece (Elt Ideal) S8x512x256 .f32)) :
    sweepFrom x1 x2 v7 v13 ((i 2).val % 4) (loopSt c i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 v456 x1 x2 H12 H13 H14 H15)
      = sweepFrom x1 x2 v7 v13 (i 2).val (stOf arg12 arg13 arg15 (arg12.view.writes (Elt Ideal) arg12.view.junk H12) (arg13.view.writes (Elt Ideal) arg13.view.junk H13) (arg15.view.writes (Elt Ideal) arg15.view.junk H15)) := by
  have h := loop_state Variants.none c none i arg3 harg3 arg4 harg4 arg5 harg5 arg6 harg6 arg7 harg7 arg8 harg8 arg9 harg9 arg10 harg10 arg11 harg11 arg12 harg12 arg13 harg13 arg14 harg14 arg15 harg15 v7 v13 v41 v210 v245 v280 v315 v350 v385 v420 v426 v427 (harg4.unread x1) (harg5.unread x2) (arg12.view.writes (Elt Ideal) arg12.view.junk H12) (arg13.view.writes (Elt Ideal) arg13.view.junk H13) (arg14.view.writes (Elt Ideal) arg14.view.junk H14) (arg15.view.writes (Elt Ideal) arg15.view.junk H15) (k0_t1_loop i).trips le_rfl
  rw [harg4.read_unread, harg5.read_unread] at h
  rw [← h, loopSt, lists2_nil, trips_eq, show (i 2).val - 4 * ((i 2).val / 4) = (i 2).val % 4 by omega]
  dsimp only
  rw [List.nil_append, List.nil_append, List.nil_append, View.writes_append, View.writes_append, View.writes_append, lists1,
    show Scf.trips (k0_t1_loop i).lb (k0_t1_loop i).ub (k0_t1_loop i).st = (i 2).val / 4 from trips_eq i]

end Cert.KernelIdeal.Gen.Diff
-- ==== Proof.CaseA.lean ====
/- Case A of the grid points: 0 key tile(s) left over after the loop's trips of four. -/
module

public import proofs.«01_k».proof.Proof.Loops2
public import proofs.«01_k».proof.Proof.Out

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

section
variable (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (hc0 : ¬cond0_0 i) (hc1 : ¬cond0_1 i) (hc2 : ¬cond0_2 i) (hc3 : ¬cond0_3 i) (hc4 : ¬cond0_4 i) (x0 : Vec Ideal S256x512 .bf16) (x1 : Vec Ideal S8192x256 .bf16) (x2 : Vec Ideal S64x256x128 .bf16)

/-- The state after the loops. -/
def loopA (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (x0 : Vec Ideal S256x512 .bf16) (x1 : Vec Ideal S8192x256 .bf16) (x2 : Vec Ideal S64x256x128 .bf16) : St :=
  loopSt c i arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x0) (kernelRun0_A.sl.r_1 (F := Ideal) c arg3 harg3 x0) (kernelRun0_A.sl.v41 i) (kernelRun0_A.sl.r_10 (F := Ideal) c i arg3 harg3 arg4 harg4 arg5 harg5 arg12 arg13 arg14 x0 x1 x2) (kernelRun0_A.sl.r_16 (F := Ideal) c i arg3 harg3 arg4 harg4 arg5 harg5 arg12 arg13 arg14 x0 x1 x2) (kernelRun0_A.sl.r_20 (F := Ideal) c i arg3 harg3 arg4 harg4 arg5 harg5 arg12 arg13 arg14 x0 x1 x2) (kernelRun0_A.sl.r_27 (F := Ideal) c i arg3 harg3 arg4 harg4 arg5 harg5 arg12 arg13 arg14 x0 x1 x2) (kernelRun0_A.sl.r_34 (F := Ideal) c i arg3 harg3 arg4 harg4 arg5 harg5 arg12 arg13 arg14 x0 x1 x2) (kernelRun0_A.sl.r_38 (F := Ideal) c i arg3 harg3 arg4 harg4 arg5 harg5 arg12 arg13 arg14 x0 x1 x2) (kernelRun0_A.sl.r_39 (F := Ideal) c i arg3 harg3 arg4 harg4 arg5 harg5 arg12 arg13 arg14 x0 x1 x2) (kernelRun0_A.sl.r_40 (F := Ideal) c i arg3 harg3 arg4 harg4 arg5 harg5 arg12 arg13 arg14 x0 x1 x2) (kernelRun0_A.sl.r_41 (F := Ideal) c i arg3 harg3 arg4 harg4 arg12 arg14 x0 x1) (kernelRun0_A.sl.v456 i) x1 x2 (kernelRun0_A.sl.HS0_2 (F := Ideal) c i arg3 harg3 arg4 harg4 arg12 arg14 x0 x1) (kernelRun0_A.sl.HS1_2 (F := Ideal) c i arg3 harg3 arg4 harg4 arg5 harg5 arg12 arg13 arg14 x0 x1 x2) (kernelRun0_A.sl.HS2_8 (F := Ideal) c i arg3 harg3 arg4 harg4 x0 x1) (kernelRun0_A.sl.HS3_8 (F := Ideal) c i arg3 harg3 arg4 harg4 x0 x1)

theorem qaA : (kernelRun0_A.sl.r (F := Ideal) c arg3 harg3 x0) = qa x0 := congrArg (k0_pay670 (F := Ideal)) (loadQ arg3 harg3 x0 0 (by decide) inb_S256x512_S128x512_0_0)

theorem qbA : (kernelRun0_A.sl.r_1 (F := Ideal) c arg3 harg3 x0) = qb x0 := congrArg (k0_pay671 (F := Ideal)) (loadQ arg3 harg3 x0 128 (by decide) inb_S256x512_S128x512_128_0)

/-- The visits left over lead from the state after the loops to the last state. -/
theorem restA (hi : (i 2).val % 4 = 0) :
    (sweepFrom x1 x2 (qa x0) (qb x0) 0 (loopA c i arg3 harg3 arg4 harg4 arg5 harg5 arg6 harg6 arg7 harg7 arg8 harg8 arg9 harg9 arg10 harg10 arg11 harg11 arg12 harg12 arg13 harg13 arg14 harg14 arg15 harg15 x0 x1 x2)).A = finalA i x0 x1 x2 := by
  have h := loops_state c i arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x0) (kernelRun0_A.sl.r_1 (F := Ideal) c arg3 harg3 x0) (kernelRun0_A.sl.v41 i) (kernelRun0_A.sl.r_10 (F := Ideal) c i arg3 harg3 arg4 harg4 arg5 harg5 arg12 arg13 arg14 x0 x1 x2) (kernelRun0_A.sl.r_16 (F := Ideal) c i arg3 harg3 arg4 harg4 arg5 harg5 arg12 arg13 arg14 x0 x1 x2) (kernelRun0_A.sl.r_20 (F := Ideal) c i arg3 harg3 arg4 harg4 arg5 harg5 arg12 arg13 arg14 x0 x1 x2) (kernelRun0_A.sl.r_27 (F := Ideal) c i arg3 harg3 arg4 harg4 arg5 harg5 arg12 arg13 arg14 x0 x1 x2) (kernelRun0_A.sl.r_34 (F := Ideal) c i arg3 harg3 arg4 harg4 arg5 harg5 arg12 arg13 arg14 x0 x1 x2) (kernelRun0_A.sl.r_38 (F := Ideal) c i arg3 harg3 arg4 harg4 arg5 harg5 arg12 arg13 arg14 x0 x1 x2) (kernelRun0_A.sl.r_39 (F := Ideal) c i arg3 harg3 arg4 harg4 arg5 harg5 arg12 arg13 arg14 x0 x1 x2) (kernelRun0_A.sl.r_40 (F := Ideal) c i arg3 harg3 arg4 harg4 arg5 harg5 arg12 arg13 arg14 x0 x1 x2) (kernelRun0_A.sl.r_41 (F := Ideal) c i arg3 harg3 arg4 harg4 arg12 arg14 x0 x1) (kernelRun0_A.sl.v456 i) x1 x2 (kernelRun0_A.sl.HS0_2 (F := Ideal) c i arg3 harg3 arg4 harg4 arg12 arg14 x0 x1) (kernelRun0_A.sl.HS1_2 (F := Ideal) c i arg3 harg3 arg4 harg4 arg5 harg5 arg12 arg13 arg14 x0 x1 x2) (kernelRun0_A.sl.HS2_8 (F := Ideal) c i arg3 harg3 arg4 harg4 x0 x1) (kernelRun0_A.sl.HS3_8 (F := Ideal) c i arg3 harg3 arg4 harg4 x0 x1)
  rw [hi] at h
  have hd := diag_state c i arg3 harg3 arg4 harg4 arg5 harg5 arg12 arg13 arg14 arg15 x0 x1 x2
  unfold finalA
  rw [← hd]
  have e : (kernelRun0_A.sl.r (F := Ideal) c arg3 harg3 x0) = qa x0 := qaA (c := c) (arg3 := arg3) (harg3 := harg3) (x0 := x0)
  have e1 : (kernelRun0_A.sl.r_1 (F := Ideal) c arg3 harg3 x0) = qb x0 := qbA (c := c) (arg3 := arg3) (harg3 := harg3) (x0 := x0)
  have h2 := congrArg St.A h
  unfold loopA
  generalize hQ : sweepFrom x1 x2 = Q at h2 ⊢
  rw [← e, ← e1]
  exact h2

include hc0 hc1 hc2 hc3 hc4

/-- The accumulators the output is read from are those after all tiles. -/
theorem accA (hi : (i 2).val % 4 = 0) : (kernelRun0_A.sl.v501 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = finalA i x0 x1 x2 := by
  rw [← restA c i arg3 harg3 arg4 harg4 arg5 harg5 arg6 harg6 arg7 harg7 arg8 harg8 arg9 harg9 arg10 harg10 arg11 harg11 arg12 harg12 arg13 harg13 arg14 harg14 arg15 harg15 x0 x1 x2 hi]
  exact readAt_whole _ _ zero2 _

/-- What the grid point leaves in the output block. -/
theorem outA  (x3 : Vec Ideal S1x64 .f32) (x4 : Vec Ideal S1x64 .f32) (x5 : Vec Ideal S1x64 .f32) (x6 : Vec Ideal S1x64 .f32) (x7 : Vec Ideal S128x1 .f32) (hi : (i 2).val % 4 = 0) :
    out0_A_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 = blockOut x3 x4 x5 x6 x7 (finalA i x0 x1 x2) := by
  rw [← accA c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi]
  have e3 := (readAt_whole arg6.view (harg6.unread x3) zero2 inb_S1x64_S1x64_0_0).trans (harg6.read_unread x3)
  have e4 := (readAt_whole arg7.view (harg7.unread x4) zero2 inb_S1x64_S1x64_0_0).trans (harg7.read_unread x4)
  have e5 := (readAt_whole arg8.view (harg8.unread x5) zero2 inb_S1x64_S1x64_0_0).trans (harg8.read_unread x5)
  have e6 := (readAt_whole arg9.view (harg9.unread x6) zero2 inb_S1x64_S1x64_0_0).trans (harg9.read_unread x6)
  have e7 := (readAt_whole arg10.view (harg10.unread x7) zero2 inb_S128x1_S128x1_0_0).trans (harg10.read_unread x7)
  refine Eq.trans ?_ (congrArg₂ (fun a b => blockOut a b x5 x6 x7 (kernelRun0_A.sl.v501 (F := Ideal) c i arg3 harg3 arg4 harg4 arg5 harg5 arg6 harg6 arg7 harg7 arg8 harg8 arg9 harg9 arg10 harg10 arg11 harg11 arg12 harg12 arg13 harg13 arg14 harg14 arg15 harg15 x0 x1 x2)) e3 e4)
  refine Eq.trans ?_ (congrArg₂ (fun a b => blockOut _ _ a b x7 (kernelRun0_A.sl.v501 (F := Ideal) c i arg3 harg3 arg4 harg4 arg5 harg5 arg6 harg6 arg7 harg7 arg8 harg8 arg9 harg9 arg10 harg10 arg11 harg11 arg12 harg12 arg13 harg13 arg14 harg14 arg15 harg15 x0 x1 x2)) e5 e6)
  refine Eq.trans ?_ (congrArg (fun a => blockOut _ _ _ _ a (kernelRun0_A.sl.v501 (F := Ideal) c i arg3 harg3 arg4 harg4 arg5 harg5 arg6 harg6 arg7 harg7 arg8 harg8 arg9 harg9 arg10 harg10 arg11 harg11 arg12 harg12 arg13 harg13 arg14 harg14 arg15 harg15 x0 x1 x2)) e7)
  rfl

end

end Cert.KernelIdeal.Gen.Diff
-- ==== Proof.CaseB.lean ====
/- Case B of the grid points: 1 key tile(s) left over after the loop's trips of four. -/
module

public import proofs.«01_k».proof.Proof.Loops2
public import proofs.«01_k».proof.Proof.Out

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

section
variable (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (hc0 : cond0_0 i) (hc1 : ¬cond0_1 i) (hc2 : ¬cond0_2 i) (hc3 : ¬cond0_3 i) (hc4 : ¬cond0_4 i) (x0 : Vec Ideal S256x512 .bf16) (x1 : Vec Ideal S8192x256 .bf16) (x2 : Vec Ideal S64x256x128 .bf16)

/-- The state after the loops. -/
def loopB (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (x0 : Vec Ideal S256x512 .bf16) (x1 : Vec Ideal S8192x256 .bf16) (x2 : Vec Ideal S64x256x128 .bf16) : St :=
  loopSt c i arg3 harg3 arg4 harg4 arg5 harg5 arg6 harg6 arg7 harg7 arg8 harg8 arg9 harg9 arg10 harg10 arg11 harg11 arg12 harg12 arg13 harg13 arg14 harg14 arg15 harg15 (kernelRun0_B.sl.r (F := Ideal) c arg3 harg3 x0) (kernelRun0_B.sl.r_1 (F := Ideal) c arg3 harg3 x0) (kernelRun0_B.sl.v41 i) (kernelRun0_B.sl.r_10 (F := Ideal) c i arg3 harg3 arg4 harg4 arg5 harg5 arg12 arg13 arg14 x0 x1 x2) (kernelRun0_B.sl.r_16 (F := Ideal) c i arg3 harg3 arg4 harg4 arg5 harg5 arg12 arg13 arg14 x0 x1 x2) (kernelRun0_B.sl.r_20 (F := Ideal) c i arg3 harg3 arg4 harg4 arg5 harg5 arg12 arg13 arg14 x0 x1 x2) (kernelRun0_B.sl.r_27 (F := Ideal) c i arg3 harg3 arg4 harg4 arg5 harg5 arg12 arg13 arg14 x0 x1 x2) (kernelRun0_B.sl.r_34 (F := Ideal) c i arg3 harg3 arg4 harg4 arg5 harg5 arg12 arg13 arg14 x0 x1 x2) (kernelRun0_B.sl.r_38 (F := Ideal) c i arg3 harg3 arg4 harg4 arg5 harg5 arg12 arg13 arg14 x0 x1 x2) (kernelRun0_B.sl.r_39 (F := Ideal) c i arg3 harg3 arg4 harg4 arg5 harg5 arg12 arg13 arg14 x0 x1 x2) (kernelRun0_B.sl.r_40 (F := Ideal) c i arg3 harg3 arg4 harg4 arg5 harg5 arg12 arg13 arg14 x0 x1 x2) (kernelRun0_B.sl.r_41 (F := Ideal) c i arg3 harg3 arg4 harg4 arg12 arg14 x0 x1) (kernelRun0_B.sl.v456 i) x1 x2 (kernelRun0_B.sl.HS0_2 (F := Ideal) c i arg3 harg3 arg4 harg4 arg12 arg14 x0 x1) (kernelRun0_B.sl.HS1_2 (F := Ideal) c i arg3 harg3 arg4 harg4 arg5 harg5 arg12 arg13 arg14 x0 x1 x2) (kernelRun0_B.sl.HS2_8 (F := Ideal) c i arg3 harg3 arg4 harg4 x0 x1) (kernelRun0_B.sl.HS3_8 (F := Ideal) c i arg3 harg3 arg4 harg4 x0 x1)

theorem qaB : (kernelRun0_B.sl.r (F := Ideal) c arg3 harg3 x0) = qa x0 := congrArg (k0_pay670 (F := Ideal)) (loadQ arg3 harg3 x0 0 (by decide) inb_S256x512_S128x512_0_0)

theorem qbB : (kernelRun0_B.sl.r_1 (F := Ideal) c arg3 harg3 x0) = qb x0 := congrArg (k0_pay671 (F := Ideal)) (loadQ arg3 harg3 x0 128 (by decide) inb_S256x512_S128x512_128_0)

/-- The visits left over lead from the state after the loops to the last state. -/
theorem restB (hi : (i 2).val % 4 = 1) :
    (sweepFrom x1 x2 (qa x0) (qb x0) 1 (loopB c i arg3 harg3 arg4 harg4 arg5 harg5 arg6 harg6 arg7 harg7 arg8 harg8 arg9 harg9 arg10 harg10 arg11 harg11 arg12 harg12 arg13 harg13 arg14 harg14 arg15 harg15 x0 x1 x2)).A = finalA i x0 x1 x2 := by
  have h := loops_state c i arg3 harg3 arg4 harg4 arg5 harg5 arg6 harg6 arg7 harg7 arg8 harg8 arg9 harg9 arg10 harg10 arg11 harg11 arg12 harg12 arg13 harg13 arg14 harg14 arg15 harg15 (kernelRun0_B.sl.r (F := Ideal) c arg3 harg3 x0) (kernelRun0_B.sl.r_1 (F := Ideal) c arg3 harg3 x0) (kernelRun0_B.sl.v41 i) (kernelRun0_B.sl.r_10 (F := Ideal) c i arg3 harg3 arg4 harg4 arg5 harg5 arg12 arg13 arg14 x0 x1 x2) (kernelRun0_B.sl.r_16 (F := Ideal) c i arg3 harg3 arg4 harg4 arg5 harg5 arg12 arg13 arg14 x0 x1 x2) (kernelRun0_B.sl.r_20 (F := Ideal) c i arg3 harg3 arg4 harg4 arg5 harg5 arg12 arg13 arg14 x0 x1 x2) (kernelRun0_B.sl.r_27 (F := Ideal) c i arg3 harg3 arg4 harg4 arg5 harg5 arg12 arg13 arg14 x0 x1 x2) (kernelRun0_B.sl.r_34 (F := Ideal) c i arg3 harg3 arg4 harg4 arg5 harg5 arg12 arg13 arg14 x0 x1 x2) (kernelRun0_B.sl.r_38 (F := Ideal) c i arg3 harg3 arg4 harg4 arg5 harg5 arg12 arg13 arg14 x0 x1 x2) (kernelRun0_B.sl.r_39 (F := Ideal) c i arg3 harg3 arg4 harg4 arg5 harg5 arg12 arg13 arg14 x0 x1 x2) (kernelRun0_B.sl.r_40 (F := Ideal) c i arg3 harg3 arg4 harg4 arg5 harg5 arg12 arg13 arg14 x0 x1 x2) (kernelRun0_B.sl.r_41 (F := Ideal) c i arg3 harg3 arg4 harg4 arg12 arg14 x0 x1) (kernelRun0_B.sl.v456 i) x1 x2 (kernelRun0_B.sl.HS0_2 (F := Ideal) c i arg3 harg3 arg4 harg4 arg12 arg14 x0 x1) (kernelRun0_B.sl.HS1_2 (F := Ideal) c i arg3 harg3 arg4 harg4 arg5 harg5 arg12 arg13 arg14 x0 x1 x2) (kernelRun0_B.sl.HS2_8 (F := Ideal) c i arg3 harg3 arg4 harg4 x0 x1) (kernelRun0_B.sl.HS3_8 (F := Ideal) c i arg3 harg3 arg4 harg4 x0 x1)
  rw [hi] at h
  have hd := diag_state c i arg3 harg3 arg4 harg4 arg5 harg5 arg12 arg13 arg14 arg15 x0 x1 x2
  unfold finalA
  rw [← hd]
  have e : (kernelRun0_B.sl.r (F := Ideal) c arg3 harg3 x0) = qa x0 := qaB (c := c) (arg3 := arg3) (harg3 := harg3) (x0 := x0)
  have e1 : (kernelRun0_B.sl.r_1 (F := Ideal) c arg3 harg3 x0) = qb x0 := qbB (c := c) (arg3 := arg3) (harg3 := harg3) (x0 := x0)
  have h2 := congrArg St.A h
  unfold loopB
  generalize hQ : sweepFrom x1 x2 = Q at h2 ⊢
  rw [← e, ← e1]
  exact h2

include hc0 hc1 hc2 hc3 hc4 c i arg3 harg3 arg4 harg4 arg5 harg5 arg6 harg6 arg7 harg7 arg8 harg8 arg9 harg9 arg10 harg10 arg11 harg11 arg12 harg12 arg13 harg13 arg14 harg14 arg15 harg15 x0 x1 x2

/-- Left-over tile 1: the piece that stores the accumulators. -/
theorem aB0 : ∃ L, (kernelRun0_B.sl.HS1_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = ⟨Rect.unit ![0, 0] S144x2048.size inb_S144x2048_S144x2048_0_0, tileA (kernelRun0_B.sl.v563 (F := Ideal) arg5 harg5 x2) (kernelRun0_B.sl.v566 (F := Ideal) arg5 harg5 x2) (kernelRun0_B.sl.v568 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (kernelRun0_B.sl.v567 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (shapeCast S512x256 (kernelRun0_B.sl.v569 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_B.sl.v584 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_B.sl.v601 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_B.sl.v618 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_B.sl.v635 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_B.sl.v652 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_B.sl.v669 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_B.sl.v686 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256)⟩ :: L := ⟨_, rfl⟩

/-- Left-over tile 1 is visited from the state before it. -/
theorem stB0 (hi : (i 2).val % 4 = 1) :
    (kernelRun0_B.sl.v567 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = St.M (loopB c i arg3 harg3 arg4 harg4 arg5 harg5 arg6 harg6 arg7 harg7 arg8 harg8 arg9 harg9 arg10 harg10 arg11 harg11 arg12 harg12 arg13 harg13 arg14 harg14 arg15 harg15 x0 x1 x2) ∧ (kernelRun0_B.sl.v568 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = St.A (loopB c i arg3 harg3 arg4 harg4 arg5 harg5 arg6 harg6 arg7 harg7 arg8 harg8 arg9 harg9 arg10 harg10 arg11 harg11 arg12 harg12 arg13 harg13 arg14 harg14 arg15 harg15 x0 x1 x2)
    ∧ (shapeCast S512x256 (kernelRun0_B.sl.v569 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopB c i arg3 harg3 arg4 harg4 arg5 harg5 arg6 harg6 arg7 harg7 arg8 harg8 arg9 harg9 arg10 harg10 arg11 harg11 arg12 harg12 arg13 harg13 arg14 harg14 arg15 harg15 x0 x1 x2) 0
    ∧ (shapeCast S512x256 (kernelRun0_B.sl.v584 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopB c i arg3 harg3 arg4 harg4 arg5 harg5 arg6 harg6 arg7 harg7 arg8 harg8 arg9 harg9 arg10 harg10 arg11 harg11 arg12 harg12 arg13 harg13 arg14 harg14 arg15 harg15 x0 x1 x2) 1
    ∧ (shapeCast S512x256 (kernelRun0_B.sl.v601 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopB c i arg3 harg3 arg4 harg4 arg5 harg5 arg6 harg6 arg7 harg7 arg8 harg8 arg9 harg9 arg10 harg10 arg11 harg11 arg12 harg12 arg13 harg13 arg14 harg14 arg15 harg15 x0 x1 x2) 2
    ∧ (shapeCast S512x256 (kernelRun0_B.sl.v618 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopB c i arg3 harg3 arg4 harg4 arg5 harg5 arg6 harg6 arg7 harg7 arg8 harg8 arg9 harg9 arg10 harg10 arg11 harg11 arg12 harg12 arg13 harg13 arg14 harg14 arg15 harg15 x0 x1 x2) 3
    ∧ (shapeCast S512x256 (kernelRun0_B.sl.v635 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopB c i arg3 harg3 arg4 harg4 arg5 harg5 arg6 harg6 arg7 harg7 arg8 harg8 arg9 harg9 arg10 harg10 arg11 harg11 arg12 harg12 arg13 harg13 arg14 harg14 arg15 harg15 x0 x1 x2) 4
    ∧ (shapeCast S512x256 (kernelRun0_B.sl.v652 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopB c i arg3 harg3 arg4 harg4 arg5 harg5 arg6 harg6 arg7 harg7 arg8 harg8 arg9 harg9 arg10 harg10 arg11 harg11 arg12 harg12 arg13 harg13 arg14 harg14 arg15 harg15 x0 x1 x2) 5
    ∧ (shapeCast S512x256 (kernelRun0_B.sl.v669 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopB c i arg3 harg3 arg4 harg4 arg5 harg5 arg6 harg6 arg7 harg7 arg8 harg8 arg9 harg9 arg10 harg10 arg11 harg11 arg12 harg12 arg13 harg13 arg14 harg14 arg15 harg15 x0 x1 x2) 6
    ∧ (shapeCast S512x256 (kernelRun0_B.sl.v686 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopB c i arg3 harg3 arg4 harg4 arg5 harg5 arg6 harg6 arg7 harg7 arg8 harg8 arg9 harg9 arg10 harg10 arg11 harg11 arg12 harg12 arg13 harg13 arg14 harg14 arg15 harg15 x0 x1 x2) 7 := by
  refine ⟨readAt_whole _ _ zero2 _, readAt_whole _ _ zero2 _, ?_, ?_, ?_, ?_, ?_, ?_, ?_, ?_⟩
  · exact load_slot_0 _ _
  · exact load_slot_1 _ _
  · exact load_slot_2 _ _
  · exact load_slot_3 _ _
  · exact load_slot_4 _ _
  · exact load_slot_5 _ _
  · exact load_slot_6 _ _
  · exact load_slot_7 _ _

/-- The accumulators the output is read from are those after all tiles. -/
theorem accB (hi : (i 2).val % 4 = 1) : (kernelRun0_B.sl.v501 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = finalA i x0 x1 x2 := by
  rw [← restB c i arg3 harg3 arg4 harg4 arg5 harg5 arg6 harg6 arg7 harg7 arg8 harg8 arg9 harg9 arg10 harg10 arg11 harg11 arg12 harg12 arg13 harg13 arg14 harg14 arg15 harg15 x0 x1 x2 hi]
  have hq : (i 2).val < 16 := (i 2).isLt
  obtain ⟨hm, ha, h0, h1, h2, h3, h4, h5, h6, h7⟩ := stB0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi
  obtain ⟨La, ea⟩ := aB0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  have c0 := loadV arg5 (harg5.unread x2) inb_S64x256x128_S1x256x128_0_0_0 (r := 4 * 0 + 0) (by rfl) (by decide)
  have c1 := loadV arg5 (harg5.unread x2) inb_S64x256x128_S1x256x128_1_0_0 (r := 4 * 0 + 1) (by rfl) (by decide)
  have c2 := loadV arg5 (harg5.unread x2) inb_S64x256x128_S1x256x128_2_0_0 (r := 4 * 0 + 2) (by rfl) (by decide)
  have c3 := loadV arg5 (harg5.unread x2) inb_S64x256x128_S1x256x128_3_0_0 (r := 4 * 0 + 3) (by rfl) (by decide)
  rw [harg5.read_unread] at c0 c1 c2 c3
  have hva : (kernelRun0_B.sl.v563 (F := Ideal) arg5 harg5 x2) = vaT x2 0 := by
    unfold vaT; rw [← c0, ← c1, ← c2, ← c3]; rfl
  have hvb : (kernelRun0_B.sl.v566 (F := Ideal) arg5 harg5 x2) = vbT x2 0 := by
    unfold vbT; rw [← c0, ← c1, ← c2, ← c3]; rfl
  rw [hm, ha, hva, hvb, h0, h1, h2, h3, h4, h5, h6, h7] at ea
  refine (readAt_whole _ _ zero2 _).trans ?_
  rw [ea, read_writes_whole _ _ zero2]; rfl

/-- What the grid point leaves in the output block. -/
theorem outB  (x3 : Vec Ideal S1x64 .f32) (x4 : Vec Ideal S1x64 .f32) (x5 : Vec Ideal S1x64 .f32) (x6 : Vec Ideal S1x64 .f32) (x7 : Vec Ideal S128x1 .f32) (hi : (i 2).val % 4 = 1) :
    out0_B_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 = blockOut x3 x4 x5 x6 x7 (finalA i x0 x1 x2) := by
  rw [← accB c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi]
  have e3 := (readAt_whole arg6.view (harg6.unread x3) zero2 inb_S1x64_S1x64_0_0).trans (harg6.read_unread x3)
  have e4 := (readAt_whole arg7.view (harg7.unread x4) zero2 inb_S1x64_S1x64_0_0).trans (harg7.read_unread x4)
  have e5 := (readAt_whole arg8.view (harg8.unread x5) zero2 inb_S1x64_S1x64_0_0).trans (harg8.read_unread x5)
  have e6 := (readAt_whole arg9.view (harg9.unread x6) zero2 inb_S1x64_S1x64_0_0).trans (harg9.read_unread x6)
  have e7 := (readAt_whole arg10.view (harg10.unread x7) zero2 inb_S128x1_S128x1_0_0).trans (harg10.read_unread x7)
  refine Eq.trans ?_ (congrArg₂ (fun a b => blockOut a b x5 x6 x7 (kernelRun0_B.sl.v501 (F := Ideal) c i arg3 harg3 arg4 harg4 arg5 harg5 arg6 harg6 arg7 harg7 arg8 harg8 arg9 harg9 arg10 harg10 arg11 harg11 arg12 harg12 arg13 harg13 arg14 harg14 arg15 harg15 x0 x1 x2)) e3 e4)
  refine Eq.trans ?_ (congrArg₂ (fun a b => blockOut _ _ a b x7 (kernelRun0_B.sl.v501 (F := Ideal) c i arg3 harg3 arg4 harg4 arg5 harg5 arg6 harg6 arg7 harg7 arg8 harg8 arg9 harg9 arg10 harg10 arg11 harg11 arg12 harg12 arg13 harg13 arg14 harg14 arg15 harg15 x0 x1 x2)) e5 e6)
  refine Eq.trans ?_ (congrArg (fun a => blockOut _ _ _ _ a (kernelRun0_B.sl.v501 (F := Ideal) c i arg3 harg3 arg4 harg4 arg5 harg5 arg6 harg6 arg7 harg7 arg8 harg8 arg9 harg9 arg10 harg10 arg11 harg11 arg12 harg12 arg13 harg13 arg14 harg14 arg15 harg15 x0 x1 x2)) e7)
  rfl

end

end Cert.KernelIdeal.Gen.Diff
-- ==== Proof.CaseC.lean ====
/- Case C of the grid points: 2 key tile(s) left over after the loop's trips of four. -/
module

public import proofs.«01_k».proof.Proof.Loops2
public import proofs.«01_k».proof.Proof.Out

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

section
variable (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (hc0 : ¬cond0_0 i) (hc1 : cond0_1 i) (hc2 : cond0_2 i) (hc3 : ¬cond0_3 i) (hc4 : ¬cond0_4 i) (x0 : Vec Ideal S256x512 .bf16) (x1 : Vec Ideal S8192x256 .bf16) (x2 : Vec Ideal S64x256x128 .bf16)

/-- The state after the loops. -/
def loopC (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (x0 : Vec Ideal S256x512 .bf16) (x1 : Vec Ideal S8192x256 .bf16) (x2 : Vec Ideal S64x256x128 .bf16) : St :=
  loopSt c i arg3 harg3 arg4 harg4 arg5 harg5 arg6 harg6 arg7 harg7 arg8 harg8 arg9 harg9 arg10 harg10 arg11 harg11 arg12 harg12 arg13 harg13 arg14 harg14 arg15 harg15 (kernelRun0_C.sl.r (F := Ideal) c arg3 harg3 x0) (kernelRun0_C.sl.r_1 (F := Ideal) c arg3 harg3 x0) (kernelRun0_C.sl.v41 i) (kernelRun0_C.sl.r_10 (F := Ideal) c i arg3 harg3 arg4 harg4 arg5 harg5 arg12 arg13 arg14 x0 x1 x2) (kernelRun0_C.sl.r_16 (F := Ideal) c i arg3 harg3 arg4 harg4 arg5 harg5 arg12 arg13 arg14 x0 x1 x2) (kernelRun0_C.sl.r_20 (F := Ideal) c i arg3 harg3 arg4 harg4 arg5 harg5 arg12 arg13 arg14 x0 x1 x2) (kernelRun0_C.sl.r_27 (F := Ideal) c i arg3 harg3 arg4 harg4 arg5 harg5 arg12 arg13 arg14 x0 x1 x2) (kernelRun0_C.sl.r_34 (F := Ideal) c i arg3 harg3 arg4 harg4 arg5 harg5 arg12 arg13 arg14 x0 x1 x2) (kernelRun0_C.sl.r_38 (F := Ideal) c i arg3 harg3 arg4 harg4 arg5 harg5 arg12 arg13 arg14 x0 x1 x2) (kernelRun0_C.sl.r_39 (F := Ideal) c i arg3 harg3 arg4 harg4 arg5 harg5 arg12 arg13 arg14 x0 x1 x2) (kernelRun0_C.sl.r_40 (F := Ideal) c i arg3 harg3 arg4 harg4 arg5 harg5 arg12 arg13 arg14 x0 x1 x2) (kernelRun0_C.sl.r_41 (F := Ideal) c i arg3 harg3 arg4 harg4 arg12 arg14 x0 x1) (kernelRun0_C.sl.v456 i) x1 x2 (kernelRun0_C.sl.HS0_2 (F := Ideal) c i arg3 harg3 arg4 harg4 arg12 arg14 x0 x1) (kernelRun0_C.sl.HS1_2 (F := Ideal) c i arg3 harg3 arg4 harg4 arg5 harg5 arg12 arg13 arg14 x0 x1 x2) (kernelRun0_C.sl.HS2_8 (F := Ideal) c i arg3 harg3 arg4 harg4 x0 x1) (kernelRun0_C.sl.HS3_8 (F := Ideal) c i arg3 harg3 arg4 harg4 x0 x1)

theorem qaC : (kernelRun0_C.sl.r (F := Ideal) c arg3 harg3 x0) = qa x0 := congrArg (k0_pay670 (F := Ideal)) (loadQ arg3 harg3 x0 0 (by decide) inb_S256x512_S128x512_0_0)

theorem qbC : (kernelRun0_C.sl.r_1 (F := Ideal) c arg3 harg3 x0) = qb x0 := congrArg (k0_pay671 (F := Ideal)) (loadQ arg3 harg3 x0 128 (by decide) inb_S256x512_S128x512_128_0)

/-- The visits left over lead from the state after the loops to the last state. -/
theorem restC (hi : (i 2).val % 4 = 2) :
    (sweepFrom x1 x2 (qa x0) (qb x0) 2 (loopC c i arg3 harg3 arg4 harg4 arg5 harg5 arg6 harg6 arg7 harg7 arg8 harg8 arg9 harg9 arg10 harg10 arg11 harg11 arg12 harg12 arg13 harg13 arg14 harg14 arg15 harg15 x0 x1 x2)).A = finalA i x0 x1 x2 := by
  have h := loops_state c i arg3 harg3 arg4 harg4 arg5 harg5 arg6 harg6 arg7 harg7 arg8 harg8 arg9 harg9 arg10 harg10 arg11 harg11 arg12 harg12 arg13 harg13 arg14 harg14 arg15 harg15 (kernelRun0_C.sl.r (F := Ideal) c arg3 harg3 x0) (kernelRun0_C.sl.r_1 (F := Ideal) c arg3 harg3 x0) (kernelRun0_C.sl.v41 i) (kernelRun0_C.sl.r_10 (F := Ideal) c i arg3 harg3 arg4 harg4 arg5 harg5 arg12 arg13 arg14 x0 x1 x2) (kernelRun0_C.sl.r_16 (F := Ideal) c i arg3 harg3 arg4 harg4 arg5 harg5 arg12 arg13 arg14 x0 x1 x2) (kernelRun0_C.sl.r_20 (F := Ideal) c i arg3 harg3 arg4 harg4 arg5 harg5 arg12 arg13 arg14 x0 x1 x2) (kernelRun0_C.sl.r_27 (F := Ideal) c i arg3 harg3 arg4 harg4 arg5 harg5 arg12 arg13 arg14 x0 x1 x2) (kernelRun0_C.sl.r_34 (F := Ideal) c i arg3 harg3 arg4 harg4 arg5 harg5 arg12 arg13 arg14 x0 x1 x2) (kernelRun0_C.sl.r_38 (F := Ideal) c i arg3 harg3 arg4 harg4 arg5 harg5 arg12 arg13 arg14 x0 x1 x2) (kernelRun0_C.sl.r_39 (F := Ideal) c i arg3 harg3 arg4 harg4 arg5 harg5 arg12 arg13 arg14 x0 x1 x2) (kernelRun0_C.sl.r_40 (F := Ideal) c i arg3 harg3 arg4 harg4 arg5 harg5 arg12 arg13 arg14 x0 x1 x2) (kernelRun0_C.sl.r_41 (F := Ideal) c i arg3 harg3 arg4 harg4 arg12 arg14 x0 x1) (kernelRun0_C.sl.v456 i) x1 x2 (kernelRun0_C.sl.HS0_2 (F := Ideal) c i arg3 harg3 arg4 harg4 arg12 arg14 x0 x1) (kernelRun0_C.sl.HS1_2 (F := Ideal) c i arg3 harg3 arg4 harg4 arg5 harg5 arg12 arg13 arg14 x0 x1 x2) (kernelRun0_C.sl.HS2_8 (F := Ideal) c i arg3 harg3 arg4 harg4 x0 x1) (kernelRun0_C.sl.HS3_8 (F := Ideal) c i arg3 harg3 arg4 harg4 x0 x1)
  rw [hi] at h
  have hd := diag_state c i arg3 harg3 arg4 harg4 arg5 harg5 arg12 arg13 arg14 arg15 x0 x1 x2
  unfold finalA
  rw [← hd]
  have e : (kernelRun0_C.sl.r (F := Ideal) c arg3 harg3 x0) = qa x0 := qaC (c := c) (arg3 := arg3) (harg3 := harg3) (x0 := x0)
  have e1 : (kernelRun0_C.sl.r_1 (F := Ideal) c arg3 harg3 x0) = qb x0 := qbC (c := c) (arg3 := arg3) (harg3 := harg3) (x0 := x0)
  have h2 := congrArg St.A h
  unfold loopC
  generalize hQ : sweepFrom x1 x2 = Q at h2 ⊢
  rw [← e, ← e1]
  exact h2

include hc0 hc1 hc2 hc3 hc4 c i arg3 harg3 arg4 harg4 arg5 harg5 arg6 harg6 arg7 harg7 arg8 harg8 arg9 harg9 arg10 harg10 arg11 harg11 arg12 harg12 arg13 harg13 arg14 harg14 arg15 harg15 x0 x1 x2

/-- Left-over tile 1: the piece that stores the running maxima. -/
theorem mC0 : ∃ L, (kernelRun0_C.sl.HS0_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = ⟨Rect.unit ![0, 0] S1x2048.size inb_S1x2048_S1x2048_0_0, tileM (kernelRun0_C.sl.v579 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (shapeCast S512x256 (kernelRun0_C.sl.v592 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v618 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v646 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v674 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v702 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v730 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v758 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v786 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256)⟩ :: L := ⟨_, rfl⟩

/-- Left-over tile 1: the piece that stores the accumulators. -/
theorem aC0 : ∃ L, (kernelRun0_C.sl.HS1_1_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = ⟨Rect.unit ![0, 0] S144x2048.size inb_S144x2048_S144x2048_0_0, tileA (kernelRun0_C.sl.v575 (F := Ideal) i arg5 harg5 hc1 x2) (kernelRun0_C.sl.v578 (F := Ideal) i arg5 harg5 hc1 x2) (kernelRun0_C.sl.v580 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (kernelRun0_C.sl.v579 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (shapeCast S512x256 (kernelRun0_C.sl.v592 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v618 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v646 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v674 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v702 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v730 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v758 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_C.sl.v786 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256)⟩ :: L := ⟨_, rfl⟩

/-- Left-over tile 1: the pieces that store the next tile's scores. -/
theorem sC0 : ∃ L, (kernelRun0_C.sl.HS2_8_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = slotsOf
    (arg4.view.readAt (Elt Ideal) (Rect.unit (s := S8192x256) (k0_off13 i) S512x128.size (k0_off13_inb i hc1)).toLoadRect (harg4.unread x1))
    (arg4.view.readAt (Elt Ideal) (Rect.unit (s := S8192x256) (k0_off14 i) S512x128.size (k0_off14_inb i hc1)).toLoadRect (harg4.unread x1))
    (kernelRun0_C.sl.r (F := Ideal) c arg3 harg3 x0) (kernelRun0_C.sl.r_1 (F := Ideal) c arg3 harg3 x0) L := ⟨_, rfl⟩

/-- Left-over tile 2: the piece that stores the accumulators. -/
theorem aC1 : ∃ L, (kernelRun0_C.sl.HS1_2_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = ⟨Rect.unit ![0, 0] S144x2048.size inb_S144x2048_S144x2048_0_0, tileA (kernelRun0_C.sl.v563_1 (F := Ideal) arg5 harg5 x2) (kernelRun0_C.sl.v566_1 (F := Ideal) arg5 harg5 x2) (kernelRun0_C.sl.v568_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) (kernelRun0_C.sl.v567 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (shapeCast S512x256 (kernelRun0_C.sl.v569_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_C.sl.v584 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_C.sl.v601_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_C.sl.v618_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_C.sl.v635 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_C.sl.v652_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_C.sl.v669_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_C.sl.v686_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256)⟩ :: L := ⟨_, rfl⟩

/-- Left-over tile 1 is visited from the state before it. -/
theorem stC0 (hi : (i 2).val % 4 = 2) :
    (kernelRun0_C.sl.v579 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = St.M (loopC c i arg3 harg3 arg4 harg4 arg5 harg5 arg6 harg6 arg7 harg7 arg8 harg8 arg9 harg9 arg10 harg10 arg11 harg11 arg12 harg12 arg13 harg13 arg14 harg14 arg15 harg15 x0 x1 x2) ∧ (kernelRun0_C.sl.v580 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = St.A (loopC c i arg3 harg3 arg4 harg4 arg5 harg5 arg6 harg6 arg7 harg7 arg8 harg8 arg9 harg9 arg10 harg10 arg11 harg11 arg12 harg12 arg13 harg13 arg14 harg14 arg15 harg15 x0 x1 x2)
    ∧ (shapeCast S512x256 (kernelRun0_C.sl.v592 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopC c i arg3 harg3 arg4 harg4 arg5 harg5 arg6 harg6 arg7 harg7 arg8 harg8 arg9 harg9 arg10 harg10 arg11 harg11 arg12 harg12 arg13 harg13 arg14 harg14 arg15 harg15 x0 x1 x2) 0
    ∧ (shapeCast S512x256 (kernelRun0_C.sl.v618 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopC c i arg3 harg3 arg4 harg4 arg5 harg5 arg6 harg6 arg7 harg7 arg8 harg8 arg9 harg9 arg10 harg10 arg11 harg11 arg12 harg12 arg13 harg13 arg14 harg14 arg15 harg15 x0 x1 x2) 1
    ∧ (shapeCast S512x256 (kernelRun0_C.sl.v646 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopC c i arg3 harg3 arg4 harg4 arg5 harg5 arg6 harg6 arg7 harg7 arg8 harg8 arg9 harg9 arg10 harg10 arg11 harg11 arg12 harg12 arg13 harg13 arg14 harg14 arg15 harg15 x0 x1 x2) 2
    ∧ (shapeCast S512x256 (kernelRun0_C.sl.v674 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopC c i arg3 harg3 arg4 harg4 arg5 harg5 arg6 harg6 arg7 harg7 arg8 harg8 arg9 harg9 arg10 harg10 arg11 harg11 arg12 harg12 arg13 harg13 arg14 harg14 arg15 harg15 x0 x1 x2) 3
    ∧ (shapeCast S512x256 (kernelRun0_C.sl.v702 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopC c i arg3 harg3 arg4 harg4 arg5 harg5 arg6 harg6 arg7 harg7 arg8 harg8 arg9 harg9 arg10 harg10 arg11 harg11 arg12 harg12 arg13 harg13 arg14 harg14 arg15 harg15 x0 x1 x2) 4
    ∧ (shapeCast S512x256 (kernelRun0_C.sl.v730 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopC c i arg3 harg3 arg4 harg4 arg5 harg5 arg6 harg6 arg7 harg7 arg8 harg8 arg9 harg9 arg10 harg10 arg11 harg11 arg12 harg12 arg13 harg13 arg14 harg14 arg15 harg15 x0 x1 x2) 5
    ∧ (shapeCast S512x256 (kernelRun0_C.sl.v758 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopC c i arg3 harg3 arg4 harg4 arg5 harg5 arg6 harg6 arg7 harg7 arg8 harg8 arg9 harg9 arg10 harg10 arg11 harg11 arg12 harg12 arg13 harg13 arg14 harg14 arg15 harg15 x0 x1 x2) 6
    ∧ (shapeCast S512x256 (kernelRun0_C.sl.v786 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopC c i arg3 harg3 arg4 harg4 arg5 harg5 arg6 harg6 arg7 harg7 arg8 harg8 arg9 harg9 arg10 harg10 arg11 harg11 arg12 harg12 arg13 harg13 arg14 harg14 arg15 harg15 x0 x1 x2) 7 := by
  refine ⟨readAt_whole _ _ zero2 _, readAt_whole _ _ zero2 _, ?_, ?_, ?_, ?_, ?_, ?_, ?_, ?_⟩
  · exact load_slot_0 _ _
  · exact load_slot_1 _ _
  · exact load_slot_2 _ _
  · exact load_slot_3 _ _
  · exact load_slot_4 _ _
  · exact load_slot_5 _ _
  · exact load_slot_6 _ _
  · exact load_slot_7 _ _

/-- Left-over tile 2 is visited from the state before it. -/
theorem stC1 (hi : (i 2).val % 4 = 2) :
    (kernelRun0_C.sl.v567 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = St.M (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) ∧ (kernelRun0_C.sl.v568_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = St.A (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2))
    ∧ (shapeCast S512x256 (kernelRun0_C.sl.v569_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) 0
    ∧ (shapeCast S512x256 (kernelRun0_C.sl.v584 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) 1
    ∧ (shapeCast S512x256 (kernelRun0_C.sl.v601_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) 2
    ∧ (shapeCast S512x256 (kernelRun0_C.sl.v618_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) 3
    ∧ (shapeCast S512x256 (kernelRun0_C.sl.v635 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) 4
    ∧ (shapeCast S512x256 (kernelRun0_C.sl.v652_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) 5
    ∧ (shapeCast S512x256 (kernelRun0_C.sl.v669_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) 6
    ∧ (shapeCast S512x256 (kernelRun0_C.sl.v686_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 1 (loopC c i arg3 harg3 arg4 harg4 arg5 harg5 arg6 harg6 arg7 harg7 arg8 harg8 arg9 harg9 arg10 harg10 arg11 harg11 arg12 harg12 arg13 harg13 arg14 harg14 arg15 harg15 x0 x1 x2)) 7 := by
  have hq : (i 2).val < 16 := (i 2).isLt
  obtain ⟨hm, ha, h0, h1, h2, h3, h4, h5, h6, h7⟩ := stC0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi
  obtain ⟨Lm, em⟩ := mC0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  obtain ⟨La, ea⟩ := aC0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  obtain ⟨Ls, es⟩ := sC0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  have c0 := loadV arg5 (harg5.unread x2) (k0_off12_inb i hc1 0) (r := 4 * 1 + 0) (by rw [off12_eq i 0 (by omega)]; congr 1; show _ + 0 = _; omega) (by decide)
  have c1 := loadV arg5 (harg5.unread x2) (k0_off12_inb i hc1 1) (r := 4 * 1 + 1) (by rw [off12_eq i 1 (by omega)]; congr 1; show _ + 1 = _; omega) (by decide)
  have c2 := loadV arg5 (harg5.unread x2) (k0_off12_inb i hc1 2) (r := 4 * 1 + 2) (by rw [off12_eq i 2 (by omega)]; congr 1; show _ + 2 = _; omega) (by decide)
  have c3 := loadV arg5 (harg5.unread x2) (k0_off12_inb i hc1 3) (r := 4 * 1 + 3) (by rw [off12_eq i 3 (by omega)]; congr 1; show _ + 3 = _; omega) (by decide)
  rw [harg5.read_unread] at c0 c1 c2 c3
  have hva : (kernelRun0_C.sl.v575 (F := Ideal) i arg5 harg5 hc1 x2) = vaT x2 1 := by
    unfold vaT; rw [← c0, ← c1, ← c2, ← c3]; rfl
  have hvb : (kernelRun0_C.sl.v578 (F := Ideal) i arg5 harg5 hc1 x2) = vbT x2 1 := by
    unfold vbT; rw [← c0, ← c1, ← c2, ← c3]; rfl
  have k1 := loadK arg4 (harg4.unread x1) (k0_off13_inb i hc1) (j := 0) (h := 0) (by rw [off13_eq i (by omega)]; congr 2; omega) (by omega) (by decide)
  have k2 := loadK arg4 (harg4.unread x1) (k0_off14_inb i hc1) (j := 0) (h := 1) (by rw [off14_eq i (by omega)]; congr 2; omega) (by omega) (by decide)
  rw [harg4.read_unread] at k1 k2
  have hr : (kernelRun0_C.sl.r (F := Ideal) c arg3 harg3 x0) = qa x0 := qaC (c := c) (arg3 := arg3) (harg3 := harg3) (x0 := x0)
  have hr1 : (kernelRun0_C.sl.r_1 (F := Ideal) c arg3 harg3 x0) = qb x0 := qbC (c := c) (arg3 := arg3) (harg3 := harg3) (x0 := x0)
  rw [hm, h0, h1, h2, h3, h4, h5, h6, h7] at em
  rw [hm, ha, hva, hvb, h0, h1, h2, h3, h4, h5, h6, h7] at ea
  rw [k1, k2, hr, hr1] at es
  refine ⟨?_, ?_, ?_, ?_, ?_, ?_, ?_, ?_, ?_, ?_⟩
  · refine (readAt_whole _ _ zero2 _).trans ?_
    rw [em, read_writes_whole _ _ zero2]; rfl
  · refine (readAt_whole _ _ zero2 _).trans ?_
    rw [ea, read_writes_whole _ _ zero2]; rfl
  · unfold kernelRun0_C.sl.v569_1
    rw [es]
    exact cov_slot_0 _ _ _ _ _ _ _ _ _ _
  · unfold kernelRun0_C.sl.v584
    rw [es]
    exact cov_slot_1 _ _ _ _ _ _ _ _ _ _
  · unfold kernelRun0_C.sl.v601_1
    rw [es]
    exact cov_slot_2 _ _ _ _ _ _ _ _ _ _
  · unfold kernelRun0_C.sl.v618_1
    rw [es]
    exact cov_slot_3 _ _ _ _ _ _ _ _ _ _
  · unfold kernelRun0_C.sl.v635
    rw [es]
    exact cov_slot_4 _ _ _ _ _ _ _ _ _ _
  · unfold kernelRun0_C.sl.v652_1
    rw [es]
    exact cov_slot_5 _ _ _ _ _ _ _ _ _ _
  · unfold kernelRun0_C.sl.v669_1
    rw [es]
    exact cov_slot_6 _ _ _ _ _ _ _ _ _ _
  · unfold kernelRun0_C.sl.v686_1
    rw [es]
    exact cov_slot_7 _ _ _ _ _ _ _ _ _ _

/-- The accumulators the output is read from are those after all tiles. -/
theorem accC (hi : (i 2).val % 4 = 2) : (kernelRun0_C.sl.v501 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = finalA i x0 x1 x2 := by
  rw [← restC c i arg3 harg3 arg4 harg4 arg5 harg5 arg6 harg6 arg7 harg7 arg8 harg8 arg9 harg9 arg10 harg10 arg11 harg11 arg12 harg12 arg13 harg13 arg14 harg14 arg15 harg15 x0 x1 x2 hi]
  have hq : (i 2).val < 16 := (i 2).isLt
  obtain ⟨hm, ha, h0, h1, h2, h3, h4, h5, h6, h7⟩ := stC1 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi
  obtain ⟨La, ea⟩ := aC1 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  have c0 := loadV arg5 (harg5.unread x2) inb_S64x256x128_S1x256x128_0_0_0 (r := 4 * 0 + 0) (by rfl) (by decide)
  have c1 := loadV arg5 (harg5.unread x2) inb_S64x256x128_S1x256x128_1_0_0 (r := 4 * 0 + 1) (by rfl) (by decide)
  have c2 := loadV arg5 (harg5.unread x2) inb_S64x256x128_S1x256x128_2_0_0 (r := 4 * 0 + 2) (by rfl) (by decide)
  have c3 := loadV arg5 (harg5.unread x2) inb_S64x256x128_S1x256x128_3_0_0 (r := 4 * 0 + 3) (by rfl) (by decide)
  rw [harg5.read_unread] at c0 c1 c2 c3
  have hva : (kernelRun0_C.sl.v563_1 (F := Ideal) arg5 harg5 x2) = vaT x2 0 := by
    unfold vaT; rw [← c0, ← c1, ← c2, ← c3]; rfl
  have hvb : (kernelRun0_C.sl.v566_1 (F := Ideal) arg5 harg5 x2) = vbT x2 0 := by
    unfold vbT; rw [← c0, ← c1, ← c2, ← c3]; rfl
  rw [hm, ha, hva, hvb, h0, h1, h2, h3, h4, h5, h6, h7] at ea
  refine (readAt_whole _ _ zero2 _).trans ?_
  rw [ea, read_writes_whole _ _ zero2]; rfl

/-- What the grid point leaves in the output block. -/
theorem outC  (x3 : Vec Ideal S1x64 .f32) (x4 : Vec Ideal S1x64 .f32) (x5 : Vec Ideal S1x64 .f32) (x6 : Vec Ideal S1x64 .f32) (x7 : Vec Ideal S128x1 .f32) (hi : (i 2).val % 4 = 2) :
    out0_C_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 = blockOut x3 x4 x5 x6 x7 (finalA i x0 x1 x2) := by
  rw [← accC c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi]
  have e3 := (readAt_whole arg6.view (harg6.unread x3) zero2 inb_S1x64_S1x64_0_0).trans (harg6.read_unread x3)
  have e4 := (readAt_whole arg7.view (harg7.unread x4) zero2 inb_S1x64_S1x64_0_0).trans (harg7.read_unread x4)
  have e5 := (readAt_whole arg8.view (harg8.unread x5) zero2 inb_S1x64_S1x64_0_0).trans (harg8.read_unread x5)
  have e6 := (readAt_whole arg9.view (harg9.unread x6) zero2 inb_S1x64_S1x64_0_0).trans (harg9.read_unread x6)
  have e7 := (readAt_whole arg10.view (harg10.unread x7) zero2 inb_S128x1_S128x1_0_0).trans (harg10.read_unread x7)
  refine Eq.trans ?_ (congrArg₂ (fun a b => blockOut a b x5 x6 x7 (kernelRun0_C.sl.v501 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2)) e3 e4)
  refine Eq.trans ?_ (congrArg₂ (fun a b => blockOut _ _ a b x7 (kernelRun0_C.sl.v501 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2)) e5 e6)
  refine Eq.trans ?_ (congrArg (fun a => blockOut _ _ _ _ a (kernelRun0_C.sl.v501 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2)) e7)
  rfl

end

end Cert.KernelIdeal.Gen.Diff
-- ==== Proof.CaseD.lean ====
/- Case D of the grid points: 3 key tile(s) left over after the loop's trips of four. -/
module

public import proofs.«01_k».proof.Proof.Loops2
public import proofs.«01_k».proof.Proof.Out

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts

section
variable (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (hc0 : ¬cond0_0 i) (hc1 : cond0_1 i) (hc2 : ¬cond0_2 i) (hc3 : cond0_3 i) (hc4 : cond0_4 i) (x0 : Vec Ideal S256x512 .bf16) (x1 : Vec Ideal S8192x256 .bf16) (x2 : Vec Ideal S64x256x128 .bf16)

/-- The state after the loops. -/
def loopD (c : Dev nD) (i : grid0.Coords) (arg3 : Memref sig .tc .vmem S256x512 .bf16) (harg3 : arg3.IsWhole) (arg4 : Memref sig .tc .vmem S8192x256 .bf16) (harg4 : arg4.IsWhole) (arg5 : Memref sig .tc .vmem S64x256x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S256x512 .bf16) (harg11 : arg11.IsWhole) (arg12 : Memref sig .tc .vmem S1x2048 .f32) (harg12 : arg12.IsWhole) (arg13 : Memref sig .tc .vmem S144x2048 .f32) (harg13 : arg13.IsWhole) (arg14 : Memref sig .tc .vmem S8x512x256 .f32) (harg14 : arg14.IsWhole) (arg15 : Memref sig .tc .vmem S8x512x256 .f32) (harg15 : arg15.IsWhole)  (x0 : Vec Ideal S256x512 .bf16) (x1 : Vec Ideal S8192x256 .bf16) (x2 : Vec Ideal S64x256x128 .bf16) : St :=
  loopSt c i arg3 harg3 arg4 harg4 arg5 harg5 arg6 harg6 arg7 harg7 arg8 harg8 arg9 harg9 arg10 harg10 arg11 harg11 arg12 harg12 arg13 harg13 arg14 harg14 arg15 harg15 (kernelRun0_D.sl.r (F := Ideal) c arg3 harg3 x0) (kernelRun0_D.sl.r_1 (F := Ideal) c arg3 harg3 x0) (kernelRun0_D.sl.v41 i) (kernelRun0_D.sl.r_10 (F := Ideal) c i arg3 harg3 arg4 harg4 arg5 harg5 arg12 arg13 arg14 x0 x1 x2) (kernelRun0_D.sl.r_16 (F := Ideal) c i arg3 harg3 arg4 harg4 arg5 harg5 arg12 arg13 arg14 x0 x1 x2) (kernelRun0_D.sl.r_20 (F := Ideal) c i arg3 harg3 arg4 harg4 arg5 harg5 arg12 arg13 arg14 x0 x1 x2) (kernelRun0_D.sl.r_27 (F := Ideal) c i arg3 harg3 arg4 harg4 arg5 harg5 arg12 arg13 arg14 x0 x1 x2) (kernelRun0_D.sl.r_34 (F := Ideal) c i arg3 harg3 arg4 harg4 arg5 harg5 arg12 arg13 arg14 x0 x1 x2) (kernelRun0_D.sl.r_38 (F := Ideal) c i arg3 harg3 arg4 harg4 arg5 harg5 arg12 arg13 arg14 x0 x1 x2) (kernelRun0_D.sl.r_39 (F := Ideal) c i arg3 harg3 arg4 harg4 arg5 harg5 arg12 arg13 arg14 x0 x1 x2) (kernelRun0_D.sl.r_40 (F := Ideal) c i arg3 harg3 arg4 harg4 arg5 harg5 arg12 arg13 arg14 x0 x1 x2) (kernelRun0_D.sl.r_41 (F := Ideal) c i arg3 harg3 arg4 harg4 arg12 arg14 x0 x1) (kernelRun0_D.sl.v456 i) x1 x2 (kernelRun0_D.sl.HS0_2 (F := Ideal) c i arg3 harg3 arg4 harg4 arg12 arg14 x0 x1) (kernelRun0_D.sl.HS1_2 (F := Ideal) c i arg3 harg3 arg4 harg4 arg5 harg5 arg12 arg13 arg14 x0 x1 x2) (kernelRun0_D.sl.HS2_8 (F := Ideal) c i arg3 harg3 arg4 harg4 x0 x1) (kernelRun0_D.sl.HS3_8 (F := Ideal) c i arg3 harg3 arg4 harg4 x0 x1)

theorem qaD : (kernelRun0_D.sl.r (F := Ideal) c arg3 harg3 x0) = qa x0 := congrArg (k0_pay670 (F := Ideal)) (loadQ arg3 harg3 x0 0 (by decide) inb_S256x512_S128x512_0_0)

theorem qbD : (kernelRun0_D.sl.r_1 (F := Ideal) c arg3 harg3 x0) = qb x0 := congrArg (k0_pay671 (F := Ideal)) (loadQ arg3 harg3 x0 128 (by decide) inb_S256x512_S128x512_128_0)

/-- The visits left over lead from the state after the loops to the last state. -/
theorem restD (hi : (i 2).val % 4 = 3) :
    (sweepFrom x1 x2 (qa x0) (qb x0) 3 (loopD c i arg3 harg3 arg4 harg4 arg5 harg5 arg6 harg6 arg7 harg7 arg8 harg8 arg9 harg9 arg10 harg10 arg11 harg11 arg12 harg12 arg13 harg13 arg14 harg14 arg15 harg15 x0 x1 x2)).A = finalA i x0 x1 x2 := by
  have h := loops_state c i arg3 harg3 arg4 harg4 arg5 harg5 arg6 harg6 arg7 harg7 arg8 harg8 arg9 harg9 arg10 harg10 arg11 harg11 arg12 harg12 arg13 harg13 arg14 harg14 arg15 harg15 (kernelRun0_D.sl.r (F := Ideal) c arg3 harg3 x0) (kernelRun0_D.sl.r_1 (F := Ideal) c arg3 harg3 x0) (kernelRun0_D.sl.v41 i) (kernelRun0_D.sl.r_10 (F := Ideal) c i arg3 harg3 arg4 harg4 arg5 harg5 arg12 arg13 arg14 x0 x1 x2) (kernelRun0_D.sl.r_16 (F := Ideal) c i arg3 harg3 arg4 harg4 arg5 harg5 arg12 arg13 arg14 x0 x1 x2) (kernelRun0_D.sl.r_20 (F := Ideal) c i arg3 harg3 arg4 harg4 arg5 harg5 arg12 arg13 arg14 x0 x1 x2) (kernelRun0_D.sl.r_27 (F := Ideal) c i arg3 harg3 arg4 harg4 arg5 harg5 arg12 arg13 arg14 x0 x1 x2) (kernelRun0_D.sl.r_34 (F := Ideal) c i arg3 harg3 arg4 harg4 arg5 harg5 arg12 arg13 arg14 x0 x1 x2) (kernelRun0_D.sl.r_38 (F := Ideal) c i arg3 harg3 arg4 harg4 arg5 harg5 arg12 arg13 arg14 x0 x1 x2) (kernelRun0_D.sl.r_39 (F := Ideal) c i arg3 harg3 arg4 harg4 arg5 harg5 arg12 arg13 arg14 x0 x1 x2) (kernelRun0_D.sl.r_40 (F := Ideal) c i arg3 harg3 arg4 harg4 arg5 harg5 arg12 arg13 arg14 x0 x1 x2) (kernelRun0_D.sl.r_41 (F := Ideal) c i arg3 harg3 arg4 harg4 arg12 arg14 x0 x1) (kernelRun0_D.sl.v456 i) x1 x2 (kernelRun0_D.sl.HS0_2 (F := Ideal) c i arg3 harg3 arg4 harg4 arg12 arg14 x0 x1) (kernelRun0_D.sl.HS1_2 (F := Ideal) c i arg3 harg3 arg4 harg4 arg5 harg5 arg12 arg13 arg14 x0 x1 x2) (kernelRun0_D.sl.HS2_8 (F := Ideal) c i arg3 harg3 arg4 harg4 x0 x1) (kernelRun0_D.sl.HS3_8 (F := Ideal) c i arg3 harg3 arg4 harg4 x0 x1)
  rw [hi] at h
  have hd := diag_state c i arg3 harg3 arg4 harg4 arg5 harg5 arg12 arg13 arg14 arg15 x0 x1 x2
  unfold finalA
  rw [← hd]
  have e : (kernelRun0_D.sl.r (F := Ideal) c arg3 harg3 x0) = qa x0 := qaD (c := c) (arg3 := arg3) (harg3 := harg3) (x0 := x0)
  have e1 : (kernelRun0_D.sl.r_1 (F := Ideal) c arg3 harg3 x0) = qb x0 := qbD (c := c) (arg3 := arg3) (harg3 := harg3) (x0 := x0)
  have h2 := congrArg St.A h
  unfold loopD
  generalize hQ : sweepFrom x1 x2 = Q at h2 ⊢
  rw [← e, ← e1]
  exact h2

include hc0 hc1 hc2 hc3 hc4 c i arg3 harg3 arg4 harg4 arg5 harg5 arg6 harg6 arg7 harg7 arg8 harg8 arg9 harg9 arg10 harg10 arg11 harg11 arg12 harg12 arg13 harg13 arg14 harg14 arg15 harg15 x0 x1 x2

/-- Left-over tile 1: the piece that stores the running maxima. -/
theorem mD0 : ∃ L, (kernelRun0_D.sl.HS0_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = ⟨Rect.unit ![0, 0] S1x2048.size inb_S1x2048_S1x2048_0_0, tileM (kernelRun0_D.sl.v579 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (shapeCast S512x256 (kernelRun0_D.sl.v592 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v618 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v646 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v674 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v702 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v730 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v758 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v786 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256)⟩ :: L := ⟨_, rfl⟩

/-- Left-over tile 1: the piece that stores the accumulators. -/
theorem aD0 : ∃ L, (kernelRun0_D.sl.HS1_1_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = ⟨Rect.unit ![0, 0] S144x2048.size inb_S144x2048_S144x2048_0_0, tileA (kernelRun0_D.sl.v575 (F := Ideal) i arg5 harg5 hc1 x2) (kernelRun0_D.sl.v578 (F := Ideal) i arg5 harg5 hc1 x2) (kernelRun0_D.sl.v580 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (kernelRun0_D.sl.v579 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (shapeCast S512x256 (kernelRun0_D.sl.v592 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v618 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v646 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v674 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v702 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v730 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v758 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) (shapeCast S512x256 (kernelRun0_D.sl.v786 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256)⟩ :: L := ⟨_, rfl⟩

/-- Left-over tile 1: the pieces that store the next tile's scores. -/
theorem sD0 : ∃ L, (kernelRun0_D.sl.HS2_8_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = slotsOf
    (arg4.view.readAt (Elt Ideal) (Rect.unit (s := S8192x256) (k0_off13 i) S512x128.size (k0_off13_inb i hc1)).toLoadRect (harg4.unread x1))
    (arg4.view.readAt (Elt Ideal) (Rect.unit (s := S8192x256) (k0_off14 i) S512x128.size (k0_off14_inb i hc1)).toLoadRect (harg4.unread x1))
    (kernelRun0_D.sl.r (F := Ideal) c arg3 harg3 x0) (kernelRun0_D.sl.r_1 (F := Ideal) c arg3 harg3 x0) L := ⟨_, rfl⟩

/-- Left-over tile 2: the piece that stores the running maxima. -/
theorem mD1 : ∃ L, (kernelRun0_D.sl.HS0_2_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = ⟨Rect.unit ![0, 0] S1x2048.size inb_S1x2048_S1x2048_0_0, tileM (kernelRun0_D.sl.v579_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (shapeCast S512x256 (kernelRun0_D.sl.v592_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v618_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v646_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v674_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v702_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v730_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v758_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v786_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256)⟩ :: L := ⟨_, rfl⟩

/-- Left-over tile 2: the piece that stores the accumulators. -/
theorem aD1 : ∃ L, (kernelRun0_D.sl.HS1_2_1 (F := Ideal) c i arg3 harg3 arg4 harg4 arg5 harg5 arg6 harg6 arg7 harg7 arg8 harg8 arg9 harg9 arg10 harg10 arg11 harg11 arg12 harg12 arg13 harg13 arg14 harg14 arg15 harg15 hc1 hc3 x0 x1 x2) = ⟨Rect.unit ![0, 0] S144x2048.size inb_S144x2048_S144x2048_0_0, tileA (kernelRun0_D.sl.v575_1 (F := Ideal) i arg5 harg5 hc3 x2) (kernelRun0_D.sl.v578_1 (F := Ideal) i arg5 harg5 hc3 x2) (kernelRun0_D.sl.v580_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) (kernelRun0_D.sl.v579_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (shapeCast S512x256 (kernelRun0_D.sl.v592_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v618_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v646_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v674_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v702_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v730_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v758_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) (shapeCast S512x256 (kernelRun0_D.sl.v786_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256)⟩ :: L := ⟨_, rfl⟩

/-- Left-over tile 2: the pieces that store the next tile's scores. -/
theorem sD1 : ∃ L, (kernelRun0_D.sl.HS3_8_1 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) = slotsOf
    (arg4.view.readAt (Elt Ideal) (Rect.unit (s := S8192x256) (k0_off16 i) S512x128.size (k0_off16_inb i hc3)).toLoadRect (harg4.unread x1))
    (arg4.view.readAt (Elt Ideal) (Rect.unit (s := S8192x256) (k0_off17 i) S512x128.size (k0_off17_inb i hc3)).toLoadRect (harg4.unread x1))
    (kernelRun0_D.sl.r (F := Ideal) c arg3 harg3 x0) (kernelRun0_D.sl.r_1 (F := Ideal) c arg3 harg3 x0) L := ⟨_, rfl⟩

/-- Left-over tile 3: the piece that stores the accumulators. -/
theorem aD2 : ∃ L, (kernelRun0_D.sl.HS1_3 (F := Ideal) c i arg3 harg3 arg4 harg4 arg5 harg5 arg6 harg6 arg7 harg7 arg8 harg8 arg9 harg9 arg10 harg10 arg11 harg11 arg12 harg12 arg13 harg13 arg14 harg14 arg15 harg15 hc1 hc3 x0 x1 x2) = ⟨Rect.unit ![0, 0] S144x2048.size inb_S144x2048_S144x2048_0_0, tileA (kernelRun0_D.sl.v563_2 (F := Ideal) arg5 harg5 x2) (kernelRun0_D.sl.v566_2 (F := Ideal) arg5 harg5 x2) (kernelRun0_D.sl.v568_2 (F := Ideal) c i arg3 harg3 arg4 harg4 arg5 harg5 arg6 harg6 arg7 harg7 arg8 harg8 arg9 harg9 arg10 harg10 arg11 harg11 arg12 harg12 arg13 harg13 arg14 harg14 arg15 harg15 hc1 hc3 x0 x1 x2) (kernelRun0_D.sl.v567 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) (shapeCast S512x256 (kernelRun0_D.sl.v569_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) (shapeCast S512x256 (kernelRun0_D.sl.v584 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) (shapeCast S512x256 (kernelRun0_D.sl.v601_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) (shapeCast S512x256 (kernelRun0_D.sl.v618_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) (shapeCast S512x256 (kernelRun0_D.sl.v635 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) (shapeCast S512x256 (kernelRun0_D.sl.v652_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) (shapeCast S512x256 (kernelRun0_D.sl.v669_1 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) (shapeCast S512x256 (kernelRun0_D.sl.v686_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256)⟩ :: L := ⟨_, rfl⟩

/-- Left-over tile 1 is visited from the state before it. -/
theorem stD0 (hi : (i 2).val % 4 = 3) :
    (kernelRun0_D.sl.v579 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = St.M (loopD c i arg3 harg3 arg4 harg4 arg5 harg5 arg6 harg6 arg7 harg7 arg8 harg8 arg9 harg9 arg10 harg10 arg11 harg11 arg12 harg12 arg13 harg13 arg14 harg14 arg15 harg15 x0 x1 x2) ∧ (kernelRun0_D.sl.v580 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = St.A (loopD c i arg3 harg3 arg4 harg4 arg5 harg5 arg6 harg6 arg7 harg7 arg8 harg8 arg9 harg9 arg10 harg10 arg11 harg11 arg12 harg12 arg13 harg13 arg14 harg14 arg15 harg15 x0 x1 x2)
    ∧ (shapeCast S512x256 (kernelRun0_D.sl.v592 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopD c i arg3 harg3 arg4 harg4 arg5 harg5 arg6 harg6 arg7 harg7 arg8 harg8 arg9 harg9 arg10 harg10 arg11 harg11 arg12 harg12 arg13 harg13 arg14 harg14 arg15 harg15 x0 x1 x2) 0
    ∧ (shapeCast S512x256 (kernelRun0_D.sl.v618 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopD c i arg3 harg3 arg4 harg4 arg5 harg5 arg6 harg6 arg7 harg7 arg8 harg8 arg9 harg9 arg10 harg10 arg11 harg11 arg12 harg12 arg13 harg13 arg14 harg14 arg15 harg15 x0 x1 x2) 1
    ∧ (shapeCast S512x256 (kernelRun0_D.sl.v646 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopD c i arg3 harg3 arg4 harg4 arg5 harg5 arg6 harg6 arg7 harg7 arg8 harg8 arg9 harg9 arg10 harg10 arg11 harg11 arg12 harg12 arg13 harg13 arg14 harg14 arg15 harg15 x0 x1 x2) 2
    ∧ (shapeCast S512x256 (kernelRun0_D.sl.v674 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopD c i arg3 harg3 arg4 harg4 arg5 harg5 arg6 harg6 arg7 harg7 arg8 harg8 arg9 harg9 arg10 harg10 arg11 harg11 arg12 harg12 arg13 harg13 arg14 harg14 arg15 harg15 x0 x1 x2) 3
    ∧ (shapeCast S512x256 (kernelRun0_D.sl.v702 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopD c i arg3 harg3 arg4 harg4 arg5 harg5 arg6 harg6 arg7 harg7 arg8 harg8 arg9 harg9 arg10 harg10 arg11 harg11 arg12 harg12 arg13 harg13 arg14 harg14 arg15 harg15 x0 x1 x2) 4
    ∧ (shapeCast S512x256 (kernelRun0_D.sl.v730 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopD c i arg3 harg3 arg4 harg4 arg5 harg5 arg6 harg6 arg7 harg7 arg8 harg8 arg9 harg9 arg10 harg10 arg11 harg11 arg12 harg12 arg13 harg13 arg14 harg14 arg15 harg15 x0 x1 x2) 5
    ∧ (shapeCast S512x256 (kernelRun0_D.sl.v758 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopD c i arg3 harg3 arg4 harg4 arg5 harg5 arg6 harg6 arg7 harg7 arg8 harg8 arg9 harg9 arg10 harg10 arg11 harg11 arg12 harg12 arg13 harg13 arg14 harg14 arg15 harg15 x0 x1 x2) 6
    ∧ (shapeCast S512x256 (kernelRun0_D.sl.v786 (F := Ideal) c i arg3 harg3 arg4 harg4 arg5 harg5 arg6 harg6 arg7 harg7 arg8 harg8 arg9 harg9 arg10 harg10 arg11 harg11 arg12 harg12 arg13 harg13 arg14 harg14 arg15 harg15 x0 x1 x2) shapeCasts_S1x512x256_S512x256) = St.s (loopD c i arg3 harg3 arg4 harg4 arg5 harg5 arg6 harg6 arg7 harg7 arg8 harg8 arg9 harg9 arg10 harg10 arg11 harg11 arg12 harg12 arg13 harg13 arg14 harg14 arg15 harg15 x0 x1 x2) 7 := by
  refine ⟨readAt_whole _ _ zero2 _, readAt_whole _ _ zero2 _, ?_, ?_, ?_, ?_, ?_, ?_, ?_, ?_⟩
  · exact load_slot_0 _ _
  · exact load_slot_1 _ _
  · exact load_slot_2 _ _
  · exact load_slot_3 _ _
  · exact load_slot_4 _ _
  · exact load_slot_5 _ _
  · exact load_slot_6 _ _
  · exact load_slot_7 _ _

/-- Left-over tile 2 is visited from the state before it. -/
theorem stD1 (hi : (i 2).val % 4 = 3) :
    (kernelRun0_D.sl.v579_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) = St.M (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) ∧ (kernelRun0_D.sl.v580_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = St.A (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))
    ∧ (shapeCast S512x256 (kernelRun0_D.sl.v592_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) 0
    ∧ (shapeCast S512x256 (kernelRun0_D.sl.v618_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) 1
    ∧ (shapeCast S512x256 (kernelRun0_D.sl.v646_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) 2
    ∧ (shapeCast S512x256 (kernelRun0_D.sl.v674_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) 3
    ∧ (shapeCast S512x256 (kernelRun0_D.sl.v702_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) 4
    ∧ (shapeCast S512x256 (kernelRun0_D.sl.v730_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) 5
    ∧ (shapeCast S512x256 (kernelRun0_D.sl.v758_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) 6
    ∧ (shapeCast S512x256 (kernelRun0_D.sl.v786_1 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) shapeCasts_S1x512x256_S512x256) = St.s (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)) 7 := by
  have hq : (i 2).val < 16 := (i 2).isLt
  obtain ⟨hm, ha, h0, h1, h2, h3, h4, h5, h6, h7⟩ := stD0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi
  obtain ⟨Lm, em⟩ := mD0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  obtain ⟨La, ea⟩ := aD0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  obtain ⟨Ls, es⟩ := sD0 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  have c0 := loadV arg5 (harg5.unread x2) (k0_off12_inb i hc1 0) (r := 4 * 2 + 0) (by rw [off12_eq i 0 (by omega)]; congr 1; show _ + 0 = _; omega) (by decide)
  have c1 := loadV arg5 (harg5.unread x2) (k0_off12_inb i hc1 1) (r := 4 * 2 + 1) (by rw [off12_eq i 1 (by omega)]; congr 1; show _ + 1 = _; omega) (by decide)
  have c2 := loadV arg5 (harg5.unread x2) (k0_off12_inb i hc1 2) (r := 4 * 2 + 2) (by rw [off12_eq i 2 (by omega)]; congr 1; show _ + 2 = _; omega) (by decide)
  have c3 := loadV arg5 (harg5.unread x2) (k0_off12_inb i hc1 3) (r := 4 * 2 + 3) (by rw [off12_eq i 3 (by omega)]; congr 1; show _ + 3 = _; omega) (by decide)
  rw [harg5.read_unread] at c0 c1 c2 c3
  have hva : (kernelRun0_D.sl.v575 (F := Ideal) i arg5 harg5 hc1 x2) = vaT x2 2 := by
    unfold vaT; rw [← c0, ← c1, ← c2, ← c3]; rfl
  have hvb : (kernelRun0_D.sl.v578 (F := Ideal) i arg5 harg5 hc1 x2) = vbT x2 2 := by
    unfold vbT; rw [← c0, ← c1, ← c2, ← c3]; rfl
  have k1 := loadK arg4 (harg4.unread x1) (k0_off13_inb i hc1) (j := 1) (h := 0) (by rw [off13_eq i (by omega)]; congr 2; omega) (by omega) (by decide)
  have k2 := loadK arg4 (harg4.unread x1) (k0_off14_inb i hc1) (j := 1) (h := 1) (by rw [off14_eq i (by omega)]; congr 2; omega) (by omega) (by decide)
  rw [harg4.read_unread] at k1 k2
  have hr : (kernelRun0_D.sl.r (F := Ideal) c arg3 harg3 x0) = qa x0 := qaD (c := c) (arg3 := arg3) (harg3 := harg3) (x0 := x0)
  have hr1 : (kernelRun0_D.sl.r_1 (F := Ideal) c arg3 harg3 x0) = qb x0 := qbD (c := c) (arg3 := arg3) (harg3 := harg3) (x0 := x0)
  rw [hm, h0, h1, h2, h3, h4, h5, h6, h7] at em
  rw [hm, ha, hva, hvb, h0, h1, h2, h3, h4, h5, h6, h7] at ea
  rw [k1, k2, hr, hr1] at es
  refine ⟨?_, ?_, ?_, ?_, ?_, ?_, ?_, ?_, ?_, ?_⟩
  · refine (readAt_whole _ _ zero2 _).trans ?_
    rw [em, read_writes_whole _ _ zero2]; rfl
  · refine (readAt_whole _ _ zero2 _).trans ?_
    rw [ea, read_writes_whole _ _ zero2]; rfl
  · unfold kernelRun0_D.sl.v592_1
    rw [es]
    exact cov_slot_0 _ _ _ _ _ _ _ _ _ _
  · unfold kernelRun0_D.sl.v618_1
    rw [es]
    exact cov_slot_1 _ _ _ _ _ _ _ _ _ _
  · unfold kernelRun0_D.sl.v646_1
    rw [es]
    exact cov_slot_2 _ _ _ _ _ _ _ _ _ _
  · unfold kernelRun0_D.sl.v674_1
    rw [es]
    exact cov_slot_3 _ _ _ _ _ _ _ _ _ _
  · unfold kernelRun0_D.sl.v702_1
    rw [es]
    exact cov_slot_4 _ _ _ _ _ _ _ _ _ _
  · unfold kernelRun0_D.sl.v730_1
    rw [es]
    exact cov_slot_5 _ _ _ _ _ _ _ _ _ _
  · unfold kernelRun0_D.sl.v758_1
    rw [es]
    exact cov_slot_6 _ _ _ _ _ _ _ _ _ _
  · unfold kernelRun0_D.sl.v786_1
    rw [es]
    exact cov_slot_7 _ _ _ _ _ _ _ _ _ _

/-- Left-over tile 3 is visited from the state before it. -/
theorem stD2 (hi : (i 2).val % 4 = 3) :
    (kernelRun0_D.sl.v567 (F := Ideal) c i arg3 harg3 arg4 harg4 arg5 harg5 arg6 harg6 arg7 harg7 arg8 harg8 arg9 harg9 arg10 harg10 arg11 harg11 arg12 harg12 arg13 harg13 arg14 harg14 arg15 harg15 hc1 x0 x1 x2) = St.M (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) ∧ (kernelRun0_D.sl.v568_2 (F := Ideal) c i arg3 harg3 arg4 harg4 arg5 harg5 arg6 harg6 arg7 harg7 arg8 harg8 arg9 harg9 arg10 harg10 arg11 harg11 arg12 harg12 arg13 harg13 arg14 harg14 arg15 harg15 hc1 hc3 x0 x1 x2) = St.A (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2)))
    ∧ (shapeCast S512x256 (kernelRun0_D.sl.v569_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) = St.s (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) 0
    ∧ (shapeCast S512x256 (kernelRun0_D.sl.v584 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) = St.s (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) 1
    ∧ (shapeCast S512x256 (kernelRun0_D.sl.v601_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) = St.s (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) 2
    ∧ (shapeCast S512x256 (kernelRun0_D.sl.v618_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) = St.s (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) 3
    ∧ (shapeCast S512x256 (kernelRun0_D.sl.v635 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) = St.s (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) 4
    ∧ (shapeCast S512x256 (kernelRun0_D.sl.v652_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) = St.s (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) 5
    ∧ (shapeCast S512x256 (kernelRun0_D.sl.v669_1 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) = St.s (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) 6
    ∧ (shapeCast S512x256 (kernelRun0_D.sl.v686_2 (F := Ideal) c i arg3 harg3 arg4 harg4 arg5 harg5 arg6 harg6 arg7 harg7 arg8 harg8 arg9 harg9 arg10 harg10 arg11 harg11 arg12 harg12 arg13 harg13 arg14 harg14 arg15 harg15 hc3 x0 x1 x2) shapeCasts_S1x512x256_S512x256) = St.s (visit x1 x2 (qa x0) (qb x0) 1 (visit x1 x2 (qa x0) (qb x0) 2 (loopD c i arg3 harg3 arg4 harg4 arg5 harg5 arg6 harg6 arg7 harg7 arg8 harg8 arg9 harg9 arg10 harg10 arg11 harg11 arg12 harg12 arg13 harg13 arg14 harg14 arg15 harg15 x0 x1 x2))) 7 := by
  have hq : (i 2).val < 16 := (i 2).isLt
  obtain ⟨hm, ha, h0, h1, h2, h3, h4, h5, h6, h7⟩ := stD1 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi
  obtain ⟨Lm, em⟩ := mD1 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  obtain ⟨La, ea⟩ := aD1 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  obtain ⟨Ls, es⟩ := sD1 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  have c0 := loadV arg5 (harg5.unread x2) (k0_off15_inb i hc3 0) (r := 4 * 1 + 0) (by rw [off15_eq i 0 (by omega)]; congr 1; show _ + 0 = _; omega) (by decide)
  have c1 := loadV arg5 (harg5.unread x2) (k0_off15_inb i hc3 1) (r := 4 * 1 + 1) (by rw [off15_eq i 1 (by omega)]; congr 1; show _ + 1 = _; omega) (by decide)
  have c2 := loadV arg5 (harg5.unread x2) (k0_off15_inb i hc3 2) (r := 4 * 1 + 2) (by rw [off15_eq i 2 (by omega)]; congr 1; show _ + 2 = _; omega) (by decide)
  have c3 := loadV arg5 (harg5.unread x2) (k0_off15_inb i hc3 3) (r := 4 * 1 + 3) (by rw [off15_eq i 3 (by omega)]; congr 1; show _ + 3 = _; omega) (by decide)
  rw [harg5.read_unread] at c0 c1 c2 c3
  have hva : (kernelRun0_D.sl.v575_1 (F := Ideal) i arg5 harg5 hc3 x2) = vaT x2 1 := by
    unfold vaT; rw [← c0, ← c1, ← c2, ← c3]; rfl
  have hvb : (kernelRun0_D.sl.v578_1 (F := Ideal) i arg5 harg5 hc3 x2) = vbT x2 1 := by
    unfold vbT; rw [← c0, ← c1, ← c2, ← c3]; rfl
  have k1 := loadK arg4 (harg4.unread x1) (k0_off16_inb i hc3) (j := 0) (h := 0) (by rw [off16_eq i (by omega)]; congr 2; omega) (by omega) (by decide)
  have k2 := loadK arg4 (harg4.unread x1) (k0_off17_inb i hc3) (j := 0) (h := 1) (by rw [off17_eq i (by omega)]; congr 2; omega) (by omega) (by decide)
  rw [harg4.read_unread] at k1 k2
  have hr : (kernelRun0_D.sl.r (F := Ideal) c arg3 harg3 x0) = qa x0 := qaD (c := c) (arg3 := arg3) (harg3 := harg3) (x0 := x0)
  have hr1 : (kernelRun0_D.sl.r_1 (F := Ideal) c arg3 harg3 x0) = qb x0 := qbD (c := c) (arg3 := arg3) (harg3 := harg3) (x0 := x0)
  rw [hm, h0, h1, h2, h3, h4, h5, h6, h7] at em
  rw [hm, ha, hva, hvb, h0, h1, h2, h3, h4, h5, h6, h7] at ea
  rw [k1, k2, hr, hr1] at es
  refine ⟨?_, ?_, ?_, ?_, ?_, ?_, ?_, ?_, ?_, ?_⟩
  · refine (readAt_whole _ _ zero2 _).trans ?_
    rw [em, read_writes_whole _ _ zero2]; rfl
  · refine (readAt_whole _ _ zero2 _).trans ?_
    rw [ea, read_writes_whole _ _ zero2]; rfl
  · unfold kernelRun0_D.sl.v569_2
    rw [es]
    exact cov_slot_0 _ _ _ _ _ _ _ _ _ _
  · unfold kernelRun0_D.sl.v584
    rw [es]
    exact cov_slot_1 _ _ _ _ _ _ _ _ _ _
  · unfold kernelRun0_D.sl.v601_2
    rw [es]
    exact cov_slot_2 _ _ _ _ _ _ _ _ _ _
  · unfold kernelRun0_D.sl.v618_2
    rw [es]
    exact cov_slot_3 _ _ _ _ _ _ _ _ _ _
  · unfold kernelRun0_D.sl.v635
    rw [es]
    exact cov_slot_4 _ _ _ _ _ _ _ _ _ _
  · unfold kernelRun0_D.sl.v652_2
    rw [es]
    exact cov_slot_5 _ _ _ _ _ _ _ _ _ _
  · unfold kernelRun0_D.sl.v669_1
    rw [es]
    exact cov_slot_6 _ _ _ _ _ _ _ _ _ _
  · unfold kernelRun0_D.sl.v686_2
    rw [es]
    exact cov_slot_7 _ _ _ _ _ _ _ _ _ _

/-- The accumulators the output is read from are those after all tiles. -/
theorem accD (hi : (i 2).val % 4 = 3) : (kernelRun0_D.sl.v501 (F := Ideal) c i arg3 harg3 arg4 harg4 arg5 harg5 arg6 harg6 arg7 harg7 arg8 harg8 arg9 harg9 arg10 harg10 arg11 harg11 arg12 harg12 arg13 harg13 arg14 harg14 arg15 harg15 hc1 hc3 x0 x1 x2) = finalA i x0 x1 x2 := by
  rw [← restD c i arg3 harg3 arg4 harg4 arg5 harg5 arg6 harg6 arg7 harg7 arg8 harg8 arg9 harg9 arg10 harg10 arg11 harg11 arg12 harg12 arg13 harg13 arg14 harg14 arg15 harg15 x0 x1 x2 hi]
  have hq : (i 2).val < 16 := (i 2).isLt
  obtain ⟨hm, ha, h0, h1, h2, h3, h4, h5, h6, h7⟩ := stD2 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi
  obtain ⟨La, ea⟩ := aD2 c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2
  have c0 := loadV arg5 (harg5.unread x2) inb_S64x256x128_S1x256x128_0_0_0 (r := 4 * 0 + 0) (by rfl) (by decide)
  have c1 := loadV arg5 (harg5.unread x2) inb_S64x256x128_S1x256x128_1_0_0 (r := 4 * 0 + 1) (by rfl) (by decide)
  have c2 := loadV arg5 (harg5.unread x2) inb_S64x256x128_S1x256x128_2_0_0 (r := 4 * 0 + 2) (by rfl) (by decide)
  have c3 := loadV arg5 (harg5.unread x2) inb_S64x256x128_S1x256x128_3_0_0 (r := 4 * 0 + 3) (by rfl) (by decide)
  rw [harg5.read_unread] at c0 c1 c2 c3
  have hva : (kernelRun0_D.sl.v563_2 (F := Ideal) arg5 harg5 x2) = vaT x2 0 := by
    unfold vaT; rw [← c0, ← c1, ← c2, ← c3]; rfl
  have hvb : (kernelRun0_D.sl.v566_2 (F := Ideal) arg5 harg5 x2) = vbT x2 0 := by
    unfold vbT; rw [← c0, ← c1, ← c2, ← c3]; rfl
  rw [hm, ha, hva, hvb, h0, h1, h2, h3, h4, h5, h6, h7] at ea
  refine (readAt_whole _ _ zero2 _).trans ?_
  rw [ea, read_writes_whole _ _ zero2]; rfl

/-- What the grid point leaves in the output block. -/
theorem outD  (x3 : Vec Ideal S1x64 .f32) (x4 : Vec Ideal S1x64 .f32) (x5 : Vec Ideal S1x64 .f32) (x6 : Vec Ideal S1x64 .f32) (x7 : Vec Ideal S128x1 .f32) (hi : (i 2).val % 4 = 3) :
    out0_D_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 = blockOut x3 x4 x5 x6 x7 (finalA i x0 x1 x2) := by
  rw [← accD c i arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 hi]
  have e3 := (readAt_whole arg6.view (harg6.unread x3) zero2 inb_S1x64_S1x64_0_0).trans (harg6.read_unread x3)
  have e4 := (readAt_whole arg7.view (harg7.unread x4) zero2 inb_S1x64_S1x64_0_0).trans (harg7.read_unread x4)
  have e5 := (readAt_whole arg8.view (harg8.unread x5) zero2 inb_S1x64_S1x64_0_0).trans (harg8.read_unread x5)
  have e6 := (readAt_whole arg9.view (harg9.unread x6) zero2 inb_S1x64_S1x64_0_0).trans (harg9.read_unread x6)
  have e7 := (readAt_whole arg10.view (harg10.unread x7) zero2 inb_S128x1_S128x1_0_0).trans (harg10.read_unread x7)
  refine Eq.trans ?_ (congrArg₂ (fun a b => blockOut a b x5 x6 x7 (kernelRun0_D.sl.v501 (F := Ideal) c i arg3 harg3 arg4 harg4 arg5 harg5 arg6 harg6 arg7 harg7 arg8 harg8 arg9 harg9 arg10 harg10 arg11 harg11 arg12 harg12 arg13 harg13 arg14 harg14 arg15 harg15 hc1 hc3 x0 x1 x2)) e3 e4)
  refine Eq.trans ?_ (congrArg₂ (fun a b => blockOut _ _ a b x7 (kernelRun0_D.sl.v501 (F := Ideal) c i arg3 harg3 arg4 harg4 arg5 harg5 arg6 harg6 arg7 harg7 arg8 harg8 arg9 harg9 arg10 harg10 arg11 harg11 arg12 harg12 arg13 harg13 arg14 harg14 arg15 harg15 hc1 hc3 x0 x1 x2)) e5 e6)
  refine Eq.trans ?_ (congrArg (fun a => blockOut _ _ _ _ a (kernelRun0_D.sl.v501 (F := Ideal) c i arg3 harg3 arg4 harg4 arg5 harg5 arg6 harg6 arg7 harg7 arg8 harg8 arg9 harg9 arg10 harg10 arg11 harg11 arg12 harg12 arg13 harg13 arg14 harg14 arg15 harg15 hc1 hc3 x0 x1 x2)) e7)
  rfl

end

end Cert.KernelIdeal.Gen.Diff
-- ==== Proof.Array.lean ====
/- The kernel's result array. -/
module

public import proofs.«01_k».proof.Proof.OutPt
public import proofs.«01_k».proof.Proof.Attn
public import proofs.«01_k».proof.Proof.CaseA
public import proofs.«01_k».proof.Proof.CaseB
public import proofs.«01_k».proof.Proof.CaseC
public import proofs.«01_k».proof.Proof.CaseD
public import proofs.«01_k».proof.Proof.Gen.KernelIdeal.Value

@[expose] public section

set_option maxRecDepth 16384
set_option maxHeartbeats 1600000

noncomputable section

namespace Cert.KernelIdeal.Gen.Diff

open Cert.KernelIdeal Cert.KernelIdeal.Gen Idealize.ShloMosaic Idealize.ShloMosaic.TcCoe Idealize.SL.Sem Facts₀ Facts
open Cert.Online

/-- The output block's entry at row `r` and lane `t`. -/
theorem blockOut_at (x3 x4 x5 x6 : Vec Ideal S1x64 .f32) (x7 : Vec Ideal S128x1 .f32) (A : FVec Ideal S144x2048 .f32) (hd : Fin 2) (d : Fin 128) (t : Fin 512) :
    blockOut x3 x4 x5 x6 x7 A (ix2 ⟨128 * hd.val + d.val, by omega⟩ t)
      = normed (diffO (lam (fun e => x3 (ix2 0 e)) (fun e => x4 (ix2 0 e)) (fun e => x5 (ix2 0 e)) (fun e => x6 (ix2 0 e))) A hd t) (x7 (ix2 d 0)) d := by
  rw [← lam_at]
  unfold blockOut
  frame_out
  canon_tiles x h
  · have e1 : hd = 1 := by
      have := hd.isLt
      have := d.isLt
      have h0' : 128 * hd.val + d.val = 128 + (x 0).val := h0
      exact Fin.ext (show hd.val = 1 by omega)
    subst e1
    have ex : x = ix2 d t := by
      have h0' : 128 * 1 + d.val = 128 + (x 0).val := h0
      have h1' : t.val = (x 1).val := h1
      funext a
      fin_cases a
      · exact Fin.ext (show (x 0).val = d.val by omega)
      · exact Fin.ext (show (x 1).val = t.val by omega)
    rw [ex]
    exact rowsB_at _ _ A x7 d t
  · have e1 : hd = 0 := by
      have := hd.isLt
      have := d.isLt
      have h0' : 128 * hd.val + d.val = (x 0).val := h0
      exact Fin.ext (show hd.val = 0 by omega)
    subst e1
    have ex : x = ix2 d t := by
      have h0' : 128 * 0 + d.val = (x 0).val := h0
      have h1' : t.val = (x 1).val := h1
      funext a
      fin_cases a
      · exact Fin.ext (show (x 0).val = d.val by omega)
      · exact Fin.ext (show (x 1).val = t.val by omega)
    rw [ex]
    exact rowsA_at _ _ A x7 d t

section
variable (m : (ℓ : Loc nD τ sig) → Buf (Elt Ideal) ℓ)

theorem coords2 : ∀ t : Fin cfg0.N, (grid0.coords t 2).val = t.val % 16 := (by decide +kernel : ∀ t : Fin grid0.N, (grid0.coords t 2).val = t.val % 16)

open Cert.KernelIdeal.Value in
/-- What a grid point writes back. -/
theorem flushed_eq (c : Dev nD) (t : Fin cfg0.N) :
    (dats m 0 c).flushed 8 t = (cfg0.win 8).cut (grid0.coords t) (blockOut (iblk m c 3 t) (iblk m c 4 t) (iblk m c 5 t) (iblk m c 6 t) (iblk m c 7 t)
      (finalA (grid0.coords t) (iblk m c 0 t) (iblk m c 1 t) (iblk m c 2 t))) := by
  have e := coords2 t
  by_cases h1 : t.val % 4 = 1
  · rw [flushed8_B m c t h1 (by omega) (by omega) (by omega) (by omega), outB _ _ _ _ _ _ _ _ _ _ _ _ _ _ _ _ _ _ _ _ _ _ _ _ _ _ _ _ _ _ _ _ _ _ _ _ _ _ _ _ _ (by omega)]
  by_cases h2 : t.val % 4 = 2
  · rw [flushed8_C m c t h1 (by omega) (by omega) (by omega) (by omega), outC _ _ _ _ _ _ _ _ _ _ _ _ _ _ _ _ _ _ _ _ _ _ _ _ _ _ _ _ _ _ _ _ _ _ _ _ _ _ _ _ _ (by omega)]
  by_cases h3 : t.val % 4 = 3
  · rw [flushed8_D m c t h1 (by omega) (by omega) (by omega) (by omega), outD _ _ _ _ _ _ _ _ _ _ _ _ _ _ _ _ _ _ _ _ _ _ _ _ _ _ _ _ _ _ _ _ _ _ _ _ _ _ _ _ _ (by omega)]
  · rw [flushed8_A m c t h1 (by omega) (by omega) (by omega) (by omega), outA _ _ _ _ _ _ _ _ _ _ _ _ _ _ _ _ _ _ _ _ _ _ _ _ _ _ _ _ _ _ _ _ _ _ _ _ _ _ _ _ _ (by omega)]

/-- The windows' block indices at a grid point. -/
theorem idx : ∀ t : Fin cfg0.N, win0_0.index t = ![t.val / 16 % 2, 16 * (t.val / 32) + t.val % 16] ∧ win0_1.index t = ![t.val / 32, t.val / 16 % 2]
    ∧ win0_2.index t = ![t.val / 32, t.val / 16 % 2, 0] ∧ win0_3.index t = ![0, 0] ∧ win0_4.index t = ![0, 0] ∧ win0_5.index t = ![0, 0]
    ∧ win0_6.index t = ![0, 0] ∧ win0_7.index t = ![0, 0] ∧ win0_8.index t = ![t.val / 16 % 2, 16 * (t.val / 32) + t.val % 16] :=
  (by decide +kernel : ∀ t : Fin grid0.N, win0_0.index t = ![t.val / 16 % 2, 16 * (t.val / 32) + t.val % 16] ∧ win0_1.index t = ![t.val / 32, t.val / 16 % 2]
    ∧ win0_2.index t = ![t.val / 32, t.val / 16 % 2, 0] ∧ win0_3.index t = ![0, 0] ∧ win0_4.index t = ![0, 0] ∧ win0_5.index t = ![0, 0]
    ∧ win0_6.index t = ![0, 0] ∧ win0_7.index t = ![0, 0] ∧ win0_8.index t = ![t.val / 16 % 2, 16 * (t.val / 32) + t.val % 16])

theorem lt128 (t : Fin cfg0.N) : t.val < 128 := lt_of_lt_of_eq t.isLt (by decide +kernel : cfg0.N = 128)

/-- The query block of a grid point. -/
theorem read0 (c : Dev nD) (t : Fin cfg0.N) (a : Fin 256) (b : Fin 512) :
    iblk m c 0 t (ix2 a b) = m ((c : Thread nD τ).loc main_arg0) (ix2 ⟨256 * (t.val / 16 % 2) + a.val, by omega⟩ ⟨512 * (16 * (t.val / 32) + t.val % 16) + b.val, by have := lt128 t; omega⟩) := by
  blk_ext [iblk, V, idx t]

/-- The key block of a grid point. -/
theorem read1 (c : Dev nD) (t : Fin cfg0.N) (a : Fin 8192) (b : Fin 256) :
    iblk m c 1 t (ix2 a b) = m ((c : Thread nD τ).loc main_arg1) (ix2 ⟨8192 * (t.val / 32) + a.val, by have := lt128 t; omega⟩ ⟨256 * (t.val / 16 % 2) + b.val, by omega⟩) := by
  blk_ext [iblk, V, idx t]

/-- The value block of a grid point. -/
theorem read2 (c : Dev nD) (t : Fin cfg0.N) (a : Fin 64) (b : Fin 256) (e : Fin 128) :
    iblk m c 2 t (ix3 a b e) = m ((c : Thread nD τ).loc main_arg2) (ix3 ⟨64 * (t.val / 32) + a.val, by have := lt128 t; omega⟩ ⟨256 * (t.val / 16 % 2) + b.val, by omega⟩ e) := by
  blk_ext [iblk, V, idx t]

/-- The small blocks are their arrays. -/
theorem read3 (c : Dev nD) (t : Fin cfg0.N) (e : Fin 64) : iblk m c 3 t (ix2 (0 : Fin 1) e) = m ((c : Thread nD τ).loc main_arg3) (ix2 (0 : Fin 1) e) := by
  blk_ext [iblk, V, idx t]
theorem read4 (c : Dev nD) (t : Fin cfg0.N) (e : Fin 64) : iblk m c 4 t (ix2 (0 : Fin 1) e) = m ((c : Thread nD τ).loc main_arg4) (ix2 (0 : Fin 1) e) := by
  blk_ext [iblk, V, idx t]
theorem read5 (c : Dev nD) (t : Fin cfg0.N) (e : Fin 64) : iblk m c 5 t (ix2 (0 : Fin 1) e) = m ((c : Thread nD τ).loc main_arg5) (ix2 (0 : Fin 1) e) := by
  blk_ext [iblk, V, idx t]
theorem read6 (c : Dev nD) (t : Fin cfg0.N) (e : Fin 64) : iblk m c 6 t (ix2 (0 : Fin 1) e) = m ((c : Thread nD τ).loc main_arg6) (ix2 (0 : Fin 1) e) := by
  blk_ext [iblk, V, idx t]
theorem read7 (c : Dev nD) (t : Fin cfg0.N) (e : Fin 128) : iblk m c 7 t (ix2 e (0 : Fin 1)) = m ((c : Thread nD τ).loc main_arg7) (ix2 e (0 : Fin 1)) := by
  blk_ext [iblk, V, idx t]

variable (c : Dev nD) (Q : Fin 512 → Fin 32768 → ℝ) (K : Fin 32768 → Fin 512 → ℝ) (W : Fin 256 → Fin 512 → Fin 128 → ℝ)
  (hQ : ∀ a b, m ((c : Thread nD τ).loc main_arg0) (ix2 a b) = (Q a b : EReal))
  (hK : ∀ a b, m ((c : Thread nD τ).loc main_arg1) (ix2 a b) = (K a b : EReal))
  (hW : ∀ a b e, m ((c : Thread nD τ).loc main_arg2) (ix3 a b e) = (W a b e : EReal))

/-- The difference's weight from the kernel's arguments. -/
def lamArgs : EReal :=
  lam (fun e => m ((c : Thread nD τ).loc main_arg3) (ix2 (0 : Fin 1) e)) (fun e => m ((c : Thread nD τ).loc main_arg4) (ix2 (0 : Fin 1) e))
    (fun e => m ((c : Thread nD τ).loc main_arg5) (ix2 (0 : Fin 1) e)) (fun e => m ((c : Thread nD τ).loc main_arg6) (ix2 (0 : Fin 1) e))

include hQ hK hW in
/-- One normalised accumulator of a grid point is causal attention. -/
theorem attn_at (t : Fin cfg0.N) (hd g : Fin 2) (x : Fin 512) (d : Fin 128) (n : Fin 2048) (hn : n.val = 1024 * hd.val + 512 * g.val + x.val)
    (u : Fin 8) (u' b : Fin 4) (p : Fin 8192) (hu : u.val = 4 * (t.val / 16 % 2) + 2 * hd.val + g.val) (hu' : u'.val = 2 * (t.val / 16 % 2) + hd.val)
    (hb : b.val = t.val / 32) (hp : p.val = 512 * (t.val % 16) + x.val) :
    finalA (grid0.coords t) (iblk m c 0 t) (iblk m c 1 t) (iblk m c 2 t) (ix2 ⟨d.val, by omega⟩ n)
      * Ideal.div 1 (finalA (grid0.coords t) (iblk m c 0 t) (iblk m c 1 t) (iblk m c 2 t) (ix2 ⟨128, by decide⟩ n))
      = (attn p.val (score Q K u b p) (value W u' b d) : EReal) := by
  have ht := lt128 t
  have hn' : n = cx ⟨4 * hd.val + 2 * g.val + x.val / 256, by omega⟩ ⟨x.val % 256, by omega⟩ := by
    refine Fin.ext ?_
    show n.val = 256 * (4 * hd.val + 2 * g.val + x.val / 256) + x.val % 256
    omega
  rw [hn', final_attn (iblk m c 0 t) (iblk m c 1 t) (iblk m c 2 t)
    (fun a b => Q ⟨256 * (t.val / 16 % 2) + a.val, by omega⟩ ⟨512 * (16 * (t.val / 32) + t.val % 16) + b.val, by omega⟩)
    (fun a b => K ⟨8192 * (t.val / 32) + a.val, by omega⟩ ⟨256 * (t.val / 16 % 2) + b.val, by omega⟩)
    (fun a b e => W ⟨64 * (t.val / 32) + a.val, by omega⟩ ⟨256 * (t.val / 16 % 2) + b.val, by omega⟩ e)
    (fun a b => (read0 m c t a b).trans (hQ _ _)) (fun a b => (read1 m c t a b).trans (hK _ _)) (fun a b e => (read2 m c t a b e).trans (hW _ _ _))]
  congr 1
  have ep : pos (grid0.coords t 2).val ⟨4 * hd.val + 2 * g.val + x.val / 256, by omega⟩ ⟨x.val % 256, by omega⟩ = p.val := by
    rw [coords2 t]
    show 512 * (t.val % 16) + (256 * ((4 * hd.val + 2 * g.val + x.val / 256) % 2) + x.val % 256) = p.val
    omega
  rw [ep]
  congr 1
  · funext key
    unfold zR score
    refine Finset.sum_congr rfl fun e _ => congrArg₂ (· * ·) (congrArg₂ K (Fin.ext ?_) (Fin.ext ?_)) (congrArg₂ Q (Fin.ext ?_) (Fin.ext ?_))
    · show 8192 * (t.val / 32) + key.val = 8192 * b.val + key.val
      omega
    · show 256 * (t.val / 16 % 2) + (64 * ((4 * hd.val + 2 * g.val + x.val / 256) / 2) + e.val) = 64 * u.val + e.val
      omega
    · show 256 * (t.val / 16 % 2) + (64 * ((4 * hd.val + 2 * g.val + x.val / 256) / 2) + e.val) = 64 * u.val + e.val
      omega
    · show 512 * (16 * (t.val / 32) + t.val % 16) + (256 * ((4 * hd.val + 2 * g.val + x.val / 256) % 2) + x.val % 256) = 8192 * b.val + p.val
      omega
  · funext key
    unfold vR value
    rw [dif_pos d.isLt]
    have e1 : (⟨64 * (t.val / 32) + key.val / 128, by omega⟩ : Fin 256) = ⟨64 * b.val + key.val / 128, by omega⟩ := Fin.ext (by show 64 * (t.val / 32) + key.val / 128 = 64 * b.val + key.val / 128; omega)
    have e2 : (⟨256 * (t.val / 16 % 2) + (128 * ((4 * hd.val + 2 * g.val + x.val / 256) / 4) + d.val), by omega⟩ : Fin 512) = ⟨128 * u'.val + d.val, by omega⟩ :=
      Fin.ext (by show 256 * (t.val / 16 % 2) + (128 * ((4 * hd.val + 2 * g.val + x.val / 256) / 4) + d.val) = 128 * u'.val + d.val; omega)
    exact congrArg₂ (fun a b => W a b ⟨key.val % 128, _⟩) e1 e2

include hQ hK hW in
/-- What a grid point writes at head `hd`, feature `d` and lane `x`. -/
theorem point_at (t : Fin cfg0.N) (hd : Fin 2) (d : Fin 128) (x : Fin 512) (r : Fin 512) (n : Fin 32768)
    (hr : r.val = 256 * (t.val / 16 % 2) + (128 * hd.val + d.val)) (hn : n.val = 512 * (16 * (t.val / 32) + t.val % 16) + x.val) :
    blockOut (iblk m c 3 t) (iblk m c 4 t) (iblk m c 5 t) (iblk m c 6 t) (iblk m c 7 t)
      (finalA (grid0.coords t) (iblk m c 0 t) (iblk m c 1 t) (iblk m c 2 t)) (ix2 ⟨128 * hd.val + d.val, by omega⟩ x)
      = resultAt Q K W (lamArgs m c) (fun e => m ((c : Thread nD τ).loc main_arg7) (ix2 e (0 : Fin 1))) r n := by
  have ht := lt128 t
  rw [blockOut_at]
  unfold resultAt result lamArgs
  simp only [read3, read4, read5, read6, read7]
  have ed : (⟨r.val % 128, by omega⟩ : Fin 128) = d := Fin.ext (by show r.val % 128 = d.val; omega)
  rw [ed]
  congr 1
  funext d'
  unfold diffO diffAttn
  congr 1
  · exact attn_at m c Q K W hQ hK hW t hd 0 x d' _ (by show 1024 * hd.val + x.val = 1024 * hd.val + 512 * 0 + x.val; omega) _ _ _ _
      (by show 2 * (r.val / 128) = 4 * (t.val / 16 % 2) + 2 * hd.val + 0; omega) (by show r.val / 128 = 2 * (t.val / 16 % 2) + hd.val; omega)
      (by show n.val / 8192 = t.val / 32; omega) (by show n.val % 8192 = 512 * (t.val % 16) + x.val; omega)
  · congr 1
    exact attn_at m c Q K W hQ hK hW t hd 1 x d' _ (by show 1024 * hd.val + 512 + x.val = 1024 * hd.val + 512 * 1 + x.val; omega) _ _ _ _
      (by show 2 * (r.val / 128) + 1 = 4 * (t.val / 16 % 2) + 2 * hd.val + 1; omega) (by show r.val / 128 = 2 * (t.val / 16 % 2) + hd.val; omega)
      (by show n.val / 8192 = t.val / 32; omega) (by show n.val % 8192 = 512 * (t.val % 16) + x.val; omega)

open Cert.KernelIdeal.Value in
include hQ hK hW in
/-- The kernel's result array. -/
theorem final : (dats m 0 c).arrAt 8 cfg0.N
    = fun i => resultAt Q K W (lamArgs m c) (fun e => m ((c : Thread nD τ).loc main_arg7) (ix2 e (0 : Fin 1))) (i 0) (i 1) := by
  refine (dats m 0 c).arrAt_eq_of_covers 8 _ (by decide +kernel) fun t hf y => ?_
  have hfl : (dats m 0 c).after 8 t y = blockOut (iblk m c 3 t) (iblk m c 4 t) (iblk m c 5 t) (iblk m c 6 t) (iblk m c 7 t)
      (finalA (grid0.coords t) (iblk m c 0 t) (iblk m c 1 t) (iblk m c 2 t)) y := congrFun (flushed_eq m c t) y
  blk_simp
  refine hfl.trans ?_
  have h0 : (y 0).val < 256 := (y 0).isLt
  have h1 : (y 1).val < 512 := (y 1).isLt
  have ey : y = ix2 (⟨128 * (⟨(y 0).val / 128, by omega⟩ : Fin 2).val + (⟨(y 0).val % 128, by omega⟩ : Fin 128).val, by omega⟩ : Fin 256) (⟨(y 1).val, h1⟩ : Fin 512) := by
    funext a
    fin_cases a
    · exact Fin.ext (show (y 0).val = 128 * ((y 0).val / 128) + (y 0).val % 128 by omega)
    · rfl
  refine (congrArg (blockOut (iblk m c 3 t) (iblk m c 4 t) (iblk m c 5 t) (iblk m c 6 t) (iblk m c 7 t)
      (finalA (grid0.coords t) (iblk m c 0 t) (iblk m c 1 t) (iblk m c 2 t))) ey).trans ?_
  refine point_at m c Q K W hQ hK hW t ⟨(y 0).val / 128, by omega⟩ ⟨(y 0).val % 128, by omega⟩ ⟨(y 1).val, h1⟩ _ _ ?_ ?_
  · blk_simp [idx t]
    show t.val / 16 % 2 * 256 + (y 0).val = 256 * (t.val / 16 % 2) + (128 * ((y 0).val / 128) + (y 0).val % 128)
    omega
  · blk_simp [idx t]
    show (16 * (t.val / 32) + t.val % 16) * 512 + (y 1).val = 512 * (16 * (t.val / 32) + t.val % 16) + (y 1).val
    omega

end

end Cert.KernelIdeal.Gen.Diff
-- ==== Proof.RefLogit.lean ====
/- The reference's logits. -/
module

public import proofs.«01_k».proof.Proof.Gen.ReferenceIdeal.Read
public import Idealize.ShloMosaic.Lib.Pointwise
public import Idealize.ShloMosaic.Lib.WordCmp

@[expose] public section

set_option maxRecDepth 16384
set_option maxHeartbeats 1600000

noncomputable section

namespace Cert.ReferenceIdeal.Diff

open Cert.ReferenceIdeal Cert.ReferenceIdeal.Gen Cert.ReferenceIdeal.Read Idealize.ShloMosaic Idealize.ShloMosaic.TcCoe Idealize.SL.Sem Idealize.ShloMosaic.StableHlo

variable (x0 : FVec Ideal S512x32768 .bf16) (x1 : FVec Ideal S32768x512 .bf16) (x2 : FVec Ideal S256x512x128 .bf16)
  (x3 x4 x5 x6 : FVec Ideal S1x64 .f32) (x7 : FVec Ideal S128x1 .f32)

/-- A logit. -/
theorem logit_at (b : Fin 4) (u : Fin 8) (t s : Fin 8192) :
    val_main_v20 (F := Ideal) x0 x1 (ix4 b u t s)
      = (∑ e : Fin 64, x0 (ix2 ⟨u.val * 64 + e.val, by omega⟩ ⟨b.val * 8192 + t.val, by omega⟩) * x1 (ix2 ⟨b.val * 8192 + s.val, by omega⟩ ⟨u.val * 64 + e.val, by omega⟩))
        * Ideal.log (Ideal.ofBits .f32 0x40000000#32) := by
  pointwise [val_main_v20, val_main_v19, val_main_v18, val_main_cst_2, val_main_v17, val_main_v4, val_main_v3, val_main_v2, val_main_v1, val_main_v0]

end Cert.ReferenceIdeal.Diff
-- ==== Proof.RefProb.lean ====
/- The reference's probabilities. -/
module

public import proofs.«01_k».proof.Proof.Gen.ReferenceIdeal.Read
public import Idealize.ShloMosaic.Lib.Pointwise
public import Idealize.ShloMosaic.Lib.WordCmp

@[expose] public section

set_option maxRecDepth 16384
set_option maxHeartbeats 1600000

noncomputable section

namespace Cert.ReferenceIdeal.Diff

open Cert.ReferenceIdeal Cert.ReferenceIdeal.Gen Cert.ReferenceIdeal.Read Idealize.ShloMosaic Idealize.ShloMosaic.TcCoe Idealize.SL.Sem Idealize.ShloMosaic.StableHlo

variable (x0 : FVec Ideal S512x32768 .bf16) (x1 : FVec Ideal S32768x512 .bf16) (x2 : FVec Ideal S256x512x128 .bf16)
  (x3 x4 x5 x6 : FVec Ideal S1x64 .f32) (x7 : FVec Ideal S128x1 .f32)

/-- A masked logit. -/
theorem masked_at (b : Fin 4) (u : Fin 8) (t s : Fin 8192) :
    val_main_v26 (F := Ideal) x0 x1 (ix4 b u t s) = if s.val ≤ t.val then val_main_v20 (F := Ideal) x0 x1 (ix4 b u t s) else Ideal.ofBits .f32 0xFF800000#32 := by
  generalize hz : val_main_v20 (F := Ideal) x0 x1 = z
  unfold val_main_v26
  rw [hz]
  pointwise [val_main_v25, val_main_v24, val_main_v23, val_main_v22, val_main_v21, val_main_v16, val_main_call0_v0, val_main_call0_v1, val_main_call0_v2, val_main_cst_3]
  have hs := s.isLt
  have ht := t.isLt
  simp (disch := word_cmp_side) only [hlo_ix]
  rfl

/-- A probability. -/
theorem prob_at (b : Fin 4) (u : Fin 8) (t s : Fin 8192) :
    val_main_v38 (F := Ideal) x0 x1 (ix4 b u t s)
      = if s.val ≤ t.val then Ideal.div (Ideal.exp (val_main_v26 (F := Ideal) x0 x1 (ix4 b u t s) - val_main_v29 (F := Ideal) x0 x1 (ix3 b u t)))
          (∑ k : Fin 8192, Ideal.exp (val_main_v26 (F := Ideal) x0 x1 (ix4 b u t k) - val_main_v29 (F := Ideal) x0 x1 (ix3 b u t))) else 0 := by
  generalize hz : val_main_v26 (F := Ideal) x0 x1 = z
  generalize hy : val_main_v29 (F := Ideal) x0 x1 = y
  unfold val_main_v38 val_main_v37 val_main_v36 val_main_v35 val_main_v34 val_main_v33 val_main_v32 val_main_v31 val_main_v30
  rw [hz, hy]
  pointwise [val_main_v25, val_main_v24, val_main_v23, val_main_v22, val_main_v21, val_main_v16, val_main_call1_v0, val_main_call1_v1, val_main_call1_v2, val_main_cst_6, val_main_cst_7]
  have hs := s.isLt
  have ht := t.isLt
  simp (disch := word_cmp_side) only [hlo_ix]
  rw [show (id (constant (F := Ideal) S_ FTy.f32 0#32) ix0 : EReal) = 0 from Ideal.ofBits_zero_f32]

end Cert.ReferenceIdeal.Diff
-- ==== Proof.RefMax.lean ====
/- The reference's row maxima. -/
module

public import proofs.«01_k».proof.Proof.Gen.ReferenceIdeal.Read
public import Idealize.ShloMosaic.Lib.Pointwise
public import Idealize.ShloMosaic.Lib.WordCmp

@[expose] public section

set_option maxRecDepth 16384
set_option maxHeartbeats 1600000

noncomputable section

namespace Cert.ReferenceIdeal.Diff

open Cert.ReferenceIdeal Cert.ReferenceIdeal.Gen Cert.ReferenceIdeal.Read Idealize.ShloMosaic Idealize.ShloMosaic.TcCoe Idealize.SL.Sem Idealize.ShloMosaic.StableHlo

variable (x0 : FVec Ideal S512x32768 .bf16) (x1 : FVec Ideal S32768x512 .bf16) (x2 : FVec Ideal S256x512x128 .bf16)
  (x3 x4 x5 x6 : FVec Ideal S1x64 .f32) (x7 : FVec Ideal S128x1 .f32)

/-- The row's maximum. -/
theorem rowmax_at (b : Fin 4) (u : Fin 8) (t : Fin 8192) :
    val_main_v29 (F := Ideal) x0 x1 (ix3 b u t) = max (Ideal.ofBits .f32 0xFF800000#32)
      (Finset.univ.fold max (Ideal.ofBits .f32 0xFF800000#32) fun s : Fin 8192 => val_main_v26 (F := Ideal) x0 x1 (ix4 b u t s)) := by
  rw [val_main_v29_apply, val_main_v28_apply]
  refine congrArg (max (Ideal.ofBits .f32 0xFF800000#32)) ?_
  unfold val_main_v27
  generalize val_main_v26 (F := Ideal) x0 x1 = z
  refine (Host.reduce_eq_fold_single (max : EReal → EReal → EReal) z (val_main_cst_4 (F := Ideal)) reducesTo_S4x8x8192x8192_S4x8x8192_d3 (by decide) h_S_ (ix3 b u t)).trans ?_
  refine congrArg (fun f => Finset.univ.fold max (Ideal.ofBits .f32 0xFF800000#32) f) ?_
  funext s
  refine congrArg z ?_
  funext a
  fin_cases a <;> rfl

end Cert.ReferenceIdeal.Diff
-- ==== Proof.RefDiff.lean ====
/- The reference's differences of probabilities. -/
module

public import proofs.«01_k».proof.Proof.Gen.ReferenceIdeal.Read
public import Idealize.ShloMosaic.Lib.Pointwise
public import Idealize.ShloMosaic.Lib.WordCmp

@[expose] public section

set_option maxRecDepth 16384
set_option maxHeartbeats 1600000

noncomputable section

namespace Cert.ReferenceIdeal.Diff

open Cert.ReferenceIdeal Cert.ReferenceIdeal.Gen Cert.ReferenceIdeal.Read Idealize.ShloMosaic Idealize.ShloMosaic.TcCoe Idealize.SL.Sem Idealize.ShloMosaic.StableHlo

variable (x0 : FVec Ideal S512x32768 .bf16) (x1 : FVec Ideal S32768x512 .bf16) (x2 : FVec Ideal S256x512x128 .bf16)
  (x3 x4 x5 x6 : FVec Ideal S1x64 .f32) (x7 : FVec Ideal S128x1 .f32)

/-- The first of a pair of heads. -/
theorem first_at (b u : Fin 4) (t s : Fin 8192) :
    val_main_v41 (F := Ideal) x0 x1 (ix4 b u t s) = val_main_v38 (F := Ideal) x0 x1 (ix4 b ⟨2 * u.val, by omega⟩ t s) := by
  rw [val_main_v41_apply, val_main_v40_apply, val_main_v39_apply]
  generalize val_main_v38 (F := Ideal) x0 x1 = z
  refine congrArg z ?_
  have hb := b.isLt
  have hu := u.isLt
  have ht := t.isLt
  have hs := s.isLt
  have f0 : (((b.val * 4 + u.val) * 8192 + t.val) * 8192 + s.val) / 268435456 = b.val := by omega
  have f1 : (((b.val * 4 + u.val) * 8192 + t.val) * 8192 + s.val) / 67108864 % 4 = u.val := by omega
  have f2 : (((b.val * 4 + u.val) * 8192 + t.val) * 8192 + s.val) / 8192 % 8192 = t.val := by omega
  have f3 : (((b.val * 4 + u.val) * 8192 + t.val) * 8192 + s.val) % 8192 = s.val := by omega
  have k : ∀ (B U T S : ℕ), B = b.val → U = u.val → T = t.val → S = s.val →
      ((((B * 4 + U) * 2 + 0) * 8192 + T) * 8192 + S) / 536870912 = b.val ∧ ((((B * 4 + U) * 2 + 0) * 8192 + T) * 8192 + S) / 67108864 % 8 = 2 * u.val
      ∧ ((((B * 4 + U) * 2 + 0) * 8192 + T) * 8192 + S) / 8192 % 8192 = t.val ∧ ((((B * 4 + U) * 2 + 0) * 8192 + T) * 8192 + S) % 8192 = s.val := by
    rintro _ _ _ _ rfl rfl rfl rfl
    omega
  obtain ⟨g0, g1, g2, g3⟩ := k _ _ _ _ f0 f1 f2 f3
  funext a
  fin_cases a
  · exact Fin.ext g0
  · exact Fin.ext g1
  · exact Fin.ext g2
  · exact Fin.ext g3

/-- The second of a pair of heads. -/
theorem second_at (b u : Fin 4) (t s : Fin 8192) :
    val_main_v43 (F := Ideal) x0 x1 (ix4 b u t s) = val_main_v38 (F := Ideal) x0 x1 (ix4 b ⟨2 * u.val + 1, by omega⟩ t s) := by
  rw [val_main_v43_apply, val_main_v42_apply, val_main_v39_apply]
  generalize val_main_v38 (F := Ideal) x0 x1 = z
  refine congrArg z ?_
  have hb := b.isLt
  have hu := u.isLt
  have ht := t.isLt
  have hs := s.isLt
  have f0 : (((b.val * 4 + u.val) * 8192 + t.val) * 8192 + s.val) / 268435456 = b.val := by omega
  have f1 : (((b.val * 4 + u.val) * 8192 + t.val) * 8192 + s.val) / 67108864 % 4 = u.val := by omega
  have f2 : (((b.val * 4 + u.val) * 8192 + t.val) * 8192 + s.val) / 8192 % 8192 = t.val := by omega
  have f3 : (((b.val * 4 + u.val) * 8192 + t.val) * 8192 + s.val) % 8192 = s.val := by omega
  have k : ∀ (B U T S : ℕ), B = b.val → U = u.val → T = t.val → S = s.val →
      ((((B * 4 + U) * 2 + (1 + 0)) * 8192 + T) * 8192 + S) / 536870912 = b.val ∧ ((((B * 4 + U) * 2 + (1 + 0)) * 8192 + T) * 8192 + S) / 67108864 % 8 = 2 * u.val + 1
      ∧ ((((B * 4 + U) * 2 + (1 + 0)) * 8192 + T) * 8192 + S) / 8192 % 8192 = t.val ∧ ((((B * 4 + U) * 2 + (1 + 0)) * 8192 + T) * 8192 + S) % 8192 = s.val := by
    rintro _ _ _ _ rfl rfl rfl rfl
    omega
  obtain ⟨g0, g1, g2, g3⟩ := k _ _ _ _ f0 f1 f2 f3
  funext a
  fin_cases a
  · exact Fin.ext g0
  · exact Fin.ext g1
  · exact Fin.ext g2
  · exact Fin.ext g3

/-- The difference of two heads' probabilities. -/
theorem diff_at (b u : Fin 4) (t s : Fin 8192) :
    val_main_v46 (F := Ideal) x0 x1 x3 x4 x5 x6 (ix4 b u t s)
      = val_main_v38 (F := Ideal) x0 x1 (ix4 b ⟨2 * u.val, by omega⟩ t s)
        - val_main_v15 (F := Ideal) x3 x4 x5 x6 ix0 * val_main_v38 (F := Ideal) x0 x1 (ix4 b ⟨2 * u.val + 1, by omega⟩ t s) := by
  rw [val_main_v46_apply, val_main_v45_apply, val_main_v44_apply, first_at, second_at]
  have e : idx_main_v44 (ix4 b u t s) = ix0 := funext fun a => a.elim0
  rw [e]
  rfl

end Cert.ReferenceIdeal.Diff
-- ==== Proof.RefPt.lean ====
/- The reference's weight, weighted values and normalisation. -/
module

public import proofs.«01_k».proof.Proof.Gen.ReferenceIdeal.Read
public import Idealize.ShloMosaic.Lib.Pointwise
public import Idealize.ShloMosaic.Lib.WordCmp

@[expose] public section

set_option maxRecDepth 16384
set_option maxHeartbeats 1600000

noncomputable section

namespace Cert.ReferenceIdeal.Diff

open Cert.ReferenceIdeal Cert.ReferenceIdeal.Gen Cert.ReferenceIdeal.Read Idealize.ShloMosaic Idealize.ShloMosaic.TcCoe Idealize.SL.Sem Idealize.ShloMosaic.StableHlo

variable (x0 : FVec Ideal S512x32768 .bf16) (x1 : FVec Ideal S32768x512 .bf16) (x2 : FVec Ideal S256x512x128 .bf16)
  (x3 x4 x5 x6 : FVec Ideal S1x64 .f32) (x7 : FVec Ideal S128x1 .f32)

/-- The weight. -/
theorem lam_at (i : S_.Idx) :
    val_main_v15 (F := Ideal) x3 x4 x5 x6 i
      = Ideal.exp (∑ e : Fin 64, x3 (ix2 (0 : Fin 1) e) * x4 (ix2 (0 : Fin 1) e)) - Ideal.exp (∑ e : Fin 64, x5 (ix2 (0 : Fin 1) e) * x6 (ix2 (0 : Fin 1) e))
        + Ideal.ofBits .f32 0x3E4CCCCD#32 := by
  pointwise [val_main_v15, val_main_v14, val_main_v13, val_main_v12, val_main_v11, val_main_v10, val_main_v9, val_main_v8, val_main_cst, val_main_cst_0, val_main_cst_1]
  simp only [Fin.sum_univ_one]

/-- The weighted values. -/
theorem out_at (b u : Fin 4) (t : Fin 8192) (d : Fin 128) :
    val_main_v48 (F := Ideal) x0 x1 x2 x3 x4 x5 x6 (ix4 b t u d)
      = ∑ s : Fin 8192, x2 (ix3 ⟨b.val * 64 + s.val / 128, by omega⟩ ⟨u.val * 128 + d.val, by omega⟩ ⟨s.val % 128, by omega⟩)
          * val_main_v46 (F := Ideal) x0 x1 x3 x4 x5 x6 (ix4 b u t s) := by
  generalize hz : val_main_v46 (F := Ideal) x0 x1 x3 x4 x5 x6 = z
  unfold val_main_v48 val_main_v47
  rw [hz]
  pointwise [val_main_v5, val_main_v6, val_main_v7]

/-- The result's normalisation. -/
theorem norm_at (b u : Fin 4) (t : Fin 8192) (d : Fin 128) (r : Fin 512) (n : Fin 32768) (hr : r.val = 128 * u.val + d.val) (hn : n.val = 8192 * b.val + t.val) :
    val_main_v67 (F := Ideal) x0 x1 x2 x3 x4 x5 x6 x7 (ix2 r n)
      = val_main_v48 (F := Ideal) x0 x1 x2 x3 x4 x5 x6 (ix4 b t u d)
        * Ideal.rsqrt (Ideal.div (∑ e : Fin 128, val_main_v48 (F := Ideal) x0 x1 x2 x3 x4 x5 x6 (ix4 b t u e) * val_main_v48 (F := Ideal) x0 x1 x2 x3 x4 x5 x6 (ix4 b t u e)) (Ideal.ofBits .f32 0x43000000#32) + Ideal.ofBits .f32 0x358637BD#32)
        * x7 (ix2 d (0 : Fin 1)) * Ideal.ofBits .f32 0x3F4CCCCD#32 := by
  generalize hz : val_main_v48 (F := Ideal) x0 x1 x2 x3 x4 x5 x6 = z
  unfold val_main_v67 val_main_v66 val_main_v65 val_main_v64 val_main_v62 val_main_v58 val_main_v57 val_main_v56 val_main_v55 val_main_v53 val_main_v51 val_main_v50 val_main_v49
  rw [hz]
  pointwise [val_main_v63, val_main_v61, val_main_v60, val_main_v59, val_main_v54, val_main_v52, val_main_cst_8, val_main_cst_9, val_main_cst_10, val_main_cst_11]
  have e1 : (⟨r.val / 128, by omega⟩ : Fin 4) = u := Fin.ext (by show r.val / 128 = u.val; omega)
  have e2 : (⟨r.val % 128, by omega⟩ : Fin 128) = d := Fin.ext (by show r.val % 128 = d.val; omega)
  have e3 : (⟨n.val / 8192, by omega⟩ : Fin 4) = b := Fin.ext (by show n.val / 8192 = b.val; omega)
  have e4 : (⟨n.val % 8192, by omega⟩ : Fin 8192) = t := Fin.ext (by show n.val % 8192 = t.val; omega)
  simp only [e1, e2, e3, e4]

end Cert.ReferenceIdeal.Diff
-- ==== Proof.RefReal.lean ====
/- The reference's result over real queries, keys and values. -/
module

public import proofs.«01_k».proof.Proof.Spec
public import proofs.«01_k».proof.Proof.RefLogit
public import proofs.«01_k».proof.Proof.RefProb
public import proofs.«01_k».proof.Proof.RefMax
public import proofs.«01_k».proof.Proof.RefDiff
public import proofs.«01_k».proof.Proof.RefPt

@[expose] public section

set_option maxRecDepth 16384
set_option maxHeartbeats 1600000

noncomputable section

namespace Cert.ReferenceIdeal.Diff

open Cert.ReferenceIdeal Cert.ReferenceIdeal.Gen Cert.ReferenceIdeal.Read Idealize.ShloMosaic Idealize.ShloMosaic.TcCoe Idealize.SL.Sem Idealize.ShloMosaic.StableHlo
open Cert.Online

variable (x0 : FVec Ideal S512x32768 .bf16) (x1 : FVec Ideal S32768x512 .bf16) (x2 : FVec Ideal S256x512x128 .bf16)
  (x3 x4 x5 x6 : FVec Ideal S1x64 .f32) (x7 : FVec Ideal S128x1 .f32)
  (Q : Fin 512 → Fin 32768 → ℝ) (K : Fin 32768 → Fin 512 → ℝ) (W : Fin 256 → Fin 512 → Fin 128 → ℝ)
  (hQ : ∀ a b, x0 (ix2 a b) = (Q a b : EReal)) (hK : ∀ a b, x1 (ix2 a b) = (K a b : EReal)) (hW : ∀ a b e, x2 (ix3 a b e) = (W a b e : EReal))

include hQ hK in
/-- A logit is the score times `log 2`. -/
theorem logit_real (b : Fin 4) (u : Fin 8) (t s : Fin 8192) :
    val_main_v20 (F := Ideal) x0 x1 (ix4 b u t s) = ((score Q K u b t s * Real.log 2 : ℝ) : EReal) := by
  rw [logit_at, lit_two, Ideal.log_coe, if_neg (by norm_num), EReal.coe_mul]
  refine congrArg (· * ((Real.log 2 : ℝ) : EReal)) ?_
  unfold score
  rw [← coe_sum]
  refine Finset.sum_congr rfl fun e _ => ?_
  have e1 : (⟨u.val * 64 + e.val, by omega⟩ : Fin 512) = ⟨64 * u.val + e.val, by omega⟩ := Fin.ext (by show u.val * 64 + e.val = 64 * u.val + e.val; omega)
  have e2 : (⟨b.val * 8192 + t.val, by omega⟩ : Fin 32768) = ⟨8192 * b.val + t.val, by omega⟩ := Fin.ext (by show b.val * 8192 + t.val = 8192 * b.val + t.val; omega)
  have e3 : (⟨b.val * 8192 + s.val, by omega⟩ : Fin 32768) = ⟨8192 * b.val + s.val, by omega⟩ := Fin.ext (by show b.val * 8192 + s.val = 8192 * b.val + s.val; omega)
  rw [hQ, hK, e1, e2, e3, EReal.coe_mul, mul_comm]

include hQ hK in
/-- A probability is the causal weight over the weights' sum. -/
theorem prob_real (b : Fin 4) (u : Fin 8) (t s : Fin 8192) :
    val_main_v38 (F := Ideal) x0 x1 (ix4 b u t s)
      = ((term t.val (score Q K u b t) (fun _ => 1) s / ∑ k, term t.val (score Q K u b t) (fun _ => 1) k : ℝ) : EReal) := by
  rw [prob_at]
  refine softmax_real t.val (score Q K u b t) (fun k => val_main_v26 (F := Ideal) x0 x1 (ix4 b u t k)) _ (fun k => ?_) ?_ s
  · rw [masked_at, logit_real x0 x1 Q K hQ hK, lit_bot]
  · rw [rowmax_at, lit_bot]

include hQ hK hW in
/-- A weighted value is the difference of two attentions. -/
theorem out_real (b u : Fin 4) (t : Fin 8192) (d : Fin 128) (l : ℝ) (hl : val_main_v15 (F := Ideal) x3 x4 x5 x6 ix0 = (l : EReal)) :
    val_main_v48 (F := Ideal) x0 x1 x2 x3 x4 x5 x6 (ix4 b t u d) = diffAttn Q K W (l : EReal) u b t d := by
  rw [out_at]
  unfold diffAttn
  rw [← weighted_real]
  refine Finset.sum_congr rfl fun s _ => ?_
  have e1 : (⟨b.val * 64 + s.val / 128, by omega⟩ : Fin 256) = ⟨64 * b.val + s.val / 128, by omega⟩ := Fin.ext (by show b.val * 64 + s.val / 128 = 64 * b.val + s.val / 128; omega)
  have e2 : (⟨u.val * 128 + d.val, by omega⟩ : Fin 512) = ⟨128 * u.val + d.val, by omega⟩ := Fin.ext (by show u.val * 128 + d.val = 128 * u.val + d.val; omega)
  rw [diff_at, hl, prob_real x0 x1 Q K hQ hK, prob_real x0 x1 Q K hQ hK, hW, e1, e2]
  rfl

/-- The difference's weight from the reference's arguments. -/
def lamArgs : EReal :=
  lam (fun e => x3 (ix2 (0 : Fin 1) e)) (fun e => x4 (ix2 (0 : Fin 1) e)) (fun e => x5 (ix2 (0 : Fin 1) e)) (fun e => x6 (ix2 (0 : Fin 1) e))

include hQ hK hW in
/-- The reference's result, entry by entry. -/
theorem result_real (l : ℝ) (hl : lamArgs x3 x4 x5 x6 = (l : EReal)) (i : S512x32768.Idx) :
    val_main_v67 (F := Ideal) x0 x1 x2 x3 x4 x5 x6 x7 i
      = resultAt Q K W (lamArgs x3 x4 x5 x6) (fun e => x7 (ix2 e (0 : Fin 1))) (i 0) (i 1) := by
  have hi : i = ix2 (i 0) (i 1) := by
    funext a
    fin_cases a <;> rfl
  have h0 : (i 0).val < 512 := (i 0).isLt
  have h1 : (i 1).val < 32768 := (i 1).isLt
  refine ((congrArg (val_main_v67 (F := Ideal) x0 x1 x2 x3 x4 x5 x6 x7) hi).trans
    (norm_at x0 x1 x2 x3 x4 x5 x6 x7 ⟨(i 1).val / 8192, by omega⟩ ⟨(i 0).val / 128, by omega⟩ ⟨(i 1).val % 8192, by omega⟩ ⟨(i 0).val % 128, by omega⟩ (i 0) (i 1)
    (by show (i 0).val = 128 * ((i 0).val / 128) + (i 0).val % 128; omega) (by show (i 1).val = 8192 * ((i 1).val / 8192) + (i 1).val % 8192; omega))).trans ?_
  have hv : val_main_v15 (F := Ideal) x3 x4 x5 x6 ix0 = (l : EReal) := (lam_at x3 x4 x5 x6 ix0).trans hl
  simp only [out_real x0 x1 x2 x3 x4 x5 x6 Q K W hQ hK hW _ _ _ _ l hv]
  rw [hl]
  rfl

end Cert.ReferenceIdeal.Diff
-- ==== Proof.Final.lean ====
/- The equality of the two programs' results, from the precondition: every entry of the queries, keys, values and
   weights is a real number, the kernel's array is the closed form, and so is the reference's. -/
module

public import proofs.«01_k».proof.Defs
public import proofs.«01_k».proof.Proof.Array
public import proofs.«01_k».proof.Proof.RefReal
public import proofs.«01_k».proof.Proof.Gen.ReferenceIdeal.Run
public import proofs.«01_k».proof.Proof.Gen.Pre_finite

@[expose] public section

set_option maxRecDepth 16384
set_option maxHeartbeats 1600000

noncomputable section

namespace Cert.Final

open Idealize.ShloMosaic Idealize.SL.Sem Cert.Online

attribute [local instance] Cert.KernelIdeal.Gen.facts Cert.ReferenceIdeal.Gen.facts Cert.Pre_finite.Gen.facts

/-- An extended real whose absolute value is below the infinite constant is a real number. -/
theorem real_of_lt (x : EReal) (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  have h1 : x ≠ ⊤ := fun e => by simp [e] at hlt
  have h2 : x ≠ ⊥ := fun e => by simp [e] at hlt
  exact ⟨x.toReal, (EReal.coe_toReal h1 h2).symm⟩

/-- The precondition's comparison, all ones, makes every entry of the array a real number. -/
theorem reals {s : Shape} (x : FVec Ideal s .f32) (hb : Cert.Pre_finite.S_.BroadcastsInDim s (![] : Fin 0 → Fin s.rank))
    (h : cmpf .olt (Host.absf x) (broadcastInDim s ![] hb (constant (F := Ideal) Cert.Pre_finite.S_ .f32 0x7F800000#32)) = fun _ => 1#1)
    (i : s.Idx) : ∃ r : ℝ, x i = (r : EReal) :=
  real_of_lt (x i) (congrFun h i)

open Cert.KernelIdeal in
/-- Under the precondition the kernel's result array is the reference's value of the kernel's arguments. -/
theorem result_eq (m : (ℓ : Loc nD τ sig) → Buf (Elt Ideal) ℓ) (h : Cert.Pre_KernelIdeal_finite m) (c : Dev nD) :
    (Cert.KernelIdeal.Gen.dats m 0 c).arrAt 8 Cert.KernelIdeal.cfg0.N
      = Cert.ReferenceIdeal.Read.val_main_v67 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  obtain ⟨p0, p1, p2, p3, p4, p5, p6⟩ := h c
  choose Q hQ using fun i => reals (m ((c.tc : Thread nD τ).loc main_arg0)) _ p0 i
  choose K hK using fun i => reals (m ((c.tc : Thread nD τ).loc main_arg1)) _ p1 i
  choose W hW using fun i => reals (m ((c.tc : Thread nD τ).loc main_arg2)) _ p2 i
  obtain ⟨l, hl⟩ := lam_real (fun e => m ((c.tc : Thread nD τ).loc main_arg3) (ix2 (0 : Fin 1) e)) (fun e => m ((c.tc : Thread nD τ).loc main_arg4) (ix2 (0 : Fin 1) e))
    (fun e => m ((c.tc : Thread nD τ).loc main_arg5) (ix2 (0 : Fin 1) e)) (fun e => m ((c.tc : Thread nD τ).loc main_arg6) (ix2 (0 : Fin 1) e))
    (fun e => reals (m ((c.tc : Thread nD τ).loc main_arg3)) _ p3 _) (fun e => reals (m ((c.tc : Thread nD τ).loc main_arg4)) _ p4 _)
    (fun e => reals (m ((c.tc : Thread nD τ).loc main_arg5)) _ p5 _) (fun e => reals (m ((c.tc : Thread nD τ).loc main_arg6)) _ p6 _)
  refine (Cert.KernelIdeal.Gen.Diff.final m c (fun a b => Q (ix2 a b)) (fun a b => K (ix2 a b)) (fun a b e => W (ix3 a b e))
    (fun a b => hQ _) (fun a b => hK _) (fun a b e => hW _)).trans ?_
  funext i
  exact (Cert.ReferenceIdeal.Diff.result_real _ _ _ _ _ _ _ _ (fun a b => Q (ix2 a b)) (fun a b => K (ix2 a b)) (fun a b e => W (ix3 a b e))
    (fun a b => hQ _) (fun a b => hK _) (fun a b e => hW _) l hl i).symm

/-- The idealized kernel and the idealized reference end with equal results, and leave their arguments as they were. -/
theorem algebraic : Cert.algebraic_KernelIdeal_ReferenceIdeal_pre_finite := by
  intro m g m' g' hpre hagree
  refine ⟨fun c => (Cert.KernelIdeal.Gen.dats m 0 c).arrAt 8 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7⟩ := hagree c
  rw [Cert.ReferenceIdeal.Read.val_main_v67_eq, e0, e1, e2, e3, e4, e5, e6, e7]
  exact (result_eq m hpre c).symm

end Cert.Final

end
-- ==== Proof.Rows.lean ====
/- The row by row functions of the feed-forward part and of the merge, over the extended reals. -/
module

public import Idealize.ShloMosaic.PureOps.Ideal

@[expose] public section

noncomputable section

namespace Cert.Rows

open Idealize.ShloMosaic

/-- A row divided by the root of the mean of its squares, times the norm's weights. -/
def normRow (x g : Fin 1024 → EReal) (k : Fin 1024) : EReal :=
  x k * Ideal.rsqrt (Ideal.div (∑ j, x j * x j) (Ideal.ofBits .f32 0x44800000#32) + Ideal.ofBits .f32 0x358637BD#32) * g k

/-- A row times a matrix, at one column. -/
def dotRow {n d : ℕ} (h : Fin n → EReal) (w : Fin n → Fin d → EReal) (f : Fin d) : EReal := ∑ k, h k * w k f

/-- The gated unit from its two products. -/
def gated (u v : EReal) : EReal := u * Ideal.logistic u * v

/-- A row after the feed-forward part. -/
def ffnRow (x g : Fin 1024 → EReal) (w1 w3 : Fin 1024 → Fin 2816 → EReal) (w2 : Fin 2816 → Fin 1024 → EReal) (d : Fin 1024) : EReal :=
  x d + dotRow (fun f => gated (dotRow (normRow x g) w1 f) (dotRow (normRow x g) w3 f)) w2 d

/-- A branch's gate: the logistic function of the normed row times a column of the gates' matrix, and a bias. -/
def gate (x g : Fin 1024 → EReal) (w : Fin 1024 → Fin 3072 → EReal) (b : Fin 3072 → EReal) (i : Fin 3072) : EReal :=
  Ideal.logistic (dotRow (normRow x g) w i + b i)

/-- The three branches' projections, each times its gate, added up. -/
def mixed (x g : Fin 1024 → EReal) (w : Fin 1024 → Fin 3072 → EReal) (b : Fin 3072 → EReal) (oa ob oc : Fin 512 → EReal)
    (wa wb wc : Fin 512 → Fin 1024 → EReal) (k : Fin 1024) : EReal :=
  gate x g w b ⟨k.val, by omega⟩ * dotRow oa wa k + gate x g w b ⟨1024 + k.val, by omega⟩ * dotRow ob wb k
    + gate x g w b ⟨2048 + k.val, by omega⟩ * dotRow oc wc k

/-- A row after the merge of the three branches. -/
def mergeRow (x g : Fin 1024 → EReal) (w : Fin 1024 → Fin 3072 → EReal) (b : Fin 3072 → EReal) (oa ob oc : Fin 512 → EReal)
    (wa wb wc : Fin 512 → Fin 1024 → EReal) (wo : Fin 1024 → Fin 1024 → EReal) (d : Fin 1024) : EReal :=
  x d + dotRow (mixed x g w b oa ob oc wa wb wc) wo d

end Cert.Rows

end
-- ==== Proof.FfnPt.lean ====
/- The payloads of the feed-forward kernel at one entry. -/
module

public import proofs.«01_k».proof.Proof.Rows
public import proofs.«01_k».proof.Proof.Gen.Kernel2Ideal.Value
public import Idealize.ShloMosaic.Lib.Pointwise

@[expose] public section

set_option maxRecDepth 16384
set_option maxHeartbeats 1600000

noncomputable section

namespace Cert.Kernel2Ideal.Ffn

open Cert.Kernel2Ideal Cert.Kernel2Ideal.Gen Idealize.ShloMosaic Cert.Rows

/-- The normed row. -/
theorem h_at (v0 : Vec Ideal S512x1024 .f32) (v1 : Vec Ideal S1x1024 .f32) (a : Fin 512) (k : Fin 1024) :
    k0_pay2 (F := Ideal) v0 v1 (ix2 a k) = normRow (fun j => v0 (ix2 a j)) (fun j => v1 (ix2 (0 : Fin 1) j)) k := by
  unfold normRow
  pointwise [k0_pay2]

/-- The second half's gated unit, before its second product. -/
theorem up_at (v0 : Vec Ideal S512x1024 .f32) (v1 : Vec Ideal S1x1024 .f32) (w : Vec Ideal S1024x1408 .bf16) (a : Fin 512) (f : Fin 1408) :
    k0_pay4 (F := Ideal) v0 v1 w (ix2 a f) = gated (dotRow (fun k => k0_pay2 (F := Ideal) v0 v1 (ix2 a k)) (fun k f => w (ix2 k f)) f) 1 := by
  unfold gated dotRow k0_pay4
  generalize k0_pay2 (F := Ideal) v0 v1 = H
  pointwise []

/-- The row and the first half's share of the last product. -/
theorem first_at (v0 : Vec Ideal S512x1024 .f32) (v1 : Vec Ideal S1x1024 .f32) (w1 w3 : Vec Ideal S1024x1408 .bf16) (w2 : Vec Ideal S1408x1024 .bf16) (a : Fin 512) (d : Fin 1024) :
    k0_pay3 (F := Ideal) v0 v1 w1 w3 w2 (ix2 a d) = v0 (ix2 a d) + dotRow (fun f => gated (dotRow (fun k => k0_pay2 (F := Ideal) v0 v1 (ix2 a k)) (fun k f => w1 (ix2 k f)) f)
      (dotRow (fun k => k0_pay2 (F := Ideal) v0 v1 (ix2 a k)) (fun k f => w3 (ix2 k f)) f)) (fun f d => w2 (ix2 f d)) d := by
  unfold gated dotRow k0_pay3
  generalize k0_pay2 (F := Ideal) v0 v1 = H
  pointwise []

/-- The result, from the normed rows, the first half's sum and the second half's gated unit. -/
theorem out_at (H : FVec Ideal S512x1024 .bf16) (Y : FVec Ideal S512x1024 .f32) (U : FVec Ideal S512x1408 .f32) (w3 : FVec Ideal S1024x1408 .bf16) (w2 : Vec Ideal S1408x1024 .bf16) (gf : Vec Ideal S1x1024 .f32)
    (a : Fin 512) (d : Fin 1024) :
    k0_pay1 (F := Ideal) H Y U w3 (constant S512x1408 .f32 0x00000000#32) w2 gf (ix2 a d)
      = normRow (fun d => Y (ix2 a d) + dotRow (fun f => U (ix2 a f) * dotRow (fun k => H (ix2 a k)) (fun k f => w3 (ix2 k f)) f) (fun f d => w2 (ix2 f d)) d) (fun j => gf (ix2 (0 : Fin 1) j)) d := by
  unfold normRow dotRow
  pointwise [k0_pay1]

end Cert.Kernel2Ideal.Ffn

end
-- ==== Proof.FfnArray.lean ====
/- The feed-forward kernel's result array. -/
module

public import proofs.«01_k».proof.Proof.FfnPt
public import Idealize.ShloMosaic.Lib.Pipeline.ValueKit
public import Idealize.ShloMosaic.Lib.Claim

@[expose] public section

set_option maxRecDepth 16384
set_option maxHeartbeats 1600000

noncomputable section

namespace Cert.Kernel2Ideal.Ffn

open Cert.Kernel2Ideal Cert.Kernel2Ideal.Gen Idealize.ShloMosaic Idealize.ShloMosaic.TcCoe Idealize.SL.Sem Cert.Rows

/-- A gated unit whose other factor is one, times that factor. -/
theorem gated_one (u v : EReal) : gated u 1 * v = gated u v := by
  unfold gated
  rw [mul_one]

/-- A row times a matrix of 2816 rows is the sum over its two halves. -/
theorem dotRow_halves (h : Fin 2816 → EReal) (w : Fin 2816 → Fin 1024 → EReal) (d : Fin 1024) :
    dotRow h w d = dotRow (fun f : Fin 1408 => h ⟨f.val, by omega⟩) (fun f d => w ⟨f.val, by omega⟩ d) d
      + dotRow (fun f : Fin 1408 => h ⟨1408 + f.val, by omega⟩) (fun f d => w ⟨1408 + f.val, by omega⟩ d) d :=
  Fin.sum_univ_add (a := 1408) (b := 1408) fun k : Fin (1408 + 1408) => h k * w k d

/-- What the kernel writes at one entry of a block, from its input blocks. -/
theorem block_at (x0 : Vec Ideal S512x1024 .f32) (x1 : Vec Ideal S1x1024 .f32) (x2 x3 : Vec Ideal S1024x2816 .bf16) (x4 : Vec Ideal S2816x1024 .bf16) (x5 : Vec Ideal S1x1024 .f32)
    (a : Fin 512) (d : Fin 1024) :
    out0_6 (F := Ideal) x0 x1 x2 x3 x4 x5 (ix2 a d)
      = normRow (ffnRow (fun k => x0 (ix2 a k)) (fun k => x1 (ix2 (0 : Fin 1) k)) (fun k f => x2 (ix2 k f)) (fun k f => x3 (ix2 k f)) (fun f d => x4 (ix2 f d)))
          (fun k => x5 (ix2 (0 : Fin 1) k)) d := by
  have l2 : ∀ (x : Vec Ideal S1024x2816 .bf16) (k : Fin 1024) (f : Fin 1408), View.ld x r0_2 (ix2 k f) = x (ix2 k ⟨f.val, by omega⟩) := fun x k f => by pointwise []
  have l4 : ∀ (x : Vec Ideal S1024x2816 .bf16) (k : Fin 1024) (f : Fin 1408), View.ld x r0_4 (ix2 k f) = x (ix2 k ⟨1408 + f.val, by omega⟩) := fun x k f => by pointwise []
  have l3 : ∀ (f : Fin 1408) (d : Fin 1024), View.ld x4 r0_3 (ix2 f d) = x4 (ix2 ⟨f.val, by omega⟩ d) := fun f d => by pointwise []
  have l5 : ∀ (f : Fin 1408) (d : Fin 1024), View.ld x4 r0_5 (ix2 f d) = x4 (ix2 ⟨1408 + f.val, by omega⟩ d) := fun f d => by pointwise []
  have p5 : ∀ (w : Vec Ideal S1024x1408 .bf16) (k : Fin 1024) (f : Fin 1408), k0_pay5 (F := Ideal) w (ix2 k f) = w (ix2 k f) := fun w k f => by pointwise [k0_pay5]
  unfold out0_6
  generalize e2 : View.ld x2 r0_2 = y2
  generalize e3 : View.ld x3 r0_2 = y3
  generalize e4 : View.ld x2 r0_4 = y4
  generalize e5 : View.ld x3 r0_4 = y5
  generalize e6 : View.ld x4 r0_3 = y6
  generalize e7 : View.ld x4 r0_5 = y7
  frame_out
  rw [out_at]
  congr 1
  funext d
  simp only [first_at, up_at, h_at, p5, gated_one]
  have g2 : ∀ k f, y2 (ix2 k f) = x2 (ix2 k ⟨f.val, by omega⟩) := fun k f => (congrFun e2 _).symm.trans (l2 x2 k f)
  have g3 : ∀ k f, y3 (ix2 k f) = x3 (ix2 k ⟨f.val, by omega⟩) := fun k f => (congrFun e3 _).symm.trans (l2 x3 k f)
  have g4 : ∀ k f, y4 (ix2 k f) = x2 (ix2 k ⟨1408 + f.val, by omega⟩) := fun k f => (congrFun e4 _).symm.trans (l4 x2 k f)
  have g5 : ∀ k f, y5 (ix2 k f) = x3 (ix2 k ⟨1408 + f.val, by omega⟩) := fun k f => (congrFun e5 _).symm.trans (l4 x3 k f)
  have g6 : ∀ f d, y6 (ix2 f d) = x4 (ix2 ⟨f.val, by omega⟩ d) := fun f d => (congrFun e6 _).symm.trans (l3 f d)
  have g7 : ∀ f d, y7 (ix2 f d) = x4 (ix2 ⟨1408 + f.val, by omega⟩ d) := fun f d => (congrFun e7 _).symm.trans (l5 f d)
  simp only [g2, g3, g4, g5, g6, g7]
  unfold ffnRow
  rw [dotRow_halves, ← add_assoc]
  rfl

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0])

/-- The grid has 64 points. -/
theorem lt64 (t : Fin cfg0.N) : t.val < 64 := lt_of_lt_of_eq t.isLt (by decide +kernel : cfg0.N = 64)

/-- The block of the residual stream, read off the argument. -/
theorem read0 (c : Dev nD) (t : Fin cfg0.N) (a : Fin 512) (k : Fin 1024) :
    iblk m c 0 t (ix2 a k) = m ((c : Thread nD τ).loc main_arg0) (ix2 ⟨512 * t.val + a.val, by have := lt64 t; omega⟩ k) := by
  blk_ext [iblk, V, idx t]

/-- The first norm's weights. -/
theorem read1 (c : Dev nD) (t : Fin cfg0.N) (k : Fin 1024) : iblk m c 1 t (ix2 (0 : Fin 1) k) = m ((c : Thread nD τ).loc main_arg1) (ix1 k) := by
  have e : iblk m c 1 t (ix2 (0 : Fin 1) k) = V m c main_v0 (ix2 (0 : Fin 1) k) := by blk_ext [iblk, idx t]
  rw [e]
  entry_read
  pointwise []

/-- The first matrix. -/
theorem read2 (c : Dev nD) (t : Fin cfg0.N) (k : Fin 1024) (f : Fin 2816) : iblk m c 2 t (ix2 k f) = m ((c : Thread nD τ).loc main_arg2) (ix2 k f) := by
  have e : iblk m c 2 t (ix2 k f) = V m c main_v1 (ix2 k f) := by blk_ext [iblk, idx t]
  rw [e]
  entry_read
  pointwise []

/-- The second matrix. -/
theorem read3 (c : Dev nD) (t : Fin cfg0.N) (k : Fin 1024) (f : Fin 2816) : iblk m c 3 t (ix2 k f) = m ((c : Thread nD τ).loc main_arg3) (ix2 k f) := by
  have e : iblk m c 3 t (ix2 k f) = V m c main_v2 (ix2 k f) := by blk_ext [iblk, idx t]
  rw [e]
  entry_read
  pointwise []

/-- The last matrix. -/
theorem read4 (c : Dev nD) (t : Fin cfg0.N) (f : Fin 2816) (d : Fin 1024) : iblk m c 4 t (ix2 f d) = m ((c : Thread nD τ).loc main_arg4) (ix2 f d) := by
  have e : iblk m c 4 t (ix2 f d) = V m c main_v3 (ix2 f d) := by blk_ext [iblk, idx t]
  rw [e]
  entry_read
  pointwise []

/-- The last norm's weights. -/
theorem read5 (c : Dev nD) (t : Fin cfg0.N) (k : Fin 1024) : iblk m c 5 t (ix2 (0 : Fin 1) k) = m ((c : Thread nD τ).loc main_arg5) (ix1 k) := by
  have e : iblk m c 5 t (ix2 (0 : Fin 1) k) = V m c main_v4 (ix2 (0 : Fin 1) k) := by blk_ext [iblk, idx t]
  rw [e]
  entry_read
  pointwise []

/-- The kernel's result array. -/
theorem final (c : Dev nD) : (dats m 0 c).arrAt 6 cfg0.N
    = fun i => normRow (ffnRow (fun k => m ((c : Thread nD τ).loc main_arg0) (ix2 (i 0) k)) (fun k => m ((c : Thread nD τ).loc main_arg1) (ix1 k))
        (fun k f => m ((c : Thread nD τ).loc main_arg2) (ix2 k f)) (fun k f => m ((c : Thread nD τ).loc main_arg3) (ix2 k f))
        (fun f d => m ((c : Thread nD τ).loc main_arg4) (ix2 f d))) (fun k => m ((c : Thread nD τ).loc main_arg5) (ix1 k)) (i 1) := by
  refine (dats m 0 c).arrAt_eq_of_covers 6 _ (by decide +kernel) fun t hf y => ?_
  have hfl : (dats m 0 c).after 6 t y = out0_6 (iblk m c 0 t) (iblk m c 1 t) (iblk m c 2 t) (iblk m c 3 t) (iblk m c 4 t) (iblk m c 5 t) y := congrFun (after0_6 m c t) y
  blk_simp
  refine hfl.trans ?_
  have h0 : (y 0).val < 512 := (y 0).isLt
  have h1 : (y 1).val < 1024 := (y 1).isLt
  have ht := lt64 t
  have ey : y = ix2 (⟨(y 0).val, h0⟩ : Fin 512) (⟨(y 1).val, h1⟩ : Fin 1024) := by
    funext a
    fin_cases a <;> rfl
  refine (congrArg (out0_6 (F := Ideal) (iblk m c 0 t) (iblk m c 1 t) (iblk m c 2 t) (iblk m c 3 t) (iblk m c 4 t) (iblk m c 5 t)) ey).trans ?_
  refine (block_at _ _ _ _ _ _ _ _).trans ?_
  simp only [read0, read1, read2, read3, read4, read5]
  have e0 : ((((cfg0.win 6).blk t).view.emb y) 0).val = 512 * t.val + (y 0).val := by
    blk_simp [idx t]
    omega
  have e1 : ((((cfg0.win 6).blk t).view.emb y) 1).val = (y 1).val := by
    blk_simp [idx t]
    try omega
  rw [show (⟨512 * t.val + (y 0).val, by omega⟩ : Fin 32768) = (((cfg0.win 6).blk t).view.emb y) 0 from Fin.ext e0.symm,
    show (⟨(y 1).val, h1⟩ : Fin 1024) = (((cfg0.win 6).blk t).view.emb y) 1 from Fin.ext e1.symm]

end Cert.Kernel2Ideal.Ffn

end
-- ==== Proof.FfnRef.lean ====
/- The feed-forward reference at one entry. -/
module

public import proofs.«01_k».proof.Proof.Rows
public import proofs.«01_k».proof.Proof.Gen.Reference2Ideal.Read
public import Idealize.ShloMosaic.Lib.Pointwise

@[expose] public section

set_option maxRecDepth 16384
set_option maxHeartbeats 1600000

noncomputable section

namespace Cert.Reference2Ideal.Ffn

open Cert.Reference2Ideal Cert.Reference2Ideal.Gen Cert.Reference2Ideal.Read Idealize.ShloMosaic Idealize.ShloMosaic.TcCoe Idealize.SL.Sem Idealize.ShloMosaic.StableHlo Cert.Rows

variable (x0 : FVec Ideal S32768x1024 .f32) (x1 : FVec Ideal S1024 .f32) (x2 x3 : FVec Ideal S1024x2816 .f32) (x4 : FVec Ideal S2816x1024 .f32) (x5 : FVec Ideal S1024 .f32)

/-- The first norm. -/
theorem h_at (a : Fin 32768) (k : Fin 1024) :
    val_main_v12 (F := Ideal) x0 x1 (ix2 a k) = normRow (fun j => x0 (ix2 a j)) (fun j => x1 (ix1 j)) k := by
  unfold normRow
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The normed row times the first matrix. -/
theorem up_at (a : Fin 32768) (f : Fin 2816) :
    val_main_v13 (F := Ideal) x0 x1 x2 (ix2 a f) = dotRow (normRow (fun j => x0 (ix2 a j)) (fun j => x1 (ix1 j))) (fun k f => x2 (ix2 k f)) f := by
  have e : ∀ k, val_main_v12 (F := Ideal) x0 x1 (ix2 a k) = normRow (fun j => x0 (ix2 a j)) (fun j => x1 (ix1 j)) k := h_at x0 x1 a
  unfold dotRow
  simp only [← e]
  unfold val_main_v13
  generalize val_main_v12 (F := Ideal) x0 x1 = H
  pointwise []

/-- The normed row times the second matrix. -/
theorem gate_at (a : Fin 32768) (f : Fin 2816) :
    val_main_v15 (F := Ideal) x0 x1 x3 (ix2 a f) = dotRow (normRow (fun j => x0 (ix2 a j)) (fun j => x1 (ix1 j))) (fun k f => x3 (ix2 k f)) f := by
  have e : ∀ k, val_main_v12 (F := Ideal) x0 x1 (ix2 a k) = normRow (fun j => x0 (ix2 a j)) (fun j => x1 (ix1 j)) k := h_at x0 x1 a
  unfold dotRow
  simp only [← e]
  unfold val_main_v15
  generalize val_main_v12 (F := Ideal) x0 x1 = H
  pointwise []

/-- The gated unit. -/
theorem unit_at (a : Fin 32768) (f : Fin 2816) :
    val_main_v16 (F := Ideal) x0 x1 x2 x3 (ix2 a f) = gated (val_main_v13 (F := Ideal) x0 x1 x2 (ix2 a f)) (val_main_v15 (F := Ideal) x0 x1 x3 (ix2 a f)) := by
  have o : Ideal.ofBits .f32 0x3F800000#32 = (1 : EReal) := by
    simp [Ideal.ofBits, Ideal.ieee]
    rw [← EReal.coe_mul]
    norm_num
  rw [val_main_v16_apply, val_main_v14_apply, val_main_call0_v5_apply, val_main_call0_v4_apply, val_main_call0_v3_apply, val_main_call0_v2_apply,
    val_main_call0_cst_0_apply, val_main_call0_cst_apply, val_main_call0_v1_apply, val_main_call0_v0_apply]
  generalize val_main_v13 (F := Ideal) x0 x1 x2 (ix2 a f) = u
  generalize val_main_v15 (F := Ideal) x0 x1 x3 (ix2 a f) = v
  unfold gated
  change u * Ideal.div (Ideal.ofBits .f32 0x3F800000#32) (Ideal.ofBits .f32 0x3F800000#32 + Ideal.exp (-u)) * v = _
  rw [o]
  rfl

/-- The row after the feed-forward part. -/
theorem row_at (a : Fin 32768) (d : Fin 1024) :
    val_main_v18 (F := Ideal) x0 x1 x2 x3 x4 (ix2 a d)
      = ffnRow (fun k => x0 (ix2 a k)) (fun k => x1 (ix1 k)) (fun k f => x2 (ix2 k f)) (fun k f => x3 (ix2 k f)) (fun f d => x4 (ix2 f d)) d := by
  unfold ffnRow
  simp only [← up_at x0 x1 x2, ← gate_at x0 x1 x3, ← unit_at]
  unfold dotRow val_main_v18 val_main_v17
  generalize val_main_v16 (F := Ideal) x0 x1 x2 x3 = H
  pointwise []

/-- The reference's result at one entry. -/
theorem out_at (a : Fin 32768) (d : Fin 1024) :
    val_main_v31 (F := Ideal) x0 x1 x2 x3 x4 x5 (ix2 a d)
      = normRow (ffnRow (fun k => x0 (ix2 a k)) (fun k => x1 (ix1 k)) (fun k f => x2 (ix2 k f)) (fun k f => x3 (ix2 k f)) (fun f d => x4 (ix2 f d))) (fun k => x5 (ix1 k)) d := by
  unfold normRow
  simp only [← row_at]
  unfold val_main_v31 val_main_v30 val_main_v29 val_main_v28 val_main_v27 val_main_v26 val_main_v25 val_main_v24 val_main_v23 val_main_v22 val_main_v21 val_main_v20 val_main_v19 val_main_cst_2 val_main_cst_3 val_main_cst_4
  generalize val_main_v18 (F := Ideal) x0 x1 x2 x3 x4 = H
  pointwise []

end Cert.Reference2Ideal.Ffn

end
-- ==== Proof.FfnFinal.lean ====
/- The equality of the two feed-forward programs' results. -/
module

public import proofs.«01_k».proof.Defs
public import proofs.«01_k».proof.Proof.FfnArray
public import proofs.«01_k».proof.Proof.FfnRef
public import proofs.«01_k».proof.Proof.Gen.Reference2Ideal.Run

@[expose] public section

set_option maxRecDepth 16384
set_option maxHeartbeats 1600000

noncomputable section

namespace Cert.FfnFinal

open Idealize.ShloMosaic Idealize.SL.Sem

attribute [local instance] Cert.Kernel2Ideal.Gen.facts Cert.Reference2Ideal.Gen.facts

open Cert.Kernel2Ideal in
/-- The kernel's result array is the reference's value of the kernel's arguments. -/
theorem result_eq (m : (ℓ : Loc nD τ sig) → Buf (Elt Ideal) ℓ) (c : Dev nD) :
    (Cert.Kernel2Ideal.Gen.dats m 0 c).arrAt 6 Cert.Kernel2Ideal.cfg0.N
      = Cert.Reference2Ideal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Cert.Kernel2Ideal.Ffn.final m c).trans ?_
  funext i
  have ei : i = ix2 (i 0) (i 1) := by
    funext a
    fin_cases a <;> rfl
  refine Eq.trans ?_ (congrArg (Cert.Reference2Ideal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ei.symm)
  exact (Cert.Reference2Ideal.Ffn.out_at _ _ _ _ _ _ _ _).symm

/-- The idealized kernel and the idealized reference end with equal results, and leave their arguments as they were. -/
theorem algebraic : Cert.algebraic_Kernel2Ideal_Reference2Ideal := by
  intro m g m' g' _ hagree
  refine ⟨fun c => (Cert.Kernel2Ideal.Gen.dats m 0 c).arrAt 6 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5⟩ := hagree c
  rw [Cert.Reference2Ideal.Read.val_main_v31_eq, e0, e1, e2, e3, e4, e5]
  exact (result_eq m c).symm

end Cert.FfnFinal

end
-- ==== Proof.MergePt.lean ====
/- The payloads of the merge kernel at one entry. -/
module

public import proofs.«01_k».proof.Proof.Rows
public import proofs.«01_k».proof.Proof.Gen.Kernel3Ideal.Value
public import Idealize.ShloMosaic.Lib.Pointwise

@[expose] public section

set_option maxRecDepth 16384
set_option maxHeartbeats 1600000

noncomputable section

namespace Cert.Kernel3Ideal.Merge

open Cert.Kernel3Ideal Cert.Kernel3Ideal.Gen Idealize.ShloMosaic Cert.Rows

/-- The normed row. -/
theorem h_at (v0 : Vec Ideal S512x1024 .f32) (v1 : Vec Ideal S1x1024 .f32) (a : Fin 512) (k : Fin 1024) :
    k0_pay2 (F := Ideal) v0 v1 (ix2 a k) = normRow (fun j => v0 (ix2 a j)) (fun j => v1 (ix2 (0 : Fin 1) j)) k := by
  unfold normRow
  pointwise [k0_pay2]

/-- The first branch's projection times its gate. -/
theorem first_at (v0 : Vec Ideal S512x1024 .f32) (v1 : Vec Ideal S1x1024 .f32) (w : Vec Ideal S1024x1024 .bf16) (b : Vec Ideal S1x1024 .f32)
    (o : Vec Ideal S512x512 .bf16) (p : Vec Ideal S512x1024 .bf16) (a : Fin 512) (k : Fin 1024) :
    k0_pay3 (F := Ideal) v0 v1 w b o p (ix2 a k)
      = Ideal.logistic (dotRow (fun j => k0_pay2 (F := Ideal) v0 v1 (ix2 a j)) (fun j k => w (ix2 j k)) k + b (ix2 (0 : Fin 1) k))
        * dotRow (fun j : Fin 512 => o (ix2 j a)) (fun j k => p (ix2 j k)) k := by
  unfold dotRow k0_pay3
  generalize k0_pay2 (F := Ideal) v0 v1 = H
  pointwise []

/-- The second branch's gate. -/
theorem second_at (v0 : Vec Ideal S512x1024 .f32) (v1 : Vec Ideal S1x1024 .f32) (w : Vec Ideal S1024x1024 .bf16) (b : Vec Ideal S1x1024 .f32)
    (a : Fin 512) (k : Fin 1024) :
    k0_pay4 (F := Ideal) v0 v1 w b (ix2 a k)
      = Ideal.logistic (dotRow (fun j => k0_pay2 (F := Ideal) v0 v1 (ix2 a j)) (fun j k => w (ix2 j k)) k + b (ix2 (0 : Fin 1) k)) := by
  unfold dotRow k0_pay4
  generalize k0_pay2 (F := Ideal) v0 v1 = H
  pointwise []

/-- The result, from the normed rows, the first branch's term and the second branch's gate. -/
theorem out_at (x : Vec Ideal S512x1024 .f32) (H : FVec Ideal S512x1024 .bf16) (Y G : FVec Ideal S512x1024 .f32) (ob : Vec Ideal S512x512 .bf16) (wb : Vec Ideal S512x1024 .bf16)
    (w : Vec Ideal S1024x1024 .bf16) (b : Vec Ideal S1x1024 .f32) (oc : Vec Ideal S512x512 .bf16) (wc : Vec Ideal S512x1024 .bf16) (wo : Vec Ideal S1024x1024 .bf16)
    (a : Fin 512) (d : Fin 1024) :
    k0_pay1 (F := Ideal) x H Y G ob wb w b oc wc wo (ix2 a d)
      = x (ix2 a d) + dotRow (fun k => Y (ix2 a k) + G (ix2 a k) * dotRow (fun j : Fin 512 => ob (ix2 j a)) (fun j k => wb (ix2 j k)) k
          + Ideal.logistic (dotRow (fun j => H (ix2 a j)) (fun j k => w (ix2 j k)) k + b (ix2 (0 : Fin 1) k)) * dotRow (fun j : Fin 512 => oc (ix2 a j)) (fun j k => wc (ix2 j k)) k)
          (fun k d => wo (ix2 k d)) d := by
  unfold dotRow
  pointwise [k0_pay1]

end Cert.Kernel3Ideal.Merge

end
-- ==== Proof.MergeArray.lean ====
/- The merge kernel's result array. -/
module

public import proofs.«01_k».proof.Proof.MergePt
public import Idealize.ShloMosaic.Lib.Pipeline.ValueKit
public import Idealize.ShloMosaic.Lib.Claim

@[expose] public section

set_option maxRecDepth 16384
set_option maxHeartbeats 1600000

noncomputable section

namespace Cert.Kernel3Ideal.Merge

open Cert.Kernel3Ideal Cert.Kernel3Ideal.Gen Idealize.ShloMosaic Idealize.ShloMosaic.TcCoe Idealize.SL.Sem Cert.Rows

/-- What the kernel writes at one entry of a block, from its input blocks. -/
theorem block_at (x0 : Vec Ideal S512x1024 .f32) (x1 : Vec Ideal S1x1024 .f32) (x2 : Vec Ideal S1024x3072 .bf16) (x3 : Vec Ideal S1x3072 .f32)
    (x4 x5 x6 : Vec Ideal S512x512 .bf16) (x7 x8 x9 : Vec Ideal S512x1024 .bf16) (x10 : Vec Ideal S1024x1024 .bf16) (a : Fin 512) (d : Fin 1024) :
    out0_11 (F := Ideal) x0 x1 x2 x3 x4 x5 x6 x7 x8 x9 x10 (ix2 a d)
      = mergeRow (fun k => x0 (ix2 a k)) (fun k => x1 (ix2 (0 : Fin 1) k)) (fun k f => x2 (ix2 k f)) (fun f => x3 (ix2 (0 : Fin 1) f))
          (fun j => x4 (ix2 j a)) (fun j => x5 (ix2 j a)) (fun j => x6 (ix2 a j))
          (fun j k => x7 (ix2 j k)) (fun j k => x8 (ix2 j k)) (fun j k => x9 (ix2 j k)) (fun k d => x10 (ix2 k d)) d := by
  have l2 : ∀ (k : Fin 1024) (f : Fin 1024), View.ld x2 r0_2 (ix2 k f) = x2 (ix2 k ⟨f.val, by omega⟩) := fun k f => by pointwise []
  have l5 : ∀ (k : Fin 1024) (f : Fin 1024), View.ld x2 r0_5 (ix2 k f) = x2 (ix2 k ⟨1024 + f.val, by omega⟩) := fun k f => by pointwise []
  have l7 : ∀ (k : Fin 1024) (f : Fin 1024), View.ld x2 r0_7 (ix2 k f) = x2 (ix2 k ⟨2048 + f.val, by omega⟩) := fun k f => by pointwise []
  have l3 : ∀ (f : Fin 1024), View.ld x3 r0_3 (ix2 (0 : Fin 1) f) = x3 (ix2 (0 : Fin 1) ⟨f.val, by omega⟩) := fun f => by pointwise []
  have l6 : ∀ (f : Fin 1024), View.ld x3 r0_6 (ix2 (0 : Fin 1) f) = x3 (ix2 (0 : Fin 1) ⟨1024 + f.val, by omega⟩) := fun f => by pointwise []
  have l8 : ∀ (f : Fin 1024), View.ld x3 r0_8 (ix2 (0 : Fin 1) f) = x3 (ix2 (0 : Fin 1) ⟨2048 + f.val, by omega⟩) := fun f => by pointwise []
  unfold out0_11
  generalize e2 : View.ld x2 r0_2 = y2
  generalize e5 : View.ld x2 r0_5 = y5
  generalize e7 : View.ld x2 r0_7 = y7
  generalize e3 : View.ld x3 r0_3 = y3
  generalize e6 : View.ld x3 r0_6 = y6
  generalize e8 : View.ld x3 r0_8 = y8
  frame_out
  rw [out_at]
  simp only [first_at, second_at, h_at]
  have g2 : ∀ k f, y2 (ix2 k f) = x2 (ix2 k ⟨f.val, by omega⟩) := fun k f => (congrFun e2 _).symm.trans (l2 k f)
  have g5 : ∀ k f, y5 (ix2 k f) = x2 (ix2 k ⟨1024 + f.val, by omega⟩) := fun k f => (congrFun e5 _).symm.trans (l5 k f)
  have g7 : ∀ k f, y7 (ix2 k f) = x2 (ix2 k ⟨2048 + f.val, by omega⟩) := fun k f => (congrFun e7 _).symm.trans (l7 k f)
  have g3 : ∀ f, y3 (ix2 (0 : Fin 1) f) = x3 (ix2 (0 : Fin 1) ⟨f.val, by omega⟩) := fun f => (congrFun e3 _).symm.trans (l3 f)
  have g6 : ∀ f, y6 (ix2 (0 : Fin 1) f) = x3 (ix2 (0 : Fin 1) ⟨1024 + f.val, by omega⟩) := fun f => (congrFun e6 _).symm.trans (l6 f)
  have g8 : ∀ f, y8 (ix2 (0 : Fin 1) f) = x3 (ix2 (0 : Fin 1) ⟨2048 + f.val, by omega⟩) := fun f => (congrFun e8 _).symm.trans (l8 f)
  simp only [g2, g3, g5, g6, g7, g8]
  rfl

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![0, 0] ∧ win0_3.index t = ![0, 0] ∧ win0_4.index t = ![0, t.val] ∧ win0_5.index t = ![0, t.val] ∧ win0_6.index t = ![t.val, 0] ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, t.val] ∧ win0_5.index t = ![0, t.val] ∧ win0_6.index t = ![t.val, 0] ∧ win0_7.index t = ![0, 0] ∧ win0_8.index t = ![0, 0] ∧ win0_9.index t = ![0, 0] ∧ win0_10.index t = ![0, 0] ∧ win0_11.index t = ![t.val, 0])

/-- The grid has 64 points. -/
theorem lt64 (t : Fin cfg0.N) : t.val < 64 := lt_of_lt_of_eq t.isLt (by decide +kernel : cfg0.N = 64)

/-- The block of the residual stream, read off the argument. -/
theorem read0 (c : Dev nD) (t : Fin cfg0.N) (a : Fin 512) (k : Fin 1024) :
    iblk m c 0 t (ix2 a k) = m ((c : Thread nD τ).loc main_arg0) (ix2 ⟨512 * t.val + a.val, by have := lt64 t; omega⟩ k) := by
  blk_ext [iblk, V, idx t]
/-- The block of the first branch, whose tokens are the columns. -/
theorem read4 (c : Dev nD) (t : Fin cfg0.N) (j : Fin 512) (a : Fin 512) :
    iblk m c 4 t (ix2 j a) = m ((c : Thread nD τ).loc main_arg4) (ix2 j ⟨512 * t.val + a.val, by have := lt64 t; omega⟩) := by
  blk_ext [iblk, V, idx t]
/-- The block of the second branch, whose tokens are the columns. -/
theorem read5 (c : Dev nD) (t : Fin cfg0.N) (j : Fin 512) (a : Fin 512) :
    iblk m c 5 t (ix2 j a) = m ((c : Thread nD τ).loc main_arg5) (ix2 j ⟨512 * t.val + a.val, by have := lt64 t; omega⟩) := by
  blk_ext [iblk, V, idx t]
/-- The block of the third branch. -/
theorem read6 (c : Dev nD) (t : Fin cfg0.N) (a : Fin 512) (j : Fin 512) :
    iblk m c 6 t (ix2 a j) = m ((c : Thread nD τ).loc main_arg6) (ix2 ⟨512 * t.val + a.val, by have := lt64 t; omega⟩ j) := by
  blk_ext [iblk, V, idx t]
/-- The norm's weights. -/
theorem read1 (c : Dev nD) (t : Fin cfg0.N) (k : Fin 1024) : iblk m c 1 t (ix2 (0 : Fin 1) k) = m ((c : Thread nD τ).loc main_arg1) (ix1 k) := by
  have e : iblk m c 1 t (ix2 (0 : Fin 1) k) = V m c main_v0 (ix2 (0 : Fin 1) k) := by blk_ext [iblk, idx t]
  rw [e]
  entry_read
  pointwise []
/-- The gates' matrix. -/
theorem read2 (c : Dev nD) (t : Fin cfg0.N) (k : Fin 1024) (f : Fin 3072) : iblk m c 2 t (ix2 k f) = m ((c : Thread nD τ).loc main_arg2) (ix2 k f) := by
  have e : iblk m c 2 t (ix2 k f) = V m c main_v1 (ix2 k f) := by blk_ext [iblk, idx t]
  rw [e]
  entry_read
  pointwise []
/-- The gates' biases. -/
theorem read3 (c : Dev nD) (t : Fin cfg0.N) (k : Fin 3072) : iblk m c 3 t (ix2 (0 : Fin 1) k) = m ((c : Thread nD τ).loc main_arg3) (ix1 k) := by
  have e : iblk m c 3 t (ix2 (0 : Fin 1) k) = V m c main_v2 (ix2 (0 : Fin 1) k) := by blk_ext [iblk, idx t]
  rw [e]
  entry_read
  pointwise []
/-- The first branch's matrix. -/
theorem read7 (c : Dev nD) (t : Fin cfg0.N) (k : Fin 512) (f : Fin 1024) : iblk m c 7 t (ix2 k f) = m ((c : Thread nD τ).loc main_arg7) (ix2 k f) := by
  have e : iblk m c 7 t (ix2 k f) = V m c main_v3 (ix2 k f) := by blk_ext [iblk, idx t]
  rw [e]
  entry_read
  pointwise []
/-- The second branch's matrix. -/
theorem read8 (c : Dev nD) (t : Fin cfg0.N) (k : Fin 512) (f : Fin 1024) : iblk m c 8 t (ix2 k f) = m ((c : Thread nD τ).loc main_arg8) (ix2 k f) := by
  have e : iblk m c 8 t (ix2 k f) = V m c main_v4 (ix2 k f) := by blk_ext [iblk, idx t]
  rw [e]
  entry_read
  pointwise []
/-- The third branch's matrix. -/
theorem read9 (c : Dev nD) (t : Fin cfg0.N) (k : Fin 512) (f : Fin 1024) : iblk m c 9 t (ix2 k f) = m ((c : Thread nD τ).loc main_arg9) (ix2 k f) := by
  have e : iblk m c 9 t (ix2 k f) = V m c main_v5 (ix2 k f) := by blk_ext [iblk, idx t]
  rw [e]
  entry_read
  pointwise []
/-- The output matrix. -/
theorem read10 (c : Dev nD) (t : Fin cfg0.N) (k : Fin 1024) (f : Fin 1024) : iblk m c 10 t (ix2 k f) = m ((c : Thread nD τ).loc main_arg10) (ix2 k f) := by
  have e : iblk m c 10 t (ix2 k f) = V m c main_v6 (ix2 k f) := by blk_ext [iblk, idx t]
  rw [e]
  entry_read
  pointwise []

/-- The kernel's result array. -/
theorem final (c : Dev nD) : (dats m 0 c).arrAt 11 cfg0.N
    = fun i => mergeRow (fun k => m ((c : Thread nD τ).loc main_arg0) (ix2 (i 0) k)) (fun k => m ((c : Thread nD τ).loc main_arg1) (ix1 k)) (fun k f => m ((c : Thread nD τ).loc main_arg2) (ix2 k f)) (fun f => m ((c : Thread nD τ).loc main_arg3) (ix1 f))
        (fun j => m ((c : Thread nD τ).loc main_arg4) (ix2 j (i 0))) (fun j => m ((c : Thread nD τ).loc main_arg5) (ix2 j (i 0))) (fun j => m ((c : Thread nD τ).loc main_arg6) (ix2 (i 0) j))
        (fun j k => m ((c : Thread nD τ).loc main_arg7) (ix2 j k)) (fun j k => m ((c : Thread nD τ).loc main_arg8) (ix2 j k)) (fun j k => m ((c : Thread nD τ).loc main_arg9) (ix2 j k)) (fun k d => m ((c : Thread nD τ).loc main_arg10) (ix2 k d)) (i 1) := by
  refine (dats m 0 c).arrAt_eq_of_covers 11 _ (by decide +kernel) fun t hf y => ?_
  have hfl : (dats m 0 c).after 11 t y = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_11 m c t) y
  blk_simp
  refine hfl.trans ?_
  have h0 : (y 0).val < 512 := (y 0).isLt
  have h1 : (y 1).val < 1024 := (y 1).isLt
  have ht := lt64 t
  have ey : y = ix2 (⟨(y 0).val, h0⟩ : Fin 512) (⟨(y 1).val, h1⟩ : Fin 1024) := by
    funext a
    fin_cases a <;> rfl
  refine (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (block_at _ _ _ _ _ _ _ _ _ _ _ _ _).trans ?_
  simp only [read0, read1, read2, read3, read4, read5, read6, read7, read8, read9, read10]
  have e0 : ((((cfg0.win 11).blk t).view.emb y) 0).val = 512 * t.val + (y 0).val := by
    blk_simp [idx t]
    omega
  have e1 : ((((cfg0.win 11).blk t).view.emb y) 1).val = (y 1).val := by
    blk_simp [idx t]
    try omega
  rw [show (⟨512 * t.val + (y 0).val, by omega⟩ : Fin 32768) = (((cfg0.win 11).blk t).view.emb y) 0 from Fin.ext e0.symm,
    show (⟨(y 1).val, h1⟩ : Fin 1024) = (((cfg0.win 11).blk t).view.emb y) 1 from Fin.ext e1.symm]

end Cert.Kernel3Ideal.Merge

end
-- ==== Proof.MergeRef.lean ====
/- The merge reference at one entry. -/
module

public import proofs.«01_k».proof.Proof.Rows
public import proofs.«01_k».proof.Proof.Gen.Reference3Ideal.Read
public import Idealize.ShloMosaic.Lib.Pointwise

@[expose] public section

set_option maxRecDepth 16384
set_option maxHeartbeats 1600000

noncomputable section

namespace Cert.Reference3Ideal.Merge

open Cert.Reference3Ideal Cert.Reference3Ideal.Gen Cert.Reference3Ideal.Read Idealize.ShloMosaic Idealize.ShloMosaic.TcCoe Idealize.SL.Sem Idealize.ShloMosaic.StableHlo Cert.Rows

variable (x0 : FVec Ideal S32768x1024 .f32) (x1 : FVec Ideal S1024 .f32) (x2 : FVec Ideal S1024x3072 .f32) (x3 : FVec Ideal S3072 .f32)
  (x4 x5 : FVec Ideal S512x32768 .bf16) (x6 : FVec Ideal S32768x512 .bf16) (x7 x8 x9 : FVec Ideal S512x1024 .f32) (x10 : FVec Ideal S1024x1024 .f32)

/-- The normed row. -/
theorem h_at (a : Fin 32768) (k : Fin 1024) :
    val_main_v17 (F := Ideal) x0 x1 (ix2 a k) = normRow (fun j => x0 (ix2 a j)) (fun j => x1 (ix1 j)) k := by
  unfold normRow
  pointwise [val_main_v17, val_main_v16, val_main_v15, val_main_v14, val_main_v13, val_main_v12, val_main_v11, val_main_v10, val_main_v9, val_main_v8, val_main_v7, val_main_v6, val_main_v5, val_main_cst, val_main_cst_0, val_main_cst_1]

/-- The gates' product with the normed row, and the bias. -/
theorem lin_at (a : Fin 32768) (i : Fin 3072) :
    val_main_v21 (F := Ideal) x0 x1 x2 x3 (ix2 a i) = dotRow (normRow (fun j => x0 (ix2 a j)) (fun j => x1 (ix1 j))) (fun k f => x2 (ix2 k f)) i + x3 (ix1 i) := by
  have e : ∀ k, val_main_v17 (F := Ideal) x0 x1 (ix2 a k) = normRow (fun j => x0 (ix2 a j)) (fun j => x1 (ix1 j)) k := h_at x0 x1 a
  unfold dotRow
  simp only [← e]
  unfold val_main_v21 val_main_v18 val_main_v20 val_main_v19
  generalize val_main_v17 (F := Ideal) x0 x1 = H
  pointwise []

/-- All three branches' gates. -/
theorem gates_at (a : Fin 32768) (i : Fin 3072) :
    val_main_v27 (F := Ideal) x0 x1 x2 x3 (ix2 a i) = gate (fun j => x0 (ix2 a j)) (fun j => x1 (ix1 j)) (fun k f => x2 (ix2 k f)) (fun f => x3 (ix1 f)) i := by
  have o : Ideal.ofBits .f32 0x3F800000#32 = (1 : EReal) := by
    simp [Ideal.ofBits, Ideal.ieee]
    rw [← EReal.coe_mul]
    norm_num
  unfold gate
  rw [← lin_at, val_main_v27_apply, val_main_v26_apply, val_main_v25_apply, val_main_v24_apply, val_main_cst_3_apply, val_main_cst_2_apply, val_main_v23_apply, val_main_v22_apply]
  generalize val_main_v21 (F := Ideal) x0 x1 x2 x3 (ix2 a i) = u
  change Ideal.div (Ideal.ofBits .f32 0x3F800000#32) (Ideal.ofBits .f32 0x3F800000#32 + Ideal.exp (-u)) = _
  rw [o]
  rfl

/-- The first branch's gate. -/
theorem gate0_at (a : Fin 32768) (k : Fin 1024) :
    val_main_v30 (F := Ideal) x0 x1 x2 x3 (ix2 a k) = val_main_v27 (F := Ideal) x0 x1 x2 x3 (ix2 a ⟨0 + k.val, by omega⟩) := by
  rw [val_main_v30_apply, val_main_v29_apply, val_main_v28_apply]
  generalize val_main_v27 (F := Ideal) x0 x1 x2 x3 = z
  refine congrArg z ?_
  have ha := a.isLt
  have hk := k.isLt
  have f0 : (a.val * 1024 + k.val) / 1024 = a.val := by omega
  have f1 : (a.val * 1024 + k.val) % 1024 = k.val := by omega
  have q : ∀ (A K : ℕ), A = a.val → K = k.val →
      ((A * 3 + 0) * 1024 + K) / 3072 = a.val ∧ ((A * 3 + 0) * 1024 + K) % 3072 = 0 + k.val := by
    rintro _ _ rfl rfl
    omega
  obtain ⟨g0, g1⟩ := q _ _ f0 f1
  funext a
  fin_cases a
  · exact Fin.ext g0
  · exact Fin.ext g1

/-- The second branch's gate. -/
theorem gate1_at (a : Fin 32768) (k : Fin 1024) :
    val_main_v34 (F := Ideal) x0 x1 x2 x3 (ix2 a k) = val_main_v27 (F := Ideal) x0 x1 x2 x3 (ix2 a ⟨1024 + k.val, by omega⟩) := by
  rw [val_main_v34_apply, val_main_v33_apply, val_main_v28_apply]
  generalize val_main_v27 (F := Ideal) x0 x1 x2 x3 = z
  refine congrArg z ?_
  have ha := a.isLt
  have hk := k.isLt
  have f0 : (a.val * 1024 + k.val) / 1024 = a.val := by omega
  have f1 : (a.val * 1024 + k.val) % 1024 = k.val := by omega
  have q : ∀ (A K : ℕ), A = a.val → K = k.val →
      ((A * 3 + (1 + 0)) * 1024 + K) / 3072 = a.val ∧ ((A * 3 + (1 + 0)) * 1024 + K) % 3072 = 1024 + k.val := by
    rintro _ _ rfl rfl
    omega
  obtain ⟨g0, g1⟩ := q _ _ f0 f1
  funext a
  fin_cases a
  · exact Fin.ext g0
  · exact Fin.ext g1

/-- The third branch's gate. -/
theorem gate2_at (a : Fin 32768) (k : Fin 1024) :
    val_main_v39 (F := Ideal) x0 x1 x2 x3 (ix2 a k) = val_main_v27 (F := Ideal) x0 x1 x2 x3 (ix2 a ⟨2048 + k.val, by omega⟩) := by
  rw [val_main_v39_apply, val_main_v38_apply, val_main_v28_apply]
  generalize val_main_v27 (F := Ideal) x0 x1 x2 x3 = z
  refine congrArg z ?_
  have ha := a.isLt
  have hk := k.isLt
  have f0 : (a.val * 1024 + k.val) / 1024 = a.val := by omega
  have f1 : (a.val * 1024 + k.val) % 1024 = k.val := by omega
  have q : ∀ (A K : ℕ), A = a.val → K = k.val →
      ((A * 3 + (2 + 0)) * 1024 + K) / 3072 = a.val ∧ ((A * 3 + (2 + 0)) * 1024 + K) % 3072 = 2048 + k.val := by
    rintro _ _ rfl rfl
    omega
  obtain ⟨g0, g1⟩ := q _ _ f0 f1
  funext a
  fin_cases a
  · exact Fin.ext g0
  · exact Fin.ext g1

/-- The first branch's projection. -/
theorem proj0_at (a : Fin 32768) (k : Fin 1024) :
    val_main_v31 (F := Ideal) x4 x7 (ix2 a k) = dotRow (fun j : Fin 512 => x4 (ix2 j a)) (fun j k => x7 (ix2 j k)) k := by
  unfold dotRow
  pointwise [val_main_v31, val_main_v1, val_main_v0]

/-- The second branch's projection. -/
theorem proj1_at (a : Fin 32768) (k : Fin 1024) :
    val_main_v35 (F := Ideal) x5 x8 (ix2 a k) = dotRow (fun j : Fin 512 => x5 (ix2 j a)) (fun j k => x8 (ix2 j k)) k := by
  unfold dotRow
  pointwise [val_main_v35, val_main_v3, val_main_v2]

/-- The third branch's projection. -/
theorem proj2_at (a : Fin 32768) (k : Fin 1024) :
    val_main_v40 (F := Ideal) x6 x9 (ix2 a k) = dotRow (fun j : Fin 512 => x6 (ix2 a j)) (fun j k => x9 (ix2 j k)) k := by
  unfold dotRow
  pointwise [val_main_v40, val_main_v4]

/-- The three gated projections added up. -/
theorem mixed_at (a : Fin 32768) (k : Fin 1024) :
    val_main_v42 (F := Ideal) x0 x1 x2 x3 x4 x5 x6 x7 x8 x9 (ix2 a k)
      = mixed (fun j => x0 (ix2 a j)) (fun j => x1 (ix1 j)) (fun k f => x2 (ix2 k f)) (fun f => x3 (ix1 f))
          (fun j => x4 (ix2 j a)) (fun j => x5 (ix2 j a)) (fun j => x6 (ix2 a j))
          (fun j k => x7 (ix2 j k)) (fun j k => x8 (ix2 j k)) (fun j k => x9 (ix2 j k)) k := by
  have z : (⟨0 + k.val, by omega⟩ : Fin 3072) = ⟨k.val, by omega⟩ := Fin.ext (Nat.zero_add _)
  unfold mixed
  rw [val_main_v42_apply, val_main_v41_apply, val_main_v37_apply, val_main_v36_apply, val_main_v32_apply, gate0_at, gate1_at, gate2_at,
    gates_at, gates_at, gates_at, proj0_at, proj1_at, proj2_at, z]
  rfl

/-- The reference's result at one entry. -/
theorem out_at (a : Fin 32768) (d : Fin 1024) :
    val_main_v44 (F := Ideal) x0 x1 x2 x3 x4 x5 x6 x7 x8 x9 x10 (ix2 a d)
      = mergeRow (fun j => x0 (ix2 a j)) (fun j => x1 (ix1 j)) (fun k f => x2 (ix2 k f)) (fun f => x3 (ix1 f))
          (fun j => x4 (ix2 j a)) (fun j => x5 (ix2 j a)) (fun j => x6 (ix2 a j))
          (fun j k => x7 (ix2 j k)) (fun j k => x8 (ix2 j k)) (fun j k => x9 (ix2 j k)) (fun k d => x10 (ix2 k d)) d := by
  have e : ∀ k, _ = mixed _ _ _ _ _ _ _ _ _ _ k := mixed_at x0 x1 x2 x3 x4 x5 x6 x7 x8 x9 a
  unfold mergeRow dotRow
  simp only [← e]
  unfold val_main_v44 val_main_v43
  generalize val_main_v42 (F := Ideal) x0 x1 x2 x3 x4 x5 x6 x7 x8 x9 = H
  pointwise []

end Cert.Reference3Ideal.Merge

end
-- ==== Proof.MergeFinal.lean ====
/- The equality of the two merge programs' results. -/
module

public import proofs.«01_k».proof.Defs
public import proofs.«01_k».proof.Proof.MergeArray
public import proofs.«01_k».proof.Proof.MergeRef
public import proofs.«01_k».proof.Proof.Gen.Reference3Ideal.Run

@[expose] public section

set_option maxRecDepth 16384
set_option maxHeartbeats 1600000

noncomputable section

namespace Cert.MergeFinal

open Idealize.ShloMosaic Idealize.SL.Sem

attribute [local instance] Cert.Kernel3Ideal.Gen.facts Cert.Reference3Ideal.Gen.facts

open Cert.Kernel3Ideal in
/-- The kernel's result array is the reference's value of the kernel's arguments. -/
theorem result_eq (m : (ℓ : Loc nD τ sig) → Buf (Elt Ideal) ℓ) (c : Dev nD) :
    (Cert.Kernel3Ideal.Gen.dats m 0 c).arrAt 11 Cert.Kernel3Ideal.cfg0.N
      = Cert.Reference3Ideal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (Cert.Kernel3Ideal.Merge.final m c).trans ?_
  funext i
  have ei : i = ix2 (i 0) (i 1) := by
    funext a
    fin_cases a <;> rfl
  refine Eq.trans ?_ (congrArg (Cert.Reference3Ideal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) ei.symm)
  exact (Cert.Reference3Ideal.Merge.out_at _ _ _ _ _ _ _ _ _ _ _ _ _).symm

/-- The idealized kernel and the idealized reference end with equal results, and leave their arguments as they were. -/
theorem algebraic : Cert.algebraic_Kernel3Ideal_Reference3Ideal := by
  intro m g m' g' _ hagree
  refine ⟨fun c => (Cert.Kernel3Ideal.Gen.dats m 0 c).arrAt 11 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨e0, e1, e2, e3, e4, e5, e6, e7, e8, e9, e10⟩ := hagree c
  rw [Cert.Reference3Ideal.Read.val_main_v44_eq, e0, e1, e2, e3, e4, e5, e6, e7, e8, e9, e10]
  exact (result_eq m c).symm

end Cert.MergeFinal

end
-- ==== Proof.Proj.lean ====
/- The input projection of one token's row, over the extended reals. -/
module

public import proofs.«01_k».proof.Proof.Rows

@[expose] public section

noncomputable section

namespace Cert.Proj

open Idealize.ShloMosaic Cert.Rows

/-- The normed row times a column of the row-wise matrix. -/
def pAt (x g : Fin 1024 → EReal) (wp : Fin 1024 → Fin 2048 → EReal) (j : Fin 2048) : EReal := dotRow (normRow x g) wp j

/-- A row of the column-wise matrix times the normed row. -/
def tAt (x g : Fin 1024 → EReal) (wt : Fin 1824 → Fin 1024 → EReal) (j : Fin 1824) : EReal := ∑ k, wt j k * normRow x g k

/-- The scale of the queries. -/
def scale : EReal := Ideal.ofBits .f32 0x3E38AA3B#32

/-- The channel a key's channel is paired with. -/
def pair (j : Fin 128) : Fin 128 := ⟨if j.val % 64 < 32 then j.val + 32 else j.val - 32, by split <;> omega⟩

/-- The rotary embedding of the keys, at one channel of two heads. -/
def ropeK (y c s : Fin 128 → EReal) (j : Fin 128) : EReal := y j * c j + y (pair j) * s j

/-- The rotary embedding of the queries, at one channel of a head. -/
def ropeQ (y : Fin 64 → EReal) (c s : Fin 32 → EReal) (i : Fin 64) : EReal :=
  if h : i.val < 32 then y ⟨i.val, by omega⟩ * c ⟨i.val, h⟩ - y ⟨32 + i.val, by omega⟩ * s ⟨i.val, h⟩
  else y ⟨i.val, by omega⟩ * c ⟨i.val - 32, by omega⟩ + y ⟨i.val - 32, by omega⟩ * s ⟨i.val - 32, by omega⟩

/-- The Gaussian error linear unit in its hyperbolic tangent form. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

/-- The gating unit's row of 1024, before it is split. -/
def unit (x g : Fin 1024 → EReal) (wp : Fin 1024 → Fin 2048 → EReal) (f : Fin 1024) : EReal := gelu (pAt x g wp ⟨1024 + f.val, by omega⟩)

/-- The norm over 512 channels. -/
def norm512 (x g : Fin 512 → EReal) (k : Fin 512) : EReal :=
  x k * Ideal.rsqrt (Ideal.div (∑ j, x j * x j) (Ideal.ofBits .f32 0x44000000#32) + Ideal.ofBits .f32 0x358637BD#32) * g k

/-- The gating unit's second half, normed. -/
def vRow (x g : Fin 1024 → EReal) (wp : Fin 1024 → Fin 2048 → EReal) (sg : Fin 512 → EReal) (j : Fin 512) : EReal :=
  norm512 (fun j => unit x g wp ⟨512 + j.val, by omega⟩) sg j

/-- The spatial gating of a chunk of 128 tokens' rows `X`, at its token `t`. -/
def gating (X : Fin 128 → Fin 1024 → EReal) (g : Fin 1024 → EReal) (wp : Fin 1024 → Fin 2048 → EReal) (sg : Fin 512 → EReal)
    (w : Fin 4 → Fin 128 → Fin 128 → EReal) (b : Fin 128 → Fin 512 → EReal) (t : Fin 128) (j : Fin 512) : EReal :=
  unit (X t) g wp ⟨j.val, by omega⟩ * (∑ s, w ⟨j.val / 128, by omega⟩ t s * vRow (X s) g wp sg j + b t j)

end Cert.Proj

end
-- ==== Proof.ProjPt.lean ====
/- The payloads of the input projection kernel at one entry. -/
module

public import proofs.«01_k».proof.Proof.Proj
public import proofs.«01_k».proof.Proof.Gen.Kernel4Ideal.Skeleton
public import Idealize.ShloMosaic.Lib.Pointwise

@[expose] public section

set_option maxRecDepth 16384
set_option maxHeartbeats 1600000

noncomputable section

namespace Cert.Kernel4Ideal.Proj

open Cert.Kernel4Ideal Cert.Kernel4Ideal.Gen Idealize.ShloMosaic Cert.Rows Cert.Proj

/-- The normed row. -/
theorem h_at (v0 : Vec Ideal S512x1024 .f32) (v1 : Vec Ideal S1x1024 .f32) (a : Fin 512) (k : Fin 1024) :
    k0_pay2 (F := Ideal) v0 v1 (ix2 a k) = normRow (fun j => v0 (ix2 a j)) (fun j => v1 (ix2 (0 : Fin 1) j)) k := by
  unfold normRow
  pointwise [k0_pay2]

/-- The products with the columns of the row-wise matrix. -/
theorem kvc_at (H : FVec Ideal S512x1024 .bf16) (w : Vec Ideal S1024x256 .bf16) (a : Fin 512) (j : Fin 256) :
    k0_pay7 (F := Ideal) H w (ix2 a j) = dotRow (fun k => H (ix2 a k)) (fun k f => w (ix2 k f)) j := by
  unfold dotRow
  pointwise [k0_pay7]

/-- The products with 128 columns of the row-wise matrix. -/
theorem k128_at (H : FVec Ideal S512x1024 .bf16) (w : Vec Ideal S1024x128 .bf16) (a : Fin 512) (j : Fin 128) :
    k0_pay10 (F := Ideal) H w (ix2 a j) = dotRow (fun k => H (ix2 a k)) (fun k f => w (ix2 k f)) j := by
  unfold dotRow
  pointwise [k0_pay10]

/-- The products with 512 columns of the row-wise matrix. -/
theorem k512_at (H : FVec Ideal S512x1024 .bf16) (w : Vec Ideal S1024x512 .bf16) (a : Fin 512) (j : Fin 512) :
    k0_pay15 (F := Ideal) H w (ix2 a j) = dotRow (fun k => H (ix2 a k)) (fun k f => w (ix2 k f)) j := by
  unfold dotRow
  pointwise [k0_pay15]

/-- The compressed keys' products. -/
theorem kc_at (H : FVec Ideal S512x1024 .bf16) (w : Vec Ideal S1024x256 .bf16) (a : Fin 512) (j : Fin 128) :
    k0_pay8 (F := Ideal) H w (ix2 a j) = k0_pay7 (F := Ideal) H w (ix2 a ⟨j.val, by omega⟩) := by
  unfold k0_pay8
  generalize k0_pay7 (F := Ideal) H w = y
  pointwise []

/-- The compressed values' products. -/
theorem vc_at (H : FVec Ideal S512x1024 .bf16) (w : Vec Ideal S1024x256 .bf16) (a : Fin 512) (j : Fin 128) :
    k0_pay9 (F := Ideal) H w (ix2 a j) = k0_pay7 (F := Ideal) H w (ix2 a ⟨128 + j.val, by omega⟩) := by
  unfold k0_pay9
  generalize k0_pay7 (F := Ideal) H w = y
  pointwise []

/-- The kernel's comparison of a lane's place in its head with 32. -/
theorem lane_bit : ∀ j : Fin 128, (IntOp.cmpi CmpIPredicate.slt
      (Scalar.select (IntOp.andi (IntOp.xori (IntOp.cmpi CmpIPredicate.slt (IntOp.remsi ArithUnit.vector (BitVec.ofNat 32 j.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 j.val) (Scalar.select (Scalar.cmpi CmpIPredicate.eq 64#32 0#32) 1#32 64#32)) 0#32))
        (IntOp.addi (IntOp.remsi ArithUnit.vector (BitVec.ofNat 32 j.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 j.val) (Scalar.select (Scalar.cmpi CmpIPredicate.eq 64#32 0#32) 1#32 64#32))) 32#32) = if j.val % 64 < 32 then 1#1 else 0#1 := by decide +kernel

/-- The choice between the two rotations at a lane. -/
theorem lane (j : Fin 128) (p q : EReal) : Scalar.select (IntOp.cmpi CmpIPredicate.slt
      (Scalar.select (IntOp.andi (IntOp.xori (IntOp.cmpi CmpIPredicate.slt (IntOp.remsi ArithUnit.vector (BitVec.ofNat 32 j.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 j.val) (Scalar.select (Scalar.cmpi CmpIPredicate.eq 64#32 0#32) 1#32 64#32)) 0#32))
        (IntOp.addi (IntOp.remsi ArithUnit.vector (BitVec.ofNat 32 j.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 j.val) (Scalar.select (Scalar.cmpi CmpIPredicate.eq 64#32 0#32) 1#32 64#32))) 32#32) p q = if j.val % 64 < 32 then p else q := by
  rw [lane_bit j]
  split <;> rfl

/-- The rotated row at a lane is the row at the lane's partner. -/
theorem rotated (y : FVec Ideal S512x128 .f32) (a : Fin 512) (j : Fin 128) :
    (if j.val % 64 < 32 then y (ix2 a ⟨(j.val + 128 - 96) % 128, by omega⟩) else y (ix2 a ⟨(j.val + 128 - 32) % 128, by omega⟩)) = y (ix2 a (pair j)) := by
  unfold pair
  split
  · refine congrArg (fun z => y (ix2 a z)) (Fin.ext ?_)
    show (j.val + 128 - 96) % 128 = j.val + 32
    omega
  · refine congrArg (fun z => y (ix2 a z)) (Fin.ext ?_)
    show (j.val + 128 - 32) % 128 = j.val - 32
    omega

/-- The selected keys with their rotary embedding. -/
theorem slc_at (c s y : FVec Ideal S512x128 .f32) (a : Fin 512) (j : Fin 128) :
    k0_pay13 (F := Ideal) c s y (Scalar.select (Scalar.cmpi .eq 64#32 0#32) 1#32 64#32) k0_pay11 k0_pay12 (ix2 a j)
      = ropeK (fun j => y (ix2 a j)) (fun j => c (ix2 a j)) (fun j => s (ix2 a j)) j := by
  unfold ropeK k0_pay13 k0_pay12 k0_pay11
  show _ = y (ix2 a j) * c (ix2 a j) + y (ix2 a (pair j)) * s (ix2 a j)
  rw [← rotated y a j, ← lane]
  pointwise []

/-- The window keys with their rotary embedding. -/
theorem win_at (H : FVec Ideal S512x1024 .bf16) (c s : FVec Ideal S512x128 .f32) (w : Vec Ideal S1024x128 .bf16) (a : Fin 512) (j : Fin 128) :
    k0_pay14 (F := Ideal) H c s w (ix2 a j)
      = ropeK (fun j => k0_pay10 (F := Ideal) H w (ix2 a j)) (fun j => c (ix2 a j)) (fun j => s (ix2 a j)) j := by
  unfold ropeK
  show _ = k0_pay10 (F := Ideal) H w (ix2 a j) * c (ix2 a j) + k0_pay10 (F := Ideal) H w (ix2 a (pair j)) * s (ix2 a j)
  rw [← rotated (k0_pay10 (F := Ideal) H w) a j, ← lane]
  unfold k0_pay14 k0_pay10
  pointwise []

/-- The first two of the attention's key heads. -/
theorem kb0_at (H : FVec Ideal S512x1024 .bf16) (c s : FVec Ideal S512x128 .f32) (w : Vec Ideal S1024x512 .bf16) (a : Fin 512) (j : Fin 128) :
    k0_pay16 (F := Ideal) H c s w (ix2 a j)
      = ropeK (fun j => k0_pay15 (F := Ideal) H w (ix2 a ⟨0 + j.val, by omega⟩)) (fun j => c (ix2 a j)) (fun j => s (ix2 a j)) j := by
  unfold k0_pay16
  generalize k0_pay15 (F := Ideal) H w = z
  have e : ∀ j : Fin 128, extractStridedSlice S512x128 ![0, 0] z slices_S512x512_o0_0_S512x128 (ix2 a j) = z (ix2 a ⟨0 + j.val, by omega⟩) := fun j => by pointwise []
  unfold ropeK
  simp only [← e]
  generalize extractStridedSlice S512x128 ![0, 0] z slices_S512x512_o0_0_S512x128 = y
  show _ = y (ix2 a j) * c (ix2 a j) + y (ix2 a (pair j)) * s (ix2 a j)
  rw [← rotated y a j, ← lane]
  pointwise []

/-- The second two of the attention's key heads. -/
theorem kb1_at (H : FVec Ideal S512x1024 .bf16) (c s : FVec Ideal S512x128 .f32) (w : Vec Ideal S1024x512 .bf16) (a : Fin 512) (j : Fin 128) :
    k0_pay20 (F := Ideal) c s (k0_pay17 (F := Ideal) H w) (Scalar.select (Scalar.cmpi .eq 64#32 0#32) 1#32 64#32) k0_pay18 k0_pay19 (ix2 a j)
      = ropeK (fun j => k0_pay15 (F := Ideal) H w (ix2 a ⟨128 + j.val, by omega⟩)) (fun j => c (ix2 a j)) (fun j => s (ix2 a j)) j := by
  unfold k0_pay20 k0_pay17 k0_pay19 k0_pay18
  generalize k0_pay15 (F := Ideal) H w = z
  have e : ∀ j : Fin 128, extractStridedSlice S512x128 ![0, 128] z slices_S512x512_o0_128_S512x128 (ix2 a j) = z (ix2 a ⟨128 + j.val, by omega⟩) := fun j => by pointwise []
  unfold ropeK
  simp only [← e]
  generalize extractStridedSlice S512x128 ![0, 128] z slices_S512x512_o0_128_S512x128 = y
  show _ = y (ix2 a j) * c (ix2 a j) + y (ix2 a (pair j)) * s (ix2 a j)
  rw [← rotated y a j, ← lane]
  pointwise []

/-- The third two of the attention's key heads. -/
theorem kb2_at (H : FVec Ideal S512x1024 .bf16) (c s : FVec Ideal S512x128 .f32) (w : Vec Ideal S1024x512 .bf16) (a : Fin 512) (j : Fin 128) :
    k0_pay23 (F := Ideal) c s (k0_pay21 (F := Ideal) (k0_pay15 (F := Ideal) H w)) (k0_pay22 (F := Ideal) (k0_pay15 (F := Ideal) H w)) (ix2 a j)
      = ropeK (fun j => k0_pay15 (F := Ideal) H w (ix2 a ⟨256 + j.val, by omega⟩)) (fun j => c (ix2 a j)) (fun j => s (ix2 a j)) j := by
  unfold k0_pay23 k0_pay22 k0_pay21
  generalize k0_pay15 (F := Ideal) H w = z
  have e : ∀ j : Fin 128, extractStridedSlice S512x128 ![0, 256] z slices_S512x512_o0_256_S512x128 (ix2 a j) = z (ix2 a ⟨256 + j.val, by omega⟩) := fun j => by pointwise []
  unfold ropeK
  simp only [← e]
  generalize extractStridedSlice S512x128 ![0, 256] z slices_S512x512_o0_256_S512x128 = y
  show _ = y (ix2 a j) * c (ix2 a j) + y (ix2 a (pair j)) * s (ix2 a j)
  rw [← rotated y a j, ← lane]
  pointwise []

/-- The last two of the attention's key heads. -/
theorem kb3_at (H : FVec Ideal S512x1024 .bf16) (c s : FVec Ideal S512x128 .f32) (w : Vec Ideal S1024x512 .bf16) (a : Fin 512) (j : Fin 128) :
    k0_pay24 (F := Ideal) c s (k0_pay15 (F := Ideal) H w) (ix2 a j)
      = ropeK (fun j => k0_pay15 (F := Ideal) H w (ix2 a ⟨384 + j.val, by omega⟩)) (fun j => c (ix2 a j)) (fun j => s (ix2 a j)) j := by
  unfold k0_pay24
  generalize k0_pay15 (F := Ideal) H w = z
  have e : ∀ j : Fin 128, extractStridedSlice S512x128 ![0, 384] z slices_S512x512_o0_384_S512x128 (ix2 a j) = z (ix2 a ⟨384 + j.val, by omega⟩) := fun j => by pointwise []
  unfold ropeK
  simp only [← e]
  generalize extractStridedSlice S512x128 ![0, 384] z slices_S512x512_o0_384_S512x128 = y
  show _ = y (ix2 a j) * c (ix2 a j) + y (ix2 a (pair j)) * s (ix2 a j)
  rw [← rotated y a j, ← lane]
  pointwise []

/-- The queries of a block after their rotary embedding, at one channel and token. -/
def rotQ (y : FVec Ideal S512x512 .f32) (c s : FVec Ideal S32x512 .f32) (j a : Fin 512) : EReal :=
  ropeQ (fun i => y (ix2 (⟨64 * (j.val / 64) + i.val, by omega⟩ : Fin 512) a)) (fun i => c (ix2 i a)) (fun i => s (ix2 i a)) ⟨j.val % 64, by omega⟩

/-- The first head of the sparse attention's queries. -/
theorem qa0_at (c s : FVec Ideal S32x512 .f32) (y : FVec Ideal S512x512 .f32) (i : Fin 64) (a : Fin 512) :
    k0_pay27 (F := Ideal) c s y (ix2 i a) = rotQ y c s ⟨0 + i.val, by omega⟩ a := by
  unfold k0_pay27
  generalize y = z
  have e : rotQ z c s ⟨0 + i.val, by omega⟩ a = ropeQ (fun i => z (ix2 (⟨0 + i.val, by omega⟩ : Fin 512) a)) (fun i => c (ix2 i a)) (fun i => s (ix2 i a)) i := by
    unfold rotQ
    have h1 : (0 + i.val) / 64 = 0 := by omega
    have h2 : (0 + i.val) % 64 = i.val := by omega
    simp only [h1, h2]
  rw [e]
  unfold ropeQ
  by_cases h : i.val < 32
  · pointwise [h]
  · have e2 : 32 + (i.val - 32) = i.val := by omega
    pointwise [h]
    simp only [e2]

/-- The second head of the sparse attention's queries. -/
theorem qa1_at (c s : FVec Ideal S32x512 .f32) (y : FVec Ideal S512x512 .f32) (i : Fin 64) (a : Fin 512) :
    k0_pay28 (F := Ideal) c s y (ix2 i a) = rotQ y c s ⟨64 + i.val, by omega⟩ a := by
  unfold k0_pay28
  generalize y = z
  have e : rotQ z c s ⟨64 + i.val, by omega⟩ a = ropeQ (fun i => z (ix2 (⟨64 + i.val, by omega⟩ : Fin 512) a)) (fun i => c (ix2 i a)) (fun i => s (ix2 i a)) i := by
    unfold rotQ
    have h1 : (64 + i.val) / 64 = 1 := by omega
    have h2 : (64 + i.val) % 64 = i.val := by omega
    simp only [h1, h2]
  rw [e]
  unfold ropeQ
  by_cases h : i.val < 32
  · pointwise [h]
  · have e2 : 32 + (i.val - 32) = i.val := by omega
    pointwise [h]
    simp only [e2]

/-- The third head of the sparse attention's queries. -/
theorem qa2_at (c s : FVec Ideal S32x512 .f32) (y : FVec Ideal S512x512 .f32) (i : Fin 64) (a : Fin 512) :
    k0_pay29 (F := Ideal) c s y (ix2 i a) = rotQ y c s ⟨128 + i.val, by omega⟩ a := by
  unfold k0_pay29
  generalize y = z
  have e : rotQ z c s ⟨128 + i.val, by omega⟩ a = ropeQ (fun i => z (ix2 (⟨128 + i.val, by omega⟩ : Fin 512) a)) (fun i => c (ix2 i a)) (fun i => s (ix2 i a)) i := by
    unfold rotQ
    have h1 : (128 + i.val) / 64 = 2 := by omega
    have h2 : (128 + i.val) % 64 = i.val := by omega
    simp only [h1, h2]
  rw [e]
  unfold ropeQ
  by_cases h : i.val < 32
  · pointwise [h]
  · have e2 : 32 + (i.val - 32) = i.val := by omega
    pointwise [h]
    simp only [e2]

/-- The fourth head of the sparse attention's queries. -/
theorem qa3_at (c s : FVec Ideal S32x512 .f32) (y : FVec Ideal S512x512 .f32) (i : Fin 64) (a : Fin 512) :
    k0_pay30 (F := Ideal) c s y (ix2 i a) = rotQ y c s ⟨192 + i.val, by omega⟩ a := by
  unfold k0_pay30
  generalize y = z
  have e : rotQ z c s ⟨192 + i.val, by omega⟩ a = ropeQ (fun i => z (ix2 (⟨192 + i.val, by omega⟩ : Fin 512) a)) (fun i => c (ix2 i a)) (fun i => s (ix2 i a)) i := by
    unfold rotQ
    have h1 : (192 + i.val) / 64 = 3 := by omega
    have h2 : (192 + i.val) % 64 = i.val := by omega
    simp only [h1, h2]
  rw [e]
  unfold ropeQ
  by_cases h : i.val < 32
  · pointwise [h]
  · have e2 : 32 + (i.val - 32) = i.val := by omega
    pointwise [h]
    simp only [e2]

/-- The fifth head of the sparse attention's queries. -/
theorem qa4_at (c s : FVec Ideal S32x512 .f32) (y : FVec Ideal S512x512 .f32) (i : Fin 64) (a : Fin 512) :
    k0_pay31 (F := Ideal) c s y (ix2 i a) = rotQ y c s ⟨256 + i.val, by omega⟩ a := by
  unfold k0_pay31
  generalize y = z
  have e : rotQ z c s ⟨256 + i.val, by omega⟩ a = ropeQ (fun i => z (ix2 (⟨256 + i.val, by omega⟩ : Fin 512) a)) (fun i => c (ix2 i a)) (fun i => s (ix2 i a)) i := by
    unfold rotQ
    have h1 : (256 + i.val) / 64 = 4 := by omega
    have h2 : (256 + i.val) % 64 = i.val := by omega
    simp only [h1, h2]
  rw [e]
  unfold ropeQ
  by_cases h : i.val < 32
  · pointwise [h]
  · have e2 : 32 + (i.val - 32) = i.val := by omega
    pointwise [h]
    simp only [e2]

/-- The sixth head of the sparse attention's queries. -/
theorem qa5_at (c s : FVec Ideal S32x512 .f32) (y : FVec Ideal S512x512 .f32) (i : Fin 64) (a : Fin 512) :
    k0_pay32 (F := Ideal) c s y (ix2 i a) = rotQ y c s ⟨320 + i.val, by omega⟩ a := by
  unfold k0_pay32
  generalize y = z
  have e : rotQ z c s ⟨320 + i.val, by omega⟩ a = ropeQ (fun i => z (ix2 (⟨320 + i.val, by omega⟩ : Fin 512) a)) (fun i => c (ix2 i a)) (fun i => s (ix2 i a)) i := by
    unfold rotQ
    have h1 : (320 + i.val) / 64 = 5 := by omega
    have h2 : (320 + i.val) % 64 = i.val := by omega
    simp only [h1, h2]
  rw [e]
  unfold ropeQ
  by_cases h : i.val < 32
  · pointwise [h]
  · have e2 : 32 + (i.val - 32) = i.val := by omega
    pointwise [h]
    simp only [e2]

/-- The seventh head of the sparse attention's queries. -/
theorem qa6_at (c s : FVec Ideal S32x512 .f32) (y : FVec Ideal S512x512 .f32) (i : Fin 64) (a : Fin 512) :
    k0_pay33 (F := Ideal) c s y (ix2 i a) = rotQ y c s ⟨384 + i.val, by omega⟩ a := by
  unfold k0_pay33
  generalize y = z
  have e : rotQ z c s ⟨384 + i.val, by omega⟩ a = ropeQ (fun i => z (ix2 (⟨384 + i.val, by omega⟩ : Fin 512) a)) (fun i => c (ix2 i a)) (fun i => s (ix2 i a)) i := by
    unfold rotQ
    have h1 : (384 + i.val) / 64 = 6 := by omega
    have h2 : (384 + i.val) % 64 = i.val := by omega
    simp only [h1, h2]
  rw [e]
  unfold ropeQ
  by_cases h : i.val < 32
  · pointwise [h]
  · have e2 : 32 + (i.val - 32) = i.val := by omega
    pointwise [h]
    simp only [e2]

/-- The eighth head of the sparse attention's queries. -/
theorem qa7_at (c s : FVec Ideal S32x512 .f32) (y : FVec Ideal S512x512 .f32) (i : Fin 64) (a : Fin 512) :
    k0_pay34 (F := Ideal) c s y (ix2 i a) = rotQ y c s ⟨448 + i.val, by omega⟩ a := by
  unfold k0_pay34
  generalize y = z
  have e : rotQ z c s ⟨448 + i.val, by omega⟩ a = ropeQ (fun i => z (ix2 (⟨448 + i.val, by omega⟩ : Fin 512) a)) (fun i => c (ix2 i a)) (fun i => s (ix2 i a)) i := by
    unfold rotQ
    have h1 : (448 + i.val) / 64 = 7 := by omega
    have h2 : (448 + i.val) % 64 = i.val := by omega
    simp only [h1, h2]
  rw [e]
  unfold ropeQ
  by_cases h : i.val < 32
  · pointwise [h]
  · have e2 : 32 + (i.val - 32) = i.val := by omega
    pointwise [h]
    simp only [e2]

/-- The first map of the differential attention's queries. -/
theorem qb0_at (H : FVec Ideal S512x1024 .bf16) (w : Vec Ideal S512x1024 .bf16) (c s : FVec Ideal S32x512 .f32) (i : Fin 64) (a : Fin 512) :
    k0_pay47 (F := Ideal) H c s w (ix2 i a) = rotQ (k0_pay46 (F := Ideal) H w) c s ⟨0 + i.val, by omega⟩ a := by
  unfold k0_pay47
  generalize (k0_pay46 (F := Ideal) H w) = z
  have e : rotQ z c s ⟨0 + i.val, by omega⟩ a = ropeQ (fun i => z (ix2 (⟨0 + i.val, by omega⟩ : Fin 512) a)) (fun i => c (ix2 i a)) (fun i => s (ix2 i a)) i := by
    unfold rotQ
    have h1 : (0 + i.val) / 64 = 0 := by omega
    have h2 : (0 + i.val) % 64 = i.val := by omega
    simp only [h1, h2]
  rw [e]
  unfold ropeQ
  by_cases h : i.val < 32
  · pointwise [h]
  · have e2 : 32 + (i.val - 32) = i.val := by omega
    pointwise [h]
    simp only [e2]

/-- The second map of the differential attention's queries. -/
theorem qb1_at (H : FVec Ideal S512x1024 .bf16) (w : Vec Ideal S512x1024 .bf16) (c s : FVec Ideal S32x512 .f32) (i : Fin 64) (a : Fin 512) :
    k0_pay49 (F := Ideal) (k0_pay48 (F := Ideal) H c s w) (ix2 i a) = rotQ (k0_pay46 (F := Ideal) H w) c s ⟨64 + i.val, by omega⟩ a := by
  unfold k0_pay49 k0_pay48
  generalize (k0_pay46 (F := Ideal) H w) = z
  have e : rotQ z c s ⟨64 + i.val, by omega⟩ a = ropeQ (fun i => z (ix2 (⟨64 + i.val, by omega⟩ : Fin 512) a)) (fun i => c (ix2 i a)) (fun i => s (ix2 i a)) i := by
    unfold rotQ
    have h1 : (64 + i.val) / 64 = 1 := by omega
    have h2 : (64 + i.val) % 64 = i.val := by omega
    simp only [h1, h2]
  rw [e]
  unfold ropeQ
  by_cases h : i.val < 32
  · pointwise [h]
  · have e2 : 32 + (i.val - 32) = i.val := by omega
    pointwise [h]
    simp only [e2]

/-- The third map of the differential attention's queries. -/
theorem qb2_at (c s : FVec Ideal S32x512 .f32) (y : FVec Ideal S512x512 .f32) (i : Fin 64) (a : Fin 512) :
    k0_pay50 (F := Ideal) c s y (ix2 i a) = rotQ y c s ⟨128 + i.val, by omega⟩ a := by
  unfold k0_pay50
  generalize y = z
  have e : rotQ z c s ⟨128 + i.val, by omega⟩ a = ropeQ (fun i => z (ix2 (⟨128 + i.val, by omega⟩ : Fin 512) a)) (fun i => c (ix2 i a)) (fun i => s (ix2 i a)) i := by
    unfold rotQ
    have h1 : (128 + i.val) / 64 = 2 := by omega
    have h2 : (128 + i.val) % 64 = i.val := by omega
    simp only [h1, h2]
  rw [e]
  unfold ropeQ
  by_cases h : i.val < 32
  · pointwise [h]
  · have e2 : 32 + (i.val - 32) = i.val := by omega
    pointwise [h]
    simp only [e2]

/-- The fourth map of the differential attention's queries. -/
theorem qb3_at (c s : FVec Ideal S32x512 .f32) (y : FVec Ideal S512x512 .f32) (i : Fin 64) (a : Fin 512) :
    k0_pay51 (F := Ideal) c s y (ix2 i a) = rotQ y c s ⟨192 + i.val, by omega⟩ a := by
  unfold k0_pay51
  generalize y = z
  have e : rotQ z c s ⟨192 + i.val, by omega⟩ a = ropeQ (fun i => z (ix2 (⟨192 + i.val, by omega⟩ : Fin 512) a)) (fun i => c (ix2 i a)) (fun i => s (ix2 i a)) i := by
    unfold rotQ
    have h1 : (192 + i.val) / 64 = 3 := by omega
    have h2 : (192 + i.val) % 64 = i.val := by omega
    simp only [h1, h2]
  rw [e]
  unfold ropeQ
  by_cases h : i.val < 32
  · pointwise [h]
  · have e2 : 32 + (i.val - 32) = i.val := by omega
    pointwise [h]
    simp only [e2]

/-- The fifth map of the differential attention's queries. -/
theorem qb4_at (c s : FVec Ideal S32x512 .f32) (y : FVec Ideal S512x512 .f32) (i : Fin 64) (a : Fin 512) :
    k0_pay52 (F := Ideal) c s y (ix2 i a) = rotQ y c s ⟨256 + i.val, by omega⟩ a := by
  unfold k0_pay52
  generalize y = z
  have e : rotQ z c s ⟨256 + i.val, by omega⟩ a = ropeQ (fun i => z (ix2 (⟨256 + i.val, by omega⟩ : Fin 512) a)) (fun i => c (ix2 i a)) (fun i => s (ix2 i a)) i := by
    unfold rotQ
    have h1 : (256 + i.val) / 64 = 4 := by omega
    have h2 : (256 + i.val) % 64 = i.val := by omega
    simp only [h1, h2]
  rw [e]
  unfold ropeQ
  by_cases h : i.val < 32
  · pointwise [h]
  · have e2 : 32 + (i.val - 32) = i.val := by omega
    pointwise [h]
    simp only [e2]

/-- The sixth map of the differential attention's queries. -/
theorem qb5_at (c s : FVec Ideal S32x512 .f32) (y : FVec Ideal S512x512 .f32) (i : Fin 64) (a : Fin 512) :
    k0_pay54 (F := Ideal) (k0_pay53 (F := Ideal) c s y) (ix2 i a) = rotQ y c s ⟨320 + i.val, by omega⟩ a := by
  unfold k0_pay54 k0_pay53
  generalize y = z
  have e : rotQ z c s ⟨320 + i.val, by omega⟩ a = ropeQ (fun i => z (ix2 (⟨320 + i.val, by omega⟩ : Fin 512) a)) (fun i => c (ix2 i a)) (fun i => s (ix2 i a)) i := by
    unfold rotQ
    have h1 : (320 + i.val) / 64 = 5 := by omega
    have h2 : (320 + i.val) % 64 = i.val := by omega
    simp only [h1, h2]
  rw [e]
  unfold ropeQ
  by_cases h : i.val < 32
  · pointwise [h]
  · have e2 : 32 + (i.val - 32) = i.val := by omega
    pointwise [h]
    simp only [e2]

/-- The seventh map of the differential attention's queries. -/
theorem qb6_at (c s : FVec Ideal S32x512 .f32) (y : FVec Ideal S512x512 .f32) (i : Fin 64) (a : Fin 512) :
    k0_pay55 (F := Ideal) c s y (ix2 i a) = rotQ y c s ⟨384 + i.val, by omega⟩ a := by
  unfold k0_pay55
  generalize y = z
  have e : rotQ z c s ⟨384 + i.val, by omega⟩ a = ropeQ (fun i => z (ix2 (⟨384 + i.val, by omega⟩ : Fin 512) a)) (fun i => c (ix2 i a)) (fun i => s (ix2 i a)) i := by
    unfold rotQ
    have h1 : (384 + i.val) / 64 = 6 := by omega
    have h2 : (384 + i.val) % 64 = i.val := by omega
    simp only [h1, h2]
  rw [e]
  unfold ropeQ
  by_cases h : i.val < 32
  · pointwise [h]
  · have e2 : 32 + (i.val - 32) = i.val := by omega
    pointwise [h]
    simp only [e2]

/-- The eighth map of the differential attention's queries. -/
theorem qb7_at (c s : FVec Ideal S32x512 .f32) (y : FVec Ideal S512x512 .f32) (i : Fin 64) (a : Fin 512) :
    k0_pay56 (F := Ideal) c s y (ix2 i a) = rotQ y c s ⟨448 + i.val, by omega⟩ a := by
  unfold k0_pay56
  generalize y = z
  have e : rotQ z c s ⟨448 + i.val, by omega⟩ a = ropeQ (fun i => z (ix2 (⟨448 + i.val, by omega⟩ : Fin 512) a)) (fun i => c (ix2 i a)) (fun i => s (ix2 i a)) i := by
    unfold rotQ
    have h1 : (448 + i.val) / 64 = 7 := by omega
    have h2 : (448 + i.val) % 64 = i.val := by omega
    simp only [h1, h2]
  rw [e]
  unfold ropeQ
  by_cases h : i.val < 32
  · pointwise [h]
  · have e2 : 32 + (i.val - 32) = i.val := by omega
    pointwise [h]
    simp only [e2]

/-- The sparse attention's queries before their rotary embedding. -/
theorem qa_at (H : FVec Ideal S512x1024 .bf16) (w : Vec Ideal S512x1024 .bf16) (j : Fin 512) (a : Fin 512) :
    k0_pay25 (F := Ideal) H w (ix2 j a) = (∑ k, w (ix2 j k) * H (ix2 a k)) * Ideal.ofBits .f32 0x3E38AA3B#32 := by
  unfold k0_pay25
  pointwise []

/-- The same, as they are stored. -/
theorem qas_at (H : FVec Ideal S512x1024 .bf16) (w : Vec Ideal S512x1024 .bf16) (j : Fin 512) (a : Fin 512) :
    k0_pay26 (F := Ideal) H w (ix2 j a) = k0_pay25 (F := Ideal) H w (ix2 j a) := by
  unfold k0_pay26
  generalize k0_pay25 (F := Ideal) H w = z
  pointwise []

/-- The differential attention's queries before their rotary embedding. -/
theorem qb_at (H : FVec Ideal S512x1024 .bf16) (w : Vec Ideal S512x1024 .bf16) (j : Fin 512) (a : Fin 512) :
    k0_pay46 (F := Ideal) H w (ix2 j a) = (∑ k, w (ix2 j k) * H (ix2 a k)) * Ideal.ofBits .f32 0x3E38AA3B#32 := by
  unfold k0_pay46
  pointwise []

/-- The selected values. -/
theorem vs_at (H : FVec Ideal S512x1024 .bf16) (w : Vec Ideal S128x1024 .bf16) (j : Fin 128) (a : Fin 512) :
    k0_pay35 (F := Ideal) H w (ix2 j a) = (∑ k, w (ix2 j k) * H (ix2 a k)) := by
  unfold k0_pay35
  pointwise []

/-- The window values. -/
theorem vw_at (H : FVec Ideal S512x1024 .bf16) (w : Vec Ideal S128x1024 .bf16) (j : Fin 128) (a : Fin 512) :
    k0_pay36 (F := Ideal) H w (ix2 j a) = (∑ k, w (ix2 j k) * H (ix2 a k)) := by
  unfold k0_pay36
  pointwise []

/-- The differential attention's values. -/
theorem vb_at (H : FVec Ideal S512x1024 .bf16) (w : Vec Ideal S512x1024 .bf16) (j : Fin 512) (a : Fin 512) :
    k0_pay57 (F := Ideal) H w (ix2 j a) = (∑ k, w (ix2 j k) * H (ix2 a k)) := by
  unfold k0_pay57
  pointwise []

/-- The branches' gates. -/
theorem gt_at (H : FVec Ideal S512x1024 .bf16) (w : Vec Ideal S32x1024 .bf16) (j : Fin 32) (a : Fin 512) :
    k0_pay45 (F := Ideal) H w (ix2 j a) = Ideal.logistic (∑ k, w (ix2 j k) * H (ix2 a k)) := by
  unfold k0_pay45
  pointwise []

/-- The selected values, chunk 0 of the block. -/
theorem vs0_at (H : FVec Ideal S512x1024 .bf16) (w : Vec Ideal S128x1024 .bf16) (u : Fin 1) (j : Fin 128) (l : Fin 128) :
    k0_pay37 (F := Ideal) H w (ix3 u j l) = k0_pay35 (F := Ideal) H w (ix2 j (⟨0 + l.val, by omega⟩ : Fin 512)) := by
  unfold k0_pay37
  generalize k0_pay35 (F := Ideal) H w = z
  pointwise []

/-- The selected values, chunk 1 of the block. -/
theorem vs1_at (H : FVec Ideal S512x1024 .bf16) (w : Vec Ideal S128x1024 .bf16) (u : Fin 1) (j : Fin 128) (l : Fin 128) :
    k0_pay39 (F := Ideal) H w (ix3 u j l) = k0_pay35 (F := Ideal) H w (ix2 j (⟨128 + l.val, by omega⟩ : Fin 512)) := by
  unfold k0_pay39
  generalize k0_pay35 (F := Ideal) H w = z
  pointwise []

/-- The selected values, chunk 2 of the block. -/
theorem vs2_at (H : FVec Ideal S512x1024 .bf16) (w : Vec Ideal S128x1024 .bf16) (u : Fin 1) (j : Fin 128) (l : Fin 128) :
    k0_pay41 (F := Ideal) H w (ix3 u j l) = k0_pay35 (F := Ideal) H w (ix2 j (⟨256 + l.val, by omega⟩ : Fin 512)) := by
  unfold k0_pay41
  generalize k0_pay35 (F := Ideal) H w = z
  pointwise []

/-- The selected values, chunk 3 of the block. -/
theorem vs3_at (y : FVec Ideal S128x512 .bf16) (u : Fin 1) (j : Fin 128) (l : Fin 128) :
    k0_pay43 (F := Ideal) y (ix3 u j l) = y (ix2 j (⟨384 + l.val, by omega⟩ : Fin 512)) := by
  unfold k0_pay43
  pointwise []

/-- The window values, chunk 0 of the block. -/
theorem vw0_at (H : FVec Ideal S512x1024 .bf16) (w : Vec Ideal S128x1024 .bf16) (u : Fin 1) (j : Fin 128) (l : Fin 128) :
    k0_pay38 (F := Ideal) H w (ix3 u j l) = k0_pay36 (F := Ideal) H w (ix2 j (⟨0 + l.val, by omega⟩ : Fin 512)) := by
  unfold k0_pay38
  generalize k0_pay36 (F := Ideal) H w = z
  pointwise []

/-- The window values, chunk 1 of the block. -/
theorem vw1_at (H : FVec Ideal S512x1024 .bf16) (w : Vec Ideal S128x1024 .bf16) (u : Fin 1) (j : Fin 128) (l : Fin 128) :
    k0_pay40 (F := Ideal) H w (ix3 u j l) = k0_pay36 (F := Ideal) H w (ix2 j (⟨128 + l.val, by omega⟩ : Fin 512)) := by
  unfold k0_pay40
  generalize k0_pay36 (F := Ideal) H w = z
  pointwise []

/-- The window values, chunk 2 of the block. -/
theorem vw2_at (H : FVec Ideal S512x1024 .bf16) (w : Vec Ideal S128x1024 .bf16) (u : Fin 1) (j : Fin 128) (l : Fin 128) :
    k0_pay42 (F := Ideal) H w (ix3 u j l) = k0_pay36 (F := Ideal) H w (ix2 j (⟨256 + l.val, by omega⟩ : Fin 512)) := by
  unfold k0_pay42
  generalize k0_pay36 (F := Ideal) H w = z
  pointwise []

/-- The window values, chunk 3 of the block. -/
theorem vw3_at (y : FVec Ideal S128x512 .bf16) (u : Fin 1) (j : Fin 128) (l : Fin 128) :
    k0_pay44 (F := Ideal) y (ix3 u j l) = y (ix2 j (⟨384 + l.val, by omega⟩ : Fin 512)) := by
  unfold k0_pay44
  pointwise []

/-- The differential attention's values, chunk 0 of the block. -/
theorem vb0_at (H : FVec Ideal S512x1024 .bf16) (w : Vec Ideal S512x1024 .bf16) (u : Fin 1) (j : Fin 512) (l : Fin 128) :
    k0_pay58 (F := Ideal) H w (ix3 u j l) = k0_pay57 (F := Ideal) H w (ix2 j (⟨0 + l.val, by omega⟩ : Fin 512)) := by
  unfold k0_pay58
  generalize k0_pay57 (F := Ideal) H w = z
  pointwise []

/-- The differential attention's values, chunk 1 of the block. -/
theorem vb1_at (H : FVec Ideal S512x1024 .bf16) (w : Vec Ideal S512x1024 .bf16) (u : Fin 1) (j : Fin 512) (l : Fin 128) :
    k0_pay59 (F := Ideal) H w (ix3 u j l) = k0_pay57 (F := Ideal) H w (ix2 j (⟨128 + l.val, by omega⟩ : Fin 512)) := by
  unfold k0_pay59
  generalize k0_pay57 (F := Ideal) H w = z
  pointwise []

/-- The differential attention's values, chunk 2 of the block. -/
theorem vb2_at (H : FVec Ideal S512x1024 .bf16) (w : Vec Ideal S512x1024 .bf16) (u : Fin 1) (j : Fin 512) (l : Fin 128) :
    k0_pay61 (F := Ideal) (k0_pay60 (F := Ideal) H w) (ix3 u j l) = k0_pay57 (F := Ideal) H w (ix2 j (⟨256 + l.val, by omega⟩ : Fin 512)) := by
  unfold k0_pay61 k0_pay60
  generalize k0_pay57 (F := Ideal) H w = z
  pointwise []

/-- The differential attention's values, chunk 3 of the block. -/
theorem vb3_at (y : FVec Ideal S512x512 .bf16) (u : Fin 1) (j : Fin 512) (l : Fin 128) :
    k0_pay62 (F := Ideal) y (ix3 u j l) = y (ix2 j (⟨384 + l.val, by omega⟩ : Fin 512)) := by
  unfold k0_pay62
  pointwise []

/-- The gating unit's row before it is split. -/
theorem unit_at (v0 : Vec Ideal S512x1024 .f32) (v1 : Vec Ideal S1x1024 .f32) (w : Vec Ideal S1024x1024 .bf16) (a : Fin 512) (f : Fin 1024) :
    k0_pay3 (F := Ideal) v0 v1 w (ix2 a f) = gelu (dotRow (fun k => k0_pay2 (F := Ideal) v0 v1 (ix2 a k)) (fun k f => w (ix2 k f)) f) := by
  unfold gelu dotRow k0_pay3
  generalize k0_pay2 (F := Ideal) v0 v1 = H
  pointwise []

/-- Its first half. -/
theorem first_at (v0 : Vec Ideal S512x1024 .f32) (v1 : Vec Ideal S1x1024 .f32) (w : Vec Ideal S1024x1024 .bf16) (a : Fin 512) (f : Fin 512) :
    k0_pay4 (F := Ideal) v0 v1 w (ix2 a f) = k0_pay3 (F := Ideal) v0 v1 w (ix2 a ⟨f.val, by omega⟩) := by
  unfold k0_pay4
  generalize k0_pay3 (F := Ideal) v0 v1 w = z
  pointwise []

/-- Its second half. -/
theorem second_at (v0 : Vec Ideal S512x1024 .f32) (v1 : Vec Ideal S1x1024 .f32) (w : Vec Ideal S1024x1024 .bf16) (a : Fin 512) (f : Fin 512) :
    k0_pay5 (F := Ideal) v0 v1 w (ix2 a f) = k0_pay3 (F := Ideal) v0 v1 w (ix2 a ⟨512 + f.val, by omega⟩) := by
  unfold k0_pay5
  generalize k0_pay3 (F := Ideal) v0 v1 w = z
  pointwise []

/-- The norm of the second half. -/
theorem vn_at (y : FVec Ideal S512x512 .f32) (g : Vec Ideal S1x512 .f32) (a j : Fin 512) :
    k0_pay6 (F := Ideal) y g (ix2 a j) = norm512 (fun j => y (ix2 a j)) (fun j => g (ix2 (0 : Fin 1) j)) j := by
  unfold norm512
  pointwise [k0_pay6]

/-- The gating of chunk 0 of the block in channel group 0. -/
theorem oc0_at (u : FVec Ideal S512x512 .f32) (v : FVec Ideal S512x512 .bf16) (w : Vec Ideal S1x128x128 .bf16) (b : Vec Ideal S128x128 .f32) (t j : Fin 128) :
    k0_pay63 (F := Ideal) u v w b (ix2 t j)
      = u (ix2 (⟨0 + t.val, by omega⟩ : Fin 512) (⟨0 + j.val, by omega⟩ : Fin 512))
          * (∑ s : Fin 128, w (ix3 (0 : Fin 1) t s) * v (ix2 (⟨0 + s.val, by omega⟩ : Fin 512) (⟨0 + j.val, by omega⟩ : Fin 512)) + b (ix2 t j)) := by
  unfold k0_pay63
  pointwise []

/-- The gating of chunk 0 of the block in channel group 1. -/
theorem oc1_at (u : FVec Ideal S512x512 .f32) (v : FVec Ideal S512x512 .bf16) (w : Vec Ideal S1x128x128 .bf16) (b : Vec Ideal S128x128 .f32) (t j : Fin 128) :
    k0_pay64 (F := Ideal) u v w b (ix2 t j)
      = u (ix2 (⟨0 + t.val, by omega⟩ : Fin 512) (⟨128 + j.val, by omega⟩ : Fin 512))
          * (∑ s : Fin 128, w (ix3 (0 : Fin 1) t s) * v (ix2 (⟨0 + s.val, by omega⟩ : Fin 512) (⟨128 + j.val, by omega⟩ : Fin 512)) + b (ix2 t j)) := by
  unfold k0_pay64
  pointwise []

/-- The gating of chunk 0 of the block in channel group 2. -/
theorem oc2_at (u : FVec Ideal S512x512 .f32) (v : FVec Ideal S512x512 .bf16) (w : Vec Ideal S1x128x128 .bf16) (b : Vec Ideal S128x128 .f32) (t j : Fin 128) :
    k0_pay66 (F := Ideal) u (k0_pay65 (F := Ideal) v w) b (ix2 t j)
      = u (ix2 (⟨0 + t.val, by omega⟩ : Fin 512) (⟨256 + j.val, by omega⟩ : Fin 512))
          * (∑ s : Fin 128, w (ix3 (0 : Fin 1) t s) * v (ix2 (⟨0 + s.val, by omega⟩ : Fin 512) (⟨256 + j.val, by omega⟩ : Fin 512)) + b (ix2 t j)) := by
  unfold k0_pay66 k0_pay65
  pointwise []

/-- The gating of chunk 0 of the block in channel group 3. -/
theorem oc3_at (u : FVec Ideal S512x512 .f32) (v : FVec Ideal S512x512 .bf16) (w : Vec Ideal S1x128x128 .bf16) (b : Vec Ideal S128x128 .f32) (t j : Fin 128) :
    k0_pay67 (F := Ideal) u v w b (ix2 t j)
      = u (ix2 (⟨0 + t.val, by omega⟩ : Fin 512) (⟨384 + j.val, by omega⟩ : Fin 512))
          * (∑ s : Fin 128, w (ix3 (0 : Fin 1) t s) * v (ix2 (⟨0 + s.val, by omega⟩ : Fin 512) (⟨384 + j.val, by omega⟩ : Fin 512)) + b (ix2 t j)) := by
  unfold k0_pay67
  pointwise []

/-- The gating of chunk 1 of the block in channel group 0. -/
theorem oc4_at (u : FVec Ideal S512x512 .f32) (v : FVec Ideal S512x512 .bf16) (w : Vec Ideal S1x128x128 .bf16) (b : Vec Ideal S128x128 .f32) (t j : Fin 128) :
    k0_pay68 (F := Ideal) u v w b (ix2 t j)
      = u (ix2 (⟨128 + t.val, by omega⟩ : Fin 512) (⟨0 + j.val, by omega⟩ : Fin 512))
          * (∑ s : Fin 128, w (ix3 (0 : Fin 1) t s) * v (ix2 (⟨128 + s.val, by omega⟩ : Fin 512) (⟨0 + j.val, by omega⟩ : Fin 512)) + b (ix2 t j)) := by
  unfold k0_pay68
  pointwise []

/-- The gating of chunk 1 of the block in channel group 1. -/
theorem oc5_at (u : FVec Ideal S512x512 .f32) (v : FVec Ideal S512x512 .bf16) (w : Vec Ideal S1x128x128 .bf16) (b : Vec Ideal S128x128 .f32) (t j : Fin 128) :
    k0_pay70 (F := Ideal) u (k0_pay69 (F := Ideal) v w b) (ix2 t j)
      = u (ix2 (⟨128 + t.val, by omega⟩ : Fin 512) (⟨128 + j.val, by omega⟩ : Fin 512))
          * (∑ s : Fin 128, w (ix3 (0 : Fin 1) t s) * v (ix2 (⟨128 + s.val, by omega⟩ : Fin 512) (⟨128 + j.val, by omega⟩ : Fin 512)) + b (ix2 t j)) := by
  unfold k0_pay70 k0_pay69
  pointwise []

/-- The gating of chunk 1 of the block in channel group 2. -/
theorem oc6_at (u : FVec Ideal S512x512 .f32) (v : FVec Ideal S512x512 .bf16) (w : Vec Ideal S1x128x128 .bf16) (b : Vec Ideal S128x128 .f32) (t j : Fin 128) :
    k0_pay71 (F := Ideal) u v w b (ix2 t j)
      = u (ix2 (⟨128 + t.val, by omega⟩ : Fin 512) (⟨256 + j.val, by omega⟩ : Fin 512))
          * (∑ s : Fin 128, w (ix3 (0 : Fin 1) t s) * v (ix2 (⟨128 + s.val, by omega⟩ : Fin 512) (⟨256 + j.val, by omega⟩ : Fin 512)) + b (ix2 t j)) := by
  unfold k0_pay71
  pointwise []

/-- The gating of chunk 1 of the block in channel group 3. -/
theorem oc7_at (u : FVec Ideal S512x512 .f32) (v : FVec Ideal S512x512 .bf16) (w : Vec Ideal S1x128x128 .bf16) (b : Vec Ideal S128x128 .f32) (t j : Fin 128) :
    k0_pay72 (F := Ideal) u v w b (ix2 t j)
      = u (ix2 (⟨128 + t.val, by omega⟩ : Fin 512) (⟨384 + j.val, by omega⟩ : Fin 512))
          * (∑ s : Fin 128, w (ix3 (0 : Fin 1) t s) * v (ix2 (⟨128 + s.val, by omega⟩ : Fin 512) (⟨384 + j.val, by omega⟩ : Fin 512)) + b (ix2 t j)) := by
  unfold k0_pay72
  pointwise []

/-- The gating of chunk 2 of the block in channel group 0. -/
theorem oc8_at (u : FVec Ideal S512x512 .f32) (v : FVec Ideal S512x512 .bf16) (w : Vec Ideal S1x128x128 .bf16) (b : Vec Ideal S128x128 .f32) (t j : Fin 128) :
    k0_pay73 (F := Ideal) u v w b (ix2 t j)
      = u (ix2 (⟨256 + t.val, by omega⟩ : Fin 512) (⟨0 + j.val, by omega⟩ : Fin 512))
          * (∑ s : Fin 128, w (ix3 (0 : Fin 1) t s) * v (ix2 (⟨256 + s.val, by omega⟩ : Fin 512) (⟨0 + j.val, by omega⟩ : Fin 512)) + b (ix2 t j)) := by
  unfold k0_pay73
  pointwise []

/-- The gating of chunk 2 of the block in channel group 1. -/
theorem oc9_at (u : FVec Ideal S512x512 .f32) (v : FVec Ideal S512x512 .bf16) (w : Vec Ideal S1x128x128 .bf16) (b : Vec Ideal S128x128 .f32) (t j : Fin 128) :
    k0_pay74 (F := Ideal) u v w b (ix2 t j)
      = u (ix2 (⟨256 + t.val, by omega⟩ : Fin 512) (⟨128 + j.val, by omega⟩ : Fin 512))
          * (∑ s : Fin 128, w (ix3 (0 : Fin 1) t s) * v (ix2 (⟨256 + s.val, by omega⟩ : Fin 512) (⟨128 + j.val, by omega⟩ : Fin 512)) + b (ix2 t j)) := by
  unfold k0_pay74
  pointwise []

/-- The gating of chunk 2 of the block in channel group 2. -/
theorem oc10_at (u : FVec Ideal S512x512 .f32) (v : FVec Ideal S512x512 .bf16) (w : Vec Ideal S1x128x128 .bf16) (b : Vec Ideal S128x128 .f32) (t j : Fin 128) :
    k0_pay75 (F := Ideal) u v w b (ix2 t j)
      = u (ix2 (⟨256 + t.val, by omega⟩ : Fin 512) (⟨256 + j.val, by omega⟩ : Fin 512))
          * (∑ s : Fin 128, w (ix3 (0 : Fin 1) t s) * v (ix2 (⟨256 + s.val, by omega⟩ : Fin 512) (⟨256 + j.val, by omega⟩ : Fin 512)) + b (ix2 t j)) := by
  unfold k0_pay75
  pointwise []

/-- The gating of chunk 2 of the block in channel group 3. -/
theorem oc11_at (u : FVec Ideal S512x512 .f32) (v : FVec Ideal S512x512 .bf16) (w : Vec Ideal S1x128x128 .bf16) (b : Vec Ideal S128x128 .f32) (t j : Fin 128) :
    k0_pay76 (F := Ideal) u v w b (ix2 t j)
      = u (ix2 (⟨256 + t.val, by omega⟩ : Fin 512) (⟨384 + j.val, by omega⟩ : Fin 512))
          * (∑ s : Fin 128, w (ix3 (0 : Fin 1) t s) * v (ix2 (⟨256 + s.val, by omega⟩ : Fin 512) (⟨384 + j.val, by omega⟩ : Fin 512)) + b (ix2 t j)) := by
  unfold k0_pay76
  pointwise []

/-- The gating of chunk 3 of the block in channel group 0. -/
theorem oc12_at (u : FVec Ideal S512x512 .f32) (v : FVec Ideal S512x512 .bf16) (w : Vec Ideal S1x128x128 .bf16) (b : Vec Ideal S128x128 .f32) (t j : Fin 128) :
    k0_pay77 (F := Ideal) u v w b (ix2 t j)
      = u (ix2 (⟨384 + t.val, by omega⟩ : Fin 512) (⟨0 + j.val, by omega⟩ : Fin 512))
          * (∑ s : Fin 128, w (ix3 (0 : Fin 1) t s) * v (ix2 (⟨384 + s.val, by omega⟩ : Fin 512) (⟨0 + j.val, by omega⟩ : Fin 512)) + b (ix2 t j)) := by
  unfold k0_pay77
  pointwise []

/-- The gating of chunk 3 of the block in channel group 1. -/
theorem oc13_at (u : FVec Ideal S512x512 .f32) (v : FVec Ideal S512x512 .bf16) (w : Vec Ideal S1x128x128 .bf16) (b : Vec Ideal S128x128 .f32) (t j : Fin 128) :
    k0_pay78 (F := Ideal) u v w b (ix2 t j)
      = u (ix2 (⟨384 + t.val, by omega⟩ : Fin 512) (⟨128 + j.val, by omega⟩ : Fin 512))
          * (∑ s : Fin 128, w (ix3 (0 : Fin 1) t s) * v (ix2 (⟨384 + s.val, by omega⟩ : Fin 512) (⟨128 + j.val, by omega⟩ : Fin 512)) + b (ix2 t j)) := by
  unfold k0_pay78
  pointwise []

/-- The gating of chunk 3 of the block in channel group 2. -/
theorem oc14_at (u : FVec Ideal S512x512 .f32) (v : FVec Ideal S512x512 .bf16) (w : Vec Ideal S1x128x128 .bf16) (b : Vec Ideal S128x128 .f32) (t j : Fin 128) :
    k0_pay79 (F := Ideal) u v w b (ix2 t j)
      = u (ix2 (⟨384 + t.val, by omega⟩ : Fin 512) (⟨256 + j.val, by omega⟩ : Fin 512))
          * (∑ s : Fin 128, w (ix3 (0 : Fin 1) t s) * v (ix2 (⟨384 + s.val, by omega⟩ : Fin 512) (⟨256 + j.val, by omega⟩ : Fin 512)) + b (ix2 t j)) := by
  unfold k0_pay79
  pointwise []

/-- The gating of chunk 3 of the block in channel group 3. -/
theorem oc15_at (u : FVec Ideal S512x512 .f32) (v : FVec Ideal S512x512 .bf16) (w : Vec Ideal S1x128x128 .bf16) (b : Vec Ideal S128x128 .f32) (t j : Fin 128) :
    k0_pay1 (F := Ideal) u v w b (ix2 t j)
      = u (ix2 (⟨384 + t.val, by omega⟩ : Fin 512) (⟨384 + j.val, by omega⟩ : Fin 512))
          * (∑ s : Fin 128, w (ix3 (0 : Fin 1) t s) * v (ix2 (⟨384 + s.val, by omega⟩ : Fin 512) (⟨384 + j.val, by omega⟩ : Fin 512)) + b (ix2 t j)) := by
  unfold k0_pay1
  pointwise []

end Cert.Kernel4Ideal.Proj

end
-- ==== Proof.ProjBlock.lean ====
/- The blocks the input projection kernel writes, at one entry, from its input blocks. -/
module

public import proofs.«01_k».proof.Proof.ProjPt
public import proofs.«01_k».proof.Proof.Gen.Kernel4Ideal.Value
public import Idealize.ShloMosaic.Lib.Pipeline.ValueKit

@[expose] public section

set_option maxRecDepth 16384
set_option maxHeartbeats 1600000

noncomputable section

namespace Cert.Kernel4Ideal.Proj

open Cert.Kernel4Ideal Cert.Kernel4Ideal.Gen Idealize.ShloMosaic Cert.Rows Cert.Proj

/-- A product with the row-wise matrix from its factors. -/
theorem p_of {n : ℕ} (h : Fin 1024 → EReal) (W : Fin 1024 → Fin n → EReal) (x g : Fin 1024 → EReal) (wp : Fin 1024 → Fin 2048 → EReal) (j : Fin n) (J : Fin 2048)
    (hh : ∀ k, h k = normRow x g k) (hW : ∀ k, W k j = wp k J) : dotRow h W j = pAt x g wp J := by
  unfold pAt dotRow
  exact Finset.sum_congr rfl fun k _ => by rw [hh, hW]

/-- A product with the column-wise matrix from its factors. -/
theorem t_of (h W x g : Fin 1024 → EReal) (wt : Fin 1824 → Fin 1024 → EReal) (J : Fin 1824)
    (hh : ∀ k, h k = normRow x g k) (hW : ∀ k, W k = wt J k) : (∑ k, W k * h k) = tAt x g wt J :=
  Finset.sum_congr rfl fun k _ => by rw [hh, hW]

/-- Equal rows and tables have equal rotary embeddings. -/
theorem ropeK_congr {y y' c c' s s' : Fin 128 → EReal} {j j' : Fin 128} (hy : ∀ i, y i = y' i) (hc : ∀ i, c i = c' i) (hs : ∀ i, s i = s' i) (hj : j = j') :
    ropeK y c s j = ropeK y' c' s' j' := by
  rw [funext hy, funext hc, funext hs, hj]

/-- Equal queries and tables have equal rotary embeddings. -/
theorem ropeQ_congr {y y' : Fin 64 → EReal} {c c' s s' : Fin 32 → EReal} (j : Fin 64) (hy : ∀ i, y i = y' i) (hc : ∀ i, c i = c' i) (hs : ∀ i, s i = s' i) :
    ropeQ y c s j = ropeQ y' c' s' j := by
  rw [funext hy, funext hc, funext hs]

variable (x0 : Vec Ideal S512x1024 .f32) (x1 : Vec Ideal S1x1024 .f32) (x2 : Vec Ideal S1024x2048 .bf16) (x3 : Vec Ideal S1824x1024 .bf16)
  (x4 x5 : Vec Ideal S512x128 .f32) (x6 x7 : Vec Ideal S32x512 .f32) (x8 : Vec Ideal S1x512 .f32) (x9 : Vec Ideal S4x128x128 .bf16) (x10 : Vec Ideal S128x512 .f32)

/-- The products of a block's token with the row-wise matrix. -/
def pB (a : Fin 512) (j : Fin 2048) : EReal := pAt (fun k => x0 (ix2 a k)) (fun k => x1 (ix2 (0 : Fin 1) k)) (fun k f => x2 (ix2 k f)) j

/-- The products of the column-wise matrix with a block's token. -/
def tB (a : Fin 512) (j : Fin 1824) : EReal := tAt (fun k => x0 (ix2 a k)) (fun k => x1 (ix2 (0 : Fin 1) k)) (fun f k => x3 (ix2 f k)) j

/-- The whole block of the residual stream is loaded. -/
theorem ld0 : View.ld x0 r0_0 = x0 := by
  funext i
  rw [show i = ix2 (i 0) (i 1) from by funext a; fin_cases a <;> rfl]
  pointwise []

/-- The norm's weights are loaded whole. -/
theorem ld1 : View.ld x1 r0_1 = x1 := by
  funext i
  rw [show i = ix2 (0 : Fin 1) (i 1) from by funext a; fin_cases a; exact Fin.ext (by have h : (i 0).val < 1 := (i 0).isLt; show (i 0).val = 0; omega); rfl]
  pointwise []

/-- A block of 128 lanes is loaded whole. -/
theorem ld4 : View.ld x4 r0_2 = x4 := by
  funext i
  rw [show i = ix2 (i 0) (i 1) from by funext a; fin_cases a <;> rfl]
  pointwise []

/-- A block of 32 rows is loaded whole. -/
theorem ld6 : View.ld x6 r0_3 = x6 := by
  funext i
  rw [show i = ix2 (i 0) (i 1) from by funext a; fin_cases a <;> rfl]
  pointwise []

/-- The gating unit's norm weights are loaded whole. -/
theorem ld8 : View.ld x8 r0_5 = x8 := by
  funext i
  rw [show i = ix2 (0 : Fin 1) (i 1) from by funext a; fin_cases a; exact Fin.ext (by have h : (i 0).val < 1 := (i 0).isLt; show (i 0).val = 0; omega); rfl]
  pointwise []

/-- The normed rows. -/
theorem hB (a : Fin 512) (k : Fin 1024) :
    k0_pay80 (F := Ideal) x0 x1 x2 x3 x4 x5 x6 x7 x8 x9 x10 (ix2 a k) = normRow (fun k => x0 (ix2 a k)) (fun k => x1 (ix2 (0 : Fin 1) k)) k := by
  unfold k0_pay80
  rw [ld0, ld1]
  exact h_at _ _ _ _

/-- The compressed keys' block. -/
theorem o11 (a : Fin 512) (j : Fin 128) : out0_11 (F := Ideal) x0 x1 x2 x3 x4 x5 x6 x7 x8 x9 x10 (ix2 a j) = pB x0 x1 x2 a ⟨j.val, by omega⟩ := by
  unfold out0_11
  frame_out
  rw [kc_at, kvc_at]
  exact p_of _ _ _ _ _ _ _ (hB x0 x1 x2 x3 x4 x5 x6 x7 x8 x9 x10 a) (fun k => by pointwise [])

/-- The compressed values' block. -/
theorem o12 (a : Fin 512) (j : Fin 128) : out0_12 (F := Ideal) x0 x1 x2 x3 x4 x5 x6 x7 x8 x9 x10 (ix2 a j) = pB x0 x1 x2 a ⟨128 + j.val, by omega⟩ := by
  unfold out0_12
  frame_out
  rw [vc_at, kvc_at]
  exact p_of _ _ _ _ _ _ _ (hB x0 x1 x2 x3 x4 x5 x6 x7 x8 x9 x10 a) (fun k => by pointwise [])

/-- The selected keys' block. -/
theorem o13 (a : Fin 512) (j : Fin 128) : out0_13 (F := Ideal) x0 x1 x2 x3 x4 x5 x6 x7 x8 x9 x10 (ix2 a j) = ropeK (fun i => pB x0 x1 x2 a ⟨256 + i.val, by omega⟩) (fun i => x4 (ix2 a i)) (fun i => x5 (ix2 a i)) j := by
  unfold out0_13
  frame_out
  rw [slc_at]
  refine ropeK_congr (fun i => ?_) (fun i => rfl) (fun i => rfl) rfl
  rw [k128_at]
  exact p_of _ _ _ _ _ _ _ (hB x0 x1 x2 x3 x4 x5 x6 x7 x8 x9 x10 a) (fun k => by pointwise [])

/-- The window keys' block. -/
theorem o14 (a : Fin 512) (j : Fin 128) : out0_14 (F := Ideal) x0 x1 x2 x3 x4 x5 x6 x7 x8 x9 x10 (ix2 a j) = ropeK (fun i => pB x0 x1 x2 a ⟨384 + i.val, by omega⟩) (fun i => x4 (ix2 a i)) (fun i => x5 (ix2 a i)) j := by
  unfold out0_14
  frame_out
  rw [win_at]
  refine ropeK_congr (fun i => ?_) (fun i => rfl) (fun i => rfl) rfl
  rw [k128_at]
  exact p_of _ _ _ _ _ _ _ (hB x0 x1 x2 x3 x4 x5 x6 x7 x8 x9 x10 a) (fun k => by pointwise [])

/-- The attention's keys' block. -/
theorem o15 (a j : Fin 512) : out0_15 (F := Ideal) x0 x1 x2 x3 x4 x5 x6 x7 x8 x9 x10 (ix2 a j)
    = ropeK (fun i => pB x0 x1 x2 a ⟨512 + 128 * (j.val / 128) + i.val, by omega⟩) (fun i => x4 (ix2 a i)) (fun i => x5 (ix2 a i)) ⟨j.val % 128, by omega⟩ := by
  unfold out0_15 k0_pay83
  canon_tiles x h using Gen.cover0_15 ..
  · change a.val = _ at h0
    change j.val = _ at h1
    have ex : x = ix2 (⟨(x 0).val, x0_lt⟩ : Fin 512) (⟨(x 1).val, x1_lt⟩ : Fin 128) := by funext b; fin_cases b <;> rfl
    have j0 : j = ⟨384 + (x 1).val, by omega⟩ := Fin.ext (by show j.val = _; dsimp only; omega)
    have a0 : a = ⟨(x 0).val, x0_lt⟩ := Fin.ext (by show a.val = _; dsimp only; omega)
    rw [ex]
    refine (kb3_at (k0_pay80 (F := Ideal) x0 x1 x2 x3 x4 x5 x6 x7 x8 x9 x10) _ _ _ _ _).trans ?_
    rw [← a0]
    refine ropeK_congr (fun i => ?_) (fun i => by rw [ld4]) (fun i => by rw [ld4]) (Fin.ext (by show (x 1).val = j.val % 128; omega))
    rw [k512_at]
    have J : (⟨512 + 128 * (j.val / 128) + i.val, by omega⟩ : Fin 2048) = ⟨512 + (384 + i.val), by omega⟩ := Fin.ext (by show 512 + 128 * (j.val / 128) + i.val = 512 + (384 + i.val); omega)
    rw [J]
    exact p_of _ _ _ _ _ _ _ (hB x0 x1 x2 x3 x4 x5 x6 x7 x8 x9 x10 a) (fun k => by pointwise [])
  · change a.val = _ at h0
    change j.val = _ at h1
    have ex : x = ix2 (⟨(x 0).val, x0_lt⟩ : Fin 512) (⟨(x 1).val, x1_lt⟩ : Fin 128) := by funext b; fin_cases b <;> rfl
    have j0 : j = ⟨256 + (x 1).val, by omega⟩ := Fin.ext (by show j.val = _; dsimp only; omega)
    have a0 : a = ⟨(x 0).val, x0_lt⟩ := Fin.ext (by show a.val = _; dsimp only; omega)
    rw [ex]
    refine (kb2_at (k0_pay80 (F := Ideal) x0 x1 x2 x3 x4 x5 x6 x7 x8 x9 x10) _ _ _ _ _).trans ?_
    rw [← a0]
    refine ropeK_congr (fun i => ?_) (fun i => by rw [ld4]) (fun i => by rw [ld4]) (Fin.ext (by show (x 1).val = j.val % 128; omega))
    rw [k512_at]
    have J : (⟨512 + 128 * (j.val / 128) + i.val, by omega⟩ : Fin 2048) = ⟨512 + (256 + i.val), by omega⟩ := Fin.ext (by show 512 + 128 * (j.val / 128) + i.val = 512 + (256 + i.val); omega)
    rw [J]
    exact p_of _ _ _ _ _ _ _ (hB x0 x1 x2 x3 x4 x5 x6 x7 x8 x9 x10 a) (fun k => by pointwise [])
  · change a.val = _ at h0
    change j.val = _ at h1
    have ex : x = ix2 (⟨(x 0).val, x0_lt⟩ : Fin 512) (⟨(x 1).val, x1_lt⟩ : Fin 128) := by funext b; fin_cases b <;> rfl
    have j0 : j = ⟨128 + (x 1).val, by omega⟩ := Fin.ext (by show j.val = _; dsimp only; omega)
    have a0 : a = ⟨(x 0).val, x0_lt⟩ := Fin.ext (by show a.val = _; dsimp only; omega)
    rw [ex]
    refine (kb1_at (k0_pay80 (F := Ideal) x0 x1 x2 x3 x4 x5 x6 x7 x8 x9 x10) _ _ _ _ _).trans ?_
    rw [← a0]
    refine ropeK_congr (fun i => ?_) (fun i => by rw [ld4]) (fun i => by rw [ld4]) (Fin.ext (by show (x 1).val = j.val % 128; omega))
    rw [k512_at]
    have J : (⟨512 + 128 * (j.val / 128) + i.val, by omega⟩ : Fin 2048) = ⟨512 + (128 + i.val), by omega⟩ := Fin.ext (by show 512 + 128 * (j.val / 128) + i.val = 512 + (128 + i.val); omega)
    rw [J]
    exact p_of _ _ _ _ _ _ _ (hB x0 x1 x2 x3 x4 x5 x6 x7 x8 x9 x10 a) (fun k => by pointwise [])
  · change a.val = _ at h0
    change j.val = _ at h1
    have ex : x = ix2 (⟨(x 0).val, x0_lt⟩ : Fin 512) (⟨(x 1).val, x1_lt⟩ : Fin 128) := by funext b; fin_cases b <;> rfl
    have j0 : j = ⟨0 + (x 1).val, by omega⟩ := Fin.ext (by show j.val = _; dsimp only; omega)
    have a0 : a = ⟨(x 0).val, x0_lt⟩ := Fin.ext (by show a.val = _; dsimp only; omega)
    rw [ex]
    refine (kb0_at (k0_pay80 (F := Ideal) x0 x1 x2 x3 x4 x5 x6 x7 x8 x9 x10) _ _ _ _ _).trans ?_
    rw [← a0]
    refine ropeK_congr (fun i => ?_) (fun i => by rw [ld4]) (fun i => by rw [ld4]) (Fin.ext (by show (x 1).val = j.val % 128; omega))
    rw [k512_at]
    have J : (⟨512 + 128 * (j.val / 128) + i.val, by omega⟩ : Fin 2048) = ⟨512 + (0 + i.val), by omega⟩ := Fin.ext (by show 512 + 128 * (j.val / 128) + i.val = 512 + (0 + i.val); omega)
    rw [J]
    exact p_of _ _ _ _ _ _ _ (hB x0 x1 x2 x3 x4 x5 x6 x7 x8 x9 x10 a) (fun k => by pointwise [])

/-- The sparse attention's queries' block. -/
theorem o17 (j a : Fin 512) : out0_17 (F := Ideal) x0 x1 x2 x3 x4 x5 x6 x7 x8 x9 x10 (ix2 j a) = tB x0 x1 x3 a ⟨j.val, by omega⟩ * scale := by
  unfold out0_17
  frame_out
  rw [qas_at, qa_at]
  refine congrArg (· * scale) ?_
  exact t_of _ _ _ _ _ _ (hB x0 x1 x2 x3 x4 x5 x6 x7 x8 x9 x10 a) (fun k => by pointwise [])

/-- The sparse attention's queries before their rotary embedding. -/
theorem z84 (j a : Fin 512) : k0_pay84 (F := Ideal) x0 x1 x2 x3 x4 x5 x6 x7 x8 x9 x10 (ix2 j a) = tB x0 x1 x3 a ⟨j.val, by omega⟩ * scale := by
  unfold k0_pay84
  rw [qa_at]
  refine congrArg (· * scale) ?_
  exact t_of _ _ _ _ _ _ (hB x0 x1 x2 x3 x4 x5 x6 x7 x8 x9 x10 a) (fun k => by pointwise [])

/-- The differential attention's queries before their rotary embedding. -/
theorem z85 (j a : Fin 512) : k0_pay85 (F := Ideal) x0 x1 x2 x3 x4 x5 x6 x7 x8 x9 x10 (ix2 j a) = tB x0 x1 x3 a ⟨800 + j.val, by omega⟩ * scale := by
  unfold k0_pay85
  rw [qb_at]
  refine congrArg (· * scale) ?_
  exact t_of _ _ _ _ _ _ (hB x0 x1 x2 x3 x4 x5 x6 x7 x8 x9 x10 a) (fun k => by pointwise [])

/-- The sparse attention's rotated queries' block. -/
theorem o18 (j a : Fin 512) : out0_18 (F := Ideal) x0 x1 x2 x3 x4 x5 x6 x7 x8 x9 x10 (ix2 j a)
    = ropeQ (fun i => tB x0 x1 x3 a ⟨64 * (j.val / 64) + i.val, by omega⟩ * scale) (fun i => x6 (ix2 i a)) (fun i => x7 (ix2 i a)) ⟨j.val % 64, by omega⟩ := by
  refine Eq.trans (b := rotQ (k0_pay84 (F := Ideal) x0 x1 x2 x3 x4 x5 x6 x7 x8 x9 x10) (View.ld x6 r0_3) (View.ld x7 r0_3) j a) ?_ ?_
  · unfold out0_18
    canon_tiles x h using Gen.cover0_18 ..
    · change j.val = _ at h0
      change a.val = _ at h1
      have ex : x = ix2 (⟨(x 0).val, x0_lt⟩ : Fin 64) (⟨(x 1).val, x1_lt⟩ : Fin 512) := by funext b; fin_cases b <;> rfl
      have j0 : j = ⟨448 + (x 0).val, by omega⟩ := Fin.ext (by show j.val = _; dsimp only; omega)
      have a0 : a = ⟨(x 1).val, x1_lt⟩ := Fin.ext (by show a.val = _; dsimp only; omega)
      rw [ex, j0, a0]
      exact qa7_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨384 + (x 0).val, by omega⟩ := Fin.ext (by show j.val = _; dsimp only; omega)
      have a0 : a = ⟨(x 1).val, x1_lt⟩ := Fin.ext (by show a.val = _; dsimp only; omega)
      rw [ex, j0, a0]
      exact qa6_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨320 + (x 0).val, by omega⟩ := Fin.ext (by show j.val = _; dsimp only; omega)
      have a0 : a = ⟨(x 1).val, x1_lt⟩ := Fin.ext (by show a.val = _; dsimp only; omega)
      rw [ex, j0, a0]
      exact qa5_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨256 + (x 0).val, by omega⟩ := Fin.ext (by show j.val = _; dsimp only; omega)
      have a0 : a = ⟨(x 1).val, x1_lt⟩ := Fin.ext (by show a.val = _; dsimp only; omega)
      rw [ex, j0, a0]
      exact qa4_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨192 + (x 0).val, by omega⟩ := Fin.ext (by show j.val = _; dsimp only; omega)
      have a0 : a = ⟨(x 1).val, x1_lt⟩ := Fin.ext (by show a.val = _; dsimp only; omega)
      rw [ex, j0, a0]
      exact qa3_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨128 + (x 0).val, by omega⟩ := Fin.ext (by show j.val = _; dsimp only; omega)
      have a0 : a = ⟨(x 1).val, x1_lt⟩ := Fin.ext (by show a.val = _; dsimp only; omega)
      rw [ex, j0, a0]
      exact qa2_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨64 + (x 0).val, by omega⟩ := Fin.ext (by show j.val = _; dsimp only; omega)
      have a0 : a = ⟨(x 1).val, x1_lt⟩ := Fin.ext (by show a.val = _; dsimp only; omega)
      rw [ex, j0, a0]
      exact qa1_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨0 + (x 0).val, by omega⟩ := Fin.ext (by show j.val = _; dsimp only; omega)
      have a0 : a = ⟨(x 1).val, x1_lt⟩ := Fin.ext (by show a.val = _; dsimp only; omega)
      rw [ex, j0, a0]
      exact qa0_at _ _ _ _ _
  · unfold rotQ
    rw [ld6, ld6]
    exact ropeQ_congr _ (fun i => z84 x0 x1 x2 x3 x4 x5 x6 x7 x8 x9 x10 _ a) (fun i => rfl) (fun i => rfl)

/-- The differential attention's rotated queries' block. -/
theorem o22 (j a : Fin 512) : out0_22 (F := Ideal) x0 x1 x2 x3 x4 x5 x6 x7 x8 x9 x10 (ix2 j a)
    = ropeQ (fun i => tB x0 x1 x3 a ⟨800 + (64 * (j.val / 64) + i.val), by omega⟩ * scale) (fun i => x6 (ix2 i a)) (fun i => x7 (ix2 i a)) ⟨j.val % 64, by omega⟩ := by
  refine Eq.trans (b := rotQ (k0_pay85 (F := Ideal) x0 x1 x2 x3 x4 x5 x6 x7 x8 x9 x10) (View.ld x6 r0_3) (View.ld x7 r0_3) j a) ?_ ?_
  · unfold out0_22
    canon_tiles x h using Gen.cover0_22 ..
    · change j.val = _ at h0
      change a.val = _ at h1
      have ex : x = ix2 (⟨(x 0).val, x0_lt⟩ : Fin 64) (⟨(x 1).val, x1_lt⟩ : Fin 512) := by funext b; fin_cases b <;> rfl
      have j0 : j = ⟨448 + (x 0).val, by omega⟩ := Fin.ext (by show j.val = _; dsimp only; omega)
      have a0 : a = ⟨(x 1).val, x1_lt⟩ := Fin.ext (by show a.val = _; dsimp only; omega)
      rw [ex, j0, a0]
      exact qb7_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨384 + (x 0).val, by omega⟩ := Fin.ext (by show j.val = _; dsimp only; omega)
      have a0 : a = ⟨(x 1).val, x1_lt⟩ := Fin.ext (by show a.val = _; dsimp only; omega)
      rw [ex, j0, a0]
      exact qb6_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨320 + (x 0).val, by omega⟩ := Fin.ext (by show j.val = _; dsimp only; omega)
      have a0 : a = ⟨(x 1).val, x1_lt⟩ := Fin.ext (by show a.val = _; dsimp only; omega)
      rw [ex, j0, a0]
      exact qb5_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨256 + (x 0).val, by omega⟩ := Fin.ext (by show j.val = _; dsimp only; omega)
      have a0 : a = ⟨(x 1).val, x1_lt⟩ := Fin.ext (by show a.val = _; dsimp only; omega)
      rw [ex, j0, a0]
      exact qb4_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨192 + (x 0).val, by omega⟩ := Fin.ext (by show j.val = _; dsimp only; omega)
      have a0 : a = ⟨(x 1).val, x1_lt⟩ := Fin.ext (by show a.val = _; dsimp only; omega)
      rw [ex, j0, a0]
      exact qb3_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨128 + (x 0).val, by omega⟩ := Fin.ext (by show j.val = _; dsimp only; omega)
      have a0 : a = ⟨(x 1).val, x1_lt⟩ := Fin.ext (by show a.val = _; dsimp only; omega)
      rw [ex, j0, a0]
      exact qb2_at _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨64 + (x 0).val, by omega⟩ := Fin.ext (by show j.val = _; dsimp only; omega)
      have a0 : a = ⟨(x 1).val, x1_lt⟩ := Fin.ext (by show a.val = _; dsimp only; omega)
      rw [ex, j0, a0]
      exact qb1_at _ _ _ _ _ _
    · change j.val = _ at h0
      change a.val = _ at h1
      have ex : x = ix2 (⟨(x 0).val, x0_lt⟩ : Fin 64) (⟨(x 1).val, x1_lt⟩ : Fin 512) := by funext b; fin_cases b <;> rfl
      have j0 : j = ⟨0 + (x 0).val, by omega⟩ := Fin.ext (by show j.val = _; dsimp only; omega)
      have a0 : a = ⟨(x 1).val, x1_lt⟩ := Fin.ext (by show a.val = _; dsimp only; omega)
      rw [ex, j0, a0]
      exact qb0_at _ _ _ _ _ _
  · unfold rotQ
    rw [ld6, ld6]
    exact ropeQ_congr _ (fun i => z85 x0 x1 x2 x3 x4 x5 x6 x7 x8 x9 x10 _ a) (fun i => rfl) (fun i => rfl)

/-- The selected values' block. -/
theorem o19 (c : Fin 4) (j : Fin 128) (l : Fin 128) : out0_19 (F := Ideal) x0 x1 x2 x3 x4 x5 x6 x7 x8 x9 x10 (ix3 c j l)
    = tB x0 x1 x3 ⟨128 * c.val + l.val, by omega⟩ ⟨512 + j.val, by omega⟩ := by
  refine Eq.trans (b := k0_pay35 (F := Ideal) (k0_pay80 (F := Ideal) x0 x1 x2 x3 x4 x5 x6 x7 x8 x9 x10) (View.ld x3 r0_24) (ix2 j (⟨128 * c.val + l.val, by omega⟩ : Fin 512))) ?_ ?_
  · unfold out0_19
    canon_tiles x h using Gen.cover0_19 ..
    · change c.val = _ at h0
      change j.val = _ at h1
      change l.val = _ at h2
      have ex : x = ix3 (⟨(x 0).val, x0_lt⟩ : Fin 1) (⟨(x 1).val, x1_lt⟩ : Fin 128) (⟨(x 2).val, x2_lt⟩ : Fin 128) := by funext b; fin_cases b <;> rfl
      have c0 : (⟨128 * c.val + l.val, by omega⟩ : Fin 512) = ⟨384 + (x 2).val, by omega⟩ := Fin.ext (by show 128 * c.val + l.val = 384 + (x 2).val; omega)
      have j0 : j = ⟨(x 1).val, x1_lt⟩ := Fin.ext (by show j.val = _; dsimp only; omega)
      rw [ex, c0, j0]
      exact vs3_at _ _ _ _
    · change c.val = _ at h0
      change j.val = _ at h1
      change l.val = _ at h2
      have ex : x = ix3 (⟨(x 0).val, x0_lt⟩ : Fin 1) (⟨(x 1).val, x1_lt⟩ : Fin 128) (⟨(x 2).val, x2_lt⟩ : Fin 128) := by funext b; fin_cases b <;> rfl
      have c0 : (⟨128 * c.val + l.val, by omega⟩ : Fin 512) = ⟨256 + (x 2).val, by omega⟩ := Fin.ext (by show 128 * c.val + l.val = 256 + (x 2).val; omega)
      have j0 : j = ⟨(x 1).val, x1_lt⟩ := Fin.ext (by show j.val = _; dsimp only; omega)
      rw [ex, c0, j0]
      exact vs2_at _ _ _ _ _
    · change c.val = _ at h0
      change j.val = _ at h1
      change l.val = _ at h2
      have ex : x = ix3 (⟨(x 0).val, x0_lt⟩ : Fin 1) (⟨(x 1).val, x1_lt⟩ : Fin 128) (⟨(x 2).val, x2_lt⟩ : Fin 128) := by funext b; fin_cases b <;> rfl
      have c0 : (⟨128 * c.val + l.val, by omega⟩ : Fin 512) = ⟨128 + (x 2).val, by omega⟩ := Fin.ext (by show 128 * c.val + l.val = 128 + (x 2).val; omega)
      have j0 : j = ⟨(x 1).val, x1_lt⟩ := Fin.ext (by show j.val = _; dsimp only; omega)
      rw [ex, c0, j0]
      exact vs1_at _ _ _ _ _
    · change c.val = _ at h0
      change j.val = _ at h1
      change l.val = _ at h2
      have ex : x = ix3 (⟨(x 0).val, x0_lt⟩ : Fin 1) (⟨(x 1).val, x1_lt⟩ : Fin 128) (⟨(x 2).val, x2_lt⟩ : Fin 128) := by funext b; fin_cases b <;> rfl
      have c0 : (⟨128 * c.val + l.val, by omega⟩ : Fin 512) = ⟨0 + (x 2).val, by omega⟩ := Fin.ext (by show 128 * c.val + l.val = 0 + (x 2).val; omega)
      have j0 : j = ⟨(x 1).val, x1_lt⟩ := Fin.ext (by show j.val = _; dsimp only; omega)
      rw [ex, c0, j0]
      exact vs0_at _ _ _ _ _
  · rw [vs_at]
    exact t_of _ _ _ _ _ _ (hB x0 x1 x2 x3 x4 x5 x6 x7 x8 x9 x10 _) (fun k => by pointwise [])

/-- The window values' block. -/
theorem o20 (c : Fin 4) (j : Fin 128) (l : Fin 128) : out0_20 (F := Ideal) x0 x1 x2 x3 x4 x5 x6 x7 x8 x9 x10 (ix3 c j l)
    = tB x0 x1 x3 ⟨128 * c.val + l.val, by omega⟩ ⟨640 + j.val, by omega⟩ := by
  refine Eq.trans (b := k0_pay36 (F := Ideal) (k0_pay80 (F := Ideal) x0 x1 x2 x3 x4 x5 x6 x7 x8 x9 x10) (View.ld x3 r0_25) (ix2 j (⟨128 * c.val + l.val, by omega⟩ : Fin 512))) ?_ ?_
  · unfold out0_20
    canon_tiles x h using Gen.cover0_20 ..
    · change c.val = _ at h0
      change j.val = _ at h1
      change l.val = _ at h2
      have ex : x = ix3 (⟨(x 0).val, x0_lt⟩ : Fin 1) (⟨(x 1).val, x1_lt⟩ : Fin 128) (⟨(x 2).val, x2_lt⟩ : Fin 128) := by funext b; fin_cases b <;> rfl
      have c0 : (⟨128 * c.val + l.val, by omega⟩ : Fin 512) = ⟨384 + (x 2).val, by omega⟩ := Fin.ext (by show 128 * c.val + l.val = 384 + (x 2).val; omega)
      have j0 : j = ⟨(x 1).val, x1_lt⟩ := Fin.ext (by show j.val = _; dsimp only; omega)
      rw [ex, c0, j0]
      exact vw3_at _ _ _ _
    · change c.val = _ at h0
      change j.val = _ at h1
      change l.val = _ at h2
      have ex : x = ix3 (⟨(x 0).val, x0_lt⟩ : Fin 1) (⟨(x 1).val, x1_lt⟩ : Fin 128) (⟨(x 2).val, x2_lt⟩ : Fin 128) := by funext b; fin_cases b <;> rfl
      have c0 : (⟨128 * c.val + l.val, by omega⟩ : Fin 512) = ⟨256 + (x 2).val, by omega⟩ := Fin.ext (by show 128 * c.val + l.val = 256 + (x 2).val; omega)
      have j0 : j = ⟨(x 1).val, x1_lt⟩ := Fin.ext (by show j.val = _; dsimp only; omega)
      rw [ex, c0, j0]
      exact vw2_at _ _ _ _ _
    · change c.val = _ at h0
      change j.val = _ at h1
      change l.val = _ at h2
      have ex : x = ix3 (⟨(x 0).val, x0_lt⟩ : Fin 1) (⟨(x 1).val, x1_lt⟩ : Fin 128) (⟨(x 2).val, x2_lt⟩ : Fin 128) := by funext b; fin_cases b <;> rfl
      have c0 : (⟨128 * c.val + l.val, by omega⟩ : Fin 512) = ⟨128 + (x 2).val, by omega⟩ := Fin.ext (by show 128 * c.val + l.val = 128 + (x 2).val; omega)
      have j0 : j = ⟨(x 1).val, x1_lt⟩ := Fin.ext (by show j.val = _; dsimp only; omega)
      rw [ex, c0, j0]
      exact vw1_at _ _ _ _ _
    · change c.val = _ at h0
      change j.val = _ at h1
      change l.val = _ at h2
      have ex : x = ix3 (⟨(x 0).val, x0_lt⟩ : Fin 1) (⟨(x 1).val, x1_lt⟩ : Fin 128) (⟨(x 2).val, x2_lt⟩ : Fin 128) := by funext b; fin_cases b <;> rfl
      have c0 : (⟨128 * c.val + l.val, by omega⟩ : Fin 512) = ⟨0 + (x 2).val, by omega⟩ := Fin.ext (by show 128 * c.val + l.val = 0 + (x 2).val; omega)
      have j0 : j = ⟨(x 1).val, x1_lt⟩ := Fin.ext (by show j.val = _; dsimp only; omega)
      rw [ex, c0, j0]
      exact vw0_at _ _ _ _ _
  · rw [vw_at]
    exact t_of _ _ _ _ _ _ (hB x0 x1 x2 x3 x4 x5 x6 x7 x8 x9 x10 _) (fun k => by pointwise [])

/-- The gates' block. -/
theorem o21 (j : Fin 32) (a : Fin 512) : out0_21 (F := Ideal) x0 x1 x2 x3 x4 x5 x6 x7 x8 x9 x10 (ix2 j a) = Ideal.logistic (tB x0 x1 x3 a ⟨768 + j.val, by omega⟩) := by
  unfold out0_21
  frame_out
  rw [gt_at]
  refine congrArg Ideal.logistic ?_
  exact t_of _ _ _ _ _ _ (hB x0 x1 x2 x3 x4 x5 x6 x7 x8 x9 x10 a) (fun k => by pointwise [])

/-- The differential attention's values' block. -/
theorem o23 (c : Fin 4) (j : Fin 512) (l : Fin 128) : out0_23 (F := Ideal) x0 x1 x2 x3 x4 x5 x6 x7 x8 x9 x10 (ix3 c j l)
    = tB x0 x1 x3 ⟨128 * c.val + l.val, by omega⟩ ⟨1312 + j.val, by omega⟩ := by
  refine Eq.trans (b := k0_pay57 (F := Ideal) (k0_pay80 (F := Ideal) x0 x1 x2 x3 x4 x5 x6 x7 x8 x9 x10) (View.ld x3 r0_32) (ix2 j (⟨128 * c.val + l.val, by omega⟩ : Fin 512))) ?_ ?_
  · unfold out0_23
    canon_tiles x h using Gen.cover0_23 ..
    · change c.val = _ at h0
      change j.val = _ at h1
      change l.val = _ at h2
      have ex : x = ix3 (⟨(x 0).val, x0_lt⟩ : Fin 1) (⟨(x 1).val, x1_lt⟩ : Fin 512) (⟨(x 2).val, x2_lt⟩ : Fin 128) := by funext b; fin_cases b <;> rfl
      have c0 : (⟨128 * c.val + l.val, by omega⟩ : Fin 512) = ⟨384 + (x 2).val, by omega⟩ := Fin.ext (by show 128 * c.val + l.val = 384 + (x 2).val; omega)
      have j0 : j = ⟨(x 1).val, x1_lt⟩ := Fin.ext (by show j.val = _; dsimp only; omega)
      rw [ex, c0, j0]
      exact vb3_at _ _ _ _
    · change c.val = _ at h0
      change j.val = _ at h1
      change l.val = _ at h2
      have ex : x = ix3 (⟨(x 0).val, x0_lt⟩ : Fin 1) (⟨(x 1).val, x1_lt⟩ : Fin 512) (⟨(x 2).val, x2_lt⟩ : Fin 128) := by funext b; fin_cases b <;> rfl
      have c0 : (⟨128 * c.val + l.val, by omega⟩ : Fin 512) = ⟨256 + (x 2).val, by omega⟩ := Fin.ext (by show 128 * c.val + l.val = 256 + (x 2).val; omega)
      have j0 : j = ⟨(x 1).val, x1_lt⟩ := Fin.ext (by show j.val = _; dsimp only; omega)
      rw [ex, c0, j0]
      exact vb2_at _ _ _ _ _
    · change c.val = _ at h0
      change j.val = _ at h1
      change l.val = _ at h2
      have ex : x = ix3 (⟨(x 0).val, x0_lt⟩ : Fin 1) (⟨(x 1).val, x1_lt⟩ : Fin 512) (⟨(x 2).val, x2_lt⟩ : Fin 128) := by funext b; fin_cases b <;> rfl
      have c0 : (⟨128 * c.val + l.val, by omega⟩ : Fin 512) = ⟨128 + (x 2).val, by omega⟩ := Fin.ext (by show 128 * c.val + l.val = 128 + (x 2).val; omega)
      have j0 : j = ⟨(x 1).val, x1_lt⟩ := Fin.ext (by show j.val = _; dsimp only; omega)
      rw [ex, c0, j0]
      exact vb1_at _ _ _ _ _
    · change c.val = _ at h0
      change j.val = _ at h1
      change l.val = _ at h2
      have ex : x = ix3 (⟨(x 0).val, x0_lt⟩ : Fin 1) (⟨(x 1).val, x1_lt⟩ : Fin 512) (⟨(x 2).val, x2_lt⟩ : Fin 128) := by funext b; fin_cases b <;> rfl
      have c0 : (⟨128 * c.val + l.val, by omega⟩ : Fin 512) = ⟨0 + (x 2).val, by omega⟩ := Fin.ext (by show 128 * c.val + l.val = 0 + (x 2).val; omega)
      have j0 : j = ⟨(x 1).val, x1_lt⟩ := Fin.ext (by show j.val = _; dsimp only; omega)
      rw [ex, c0, j0]
      exact vb0_at _ _ _ _ _
  · rw [vb_at]
    exact t_of _ _ _ _ _ _ (hB x0 x1 x2 x3 x4 x5 x6 x7 x8 x9 x10 _) (fun k => by pointwise [])

/-- The gating unit's first half. -/
theorem uB (a j : Fin 512) : k0_pay81 (F := Ideal) x0 x1 x2 x3 x4 x5 x6 x7 x8 x9 x10 (ix2 a j)
    = unit (fun k => x0 (ix2 a k)) (fun k => x1 (ix2 (0 : Fin 1) k)) (fun k f => x2 (ix2 k f)) ⟨j.val, by omega⟩ := by
  unfold k0_pay81
  rw [first_at, unit_at, ld0, ld1]
  refine congrArg gelu ?_
  exact p_of _ _ _ _ _ _ _ (h_at x0 x1 a) (fun k => by pointwise [])

/-- The gating unit's second half, normed. -/
theorem vB (a j : Fin 512) : k0_pay82 (F := Ideal) x0 x1 x2 x3 x4 x5 x6 x7 x8 x9 x10 (ix2 a j)
    = vRow (fun k => x0 (ix2 a k)) (fun k => x1 (ix2 (0 : Fin 1) k)) (fun k f => x2 (ix2 k f)) (fun k => x8 (ix2 (0 : Fin 1) k)) j := by
  unfold k0_pay82
  rw [vn_at, ld8, ld0, ld1]
  refine congrArg (fun y => norm512 y (fun k => x8 (ix2 (0 : Fin 1) k)) j) (funext fun i => ?_)
  rw [second_at, unit_at]
  refine congrArg gelu ?_
  exact p_of _ _ _ _ _ _ _ (h_at x0 x1 a) (fun k => by pointwise [])

/-- The gating of a block's chunk, at one entry. -/
def gB (a j : Fin 512) : EReal :=
  gating (fun s k => x0 (ix2 (⟨128 * (a.val / 128) + s.val, by omega⟩ : Fin 512) k)) (fun k => x1 (ix2 (0 : Fin 1) k)) (fun k f => x2 (ix2 k f)) (fun k => x8 (ix2 (0 : Fin 1) k))
    (fun g t s => x9 (ix3 g t s)) (fun t j => x10 (ix2 t j)) ⟨a.val % 128, by omega⟩ j

/-- The gating from its products: the token `a` is the `t`-th of chunk `ci`, the channel `j` is in group `gi`. -/
theorem gate_of (a j : Fin 512) (w : Fin 128 → EReal) (b : EReal) (ci gi : ℕ) (row : Fin 128 → Fin 512)
    (ha : a.val / 128 = ci) (hj : j.val / 128 = gi) (hrow : ∀ s, (row s).val = 128 * ci + s.val)
    (hw : ∀ s, w s = x9 (ix3 (⟨j.val / 128, by omega⟩ : Fin 4) (⟨a.val % 128, by omega⟩ : Fin 128) s)) (hb : b = x10 (ix2 (⟨a.val % 128, by omega⟩ : Fin 128) j)) :
    k0_pay81 (F := Ideal) x0 x1 x2 x3 x4 x5 x6 x7 x8 x9 x10 (ix2 a j) * (∑ s : Fin 128, w s * k0_pay82 (F := Ideal) x0 x1 x2 x3 x4 x5 x6 x7 x8 x9 x10 (ix2 (row s) j) + b) = gB x0 x1 x2 x8 x9 x10 a j := by
  have er : ∀ s, row s = ⟨128 * (a.val / 128) + s.val, by omega⟩ := fun s => Fin.ext (by subst ha; exact hrow s)
  have ea : a = ⟨128 * (a.val / 128) + a.val % 128, by omega⟩ := Fin.ext (by show a.val = 128 * (a.val / 128) + a.val % 128; omega)
  unfold gB gating
  rw [uB, hb]
  simp only [vB, er, hw]
  rw [← ea]

/-- The gating unit's block. -/
theorem o16 (a j : Fin 512) : out0_16 (F := Ideal) x0 x1 x2 x3 x4 x5 x6 x7 x8 x9 x10 (ix2 a j) = gB x0 x1 x2 x8 x9 x10 a j := by
  unfold out0_16
  canon_tiles x h using Gen.cover0_16 ..
  · change a.val = _ at h0
    change j.val = _ at h1
    have ex : x = ix2 (⟨(x 0).val, x0_lt⟩ : Fin 128) (⟨(x 1).val, x1_lt⟩ : Fin 128) := by funext b; fin_cases b <;> rfl
    have a0 : a = ⟨384 + (x 0).val, by omega⟩ := Fin.ext (by show a.val = _; dsimp only; omega)
    have j0 : j = ⟨384 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 3 := Fin.ext (by show j.val / 128 = 3; omega)
    rw [ex]
    refine (oc15_at _ _ _ _ _ _).trans ?_
    rw [← a0, ← j0]
    refine gate_of x0 x1 x2 x3 x4 x5 x6 x7 x8 x9 x10 a j _ _ 3 3 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨384 + (x 0).val, by omega⟩ := Fin.ext (by show a.val = _; dsimp only; omega)
    have j0 : j = ⟨256 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 2 := Fin.ext (by show j.val / 128 = 2; omega)
    rw [ex]
    refine (oc14_at _ _ _ _ _ _).trans ?_
    rw [← a0, ← j0]
    refine gate_of x0 x1 x2 x3 x4 x5 x6 x7 x8 x9 x10 a j _ _ 3 2 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨384 + (x 0).val, by omega⟩ := Fin.ext (by show a.val = _; dsimp only; omega)
    have j0 : j = ⟨128 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 1 := Fin.ext (by show j.val / 128 = 1; omega)
    rw [ex]
    refine (oc13_at _ _ _ _ _ _).trans ?_
    rw [← a0, ← j0]
    refine gate_of x0 x1 x2 x3 x4 x5 x6 x7 x8 x9 x10 a j _ _ 3 1 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨384 + (x 0).val, by omega⟩ := Fin.ext (by show a.val = _; dsimp only; omega)
    have j0 : j = ⟨0 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 0 := Fin.ext (by show j.val / 128 = 0; omega)
    rw [ex]
    refine (oc12_at _ _ _ _ _ _).trans ?_
    rw [← a0, ← j0]
    refine gate_of x0 x1 x2 x3 x4 x5 x6 x7 x8 x9 x10 a j _ _ 3 0 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨256 + (x 0).val, by omega⟩ := Fin.ext (by show a.val = _; dsimp only; omega)
    have j0 : j = ⟨384 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 3 := Fin.ext (by show j.val / 128 = 3; omega)
    rw [ex]
    refine (oc11_at _ _ _ _ _ _).trans ?_
    rw [← a0, ← j0]
    refine gate_of x0 x1 x2 x3 x4 x5 x6 x7 x8 x9 x10 a j _ _ 2 3 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨256 + (x 0).val, by omega⟩ := Fin.ext (by show a.val = _; dsimp only; omega)
    have j0 : j = ⟨256 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 2 := Fin.ext (by show j.val / 128 = 2; omega)
    rw [ex]
    refine (oc10_at _ _ _ _ _ _).trans ?_
    rw [← a0, ← j0]
    refine gate_of x0 x1 x2 x3 x4 x5 x6 x7 x8 x9 x10 a j _ _ 2 2 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨256 + (x 0).val, by omega⟩ := Fin.ext (by show a.val = _; dsimp only; omega)
    have j0 : j = ⟨128 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 1 := Fin.ext (by show j.val / 128 = 1; omega)
    rw [ex]
    refine (oc9_at _ _ _ _ _ _).trans ?_
    rw [← a0, ← j0]
    refine gate_of x0 x1 x2 x3 x4 x5 x6 x7 x8 x9 x10 a j _ _ 2 1 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨256 + (x 0).val, by omega⟩ := Fin.ext (by show a.val = _; dsimp only; omega)
    have j0 : j = ⟨0 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 0 := Fin.ext (by show j.val / 128 = 0; omega)
    rw [ex]
    refine (oc8_at _ _ _ _ _ _).trans ?_
    rw [← a0, ← j0]
    refine gate_of x0 x1 x2 x3 x4 x5 x6 x7 x8 x9 x10 a j _ _ 2 0 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨128 + (x 0).val, by omega⟩ := Fin.ext (by show a.val = _; dsimp only; omega)
    have j0 : j = ⟨384 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 3 := Fin.ext (by show j.val / 128 = 3; omega)
    rw [ex]
    refine (oc7_at _ _ _ _ _ _).trans ?_
    rw [← a0, ← j0]
    refine gate_of x0 x1 x2 x3 x4 x5 x6 x7 x8 x9 x10 a j _ _ 1 3 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨128 + (x 0).val, by omega⟩ := Fin.ext (by show a.val = _; dsimp only; omega)
    have j0 : j = ⟨256 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 2 := Fin.ext (by show j.val / 128 = 2; omega)
    rw [ex]
    refine (oc6_at _ _ _ _ _ _).trans ?_
    rw [← a0, ← j0]
    refine gate_of x0 x1 x2 x3 x4 x5 x6 x7 x8 x9 x10 a j _ _ 1 2 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨128 + (x 0).val, by omega⟩ := Fin.ext (by show a.val = _; dsimp only; omega)
    have j0 : j = ⟨128 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 1 := Fin.ext (by show j.val / 128 = 1; omega)
    rw [ex]
    refine (oc5_at _ _ _ _ _ _).trans ?_
    rw [← a0, ← j0]
    refine gate_of x0 x1 x2 x3 x4 x5 x6 x7 x8 x9 x10 a j _ _ 1 1 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨128 + (x 0).val, by omega⟩ := Fin.ext (by show a.val = _; dsimp only; omega)
    have j0 : j = ⟨0 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 0 := Fin.ext (by show j.val / 128 = 0; omega)
    rw [ex]
    refine (oc4_at _ _ _ _ _ _).trans ?_
    rw [← a0, ← j0]
    refine gate_of x0 x1 x2 x3 x4 x5 x6 x7 x8 x9 x10 a j _ _ 1 0 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨0 + (x 0).val, by omega⟩ := Fin.ext (by show a.val = _; dsimp only; omega)
    have j0 : j = ⟨384 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 3 := Fin.ext (by show j.val / 128 = 3; omega)
    rw [ex]
    refine (oc3_at _ _ _ _ _ _).trans ?_
    rw [← a0, ← j0]
    refine gate_of x0 x1 x2 x3 x4 x5 x6 x7 x8 x9 x10 a j _ _ 0 3 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨0 + (x 0).val, by omega⟩ := Fin.ext (by show a.val = _; dsimp only; omega)
    have j0 : j = ⟨256 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 2 := Fin.ext (by show j.val / 128 = 2; omega)
    rw [ex]
    refine (oc2_at _ _ _ _ _ _).trans ?_
    rw [← a0, ← j0]
    refine gate_of x0 x1 x2 x3 x4 x5 x6 x7 x8 x9 x10 a j _ _ 0 2 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨0 + (x 0).val, by omega⟩ := Fin.ext (by show a.val = _; dsimp only; omega)
    have j0 : j = ⟨128 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 1 := Fin.ext (by show j.val / 128 = 1; omega)
    rw [ex]
    refine (oc1_at _ _ _ _ _ _).trans ?_
    rw [← a0, ← j0]
    refine gate_of x0 x1 x2 x3 x4 x5 x6 x7 x8 x9 x10 a j _ _ 0 1 _ (by omega) (by omega) (fun s => rfl) (fun s => ?_) ?_
    · rw [at0, jg0]
      pointwise []
    · rw [at0, j0]
      pointwise []
  · change a.val = _ at h0
    change j.val = _ at h1
    have ex : x = ix2 (⟨(x 0).val, x0_lt⟩ : Fin 128) (⟨(x 1).val, x1_lt⟩ : Fin 128) := by funext b; fin_cases b <;> rfl
    have a0 : a = ⟨0 + (x 0).val, by omega⟩ := Fin.ext (by show a.val = _; dsimp only; omega)
    have j0 : j = ⟨0 + (x 1).val, by omega⟩ := Fin.ext (by show j.val = _; dsimp only; omega)
    have at0 : (⟨a.val % 128, by omega⟩ : Fin 128) = ⟨(x 0).val, x0_lt⟩ := Fin.ext (by show a.val % 128 = (x 0).val; omega)
    have jg0 : (⟨j.val / 128, by omega⟩ : Fin 4) = 0 := Fin.ext (by show j.val / 128 = 0; omega)
    rw [ex]
    refine (oc0_at _ _ _ _ _ _).trans ?_
    rw [← a0, ← j0]
    refine gate_of x0 x1 x2 x3 x4 x5 x6 x7 x8 x9 x10 a j _ _ 0 0 _ (by omega) (by omega) (fun s => rfl) (fun s => ?_) ?_
    · rw [at0, jg0]
      pointwise []
    · rw [at0, j0]
      pointwise []

end Cert.Kernel4Ideal.Proj

end
-- ==== Proof.ProjSpec.lean ====
/- The thirteen results of the input projection, entry by entry, over the extended reals. -/
module

public import proofs.«01_k».proof.Proof.Proj

@[expose] public section

noncomputable section

namespace Cert.Proj

open Idealize.ShloMosaic Cert.Rows

variable (X : Fin 32768 → Fin 1024 → EReal) (g : Fin 1024 → EReal) (wp : Fin 1024 → Fin 2048 → EReal) (wt : Fin 1824 → Fin 1024 → EReal)
  (co si : Fin 32768 → Fin 128 → EReal) (ct st : Fin 32 → Fin 32768 → EReal) (sg : Fin 512 → EReal) (w : Fin 4 → Fin 128 → Fin 128 → EReal) (b : Fin 128 → Fin 512 → EReal)

/-- The compressed branch's keys. -/
def R11 (a : Fin 32768) (j : Fin 128) : EReal := pAt (X a) g wp ⟨j.val, by omega⟩

/-- The compressed branch's values. -/
def R12 (a : Fin 32768) (j : Fin 128) : EReal := pAt (X a) g wp ⟨128 + j.val, by omega⟩

/-- The selected branch's keys. -/
def R13 (a : Fin 32768) (j : Fin 128) : EReal := ropeK (fun i => pAt (X a) g wp ⟨256 + i.val, by omega⟩) (fun i => co a i) (fun i => si a i) j

/-- The window branch's keys. -/
def R14 (a : Fin 32768) (j : Fin 128) : EReal := ropeK (fun i => pAt (X a) g wp ⟨384 + i.val, by omega⟩) (fun i => co a i) (fun i => si a i) j

/-- The differential attention's keys. -/
def R15 (a : Fin 32768) (j : Fin 512) : EReal :=
  ropeK (fun i => pAt (X a) g wp ⟨512 + 128 * (j.val / 128) + i.val, by omega⟩) (fun i => co a i) (fun i => si a i) ⟨j.val % 128, by omega⟩

/-- The gating unit's result. -/
def R16 (a : Fin 32768) (j : Fin 512) : EReal :=
  gating (fun s k => X ⟨128 * (a.val / 128) + s.val, by omega⟩ k) g wp sg w b ⟨a.val % 128, by omega⟩ j

/-- The sparse attention's queries. -/
def R17 (j : Fin 512) (a : Fin 32768) : EReal := tAt (X a) g wt ⟨j.val, by omega⟩ * scale

/-- The sparse attention's queries with their rotary embedding. -/
def R18 (j : Fin 512) (a : Fin 32768) : EReal :=
  ropeQ (fun i => tAt (X a) g wt ⟨64 * (j.val / 64) + i.val, by omega⟩ * scale) (fun i => ct i a) (fun i => st i a) ⟨j.val % 64, by omega⟩

/-- The selected branch's values, in chunks of 128 tokens. -/
def R19 (n : Fin 256) (j l : Fin 128) : EReal := tAt (X ⟨128 * n.val + l.val, by omega⟩) g wt ⟨512 + j.val, by omega⟩

/-- The window branch's values, in chunks of 128 tokens. -/
def R20 (n : Fin 256) (j l : Fin 128) : EReal := tAt (X ⟨128 * n.val + l.val, by omega⟩) g wt ⟨640 + j.val, by omega⟩

/-- The sparse attention's gates. -/
def R21 (j : Fin 32) (a : Fin 32768) : EReal := Ideal.logistic (tAt (X a) g wt ⟨768 + j.val, by omega⟩)

/-- The differential attention's queries with their rotary embedding. -/
def R22 (j : Fin 512) (a : Fin 32768) : EReal :=
  ropeQ (fun i => tAt (X a) g wt ⟨800 + (64 * (j.val / 64) + i.val), by omega⟩ * scale) (fun i => ct i a) (fun i => st i a) ⟨j.val % 64, by omega⟩

/-- The differential attention's values, in chunks of 128 tokens. -/
def R23 (n : Fin 256) (j : Fin 512) (l : Fin 128) : EReal := tAt (X ⟨128 * n.val + l.val, by omega⟩) g wt ⟨1312 + j.val, by omega⟩

end Cert.Proj

end
-- ==== Proof.ProjArray.lean ====
/- The input projection kernel's result arrays. -/
module

public import proofs.«01_k».proof.Proof.ProjBlock
public import proofs.«01_k».proof.Proof.ProjSpec
public import Idealize.ShloMosaic.Lib.Claim

@[expose] public section

set_option maxRecDepth 16384
set_option maxHeartbeats 1600000

noncomputable section

namespace Cert.Kernel4Ideal.Proj

open Cert.Kernel4Ideal Cert.Kernel4Ideal.Gen Idealize.ShloMosaic Idealize.ShloMosaic.TcCoe Idealize.SL.Sem Cert.Rows Cert.Proj

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![0, t.val] ∧ win0_7.index t = ![0, t.val] ∧ win0_8.index t = ![0, 0] ∧ win0_9.index t = ![0, 0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, t.val] ∧ win0_18.index t = ![0, t.val] ∧ win0_19.index t = ![t.val, 0, 0] ∧ win0_20.index t = ![t.val, 0, 0] ∧ win0_21.index t = ![0, t.val] ∧ win0_22.index t = ![0, t.val] ∧ win0_23.index t = ![t.val, 0, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![0, t.val] ∧ win0_7.index t = ![0, t.val] ∧ win0_8.index t = ![0, 0] ∧ win0_9.index t = ![0, 0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, t.val] ∧ win0_18.index t = ![0, t.val] ∧ win0_19.index t = ![t.val, 0, 0] ∧ win0_20.index t = ![t.val, 0, 0] ∧ win0_21.index t = ![0, t.val] ∧ win0_22.index t = ![0, t.val] ∧ win0_23.index t = ![t.val, 0, 0])

/-- The grid has 64 points. -/
theorem lt64 (t : Fin cfg0.N) : t.val < 64 := lt_of_lt_of_eq t.isLt (by decide +kernel : cfg0.N = 64)

/-- The block of the residual stream. -/
theorem read0 (c : Dev nD) (t : Fin cfg0.N) (a : Fin 512) (k : Fin 1024) : iblk m c 0 t (ix2 a k) = m ((c : Thread nD τ).loc main_arg0) (ix2 ⟨512 * t.val + a.val, by have := lt64 t; omega⟩ k) := by
  blk_ext [iblk, V, idx t]

/-- The norm's weights. -/
theorem read1 (c : Dev nD) (t : Fin cfg0.N) (k : Fin 1024) : iblk m c 1 t (ix2 (0 : Fin 1) k) = m ((c : Thread nD τ).loc main_arg1) (ix1 k) := by
  have e : iblk m c 1 t (ix2 (0 : Fin 1) k) = V m c main_v0 (ix2 (0 : Fin 1) k) := by blk_ext [iblk, idx t]
  rw [e]
  entry_read
  pointwise []

/-- The row-wise matrix. -/
theorem read2 (c : Dev nD) (t : Fin cfg0.N) (k : Fin 1024) (f : Fin 2048) : iblk m c 2 t (ix2 k f) = m ((c : Thread nD τ).loc main_arg2) (ix2 k f) := by
  blk_ext [iblk, V, idx t]

/-- The column-wise matrix. -/
theorem read3 (c : Dev nD) (t : Fin cfg0.N) (f : Fin 1824) (k : Fin 1024) : iblk m c 3 t (ix2 f k) = m ((c : Thread nD τ).loc main_arg3) (ix2 f k) := by
  blk_ext [iblk, V, idx t]

/-- The block of the keys' cosines. -/
theorem read4 (c : Dev nD) (t : Fin cfg0.N) (a : Fin 512) (k : Fin 128) : iblk m c 4 t (ix2 a k) = m ((c : Thread nD τ).loc main_arg4) (ix2 ⟨512 * t.val + a.val, by have := lt64 t; omega⟩ k) := by
  blk_ext [iblk, V, idx t]

/-- The block of the keys' sines. -/
theorem read5 (c : Dev nD) (t : Fin cfg0.N) (a : Fin 512) (k : Fin 128) : iblk m c 5 t (ix2 a k) = m ((c : Thread nD τ).loc main_arg5) (ix2 ⟨512 * t.val + a.val, by have := lt64 t; omega⟩ k) := by
  blk_ext [iblk, V, idx t]

/-- The block of the queries' cosines. -/
theorem read6 (c : Dev nD) (t : Fin cfg0.N) (k : Fin 32) (a : Fin 512) : iblk m c 6 t (ix2 k a) = m ((c : Thread nD τ).loc main_arg6) (ix2 k ⟨512 * t.val + a.val, by have := lt64 t; omega⟩) := by
  blk_ext [iblk, V, idx t]

/-- The block of the queries' sines. -/
theorem read7 (c : Dev nD) (t : Fin cfg0.N) (k : Fin 32) (a : Fin 512) : iblk m c 7 t (ix2 k a) = m ((c : Thread nD τ).loc main_arg7) (ix2 k ⟨512 * t.val + a.val, by have := lt64 t; omega⟩) := by
  blk_ext [iblk, V, idx t]

/-- The gating unit's norm weights. -/
theorem read8 (c : Dev nD) (t : Fin cfg0.N) (k : Fin 512) : iblk m c 8 t (ix2 (0 : Fin 1) k) = m ((c : Thread nD τ).loc main_arg8) (ix1 k) := by
  have e : iblk m c 8 t (ix2 (0 : Fin 1) k) = V m c main_v1 (ix2 (0 : Fin 1) k) := by blk_ext [iblk, idx t]
  rw [e]
  entry_read
  pointwise []

/-- The spatial weights. -/
theorem read9 (c : Dev nD) (t : Fin cfg0.N) (g : Fin 4) (a k : Fin 128) : iblk m c 9 t (ix3 g a k) = m ((c : Thread nD τ).loc main_arg9) (ix3 g a k) := by
  blk_ext [iblk, V, idx t]

/-- The spatial biases. -/
theorem read10 (c : Dev nD) (t : Fin cfg0.N) (a : Fin 128) (k : Fin 512) : iblk m c 10 t (ix2 a k) = m ((c : Thread nD τ).loc main_arg10) (ix2 a k) := by
  blk_ext [iblk, V, idx t]

/-- A block's row-wise products, from the arguments. -/
theorem pB_eq (c : Dev nD) (t : Fin cfg0.N) (a : Fin 512) (j : Fin 2048) :
    pB (iblk m c 0 t) (iblk m c 1 t) (iblk m c 2 t) a j = pAt (fun k => m ((c : Thread nD τ).loc main_arg0) (ix2 ⟨512 * t.val + a.val, by have := lt64 t; omega⟩ k)) (fun k => m ((c : Thread nD τ).loc main_arg1) (ix1 k)) (fun k f => m ((c : Thread nD τ).loc main_arg2) (ix2 k f)) j := by
  unfold pB
  simp only [read0, read1, read2]

/-- A block's column-wise products, from the arguments. -/
theorem tB_eq (c : Dev nD) (t : Fin cfg0.N) (a : Fin 512) (j : Fin 1824) :
    tB (iblk m c 0 t) (iblk m c 1 t) (iblk m c 3 t) a j = tAt (fun k => m ((c : Thread nD τ).loc main_arg0) (ix2 ⟨512 * t.val + a.val, by have := lt64 t; omega⟩ k)) (fun k => m ((c : Thread nD τ).loc main_arg1) (ix1 k)) (fun f k => m ((c : Thread nD τ).loc main_arg3) (ix2 f k)) j := by
  unfold tB
  simp only [read0, read1, read3]

/-- The array of the compressed keys. -/
theorem final11 (c : Dev nD) : (dats m 0 c).arrAt 11 cfg0.N
    = fun i => R11 (fun a k => m ((c : Thread nD τ).loc main_arg0) (ix2 a k)) (fun k => m ((c : Thread nD τ).loc main_arg1) (ix1 k)) (fun k f => m ((c : Thread nD τ).loc main_arg2) (ix2 k f)) (i 0) (i 1) := by
  refine (dats m 0 c).arrAt_eq_of_covers 11 _ (by decide +kernel) fun t hf y => ?_
  have hfl : (dats m 0 c).after 11 t y = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_11 m c t) y
  blk_simp
  refine hfl.trans ?_
  have h0 : (y 0).val < 512 := (y 0).isLt
  have h1 : (y 1).val < 128 := (y 1).isLt
  have ht := lt64 t
  have ey : y = ix2 (⟨(y 0).val, h0⟩ : Fin 512) (⟨(y 1).val, h1⟩ : Fin 128) := by
    funext a
    fin_cases a <;> rfl
  refine (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o11 _ _ _ _ _ _ _ _ _ _ _ _ _ ).trans ?_
  have e0 : (⟨512 * t.val + (y 0).val, by omega⟩ : Fin 32768) = (((cfg0.win 11).blk t).view.emb y) 0 := by
    refine Fin.ext ?_
    blk_simp [idx t]
    first | omega | (dsimp only; omega) | skip
  have e1 : (⟨(y 1).val, by omega⟩ : Fin 128) = (((cfg0.win 11).blk t).view.emb y) 1 := by
    refine Fin.ext ?_
    blk_simp [idx t]
    first | omega | (dsimp only; omega) | skip
  rw [← e0, ← e1]
  unfold R11
  simp only [pB_eq, read4, read5]

/-- The array of the compressed values. -/
theorem final12 (c : Dev nD) : (dats m 0 c).arrAt 12 cfg0.N
    = fun i => R12 (fun a k => m ((c : Thread nD τ).loc main_arg0) (ix2 a k)) (fun k => m ((c : Thread nD τ).loc main_arg1) (ix1 k)) (fun k f => m ((c : Thread nD τ).loc main_arg2) (ix2 k f)) (i 0) (i 1) := by
  refine (dats m 0 c).arrAt_eq_of_covers 12 _ (by decide +kernel) fun t hf y => ?_
  have hfl : (dats m 0 c).after 12 t y = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_12 m c t) y
  blk_simp
  refine hfl.trans ?_
  have h0 : (y 0).val < 512 := (y 0).isLt
  have h1 : (y 1).val < 128 := (y 1).isLt
  have ht := lt64 t
  have ey : y = ix2 (⟨(y 0).val, h0⟩ : Fin 512) (⟨(y 1).val, h1⟩ : Fin 128) := by
    funext a
    fin_cases a <;> rfl
  refine (congrArg (out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o12 _ _ _ _ _ _ _ _ _ _ _ _ _ ).trans ?_
  have e0 : (⟨512 * t.val + (y 0).val, by omega⟩ : Fin 32768) = (((cfg0.win 12).blk t).view.emb y) 0 := by
    refine Fin.ext ?_
    blk_simp [idx t]
    first | omega | (dsimp only; omega) | skip
  have e1 : (⟨(y 1).val, by omega⟩ : Fin 128) = (((cfg0.win 12).blk t).view.emb y) 1 := by
    refine Fin.ext ?_
    blk_simp [idx t]
    first | omega | (dsimp only; omega) | skip
  rw [← e0, ← e1]
  unfold R12
  simp only [pB_eq, read4, read5]

/-- The array of the selected keys. -/
theorem final13 (c : Dev nD) : (dats m 0 c).arrAt 13 cfg0.N
    = fun i => R13 (fun a k => m ((c : Thread nD τ).loc main_arg0) (ix2 a k)) (fun k => m ((c : Thread nD τ).loc main_arg1) (ix1 k)) (fun k f => m ((c : Thread nD τ).loc main_arg2) (ix2 k f)) (fun a k => m ((c : Thread nD τ).loc main_arg4) (ix2 a k)) (fun a k => m ((c : Thread nD τ).loc main_arg5) (ix2 a k)) (i 0) (i 1) := by
  refine (dats m 0 c).arrAt_eq_of_covers 13 _ (by decide +kernel) fun t hf y => ?_
  have hfl : (dats m 0 c).after 13 t y = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_13 m c t) y
  blk_simp
  refine hfl.trans ?_
  have h0 : (y 0).val < 512 := (y 0).isLt
  have h1 : (y 1).val < 128 := (y 1).isLt
  have ht := lt64 t
  have ey : y = ix2 (⟨(y 0).val, h0⟩ : Fin 512) (⟨(y 1).val, h1⟩ : Fin 128) := by
    funext a
    fin_cases a <;> rfl
  refine (congrArg (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o13 _ _ _ _ _ _ _ _ _ _ _ _ _ ).trans ?_
  have e0 : (⟨512 * t.val + (y 0).val, by omega⟩ : Fin 32768) = (((cfg0.win 13).blk t).view.emb y) 0 := by
    refine Fin.ext ?_
    blk_simp [idx t]
    first | omega | (dsimp only; omega) | skip
  have e1 : (⟨(y 1).val, by omega⟩ : Fin 128) = (((cfg0.win 13).blk t).view.emb y) 1 := by
    refine Fin.ext ?_
    blk_simp [idx t]
    first | omega | (dsimp only; omega) | skip
  rw [← e0, ← e1]
  unfold R13
  simp only [pB_eq, read4, read5]

/-- The array of the window keys. -/
theorem final14 (c : Dev nD) : (dats m 0 c).arrAt 14 cfg0.N
    = fun i => R14 (fun a k => m ((c : Thread nD τ).loc main_arg0) (ix2 a k)) (fun k => m ((c : Thread nD τ).loc main_arg1) (ix1 k)) (fun k f => m ((c : Thread nD τ).loc main_arg2) (ix2 k f)) (fun a k => m ((c : Thread nD τ).loc main_arg4) (ix2 a k)) (fun a k => m ((c : Thread nD τ).loc main_arg5) (ix2 a k)) (i 0) (i 1) := by
  refine (dats m 0 c).arrAt_eq_of_covers 14 _ (by decide +kernel) fun t hf y => ?_
  have hfl : (dats m 0 c).after 14 t y = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_14 m c t) y
  blk_simp
  refine hfl.trans ?_
  have h0 : (y 0).val < 512 := (y 0).isLt
  have h1 : (y 1).val < 128 := (y 1).isLt
  have ht := lt64 t
  have ey : y = ix2 (⟨(y 0).val, h0⟩ : Fin 512) (⟨(y 1).val, h1⟩ : Fin 128) := by
    funext a
    fin_cases a <;> rfl
  refine (congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o14 _ _ _ _ _ _ _ _ _ _ _ _ _ ).trans ?_
  have e0 : (⟨512 * t.val + (y 0).val, by omega⟩ : Fin 32768) = (((cfg0.win 14).blk t).view.emb y) 0 := by
    refine Fin.ext ?_
    blk_simp [idx t]
    first | omega | (dsimp only; omega) | skip
  have e1 : (⟨(y 1).val, by omega⟩ : Fin 128) = (((cfg0.win 14).blk t).view.emb y) 1 := by
    refine Fin.ext ?_
    blk_simp [idx t]
    first | omega | (dsimp only; omega) | skip
  rw [← e0, ← e1]
  unfold R14
  simp only [pB_eq, read4, read5]

/-- The array of the attention's keys. -/
theorem final15 (c : Dev nD) : (dats m 0 c).arrAt 15 cfg0.N
    = fun i => R15 (fun a k => m ((c : Thread nD τ).loc main_arg0) (ix2 a k)) (fun k => m ((c : Thread nD τ).loc main_arg1) (ix1 k)) (fun k f => m ((c : Thread nD τ).loc main_arg2) (ix2 k f)) (fun a k => m ((c : Thread nD τ).loc main_arg4) (ix2 a k)) (fun a k => m ((c : Thread nD τ).loc main_arg5) (ix2 a k)) (i 0) (i 1) := by
  refine (dats m 0 c).arrAt_eq_of_covers 15 _ (by decide +kernel) fun t hf y => ?_
  have hfl : (dats m 0 c).after 15 t y = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_15 m c t) y
  blk_simp
  refine hfl.trans ?_
  have h0 : (y 0).val < 512 := (y 0).isLt
  have h1 : (y 1).val < 512 := (y 1).isLt
  have ht := lt64 t
  have ey : y = ix2 (⟨(y 0).val, h0⟩ : Fin 512) (⟨(y 1).val, h1⟩ : Fin 512) := by
    funext a
    fin_cases a <;> rfl
  refine (congrArg (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o15 _ _ _ _ _ _ _ _ _ _ _ _ _ ).trans ?_
  have e0 : (⟨512 * t.val + (y 0).val, by omega⟩ : Fin 32768) = (((cfg0.win 15).blk t).view.emb y) 0 := by
    refine Fin.ext ?_
    blk_simp [idx t]
    first | omega | (dsimp only; omega) | skip
  have e1 : (⟨(y 1).val, by omega⟩ : Fin 512) = (((cfg0.win 15).blk t).view.emb y) 1 := by
    refine Fin.ext ?_
    blk_simp [idx t]
    first | omega | (dsimp only; omega) | skip
  rw [← e0, ← e1]
  unfold R15
  simp only [pB_eq, read4, read5]

/-- The array of the gating unit's results. -/
theorem final16 (c : Dev nD) : (dats m 0 c).arrAt 16 cfg0.N
    = fun i => R16 (fun a k => m ((c : Thread nD τ).loc main_arg0) (ix2 a k)) (fun k => m ((c : Thread nD τ).loc main_arg1) (ix1 k)) (fun k f => m ((c : Thread nD τ).loc main_arg2) (ix2 k f)) (fun k => m ((c : Thread nD τ).loc main_arg8) (ix1 k)) (fun g t s => m ((c : Thread nD τ).loc main_arg9) (ix3 g t s)) (fun t j => m ((c : Thread nD τ).loc main_arg10) (ix2 t j)) (i 0) (i 1) := by
  refine (dats m 0 c).arrAt_eq_of_covers 16 _ (by decide +kernel) fun t hf y => ?_
  have hfl : (dats m 0 c).after 16 t y = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_16 m c t) y
  blk_simp
  refine hfl.trans ?_
  have h0 : (y 0).val < 512 := (y 0).isLt
  have h1 : (y 1).val < 512 := (y 1).isLt
  have ht := lt64 t
  have ey : y = ix2 (⟨(y 0).val, h0⟩ : Fin 512) (⟨(y 1).val, h1⟩ : Fin 512) := by
    funext a
    fin_cases a <;> rfl
  refine (congrArg (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o16 _ _ _ _ _ _ _ _ _ _ _ _ _ ).trans ?_
  have e0 : (⟨512 * t.val + (y 0).val, by omega⟩ : Fin 32768) = (((cfg0.win 16).blk t).view.emb y) 0 := by
    refine Fin.ext ?_
    blk_simp [idx t]
    first | omega | (dsimp only; omega) | skip
  have e1 : (⟨(y 1).val, by omega⟩ : Fin 512) = (((cfg0.win 16).blk t).view.emb y) 1 := by
    refine Fin.ext ?_
    blk_simp [idx t]
    first | omega | (dsimp only; omega) | skip
  rw [← e0, ← e1]
  unfold gB R16
  simp only [read0, read1, read2, read8, read9, read10]
  have ea : (⟨(y 0).val % 128, by omega⟩ : Fin 128) = ⟨(512 * t.val + (y 0).val) % 128, by omega⟩ := Fin.ext (by show (y 0).val % 128 = (512 * t.val + (y 0).val) % 128; omega)
  have er : ∀ s : Fin 128, (⟨512 * t.val + (128 * ((y 0).val / 128) + s.val), by omega⟩ : Fin 32768) = ⟨128 * ((512 * t.val + (y 0).val) / 128) + s.val, by omega⟩ :=
    fun s => Fin.ext (by show 512 * t.val + (128 * ((y 0).val / 128) + s.val) = 128 * ((512 * t.val + (y 0).val) / 128) + s.val; omega)
  simp only [er, ea]

/-- The array of the sparse attention's queries. -/
theorem final17 (c : Dev nD) : (dats m 0 c).arrAt 17 cfg0.N
    = fun i => R17 (fun a k => m ((c : Thread nD τ).loc main_arg0) (ix2 a k)) (fun k => m ((c : Thread nD τ).loc main_arg1) (ix1 k)) (fun f k => m ((c : Thread nD τ).loc main_arg3) (ix2 f k)) (i 0) (i 1) := by
  refine (dats m 0 c).arrAt_eq_of_covers 17 _ (by decide +kernel) fun t hf y => ?_
  have hfl : (dats m 0 c).after 17 t y = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_17 m c t) y
  blk_simp
  refine hfl.trans ?_
  have h0 : (y 0).val < 512 := (y 0).isLt
  have h1 : (y 1).val < 512 := (y 1).isLt
  have ht := lt64 t
  have ey : y = ix2 (⟨(y 0).val, h0⟩ : Fin 512) (⟨(y 1).val, h1⟩ : Fin 512) := by
    funext a
    fin_cases a <;> rfl
  refine (congrArg (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o17 _ _ _ _ _ _ _ _ _ _ _ _ _ ).trans ?_
  have e0 : (⟨(y 0).val, by omega⟩ : Fin 512) = (((cfg0.win 17).blk t).view.emb y) 0 := by
    refine Fin.ext ?_
    blk_simp [idx t]
    first | omega | (dsimp only; omega) | skip
  have e1 : (⟨512 * t.val + (y 1).val, by omega⟩ : Fin 32768) = (((cfg0.win 17).blk t).view.emb y) 1 := by
    refine Fin.ext ?_
    blk_simp [idx t]
    first | omega | (dsimp only; omega) | skip
  rw [← e0, ← e1]
  unfold R17
  simp only [tB_eq, read6, read7]

/-- The array of the sparse attention's rotated queries. -/
theorem final18 (c : Dev nD) : (dats m 0 c).arrAt 18 cfg0.N
    = fun i => R18 (fun a k => m ((c : Thread nD τ).loc main_arg0) (ix2 a k)) (fun k => m ((c : Thread nD τ).loc main_arg1) (ix1 k)) (fun f k => m ((c : Thread nD τ).loc main_arg3) (ix2 f k)) (fun a k => m ((c : Thread nD τ).loc main_arg6) (ix2 a k)) (fun a k => m ((c : Thread nD τ).loc main_arg7) (ix2 a k)) (i 0) (i 1) := by
  refine (dats m 0 c).arrAt_eq_of_covers 18 _ (by decide +kernel) fun t hf y => ?_
  have hfl : (dats m 0 c).after 18 t y = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_18 m c t) y
  blk_simp
  refine hfl.trans ?_
  have h0 : (y 0).val < 512 := (y 0).isLt
  have h1 : (y 1).val < 512 := (y 1).isLt
  have ht := lt64 t
  have ey : y = ix2 (⟨(y 0).val, h0⟩ : Fin 512) (⟨(y 1).val, h1⟩ : Fin 512) := by
    funext a
    fin_cases a <;> rfl
  refine (congrArg (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o18 _ _ _ _ _ _ _ _ _ _ _ _ _ ).trans ?_
  have e0 : (⟨(y 0).val, by omega⟩ : Fin 512) = (((cfg0.win 18).blk t).view.emb y) 0 := by
    refine Fin.ext ?_
    blk_simp [idx t]
    first | omega | (dsimp only; omega) | skip
  have e1 : (⟨512 * t.val + (y 1).val, by omega⟩ : Fin 32768) = (((cfg0.win 18).blk t).view.emb y) 1 := by
    refine Fin.ext ?_
    blk_simp [idx t]
    first | omega | (dsimp only; omega) | skip
  rw [← e0, ← e1]
  unfold R18
  simp only [tB_eq, read6, read7]

/-- The array of the selected values. -/
theorem final19 (c : Dev nD) : (dats m 0 c).arrAt 19 cfg0.N
    = fun i => R19 (fun a k => m ((c : Thread nD τ).loc main_arg0) (ix2 a k)) (fun k => m ((c : Thread nD τ).loc main_arg1) (ix1 k)) (fun f k => m ((c : Thread nD τ).loc main_arg3) (ix2 f k)) (i 0) (i 1) (i 2) := by
  refine (dats m 0 c).arrAt_eq_of_covers 19 _ (by decide +kernel) fun t hf y => ?_
  have hfl : (dats m 0 c).after 19 t y = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_19 m c t) y
  blk_simp
  refine hfl.trans ?_
  have h0 : (y 0).val < 4 := (y 0).isLt
  have h1 : (y 1).val < 128 := (y 1).isLt
  have h2 : (y 2).val < 128 := (y 2).isLt
  have ht := lt64 t
  have ey : y = ix3 (⟨(y 0).val, h0⟩ : Fin 4) (⟨(y 1).val, h1⟩ : Fin 128) (⟨(y 2).val, h2⟩ : Fin 128) := by
    funext a
    fin_cases a <;> rfl
  refine (congrArg (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o19 _ _ _ _ _ _ _ _ _ _ _ _ _ _ ).trans ?_
  have e0 : (⟨4 * t.val + (y 0).val, by omega⟩ : Fin 256) = (((cfg0.win 19).blk t).view.emb y) 0 := by
    refine Fin.ext ?_
    blk_simp [idx t]
    first | omega | (dsimp only; omega) | skip
  have e1 : (⟨(y 1).val, by omega⟩ : Fin 128) = (((cfg0.win 19).blk t).view.emb y) 1 := by
    refine Fin.ext ?_
    blk_simp [idx t]
    first | omega | (dsimp only; omega) | skip
  have e2 : (⟨(y 2).val, by omega⟩ : Fin 128) = (((cfg0.win 19).blk t).view.emb y) 2 := by
    refine Fin.ext ?_
    blk_simp [idx t]
    first | omega | (dsimp only; omega) | skip
  rw [← e0, ← e1, ← e2]
  unfold R19
  rw [tB_eq]
  have er : (⟨512 * t.val + (128 * (y 0).val + (y 2).val), by omega⟩ : Fin 32768) = ⟨128 * (4 * t.val + (y 0).val) + (y 2).val, by omega⟩ :=
    Fin.ext (by show 512 * t.val + (128 * (y 0).val + (y 2).val) = 128 * (4 * t.val + (y 0).val) + (y 2).val; omega)
  simp only [er]

/-- The array of the window values. -/
theorem final20 (c : Dev nD) : (dats m 0 c).arrAt 20 cfg0.N
    = fun i => R20 (fun a k => m ((c : Thread nD τ).loc main_arg0) (ix2 a k)) (fun k => m ((c : Thread nD τ).loc main_arg1) (ix1 k)) (fun f k => m ((c : Thread nD τ).loc main_arg3) (ix2 f k)) (i 0) (i 1) (i 2) := by
  refine (dats m 0 c).arrAt_eq_of_covers 20 _ (by decide +kernel) fun t hf y => ?_
  have hfl : (dats m 0 c).after 20 t y = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_20 m c t) y
  blk_simp
  refine hfl.trans ?_
  have h0 : (y 0).val < 4 := (y 0).isLt
  have h1 : (y 1).val < 128 := (y 1).isLt
  have h2 : (y 2).val < 128 := (y 2).isLt
  have ht := lt64 t
  have ey : y = ix3 (⟨(y 0).val, h0⟩ : Fin 4) (⟨(y 1).val, h1⟩ : Fin 128) (⟨(y 2).val, h2⟩ : Fin 128) := by
    funext a
    fin_cases a <;> rfl
  refine (congrArg (out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o20 _ _ _ _ _ _ _ _ _ _ _ _ _ _ ).trans ?_
  have e0 : (⟨4 * t.val + (y 0).val, by omega⟩ : Fin 256) = (((cfg0.win 20).blk t).view.emb y) 0 := by
    refine Fin.ext ?_
    blk_simp [idx t]
    first | omega | (dsimp only; omega) | skip
  have e1 : (⟨(y 1).val, by omega⟩ : Fin 128) = (((cfg0.win 20).blk t).view.emb y) 1 := by
    refine Fin.ext ?_
    blk_simp [idx t]
    first | omega | (dsimp only; omega) | skip
  have e2 : (⟨(y 2).val, by omega⟩ : Fin 128) = (((cfg0.win 20).blk t).view.emb y) 2 := by
    refine Fin.ext ?_
    blk_simp [idx t]
    first | omega | (dsimp only; omega) | skip
  rw [← e0, ← e1, ← e2]
  unfold R20
  rw [tB_eq]
  have er : (⟨512 * t.val + (128 * (y 0).val + (y 2).val), by omega⟩ : Fin 32768) = ⟨128 * (4 * t.val + (y 0).val) + (y 2).val, by omega⟩ :=
    Fin.ext (by show 512 * t.val + (128 * (y 0).val + (y 2).val) = 128 * (4 * t.val + (y 0).val) + (y 2).val; omega)
  simp only [er]

/-- The array of the gates. -/
theorem final21 (c : Dev nD) : (dats m 0 c).arrAt 21 cfg0.N
    = fun i => R21 (fun a k => m ((c : Thread nD τ).loc main_arg0) (ix2 a k)) (fun k => m ((c : Thread nD τ).loc main_arg1) (ix1 k)) (fun f k => m ((c : Thread nD τ).loc main_arg3) (ix2 f k)) (i 0) (i 1) := by
  refine (dats m 0 c).arrAt_eq_of_covers 21 _ (by decide +kernel) fun t hf y => ?_
  have hfl : (dats m 0 c).after 21 t y = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_21 m c t) y
  blk_simp
  refine hfl.trans ?_
  have h0 : (y 0).val < 32 := (y 0).isLt
  have h1 : (y 1).val < 512 := (y 1).isLt
  have ht := lt64 t
  have ey : y = ix2 (⟨(y 0).val, h0⟩ : Fin 32) (⟨(y 1).val, h1⟩ : Fin 512) := by
    funext a
    fin_cases a <;> rfl
  refine (congrArg (out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o21 _ _ _ _ _ _ _ _ _ _ _ _ _ ).trans ?_
  have e0 : (⟨(y 0).val, by omega⟩ : Fin 32) = (((cfg0.win 21).blk t).view.emb y) 0 := by
    refine Fin.ext ?_
    blk_simp [idx t]
    first | omega | (dsimp only; omega) | skip
  have e1 : (⟨512 * t.val + (y 1).val, by omega⟩ : Fin 32768) = (((cfg0.win 21).blk t).view.emb y) 1 := by
    refine Fin.ext ?_
    blk_simp [idx t]
    first | omega | (dsimp only; omega) | skip
  rw [← e0, ← e1]
  unfold R21
  simp only [tB_eq, read6, read7]

/-- The array of the differential attention's rotated queries. -/
theorem final22 (c : Dev nD) : (dats m 0 c).arrAt 22 cfg0.N
    = fun i => R22 (fun a k => m ((c : Thread nD τ).loc main_arg0) (ix2 a k)) (fun k => m ((c : Thread nD τ).loc main_arg1) (ix1 k)) (fun f k => m ((c : Thread nD τ).loc main_arg3) (ix2 f k)) (fun a k => m ((c : Thread nD τ).loc main_arg6) (ix2 a k)) (fun a k => m ((c : Thread nD τ).loc main_arg7) (ix2 a k)) (i 0) (i 1) := by
  refine (dats m 0 c).arrAt_eq_of_covers 22 _ (by decide +kernel) fun t hf y => ?_
  have hfl : (dats m 0 c).after 22 t y = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_22 m c t) y
  blk_simp
  refine hfl.trans ?_
  have h0 : (y 0).val < 512 := (y 0).isLt
  have h1 : (y 1).val < 512 := (y 1).isLt
  have ht := lt64 t
  have ey : y = ix2 (⟨(y 0).val, h0⟩ : Fin 512) (⟨(y 1).val, h1⟩ : Fin 512) := by
    funext a
    fin_cases a <;> rfl
  refine (congrArg (out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o22 _ _ _ _ _ _ _ _ _ _ _ _ _ ).trans ?_
  have e0 : (⟨(y 0).val, by omega⟩ : Fin 512) = (((cfg0.win 22).blk t).view.emb y) 0 := by
    refine Fin.ext ?_
    blk_simp [idx t]
    first | omega | (dsimp only; omega) | skip
  have e1 : (⟨512 * t.val + (y 1).val, by omega⟩ : Fin 32768) = (((cfg0.win 22).blk t).view.emb y) 1 := by
    refine Fin.ext ?_
    blk_simp [idx t]
    first | omega | (dsimp only; omega) | skip
  rw [← e0, ← e1]
  unfold R22
  simp only [tB_eq, read6, read7]

/-- The array of the differential attention's values. -/
theorem final23 (c : Dev nD) : (dats m 0 c).arrAt 23 cfg0.N
    = fun i => R23 (fun a k => m ((c : Thread nD τ).loc main_arg0) (ix2 a k)) (fun k => m ((c : Thread nD τ).loc main_arg1) (ix1 k)) (fun f k => m ((c : Thread nD τ).loc main_arg3) (ix2 f k)) (i 0) (i 1) (i 2) := by
  refine (dats m 0 c).arrAt_eq_of_covers 23 _ (by decide +kernel) fun t hf y => ?_
  have hfl : (dats m 0 c).after 23 t y = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) y := congrFun (after0_23 m c t) y
  blk_simp
  refine hfl.trans ?_
  have h0 : (y 0).val < 4 := (y 0).isLt
  have h1 : (y 1).val < 512 := (y 1).isLt
  have h2 : (y 2).val < 128 := (y 2).isLt
  have ht := lt64 t
  have ey : y = ix3 (⟨(y 0).val, h0⟩ : Fin 4) (⟨(y 1).val, h1⟩ : Fin 512) (⟨(y 2).val, h2⟩ : Fin 128) := by
    funext a
    fin_cases a <;> rfl
  refine (congrArg (out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) ey).trans ?_
  refine (o23 _ _ _ _ _ _ _ _ _ _ _ _ _ _ ).trans ?_
  have e0 : (⟨4 * t.val + (y 0).val, by omega⟩ : Fin 256) = (((cfg0.win 23).blk t).view.emb y) 0 := by
    refine Fin.ext ?_
    blk_simp [idx t]
    first | omega | (dsimp only; omega) | skip
  have e1 : (⟨(y 1).val, by omega⟩ : Fin 512) = (((cfg0.win 23).blk t).view.emb y) 1 := by
    refine Fin.ext ?_
    blk_simp [idx t]
    first | omega | (dsimp only; omega) | skip
  have e2 : (⟨(y 2).val, by omega⟩ : Fin 128) = (((cfg0.win 23).blk t).view.emb y) 2 := by
    refine Fin.ext ?_
    blk_simp [idx t]
    first | omega | (dsimp only; omega) | skip
  rw [← e0, ← e1, ← e2]
  unfold R23
  rw [tB_eq]
  have er : (⟨512 * t.val + (128 * (y 0).val + (y 2).val), by omega⟩ : Fin 32768) = ⟨128 * (4 * t.val + (y 0).val) + (y 2).val, by omega⟩ :=
    Fin.ext (by show 512 * t.val + (128 * (y 0).val + (y 2).val) = 128 * (4 * t.val + (y 0).val) + (y 2).val; omega)
  simp only [er]

end Cert.Kernel4Ideal.Proj

end
-- ==== Proof.ProjRef.lean ====
/- The input projection reference at one entry of each result. -/
module

public import proofs.«01_k».proof.Proof.ProjSpec
public import proofs.«01_k».proof.Proof.Gen.Reference4Ideal.Read
public import Idealize.ShloMosaic.Lib.Pointwise

@[expose] public section

set_option maxRecDepth 16384
set_option maxHeartbeats 1600000

noncomputable section

namespace Cert.Reference4Ideal.Proj

open Cert.Reference4Ideal Cert.Reference4Ideal.Gen Cert.Reference4Ideal.Read Idealize.ShloMosaic Idealize.ShloMosaic.TcCoe Idealize.SL.Sem Idealize.ShloMosaic.StableHlo Cert.Rows Cert.Proj

variable (x0 : FVec Ideal S32768x1024 .f32) (x1 : FVec Ideal S1024 .f32) (x2 : FVec Ideal S1024x2048 .bf16) (x3 : FVec Ideal S1824x1024 .bf16)
  (x4 x5 : FVec Ideal S32768x128 .f32) (x6 x7 : FVec Ideal S32x32768 .f32) (x8 : FVec Ideal S512 .f32) (x9 : FVec Ideal S4x128x128 .bf16) (x10 : FVec Ideal S128x512 .f32)

/-- The normed row. -/
theorem h_at (a : Fin 32768) (k : Fin 1024) : val_main_v12 (F := Ideal) x0 x1 (ix2 a k) = normRow (fun k => x0 (ix2 a k)) (fun k => x1 (ix1 k)) k := by
  unfold normRow
  pointwise [val_main_v12, val_main_v11, val_main_v10, val_main_v9, val_main_v8, val_main_v7, val_main_v6, val_main_v5, val_main_cst_1, val_main_v4, val_main_v3, val_main_cst_0, val_main_v2, val_main_v1, val_main_cst, val_main_v0]

/-- The product with the row-wise matrix. -/
theorem p_at (a : Fin 32768) (j : Fin 2048) : val_main_v14 (F := Ideal) x0 x1 x2 (ix2 a j) = pAt (fun k => x0 (ix2 a k)) (fun k => x1 (ix1 k)) (fun k f => x2 (ix2 k f)) j := by
  have e : ∀ k, val_main_v12 (F := Ideal) x0 x1 (ix2 a k) = normRow (fun k => x0 (ix2 a k)) (fun k => x1 (ix1 k)) k := h_at x0 x1 a
  unfold pAt dotRow
  simp only [← e]
  unfold val_main_v14 val_main_v13
  generalize val_main_v12 (F := Ideal) x0 x1 = H
  pointwise []

/-- The product with the column-wise matrix. -/
theorem t_at (j : Fin 1824) (a : Fin 32768) : val_main_v17 (F := Ideal) x0 x1 x3 (ix2 j a) = tAt (fun k => x0 (ix2 a k)) (fun k => x1 (ix1 k)) (fun f k => x3 (ix2 f k)) j := by
  have e : ∀ k, val_main_v12 (F := Ideal) x0 x1 (ix2 a k) = normRow (fun k => x0 (ix2 a k)) (fun k => x1 (ix1 k)) k := h_at x0 x1 a
  unfold tAt
  simp only [← e]
  unfold val_main_v17 val_main_v16 val_main_v15
  generalize val_main_v12 (F := Ideal) x0 x1 = H
  pointwise []

/-- The compressed keys. -/
theorem r11 (a : Fin 32768) (j : Fin 128) : val_main_v63 (F := Ideal) x0 x1 x2 (ix2 a j) = R11 (fun a k => x0 (ix2 a k)) (fun k => x1 (ix1 k)) (fun k f => x2 (ix2 k f)) a j := by
  have e := p_at x0 x1 x2 a ⟨j.val, by omega⟩
  unfold R11
  rw [← e]
  unfold val_main_v63
  generalize val_main_v14 (F := Ideal) x0 x1 x2 = H
  pointwise []

/-- The compressed values. -/
theorem r12 (a : Fin 32768) (j : Fin 128) : val_main_v64 (F := Ideal) x0 x1 x2 (ix2 a j) = R12 (fun a k => x0 (ix2 a k)) (fun k => x1 (ix1 k)) (fun k f => x2 (ix2 k f)) a j := by
  have e := p_at x0 x1 x2 a ⟨128 + j.val, by omega⟩
  unfold R12
  rw [← e]
  unfold val_main_v64
  generalize val_main_v14 (F := Ideal) x0 x1 x2 = H
  pointwise []

/-- The selected keys. -/
theorem r13 (a : Fin 32768) (j : Fin 128) : val_main_v74 (F := Ideal) x0 x1 x2 x4 x5 (ix2 a j) = R13 (fun a k => x0 (ix2 a k)) (fun k => x1 (ix1 k)) (fun k f => x2 (ix2 k f)) (fun a k => x4 (ix2 a k)) (fun a k => x5 (ix2 a k)) a j := by
  have e := p_at x0 x1 x2 a
  unfold R13
  simp only [← e]
  unfold val_main_v74 val_main_v73 val_main_v72 val_main_v71 val_main_v70 val_main_v69 val_main_v68 val_main_v67 val_main_v66 val_main_v65
  generalize val_main_v14 (F := Ideal) x0 x1 x2 = H
  unfold ropeK
  have hp : (pair j).val = if j.val % 64 < 32 then j.val + 32 else j.val - 32 := rfl
  generalize pair j = q at hp ⊢
  pointwise []
  refine congrArg₂ (· + ·) rfl (congrArg₂ (· * ·) (congrArg H (congrArg₂ ix2 (if_neg (by decide)) (Fin.ext ?_))) rfl)
  show 256 + (j.val / 64 * 64 + (2 - (j.val / 32 % 2 + 1)) * 32 + j.val % 32) = 256 + q.val
  split at hp <;> omega

/-- The window keys. -/
theorem r14 (a : Fin 32768) (j : Fin 128) : val_main_v84 (F := Ideal) x0 x1 x2 x4 x5 (ix2 a j) = R14 (fun a k => x0 (ix2 a k)) (fun k => x1 (ix1 k)) (fun k f => x2 (ix2 k f)) (fun a k => x4 (ix2 a k)) (fun a k => x5 (ix2 a k)) a j := by
  have e := p_at x0 x1 x2 a
  unfold R14
  simp only [← e]
  unfold val_main_v84 val_main_v83 val_main_v82 val_main_v81 val_main_v80 val_main_v79 val_main_v78 val_main_v77 val_main_v76 val_main_v75
  generalize val_main_v14 (F := Ideal) x0 x1 x2 = H
  unfold ropeK
  have hp : (pair j).val = if j.val % 64 < 32 then j.val + 32 else j.val - 32 := rfl
  generalize pair j = q at hp ⊢
  pointwise []
  refine congrArg₂ (· + ·) rfl (congrArg₂ (· * ·) (congrArg H (congrArg₂ ix2 (if_neg (by decide)) (Fin.ext ?_))) rfl)
  show 384 + (j.val / 64 * 64 + (2 - (j.val / 32 % 2 + 1)) * 32 + j.val % 32) = 384 + q.val
  split at hp <;> omega

/-- The differential attention's keys. -/
theorem r15 (a : Fin 32768) (j : Fin 512) : val_main_v96 (F := Ideal) x0 x1 x2 x4 x5 (ix2 a j) = R15 (fun a k => x0 (ix2 a k)) (fun k => x1 (ix1 k)) (fun k f => x2 (ix2 k f)) (fun a k => x4 (ix2 a k)) (fun a k => x5 (ix2 a k)) a j := by
  have e := p_at x0 x1 x2 a
  unfold R15
  simp only [← e]
  unfold val_main_v96 val_main_v95 val_main_v94 val_main_v93 val_main_v92 val_main_v91 val_main_v90 val_main_v89 val_main_v88 val_main_v87 val_main_v86 val_main_v85
  generalize val_main_v14 (F := Ideal) x0 x1 x2 = H
  unfold ropeK
  have hp : (pair ⟨j.val % 128, by omega⟩).val = if j.val % 64 < 32 then j.val % 128 + 32 else j.val % 128 - 32 := by
    show (if j.val % 128 % 64 < 32 then j.val % 128 + 32 else j.val % 128 - 32) = _
    rw [show j.val % 128 % 64 = j.val % 64 by omega]
  generalize pair ⟨j.val % 128, by omega⟩ = q at hp ⊢
  pointwise []
  have hq : (⟨j.val / 64 % 2 * 64 + j.val / 32 % 2 * 32 + j.val % 32, by omega⟩ : Fin 128) = ⟨j.val % 128, by omega⟩ := Fin.ext (by show j.val / 64 % 2 * 64 + j.val / 32 % 2 * 32 + j.val % 32 = j.val % 128; omega)
  refine congrArg₂ (· + ·) (congrArg₂ (· * ·) (congrArg H (congrArg₂ ix2 rfl (Fin.ext ?_))) (congrArg x4 (congrArg₂ ix2 rfl hq)))
    (congrArg₂ (· * ·) (congrArg H (congrArg₂ ix2 (if_neg (by decide)) (Fin.ext ?_))) (congrArg x5 (congrArg₂ ix2 rfl hq)))
  · show 512 + j.val = 512 + 128 * (j.val / 128) + j.val % 128
    omega
  · show 512 + (j.val / 128 * 128 + j.val / 64 % 2 * 64 + (2 - (j.val / 32 % 2 + 1)) * 32 + j.val % 32) = 512 + 128 * (j.val / 128) + q.val
    split at hp <;> omega

/-- The gating unit before it is split. -/
theorem unit_at (a : Fin 32768) (j : Fin 1024) : val_main_v37 (F := Ideal) x0 x1 x2 (ix2 a j) = unit (fun k => x0 (ix2 a k)) (fun k => x1 (ix1 k)) (fun k f => x2 (ix2 k f)) j := by
  unfold unit
  rw [← p_at]
  unfold val_main_v37 val_main_v36 val_main_v35 val_main_cst_7 val_main_v34 val_main_v33 val_main_cst_6 val_main_v32 val_main_v31 val_main_v30 val_main_cst_5 val_main_v29 val_main_v28 val_main_v27 val_main_cst_4 val_main_v26 val_main_v25 val_main_v24
  generalize val_main_v14 (F := Ideal) x0 x1 x2 = H
  unfold gelu
  rw [mul_comm (H (ix2 a ⟨1024 + j.val, by omega⟩)) (H (ix2 a ⟨1024 + j.val, by omega⟩) * H (ix2 a ⟨1024 + j.val, by omega⟩))]
  pointwise []

/-- The gating unit's second half, normed. -/
theorem vn_at (a : Fin 32768) (j : Fin 512) : val_main_v52 (F := Ideal) x0 x1 x2 x8 (ix2 a j) = vRow (fun k => x0 (ix2 a k)) (fun k => x1 (ix1 k)) (fun k f => x2 (ix2 k f)) (fun k => x8 (ix1 k)) j := by
  unfold vRow norm512
  simp only [← unit_at]
  unfold val_main_v52 val_main_v51 val_main_v50 val_main_v49 val_main_v48 val_main_v47 val_main_v46 val_main_v45 val_main_cst_10 val_main_v44 val_main_v43 val_main_cst_9 val_main_v42 val_main_v41 val_main_cst_8 val_main_v40 val_main_v39
  generalize val_main_v37 (F := Ideal) x0 x1 x2 = H
  pointwise []

/-- The spatial weights' sum. -/
theorem mix_at (a : Fin 32768) (j : Fin 512) : val_main_v61 (F := Ideal) x0 x1 x2 x8 x9 x10 (ix2 a j) = (∑ s : Fin 128, x9 (ix3 (⟨j.val / 128, by omega⟩ : Fin 4) (⟨a.val % 128, by omega⟩ : Fin 128) s) * val_main_v52 (F := Ideal) x0 x1 x2 x8 (ix2 (⟨128 * (a.val / 128) + s.val, by omega⟩ : Fin 32768) j)) + x10 (ix2 (⟨a.val % 128, by omega⟩ : Fin 128) j) := by
  simp only [mul_comm (x9 _)]
  unfold val_main_v61 val_main_v60 val_main_v59 val_main_v58 val_main_v57 val_main_v56 val_main_v55 val_main_v54 val_main_v53
  generalize val_main_v52 (F := Ideal) x0 x1 x2 x8 = H
  pointwise []
  simp only [Nat.mul_comm 128]

/-- The gating unit's result. -/
theorem r16 (a : Fin 32768) (j : Fin 512) : val_main_v97 (F := Ideal) x0 x1 x2 x8 x9 x10 (ix2 a j) = R16 (fun a k => x0 (ix2 a k)) (fun k => x1 (ix1 k)) (fun k f => x2 (ix2 k f)) (fun k => x8 (ix1 k)) (fun g t s => x9 (ix3 g t s)) (fun t j => x10 (ix2 t j)) a j := by
  have ea : (⟨128 * (a.val / 128) + a.val % 128, by omega⟩ : Fin 32768) = a := Fin.ext (by show 128 * (a.val / 128) + a.val % 128 = a.val; omega)
  have e : val_main_v97 (F := Ideal) x0 x1 x2 x8 x9 x10 (ix2 a j) = val_main_v37 (F := Ideal) x0 x1 x2 (ix2 a ⟨j.val, by omega⟩) * val_main_v61 (F := Ideal) x0 x1 x2 x8 x9 x10 (ix2 a j) := by
    unfold val_main_v97 val_main_v62 val_main_v38
    generalize val_main_v37 (F := Ideal) x0 x1 x2 = H
    generalize val_main_v61 (F := Ideal) x0 x1 x2 x8 x9 x10 = M
    pointwise []
  rw [e, mix_at, unit_at]
  unfold R16 gating
  simp only [vn_at, ea]

/-- The sparse attention's queries. -/
theorem r17 (j : Fin 512) (a : Fin 32768) : val_main_v98 (F := Ideal) x0 x1 x3 (ix2 j a) = R17 (fun a k => x0 (ix2 a k)) (fun k => x1 (ix1 k)) (fun f k => x3 (ix2 f k)) j a := by
  unfold R17 scale
  rw [← t_at]
  unfold val_main_v98 val_main_v20 val_main_v19 val_main_v18 val_main_cst_2
  generalize val_main_v17 (F := Ideal) x0 x1 x3 = H
  pointwise []

/-- The sparse attention's queries before their rotary embedding. -/
theorem q18 (j : Fin 512) (a : Fin 32768) : val_main_v20 (F := Ideal) x0 x1 x3 (ix2 j a) = tAt (fun k => x0 (ix2 a k)) (fun k => x1 (ix1 k)) (fun f k => x3 (ix2 f k)) ⟨j.val, by omega⟩ * scale := by
  unfold scale
  rw [← t_at]
  unfold val_main_v20 val_main_v19 val_main_v18 val_main_cst_2
  generalize val_main_v17 (F := Ideal) x0 x1 x3 = H
  pointwise []

/-- The sparse attention's rotated queries. -/
theorem r18 (j : Fin 512) (a : Fin 32768) : val_main_v118 (F := Ideal) x0 x1 x3 x6 x7 (ix2 j a) = R18 (fun a k => x0 (ix2 a k)) (fun k => x1 (ix1 k)) (fun f k => x3 (ix2 f k)) (fun i a => x6 (ix2 i a)) (fun i a => x7 (ix2 i a)) j a := by
  have e : ∀ i : Fin 64, tAt (fun k => x0 (ix2 a k)) (fun k => x1 (ix1 k)) (fun f k => x3 (ix2 f k)) ⟨64 * (j.val / 64) + i.val, by omega⟩ * scale = val_main_v20 (F := Ideal) x0 x1 x3 (ix2 (⟨64 * (j.val / 64) + i.val, by omega⟩ : Fin 512) a) := fun i => (q18 x0 x1 x3 ⟨64 * (j.val / 64) + i.val, by omega⟩ a).symm
  unfold R18
  simp only [e]
  unfold val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99
  generalize val_main_v20 (F := Ideal) x0 x1 x3 = H
  unfold ropeQ
  by_cases h : j.val % 64 < 32
  · rw [dif_pos h]
    pointwise [h]
    have d : (⟨64 * (j.val / 64) + j.val % 64, by omega⟩ : Fin 512) = j := Fin.ext (by show 64 * (j.val / 64) + j.val % 64 = j.val; omega)
    simp only [d]
    simp only [Nat.mul_comm 64]
  · rw [dif_neg h]
    pointwise [h]
    have d : 32 + (j.val % 64 - 32) = j.val % 64 := by omega
    simp only [d, Nat.mul_comm 64]

/-- The differential attention's queries before their rotary embedding. -/
theorem q22 (j : Fin 512) (a : Fin 32768) : val_main_v23 (F := Ideal) x0 x1 x3 (ix2 j a) = tAt (fun k => x0 (ix2 a k)) (fun k => x1 (ix1 k)) (fun f k => x3 (ix2 f k)) ⟨800 + j.val, by omega⟩ * scale := by
  unfold scale
  rw [← t_at]
  unfold val_main_v23 val_main_v22 val_main_v21 val_main_cst_3
  generalize val_main_v17 (F := Ideal) x0 x1 x3 = H
  pointwise []

/-- The differential attention's rotated queries. -/
theorem r22 (j : Fin 512) (a : Fin 32768) : val_main_v153 (F := Ideal) x0 x1 x3 x6 x7 (ix2 j a) = R22 (fun a k => x0 (ix2 a k)) (fun k => x1 (ix1 k)) (fun f k => x3 (ix2 f k)) (fun i a => x6 (ix2 i a)) (fun i a => x7 (ix2 i a)) j a := by
  have e : ∀ i : Fin 64, tAt (fun k => x0 (ix2 a k)) (fun k => x1 (ix1 k)) (fun f k => x3 (ix2 f k)) ⟨800 + (64 * (j.val / 64) + i.val), by omega⟩ * scale = val_main_v23 (F := Ideal) x0 x1 x3 (ix2 (⟨64 * (j.val / 64) + i.val, by omega⟩ : Fin 512) a) := fun i => (q22 x0 x1 x3 ⟨64 * (j.val / 64) + i.val, by omega⟩ a).symm
  unfold R22
  simp only [e]
  unfold val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134
  generalize val_main_v23 (F := Ideal) x0 x1 x3 = H
  unfold ropeQ
  by_cases h : j.val % 64 < 32
  · rw [dif_pos h]
    pointwise [h]
    have d : (⟨64 * (j.val / 64) + j.val % 64, by omega⟩ : Fin 512) = j := Fin.ext (by show 64 * (j.val / 64) + j.val % 64 = j.val; omega)
    simp only [d]
    simp only [Nat.mul_comm 64]
  · rw [dif_neg h]
    pointwise [h]
    have d : 32 + (j.val % 64 - 32) = j.val % 64 := by omega
    simp only [d, Nat.mul_comm 64]

/-- The selected values. -/
theorem r19 (n : Fin 256) (j : Fin 128) (l : Fin 128) : val_main_v122 (F := Ideal) x0 x1 x3 (ix3 n j l) = R19 (fun a k => x0 (ix2 a k)) (fun k => x1 (ix1 k)) (fun f k => x3 (ix2 f k)) n j l := by
  unfold R19
  rw [← t_at]
  unfold val_main_v122 val_main_v121 val_main_v120 val_main_v119
  generalize val_main_v17 (F := Ideal) x0 x1 x3 = H
  pointwise []
  simp only [Nat.mul_comm 128]

/-- The window values. -/
theorem r20 (n : Fin 256) (j : Fin 128) (l : Fin 128) : val_main_v126 (F := Ideal) x0 x1 x3 (ix3 n j l) = R20 (fun a k => x0 (ix2 a k)) (fun k => x1 (ix1 k)) (fun f k => x3 (ix2 f k)) n j l := by
  unfold R20
  rw [← t_at]
  unfold val_main_v126 val_main_v125 val_main_v124 val_main_v123
  generalize val_main_v17 (F := Ideal) x0 x1 x3 = H
  pointwise []
  simp only [Nat.mul_comm 128]

/-- The differential attention's values. -/
theorem r23 (n : Fin 256) (j : Fin 512) (l : Fin 128) : val_main_v157 (F := Ideal) x0 x1 x3 (ix3 n j l) = R23 (fun a k => x0 (ix2 a k)) (fun k => x1 (ix1 k)) (fun f k => x3 (ix2 f k)) n j l := by
  unfold R23
  rw [← t_at]
  unfold val_main_v157 val_main_v156 val_main_v155 val_main_v154
  generalize val_main_v17 (F := Ideal) x0 x1 x3 = H
  pointwise []
  simp only [Nat.mul_comm 128]

/-- The gates. -/
theorem r21 (j : Fin 32) (a : Fin 32768) : val_main_v133 (F := Ideal) x0 x1 x3 (ix2 j a) = R21 (fun a k => x0 (ix2 a k)) (fun k => x1 (ix1 k)) (fun f k => x3 (ix2 f k)) j a := by
  have o : Ideal.ofBits .f32 0x3F800000#32 = (1 : EReal) := by
    simp [Ideal.ofBits, Ideal.ieee]
    rw [← EReal.coe_mul]
    norm_num
  unfold R21
  rw [← t_at]
  have e : val_main_v127 (F := Ideal) x0 x1 x3 (ix2 j a) = val_main_v17 (F := Ideal) x0 x1 x3 (ix2 (⟨768 + j.val, by omega⟩ : Fin 1824) a) := by
    unfold val_main_v127
    generalize val_main_v17 (F := Ideal) x0 x1 x3 = H
    pointwise []
  rw [← e, val_main_v133_apply, val_main_v132_apply, val_main_cst_12_apply, val_main_v131_apply, val_main_v130_apply, val_main_cst_11_apply, val_main_v129_apply, val_main_v128_apply]
  generalize val_main_v127 (F := Ideal) x0 x1 x3 (ix2 j a) = u
  change Ideal.div (Ideal.ofBits .f32 0x3F800000#32) (Ideal.ofBits .f32 0x3F800000#32 + Ideal.exp (-u)) = _
  rw [o]
  rfl

end Cert.Reference4Ideal.Proj

end
-- ==== Proof.ProjFinal.lean ====
/- The equality of the two input projection programs' results. -/
module

public import proofs.«01_k».proof.Defs
public import proofs.«01_k».proof.Proof.ProjArray
public import proofs.«01_k».proof.Proof.ProjRef
public import proofs.«01_k».proof.Proof.Gen.Reference4Ideal.Run

@[expose] public section

set_option maxRecDepth 16384
set_option maxHeartbeats 1600000

noncomputable section

namespace Cert.ProjFinal

open Idealize.ShloMosaic Idealize.SL.Sem

attribute [local instance] Cert.Kernel4Ideal.Gen.facts Cert.Reference4Ideal.Gen.facts

open Cert.Kernel4Ideal in
/-- Result 0 of the kernel is the reference's value of the kernel's arguments. -/
theorem eq11 (m : (ℓ : Loc nD τ sig) → Buf (Elt Ideal) ℓ) (c : Dev nD) :
    (Cert.Kernel4Ideal.Gen.dats m 0 c).arrAt 11 Cert.Kernel4Ideal.cfg0.N = Cert.Reference4Ideal.Read.val_main_v63 (F := Ideal) (m ((c.tc : Thread nD τ).loc main_arg0)) (m ((c.tc : Thread nD τ).loc main_arg1)) (m ((c.tc : Thread nD τ).loc main_arg2)) := by
  refine (Cert.Kernel4Ideal.Proj.final11 m c).trans ?_
  funext i
  have ei : i = ix2 (i 0) (i 1) := by
    funext a
    fin_cases a <;> rfl
  refine Eq.trans ?_ (congrArg (Cert.Reference4Ideal.Read.val_main_v63 (F := Ideal) (m ((c.tc : Thread nD τ).loc main_arg0)) (m ((c.tc : Thread nD τ).loc main_arg1)) (m ((c.tc : Thread nD τ).loc main_arg2))) ei.symm)
  exact (Cert.Reference4Ideal.Proj.r11 _ _ _ _ _ ).symm

open Cert.Kernel4Ideal in
/-- Result 1 of the kernel is the reference's value of the kernel's arguments. -/
theorem eq12 (m : (ℓ : Loc nD τ sig) → Buf (Elt Ideal) ℓ) (c : Dev nD) :
    (Cert.Kernel4Ideal.Gen.dats m 0 c).arrAt 12 Cert.Kernel4Ideal.cfg0.N = Cert.Reference4Ideal.Read.val_main_v64 (F := Ideal) (m ((c.tc : Thread nD τ).loc main_arg0)) (m ((c.tc : Thread nD τ).loc main_arg1)) (m ((c.tc : Thread nD τ).loc main_arg2)) := by
  refine (Cert.Kernel4Ideal.Proj.final12 m c).trans ?_
  funext i
  have ei : i = ix2 (i 0) (i 1) := by
    funext a
    fin_cases a <;> rfl
  refine Eq.trans ?_ (congrArg (Cert.Reference4Ideal.Read.val_main_v64 (F := Ideal) (m ((c.tc : Thread nD τ).loc main_arg0)) (m ((c.tc : Thread nD τ).loc main_arg1)) (m ((c.tc : Thread nD τ).loc main_arg2))) ei.symm)
  exact (Cert.Reference4Ideal.Proj.r12 _ _ _ _ _ ).symm

open Cert.Kernel4Ideal in
/-- Result 2 of the kernel is the reference's value of the kernel's arguments. -/
theorem eq13 (m : (ℓ : Loc nD τ sig) → Buf (Elt Ideal) ℓ) (c : Dev nD) :
    (Cert.Kernel4Ideal.Gen.dats m 0 c).arrAt 13 Cert.Kernel4Ideal.cfg0.N = Cert.Reference4Ideal.Read.val_main_v74 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (Cert.Kernel4Ideal.Proj.final13 m c).trans ?_
  funext i
  have ei : i = ix2 (i 0) (i 1) := by
    funext a
    fin_cases a <;> rfl
  refine Eq.trans ?_ (congrArg (Cert.Reference4Ideal.Read.val_main_v74 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) ei.symm)
  exact (Cert.Reference4Ideal.Proj.r13 _ _ _ _ _ _ _ ).symm

open Cert.Kernel4Ideal in
/-- Result 3 of the kernel is the reference's value of the kernel's arguments. -/
theorem eq14 (m : (ℓ : Loc nD τ sig) → Buf (Elt Ideal) ℓ) (c : Dev nD) :
    (Cert.Kernel4Ideal.Gen.dats m 0 c).arrAt 14 Cert.Kernel4Ideal.cfg0.N = Cert.Reference4Ideal.Read.val_main_v84 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (Cert.Kernel4Ideal.Proj.final14 m c).trans ?_
  funext i
  have ei : i = ix2 (i 0) (i 1) := by
    funext a
    fin_cases a <;> rfl
  refine Eq.trans ?_ (congrArg (Cert.Reference4Ideal.Read.val_main_v84 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) ei.symm)
  exact (Cert.Reference4Ideal.Proj.r14 _ _ _ _ _ _ _ ).symm

open Cert.Kernel4Ideal in
/-- Result 4 of the kernel is the reference's value of the kernel's arguments. -/
theorem eq15 (m : (ℓ : Loc nD τ sig) → Buf (Elt Ideal) ℓ) (c : Dev nD) :
    (Cert.Kernel4Ideal.Gen.dats m 0 c).arrAt 15 Cert.Kernel4Ideal.cfg0.N = Cert.Reference4Ideal.Read.val_main_v96 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (Cert.Kernel4Ideal.Proj.final15 m c).trans ?_
  funext i
  have ei : i = ix2 (i 0) (i 1) := by
    funext a
    fin_cases a <;> rfl
  refine Eq.trans ?_ (congrArg (Cert.Reference4Ideal.Read.val_main_v96 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) ei.symm)
  exact (Cert.Reference4Ideal.Proj.r15 _ _ _ _ _ _ _ ).symm

open Cert.Kernel4Ideal in
/-- Result 5 of the kernel is the reference's value of the kernel's arguments. -/
theorem eq16 (m : (ℓ : Loc nD τ sig) → Buf (Elt Ideal) ℓ) (c : Dev nD) :
    (Cert.Kernel4Ideal.Gen.dats m 0 c).arrAt 16 Cert.Kernel4Ideal.cfg0.N = Cert.Reference4Ideal.Read.val_main_v97 (F := Ideal) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) (m ((c.tc : Thread nD τ).loc main_arg10)) := by
  refine (Cert.Kernel4Ideal.Proj.final16 m c).trans ?_
  funext i
  have ei : i = ix2 (i 0) (i 1) := by
    funext a
    fin_cases a <;> rfl
  refine Eq.trans ?_ (congrArg (Cert.Reference4Ideal.Read.val_main_v97 (F := Ideal) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) (m ((c.tc : Thread nD τ).loc main_arg10))) ei.symm)
  exact (Cert.Reference4Ideal.Proj.r16 _ _ _ _ _ _ _ _ ).symm

open Cert.Kernel4Ideal in
/-- Result 6 of the kernel is the reference's value of the kernel's arguments. -/
theorem eq17 (m : (ℓ : Loc nD τ sig) → Buf (Elt Ideal) ℓ) (c : Dev nD) :
    (Cert.Kernel4Ideal.Gen.dats m 0 c).arrAt 17 Cert.Kernel4Ideal.cfg0.N = Cert.Reference4Ideal.Read.val_main_v98 (F := Ideal) (m ((c.tc : Thread nD τ).loc main_arg0)) (m ((c.tc : Thread nD τ).loc main_arg1)) (m ((c.tc : Thread nD τ).loc main_arg3)) := by
  refine (Cert.Kernel4Ideal.Proj.final17 m c).trans ?_
  funext i
  have ei : i = ix2 (i 0) (i 1) := by
    funext a
    fin_cases a <;> rfl
  refine Eq.trans ?_ (congrArg (Cert.Reference4Ideal.Read.val_main_v98 (F := Ideal) (m ((c.tc : Thread nD τ).loc main_arg0)) (m ((c.tc : Thread nD τ).loc main_arg1)) (m ((c.tc : Thread nD τ).loc main_arg3))) ei.symm)
  exact (Cert.Reference4Ideal.Proj.r17 _ _ _ _ _ ).symm

open Cert.Kernel4Ideal in
/-- Result 7 of the kernel is the reference's value of the kernel's arguments. -/
theorem eq18 (m : (ℓ : Loc nD τ sig) → Buf (Elt Ideal) ℓ) (c : Dev nD) :
    (Cert.Kernel4Ideal.Gen.dats m 0 c).arrAt 18 Cert.Kernel4Ideal.cfg0.N = Cert.Reference4Ideal.Read.val_main_v118 (F := Ideal) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7)) := by
  refine (Cert.Kernel4Ideal.Proj.final18 m c).trans ?_
  funext i
  have ei : i = ix2 (i 0) (i 1) := by
    funext a
    fin_cases a <;> rfl
  refine Eq.trans ?_ (congrArg (Cert.Reference4Ideal.Read.val_main_v118 (F := Ideal) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7))) ei.symm)
  exact (Cert.Reference4Ideal.Proj.r18 _ _ _ _ _ _ _ ).symm

open Cert.Kernel4Ideal in
/-- Result 8 of the kernel is the reference's value of the kernel's arguments. -/
theorem eq19 (m : (ℓ : Loc nD τ sig) → Buf (Elt Ideal) ℓ) (c : Dev nD) :
    (Cert.Kernel4Ideal.Gen.dats m 0 c).arrAt 19 Cert.Kernel4Ideal.cfg0.N = Cert.Reference4Ideal.Read.val_main_v122 (F := Ideal) (m ((c.tc : Thread nD τ).loc main_arg0)) (m ((c.tc : Thread nD τ).loc main_arg1)) (m ((c.tc : Thread nD τ).loc main_arg3)) := by
  refine (Cert.Kernel4Ideal.Proj.final19 m c).trans ?_
  funext i
  have ei : i = ix3 (i 0) (i 1) (i 2) := by
    funext a
    fin_cases a <;> rfl
  refine Eq.trans ?_ (congrArg (Cert.Reference4Ideal.Read.val_main_v122 (F := Ideal) (m ((c.tc : Thread nD τ).loc main_arg0)) (m ((c.tc : Thread nD τ).loc main_arg1)) (m ((c.tc : Thread nD τ).loc main_arg3))) ei.symm)
  exact (Cert.Reference4Ideal.Proj.r19 _ _ _ _ _ _ ).symm

open Cert.Kernel4Ideal in
/-- Result 9 of the kernel is the reference's value of the kernel's arguments. -/
theorem eq20 (m : (ℓ : Loc nD τ sig) → Buf (Elt Ideal) ℓ) (c : Dev nD) :
    (Cert.Kernel4Ideal.Gen.dats m 0 c).arrAt 20 Cert.Kernel4Ideal.cfg0.N = Cert.Reference4Ideal.Read.val_main_v126 (F := Ideal) (m ((c.tc : Thread nD τ).loc main_arg0)) (m ((c.tc : Thread nD τ).loc main_arg1)) (m ((c.tc : Thread nD τ).loc main_arg3)) := by
  refine (Cert.Kernel4Ideal.Proj.final20 m c).trans ?_
  funext i
  have ei : i = ix3 (i 0) (i 1) (i 2) := by
    funext a
    fin_cases a <;> rfl
  refine Eq.trans ?_ (congrArg (Cert.Reference4Ideal.Read.val_main_v126 (F := Ideal) (m ((c.tc : Thread nD τ).loc main_arg0)) (m ((c.tc : Thread nD τ).loc main_arg1)) (m ((c.tc : Thread nD τ).loc main_arg3))) ei.symm)
  exact (Cert.Reference4Ideal.Proj.r20 _ _ _ _ _ _ ).symm

open Cert.Kernel4Ideal in
/-- Result 10 of the kernel is the reference's value of the kernel's arguments. -/
theorem eq21 (m : (ℓ : Loc nD τ sig) → Buf (Elt Ideal) ℓ) (c : Dev nD) :
    (Cert.Kernel4Ideal.Gen.dats m 0 c).arrAt 21 Cert.Kernel4Ideal.cfg0.N = Cert.Reference4Ideal.Read.val_main_v133 (F := Ideal) (m ((c.tc : Thread nD τ).loc main_arg0)) (m ((c.tc : Thread nD τ).loc main_arg1)) (m ((c.tc : Thread nD τ).loc main_arg3)) := by
  refine (Cert.Kernel4Ideal.Proj.final21 m c).trans ?_
  funext i
  have ei : i = ix2 (i 0) (i 1) := by
    funext a
    fin_cases a <;> rfl
  refine Eq.trans ?_ (congrArg (Cert.Reference4Ideal.Read.val_main_v133 (F := Ideal) (m ((c.tc : Thread nD τ).loc main_arg0)) (m ((c.tc : Thread nD τ).loc main_arg1)) (m ((c.tc : Thread nD τ).loc main_arg3))) ei.symm)
  exact (Cert.Reference4Ideal.Proj.r21 _ _ _ _ _ ).symm

open Cert.Kernel4Ideal in
/-- Result 11 of the kernel is the reference's value of the kernel's arguments. -/
theorem eq22 (m : (ℓ : Loc nD τ sig) → Buf (Elt Ideal) ℓ) (c : Dev nD) :
    (Cert.Kernel4Ideal.Gen.dats m 0 c).arrAt 22 Cert.Kernel4Ideal.cfg0.N = Cert.Reference4Ideal.Read.val_main_v153 (F := Ideal) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7)) := by
  refine (Cert.Kernel4Ideal.Proj.final22 m c).trans ?_
  funext i
  have ei : i = ix2 (i 0) (i 1) := by
    funext a
    fin_cases a <;> rfl
  refine Eq.trans ?_ (congrArg (Cert.Reference4Ideal.Read.val_main_v153 (F := Ideal) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7))) ei.symm)
  exact (Cert.Reference4Ideal.Proj.r22 _ _ _ _ _ _ _ ).symm

open Cert.Kernel4Ideal in
/-- Result 12 of the kernel is the reference's value of the kernel's arguments. -/
theorem eq23 (m : (ℓ : Loc nD τ sig) → Buf (Elt Ideal) ℓ) (c : Dev nD) :
    (Cert.Kernel4Ideal.Gen.dats m 0 c).arrAt 23 Cert.Kernel4Ideal.cfg0.N = Cert.Reference4Ideal.Read.val_main_v157 (F := Ideal) (m ((c.tc : Thread nD τ).loc main_arg0)) (m ((c.tc : Thread nD τ).loc main_arg1)) (m ((c.tc : Thread nD τ).loc main_arg3)) := by
  refine (Cert.Kernel4Ideal.Proj.final23 m c).trans ?_
  funext i
  have ei : i = ix3 (i 0) (i 1) (i 2) := by
    funext a
    fin_cases a <;> rfl
  refine Eq.trans ?_ (congrArg (Cert.Reference4Ideal.Read.val_main_v157 (F := Ideal) (m ((c.tc : Thread nD τ).loc main_arg0)) (m ((c.tc : Thread nD τ).loc main_arg1)) (m ((c.tc : Thread nD τ).loc main_arg3))) ei.symm)
  exact (Cert.Reference4Ideal.Proj.r23 _ _ _ _ _ _ ).symm

/-- The idealized kernel and the idealized reference end with equal results, all thirteen, and leave their arguments as they were. -/
theorem algebraic : Cert.algebraic_Kernel4Ideal_Reference4Ideal := by
  intro m g m' g' _ hagree
  refine ⟨fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N, fun c => (Cert.Kernel4Ideal.Gen.dats m 0 c).arrAt 16 Cert.Kernel4Ideal.cfg0.N, fun c => (Cert.Kernel4Ideal.Gen.dats m 0 c).arrAt 17 Cert.Kernel4Ideal.cfg0.N, fun c => (Cert.Kernel4Ideal.Gen.dats m 0 c).arrAt 18 Cert.Kernel4Ideal.cfg0.N, fun c => (Cert.Kernel4Ideal.Gen.dats m 0 c).arrAt 19 Cert.Kernel4Ideal.cfg0.N, fun c => (Cert.Kernel4Ideal.Gen.dats m 0 c).arrAt 20 Cert.Kernel4Ideal.cfg0.N, fun c => (Cert.Kernel4Ideal.Gen.dats m 0 c).arrAt 21 Cert.Kernel4Ideal.cfg0.N, fun c => (Cert.Kernel4Ideal.Gen.dats m 0 c).arrAt 22 Cert.Kernel4Ideal.cfg0.N, fun c => (Cert.Kernel4Ideal.Gen.dats m 0 c).arrAt 23 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨e0, e1, e2, e3, e4, e5, e6, e7, e8, e9, e10⟩ := hagree c
  refine ⟨?_, ?_, ?_, ?_, ?_, ?_, ?_, ?_, ?_, ?_, ?_, ?_, ?_, (h c).2.2.2.2.2.2.2.2.2.2.2.2.2⟩
  · refine (h c).1.trans ?_
    rw [Cert.Reference4Ideal.Read.val_main_v63_eq, e0, e1, e2]
    exact (eq11 m c).symm
  · refine (h c).2.1.trans ?_
    rw [Cert.Reference4Ideal.Read.val_main_v64_eq, e0, e1, e2]
    exact (eq12 m c).symm
  · refine (h c).2.2.1.trans ?_
    rw [Cert.Reference4Ideal.Read.val_main_v74_eq, e0, e1, e2, e4, e5]
    exact (eq13 m c).symm
  · refine (h c).2.2.2.1.trans ?_
    rw [Cert.Reference4Ideal.Read.val_main_v84_eq, e0, e1, e2, e4, e5]
    exact (eq14 m c).symm
  · refine (h c).2.2.2.2.1.trans ?_
    rw [Cert.Reference4Ideal.Read.val_main_v96_eq, e0, e1, e2, e4, e5]
    exact (eq15 m c).symm
  · refine (h c).2.2.2.2.2.1.trans ?_
    rw [Cert.Reference4Ideal.Read.val_main_v97_eq, e0, e1, e2, e8, e9, e10]
    exact (eq16 m c).symm
  · refine (h c).2.2.2.2.2.2.1.trans ?_
    rw [Cert.Reference4Ideal.Read.val_main_v98_eq, e0, e1, e3]
    exact (eq17 m c).symm
  · refine (h c).2.2.2.2.2.2.2.1.trans ?_
    rw [Cert.Reference4Ideal.Read.val_main_v118_eq, e0, e1, e3, e6, e7]
    exact (eq18 m c).symm
  · refine (h c).2.2.2.2.2.2.2.2.1.trans ?_
    rw [Cert.Reference4Ideal.Read.val_main_v122_eq, e0, e1, e3]
    exact (eq19 m c).symm
  · refine (h c).2.2.2.2.2.2.2.2.2.1.trans ?_
    rw [Cert.Reference4Ideal.Read.val_main_v126_eq, e0, e1, e3]
    exact (eq20 m c).symm
  · refine (h c).2.2.2.2.2.2.2.2.2.2.1.trans ?_
    rw [Cert.Reference4Ideal.Read.val_main_v133_eq, e0, e1, e3]
    exact (eq21 m c).symm
  · refine (h c).2.2.2.2.2.2.2.2.2.2.2.1.trans ?_
    rw [Cert.Reference4Ideal.Read.val_main_v153_eq, e0, e1, e3, e6, e7]
    exact (eq22 m c).symm
  · refine (h c).2.2.2.2.2.2.2.2.2.2.2.2.1.trans ?_
    rw [Cert.Reference4Ideal.Read.val_main_v157_eq, e0, e1, e3]
    exact (eq23 m c).symm

end Cert.ProjFinal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2.Frame
public import proofs.«01_k».proof.Proof.Gen.Kernel3.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.ReferenceIdeal.Run
public import proofs.«01_k».proof.Proof.Gen.ReferenceIdeal.Read
public import proofs.«01_k».proof.Proof.Gen.Pre_finite
public import proofs.«01_k».proof.Proof.Final
public import proofs.«01_k».proof.Proof.FfnFinal
public import proofs.«01_k».proof.Proof.MergeFinal
public import proofs.«01_k».proof.Proof.ProjFinal
public import Idealize.ShloMosaic.Lib.Claim
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite.Gen.facts
  Cert.Kernel2.Gen.facts Cert.Kernel2Ideal.Gen.facts Cert.Reference2Ideal.Gen.facts Cert.Kernel3.Gen.facts Cert.Kernel3Ideal.Gen.facts Cert.Reference3Ideal.Gen.facts
  Cert.Kernel4.Gen.facts Cert.Kernel4Ideal.Gen.facts Cert.Reference4Ideal.Gen.facts

/-- The reference runs, and leaves its arguments as they were; it declares no semaphore. -/
theorem quiescent_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The idealized kernel is the kernel with its mask constant named `⊥`. -/
theorem preserves : Cert.preserves_Kernel_KernelIdeal :=
  IdealRules.named_const.statement Cert.KernelIdeal.κ "mask" .f32 0xF149F2CA#32 ⊥ rfl

/-- The kernel runs, and leaves its arguments and the counters as they were. -/
theorem quiescent_kernel : Cert.quiescent_Kernel := fun m g _ => Cert.Kernel.Gen.frame m g

/-- So does the idealized kernel. -/
theorem quiescent_kernelIdeal : Cert.quiescent_KernelIdeal := fun m g _ => Cert.KernelIdeal.Gen.frame m g

/-- The feed-forward kernel runs, and leaves its arguments and the counters as they were. -/
theorem quiescent_kernel2 : Cert.quiescent_Kernel2 := fun m g _ => Cert.Kernel2.Gen.frame m g

/-- So does the idealized feed-forward kernel. -/
theorem quiescent_kernel2Ideal : Cert.quiescent_Kernel2Ideal := fun m g _ => Cert.Kernel2Ideal.Gen.frame m g

/-- The feed-forward reference runs, and leaves its arguments as they were; it declares no semaphore. -/
theorem quiescent_reference2 : Cert.quiescent_Reference2Ideal := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

/-- The merge kernel runs, and leaves its arguments and the counters as they were. -/
theorem quiescent_kernel3 : Cert.quiescent_Kernel3 := fun m g _ => Cert.Kernel3.Gen.frame m g

/-- So does the idealized merge kernel. -/
theorem quiescent_kernel3Ideal : Cert.quiescent_Kernel3Ideal := fun m g _ => Cert.Kernel3Ideal.Gen.frame m g

/-- The merge reference runs, and leaves its arguments as they were; it declares no semaphore. -/
theorem quiescent_reference3 : Cert.quiescent_Reference3Ideal := fun m g _ =>
  (θ_run Cert.Reference3Ideal.defs _ _).mono (fun r h => ⟨fun c => (h c).2,
      Idealize.ShloMosaic.sem_eq_zero_of_no_sems (by decide) r.2⟩)
    (Cert.Reference3Ideal.Value.run (F := Ideal) m g)

/-- The input projection kernel runs, and leaves its arguments and the counters as they were. -/
theorem quiescent_kernel4 : Cert.quiescent_Kernel4 := fun m g _ => Cert.Kernel4.Gen.frame m g

/-- So does the idealized input projection kernel. -/
theorem quiescent_kernel4Ideal : Cert.quiescent_Kernel4Ideal := fun m g _ => Cert.Kernel4Ideal.Gen.frame m g

/-- The input projection reference runs, and leaves its arguments as they were; it declares no semaphore. -/
theorem quiescent_reference4 : Cert.quiescent_Reference4Ideal := fun m g _ =>
  (θ_run Cert.Reference4Ideal.defs _ _).mono (fun r h => ⟨fun c => (h c).2.2.2.2.2.2.2.2.2.2.2.2.2,
      Idealize.ShloMosaic.sem_eq_zero_of_no_sems (by decide) r.2⟩)
    (Cert.Reference4Ideal.Value.run (F := Ideal) m g)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  quiescent_kernel, quiescent_kernelIdeal, fun m g _ => quiescent_kernelIdeal m g trivial,
  quiescent_reference, fun m g _ => quiescent_reference m g trivial,
  quiescent_kernel2, quiescent_kernel2Ideal, quiescent_reference2, quiescent_kernel3, quiescent_kernel3Ideal, quiescent_reference3,
  quiescent_kernel4, quiescent_kernel4Ideal, quiescent_reference4,
  preserves, Cert.Final.algebraic, trivial, Cert.FfnFinal.algebraic, trivial, Cert.MergeFinal.algebraic,
  trivial, Cert.ProjFinal.algebraic⟩

end Cert.Proof

end
